-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2.2.2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_S5 (m : (ℓ : Loc Cert.S5.nD Cert.S5.τ Cert.S5.sig) → Buf (Elt Bits) ℓ) : Prop :=
  True

def Pre_S5Ideal (m : (ℓ : Loc Cert.S5Ideal.nD Cert.S5Ideal.τ Cert.S5Ideal.sig) → Buf (Elt Ideal) ℓ) : Prop :=
  True

def Pre_S5Ideal_finite3 [hPre_finite3 : Cert.Pre_finite3.Facts] (m : (ℓ : Loc Cert.S5Ideal.nD Cert.S5Ideal.τ Cert.S5Ideal.sig) → Buf (Elt Ideal) ℓ) : Prop :=
  ∀ c : Dev Cert.S5Ideal.nD,
    (Cert.Pre_finite3.fn (F := Ideal) (m ((c.tc : Thread Cert.S5Ideal.nD Cert.S5Ideal.τ).loc Cert.S5Ideal.main_arg0)) (m ((c.tc : Thread Cert.S5Ideal.nD Cert.S5Ideal.τ).loc Cert.S5Ideal.main_arg1)) (m ((c.tc : Thread Cert.S5Ideal.nD Cert.S5Ideal.τ).loc Cert.S5Ideal.main_arg2)) (m ((c.tc : Thread Cert.S5Ideal.nD Cert.S5Ideal.τ).loc Cert.S5Ideal.main_arg3)) (m ((c.tc : Thread Cert.S5Ideal.nD Cert.S5Ideal.τ).loc Cert.S5Ideal.main_arg4)) (m ((c.tc : Thread Cert.S5Ideal.nD Cert.S5Ideal.τ).loc Cert.S5Ideal.main_arg5))).1 = (fun _ => 1#1)
    ∧ (Cert.Pre_finite3.fn (F := Ideal) (m ((c.tc : Thread Cert.S5Ideal.nD Cert.S5Ideal.τ).loc Cert.S5Ideal.main_arg0)) (m ((c.tc : Thread Cert.S5Ideal.nD Cert.S5Ideal.τ).loc Cert.S5Ideal.main_arg1)) (m ((c.tc : Thread Cert.S5Ideal.nD Cert.S5Ideal.τ).loc Cert.S5Ideal.main_arg2)) (m ((c.tc : Thread Cert.S5Ideal.nD Cert.S5Ideal.τ).loc Cert.S5Ideal.main_arg3)) (m ((c.tc : Thread Cert.S5Ideal.nD Cert.S5Ideal.τ).loc Cert.S5Ideal.main_arg4)) (m ((c.tc : Thread Cert.S5Ideal.nD Cert.S5Ideal.τ).loc Cert.S5Ideal.main_arg5))).2.1 = (fun _ => 1#1)
    ∧ (Cert.Pre_finite3.fn (F := Ideal) (m ((c.tc : Thread Cert.S5Ideal.nD Cert.S5Ideal.τ).loc Cert.S5Ideal.main_arg0)) (m ((c.tc : Thread Cert.S5Ideal.nD Cert.S5Ideal.τ).loc Cert.S5Ideal.main_arg1)) (m ((c.tc : Thread Cert.S5Ideal.nD Cert.S5Ideal.τ).loc Cert.S5Ideal.main_arg2)) (m ((c.tc : Thread Cert.S5Ideal.nD Cert.S5Ideal.τ).loc Cert.S5Ideal.main_arg3)) (m ((c.tc : Thread Cert.S5Ideal.nD Cert.S5Ideal.τ).loc Cert.S5Ideal.main_arg4)) (m ((c.tc : Thread Cert.S5Ideal.nD Cert.S5Ideal.τ).loc Cert.S5Ideal.main_arg5))).2.2.1 = (fun _ => 1#1)
    ∧ (Cert.Pre_finite3.fn (F := Ideal) (m ((c.tc : Thread Cert.S5Ideal.nD Cert.S5Ideal.τ).loc Cert.S5Ideal.main_arg0)) (m ((c.tc : Thread Cert.S5Ideal.nD Cert.S5Ideal.τ).loc Cert.S5Ideal.main_arg1)) (m ((c.tc : Thread Cert.S5Ideal.nD Cert.S5Ideal.τ).loc Cert.S5Ideal.main_arg2)) (m ((c.tc : Thread Cert.S5Ideal.nD Cert.S5Ideal.τ).loc Cert.S5Ideal.main_arg3)) (m ((c.tc : Thread Cert.S5Ideal.nD Cert.S5Ideal.τ).loc Cert.S5Ideal.main_arg4)) (m ((c.tc : Thread Cert.S5Ideal.nD Cert.S5Ideal.τ).loc Cert.S5Ideal.main_arg5))).2.2.2 = (fun _ => 1#1)

def Pre_S5ReferenceIdeal (m : (ℓ : Loc Cert.S5ReferenceIdeal.nD Cert.S5ReferenceIdeal.τ Cert.S5ReferenceIdeal.sig) → Buf (Elt Ideal) ℓ) : Prop :=
  True

def Pre_S5ReferenceIdeal_finite3 [hPre_finite3 : Cert.Pre_finite3.Facts] (m : (ℓ : Loc Cert.S5ReferenceIdeal.nD Cert.S5ReferenceIdeal.τ Cert.S5ReferenceIdeal.sig) → Buf (Elt Ideal) ℓ) : Prop :=
  ∀ c : Dev Cert.S5ReferenceIdeal.nD,
    (Cert.Pre_finite3.fn (F := Ideal) (m ((c.tc : Thread Cert.S5ReferenceIdeal.nD Cert.S5ReferenceIdeal.τ).loc Cert.S5ReferenceIdeal.main_arg0)) (m ((c.tc : Thread Cert.S5ReferenceIdeal.nD Cert.S5ReferenceIdeal.τ).loc Cert.S5ReferenceIdeal.main_arg1)) (m ((c.tc : Thread Cert.S5ReferenceIdeal.nD Cert.S5ReferenceIdeal.τ).loc Cert.S5ReferenceIdeal.main_arg2)) (m ((c.tc : Thread Cert.S5ReferenceIdeal.nD Cert.S5ReferenceIdeal.τ).loc Cert.S5ReferenceIdeal.main_arg3)) (m ((c.tc : Thread Cert.S5ReferenceIdeal.nD Cert.S5ReferenceIdeal.τ).loc Cert.S5ReferenceIdeal.main_arg4)) (m ((c.tc : Thread Cert.S5ReferenceIdeal.nD Cert.S5ReferenceIdeal.τ).loc Cert.S5ReferenceIdeal.main_arg5))).1 = (fun _ => 1#1)
    ∧ (Cert.Pre_finite3.fn (F := Ideal) (m ((c.tc : Thread Cert.S5ReferenceIdeal.nD Cert.S5ReferenceIdeal.τ).loc Cert.S5ReferenceIdeal.main_arg0)) (m ((c.tc : Thread Cert.S5ReferenceIdeal.nD Cert.S5ReferenceIdeal.τ).loc Cert.S5ReferenceIdeal.main_arg1)) (m ((c.tc : Thread Cert.S5ReferenceIdeal.nD Cert.S5ReferenceIdeal.τ).loc Cert.S5ReferenceIdeal.main_arg2)) (m ((c.tc : Thread Cert.S5ReferenceIdeal.nD Cert.S5ReferenceIdeal.τ).loc Cert.S5ReferenceIdeal.main_arg3)) (m ((c.tc : Thread Cert.S5ReferenceIdeal.nD Cert.S5ReferenceIdeal.τ).loc Cert.S5ReferenceIdeal.main_arg4)) (m ((c.tc : Thread Cert.S5ReferenceIdeal.nD Cert.S5ReferenceIdeal.τ).loc Cert.S5ReferenceIdeal.main_arg5))).2.1 = (fun _ => 1#1)
    ∧ (Cert.Pre_finite3.fn (F := Ideal) (m ((c.tc : Thread Cert.S5ReferenceIdeal.nD Cert.S5ReferenceIdeal.τ).loc Cert.S5ReferenceIdeal.main_arg0)) (m ((c.tc : Thread Cert.S5ReferenceIdeal.nD Cert.S5ReferenceIdeal.τ).loc Cert.S5ReferenceIdeal.main_arg1)) (m ((c.tc : Thread Cert.S5ReferenceIdeal.nD Cert.S5ReferenceIdeal.τ).loc Cert.S5ReferenceIdeal.main_arg2)) (m ((c.tc : Thread Cert.S5ReferenceIdeal.nD Cert.S5ReferenceIdeal.τ).loc Cert.S5ReferenceIdeal.main_arg3)) (m ((c.tc : Thread Cert.S5ReferenceIdeal.nD Cert.S5ReferenceIdeal.τ).loc Cert.S5ReferenceIdeal.main_arg4)) (m ((c.tc : Thread Cert.S5ReferenceIdeal.nD Cert.S5ReferenceIdeal.τ).loc Cert.S5ReferenceIdeal.main_arg5))).2.2.1 = (fun _ => 1#1)
    ∧ (Cert.Pre_finite3.fn (F := Ideal) (m ((c.tc : Thread Cert.S5ReferenceIdeal.nD Cert.S5ReferenceIdeal.τ).loc Cert.S5ReferenceIdeal.main_arg0)) (m ((c.tc : Thread Cert.S5ReferenceIdeal.nD Cert.S5ReferenceIdeal.τ).loc Cert.S5ReferenceIdeal.main_arg1)) (m ((c.tc : Thread Cert.S5ReferenceIdeal.nD Cert.S5ReferenceIdeal.τ).loc Cert.S5ReferenceIdeal.main_arg2)) (m ((c.tc : Thread Cert.S5ReferenceIdeal.nD Cert.S5ReferenceIdeal.τ).loc Cert.S5ReferenceIdeal.main_arg3)) (m ((c.tc : Thread Cert.S5ReferenceIdeal.nD Cert.S5ReferenceIdeal.τ).loc Cert.S5ReferenceIdeal.main_arg4)) (m ((c.tc : Thread Cert.S5ReferenceIdeal.nD Cert.S5ReferenceIdeal.τ).loc Cert.S5ReferenceIdeal.main_arg5))).2.2.2 = (fun _ => 1#1)

def Pre_S5Prep (m : (ℓ : Loc Cert.S5Prep.nD Cert.S5Prep.τ Cert.S5Prep.sig) → Buf (Elt Bits) ℓ) : Prop :=
  True

def Pre_S5PrepIdeal (m : (ℓ : Loc Cert.S5PrepIdeal.nD Cert.S5PrepIdeal.τ Cert.S5PrepIdeal.sig) → Buf (Elt Ideal) ℓ) : Prop :=
  True

def Pre_S5PrepIdeal_finite4 [hPre_finite4 : Cert.Pre_finite4.Facts] (m : (ℓ : Loc Cert.S5PrepIdeal.nD Cert.S5PrepIdeal.τ Cert.S5PrepIdeal.sig) → Buf (Elt Ideal) ℓ) : Prop :=
  ∀ c : Dev Cert.S5PrepIdeal.nD,
    (Cert.Pre_finite4.fn (F := Ideal) (m ((c.tc : Thread Cert.S5PrepIdeal.nD Cert.S5PrepIdeal.τ).loc Cert.S5PrepIdeal.main_arg0)) (m ((c.tc : Thread Cert.S5PrepIdeal.nD Cert.S5PrepIdeal.τ).loc Cert.S5PrepIdeal.main_arg1)) (m ((c.tc : Thread Cert.S5PrepIdeal.nD Cert.S5PrepIdeal.τ).loc Cert.S5PrepIdeal.main_arg2)) (m ((c.tc : Thread Cert.S5PrepIdeal.nD Cert.S5PrepIdeal.τ).loc Cert.S5PrepIdeal.main_arg3)) (m ((c.tc : Thread Cert.S5PrepIdeal.nD Cert.S5PrepIdeal.τ).loc Cert.S5PrepIdeal.main_arg4)) (m ((c.tc : Thread Cert.S5PrepIdeal.nD Cert.S5PrepIdeal.τ).loc Cert.S5PrepIdeal.main_arg5)) (m ((c.tc : Thread Cert.S5PrepIdeal.nD Cert.S5PrepIdeal.τ).loc Cert.S5PrepIdeal.main_arg6))).1 = (fun _ => 1#1)
    ∧ (Cert.Pre_finite4.fn (F := Ideal) (m ((c.tc : Thread Cert.S5PrepIdeal.nD Cert.S5PrepIdeal.τ).loc Cert.S5PrepIdeal.main_arg0)) (m ((c.tc : Thread Cert.S5PrepIdeal.nD Cert.S5PrepIdeal.τ).loc Cert.S5PrepIdeal.main_arg1)) (m ((c.tc : Thread Cert.S5PrepIdeal.nD Cert.S5PrepIdeal.τ).loc Cert.S5PrepIdeal.main_arg2)) (m ((c.tc : Thread Cert.S5PrepIdeal.nD Cert.S5PrepIdeal.τ).loc Cert.S5PrepIdeal.main_arg3)) (m ((c.tc : Thread Cert.S5PrepIdeal.nD Cert.S5PrepIdeal.τ).loc Cert.S5PrepIdeal.main_arg4)) (m ((c.tc : Thread Cert.S5PrepIdeal.nD Cert.S5PrepIdeal.τ).loc Cert.S5PrepIdeal.main_arg5)) (m ((c.tc : Thread Cert.S5PrepIdeal.nD Cert.S5PrepIdeal.τ).loc Cert.S5PrepIdeal.main_arg6))).2.1 = (fun _ => 1#1)
    ∧ (Cert.Pre_finite4.fn (F := Ideal) (m ((c.tc : Thread Cert.S5PrepIdeal.nD Cert.S5PrepIdeal.τ).loc Cert.S5PrepIdeal.main_arg0)) (m ((c.tc : Thread Cert.S5PrepIdeal.nD Cert.S5PrepIdeal.τ).loc Cert.S5PrepIdeal.main_arg1)) (m ((c.tc : Thread Cert.S5PrepIdeal.nD Cert.S5PrepIdeal.τ).loc Cert.S5PrepIdeal.main_arg2)) (m ((c.tc : Thread Cert.S5PrepIdeal.nD Cert.S5PrepIdeal.τ).loc Cert.S5PrepIdeal.main_arg3)) (m ((c.tc : Thread Cert.S5PrepIdeal.nD Cert.S5PrepIdeal.τ).loc Cert.S5PrepIdeal.main_arg4)) (m ((c.tc : Thread Cert.S5PrepIdeal.nD Cert.S5PrepIdeal.τ).loc Cert.S5PrepIdeal.main_arg5)) (m ((c.tc : Thread Cert.S5PrepIdeal.nD Cert.S5PrepIdeal.τ).loc Cert.S5PrepIdeal.main_arg6))).2.2.1 = (fun _ => 1#1)
    ∧ (Cert.Pre_finite4.fn (F := Ideal) (m ((c.tc : Thread Cert.S5PrepIdeal.nD Cert.S5PrepIdeal.τ).loc Cert.S5PrepIdeal.main_arg0)) (m ((c.tc : Thread Cert.S5PrepIdeal.nD Cert.S5PrepIdeal.τ).loc Cert.S5PrepIdeal.main_arg1)) (m ((c.tc : Thread Cert.S5PrepIdeal.nD Cert.S5PrepIdeal.τ).loc Cert.S5PrepIdeal.main_arg2)) (m ((c.tc : Thread Cert.S5PrepIdeal.nD Cert.S5PrepIdeal.τ).loc Cert.S5PrepIdeal.main_arg3)) (m ((c.tc : Thread Cert.S5PrepIdeal.nD Cert.S5PrepIdeal.τ).loc Cert.S5PrepIdeal.main_arg4)) (m ((c.tc : Thread Cert.S5PrepIdeal.nD Cert.S5PrepIdeal.τ).loc Cert.S5PrepIdeal.main_arg5)) (m ((c.tc : Thread Cert.S5PrepIdeal.nD Cert.S5PrepIdeal.τ).loc Cert.S5PrepIdeal.main_arg6))).2.2.2.1 = (fun _ => 1#1)
    ∧ (Cert.Pre_finite4.fn (F := Ideal) (m ((c.tc : Thread Cert.S5PrepIdeal.nD Cert.S5PrepIdeal.τ).loc Cert.S5PrepIdeal.main_arg0)) (m ((c.tc : Thread Cert.S5PrepIdeal.nD Cert.S5PrepIdeal.τ).loc Cert.S5PrepIdeal.main_arg1)) (m ((c.tc : Thread Cert.S5PrepIdeal.nD Cert.S5PrepIdeal.τ).loc Cert.S5PrepIdeal.main_arg2)) (m ((c.tc : Thread Cert.S5PrepIdeal.nD Cert.S5PrepIdeal.τ).loc Cert.S5PrepIdeal.main_arg3)) (m ((c.tc : Thread Cert.S5PrepIdeal.nD Cert.S5PrepIdeal.τ).loc Cert.S5PrepIdeal.main_arg4)) (m ((c.tc : Thread Cert.S5PrepIdeal.nD Cert.S5PrepIdeal.τ).loc Cert.S5PrepIdeal.main_arg5)) (m ((c.tc : Thread Cert.S5PrepIdeal.nD Cert.S5PrepIdeal.τ).loc Cert.S5PrepIdeal.main_arg6))).2.2.2.2.1 = (fun _ => 1#1)
    ∧ (Cert.Pre_finite4.fn (F := Ideal) (m ((c.tc : Thread Cert.S5PrepIdeal.nD Cert.S5PrepIdeal.τ).loc Cert.S5PrepIdeal.main_arg0)) (m ((c.tc : Thread Cert.S5PrepIdeal.nD Cert.S5PrepIdeal.τ).loc Cert.S5PrepIdeal.main_arg1)) (m ((c.tc : Thread Cert.S5PrepIdeal.nD Cert.S5PrepIdeal.τ).loc Cert.S5PrepIdeal.main_arg2)) (m ((c.tc : Thread Cert.S5PrepIdeal.nD Cert.S5PrepIdeal.τ).loc Cert.S5PrepIdeal.main_arg3)) (m ((c.tc : Thread Cert.S5PrepIdeal.nD Cert.S5PrepIdeal.τ).loc Cert.S5PrepIdeal.main_arg4)) (m ((c.tc : Thread Cert.S5PrepIdeal.nD Cert.S5PrepIdeal.τ).loc Cert.S5PrepIdeal.main_arg5)) (m ((c.tc : Thread Cert.S5PrepIdeal.nD Cert.S5PrepIdeal.τ).loc Cert.S5PrepIdeal.main_arg6))).2.2.2.2.2.1 = (fun _ => 1#1)
    ∧ (Cert.Pre_finite4.fn (F := Ideal) (m ((c.tc : Thread Cert.S5PrepIdeal.nD Cert.S5PrepIdeal.τ).loc Cert.S5PrepIdeal.main_arg0)) (m ((c.tc : Thread Cert.S5PrepIdeal.nD Cert.S5PrepIdeal.τ).loc Cert.S5PrepIdeal.main_arg1)) (m ((c.tc : Thread Cert.S5PrepIdeal.nD Cert.S5PrepIdeal.τ).loc Cert.S5PrepIdeal.main_arg2)) (m ((c.tc : Thread Cert.S5PrepIdeal.nD Cert.S5PrepIdeal.τ).loc Cert.S5PrepIdeal.main_arg3)) (m ((c.tc : Thread Cert.S5PrepIdeal.nD Cert.S5PrepIdeal.τ).loc Cert.S5PrepIdeal.main_arg4)) (m ((c.tc : Thread Cert.S5PrepIdeal.nD Cert.S5PrepIdeal.τ).loc Cert.S5PrepIdeal.main_arg5)) (m ((c.tc : Thread Cert.S5PrepIdeal.nD Cert.S5PrepIdeal.τ).loc Cert.S5PrepIdeal.main_arg6))).2.2.2.2.2.2.1 = (fun _ => 1#1)
    ∧ (Cert.Pre_finite4.fn (F := Ideal) (m ((c.tc : Thread Cert.S5PrepIdeal.nD Cert.S5PrepIdeal.τ).loc Cert.S5PrepIdeal.main_arg0)) (m ((c.tc : Thread Cert.S5PrepIdeal.nD Cert.S5PrepIdeal.τ).loc Cert.S5PrepIdeal.main_arg1)) (m ((c.tc : Thread Cert.S5PrepIdeal.nD Cert.S5PrepIdeal.τ).loc Cert.S5PrepIdeal.main_arg2)) (m ((c.tc : Thread Cert.S5PrepIdeal.nD Cert.S5PrepIdeal.τ).loc Cert.S5PrepIdeal.main_arg3)) (m ((c.tc : Thread Cert.S5PrepIdeal.nD Cert.S5PrepIdeal.τ).loc Cert.S5PrepIdeal.main_arg4)) (m ((c.tc : Thread Cert.S5PrepIdeal.nD Cert.S5PrepIdeal.τ).loc Cert.S5PrepIdeal.main_arg5)) (m ((c.tc : Thread Cert.S5PrepIdeal.nD Cert.S5PrepIdeal.τ).loc Cert.S5PrepIdeal.main_arg6))).2.2.2.2.2.2.2 = (fun _ => 1#1)

def Pre_S5PrepReferenceIdeal (m : (ℓ : Loc Cert.S5PrepReferenceIdeal.nD Cert.S5PrepReferenceIdeal.τ Cert.S5PrepReferenceIdeal.sig) → Buf (Elt Ideal) ℓ) : Prop :=
  True

def Pre_S5PrepReferenceIdeal_finite4 [hPre_finite4 : Cert.Pre_finite4.Facts] (m : (ℓ : Loc Cert.S5PrepReferenceIdeal.nD Cert.S5PrepReferenceIdeal.τ Cert.S5PrepReferenceIdeal.sig) → Buf (Elt Ideal) ℓ) : Prop :=
  ∀ c : Dev Cert.S5PrepReferenceIdeal.nD,
    (Cert.Pre_finite4.fn (F := Ideal) (m ((c.tc : Thread Cert.S5PrepReferenceIdeal.nD Cert.S5PrepReferenceIdeal.τ).loc Cert.S5PrepReferenceIdeal.main_arg0)) (m ((c.tc : Thread Cert.S5PrepReferenceIdeal.nD Cert.S5PrepReferenceIdeal.τ).loc Cert.S5PrepReferenceIdeal.main_arg1)) (m ((c.tc : Thread Cert.S5PrepReferenceIdeal.nD Cert.S5PrepReferenceIdeal.τ).loc Cert.S5PrepReferenceIdeal.main_arg2)) (m ((c.tc : Thread Cert.S5PrepReferenceIdeal.nD Cert.S5PrepReferenceIdeal.τ).loc Cert.S5PrepReferenceIdeal.main_arg3)) (m ((c.tc : Thread Cert.S5PrepReferenceIdeal.nD Cert.S5PrepReferenceIdeal.τ).loc Cert.S5PrepReferenceIdeal.main_arg4)) (m ((c.tc : Thread Cert.S5PrepReferenceIdeal.nD Cert.S5PrepReferenceIdeal.τ).loc Cert.S5PrepReferenceIdeal.main_arg5)) (m ((c.tc : Thread Cert.S5PrepReferenceIdeal.nD Cert.S5PrepReferenceIdeal.τ).loc Cert.S5PrepReferenceIdeal.main_arg6))).1 = (fun _ => 1#1)
    ∧ (Cert.Pre_finite4.fn (F := Ideal) (m ((c.tc : Thread Cert.S5PrepReferenceIdeal.nD Cert.S5PrepReferenceIdeal.τ).loc Cert.S5PrepReferenceIdeal.main_arg0)) (m ((c.tc : Thread Cert.S5PrepReferenceIdeal.nD Cert.S5PrepReferenceIdeal.τ).loc Cert.S5PrepReferenceIdeal.main_arg1)) (m ((c.tc : Thread Cert.S5PrepReferenceIdeal.nD Cert.S5PrepReferenceIdeal.τ).loc Cert.S5PrepReferenceIdeal.main_arg2)) (m ((c.tc : Thread Cert.S5PrepReferenceIdeal.nD Cert.S5PrepReferenceIdeal.τ).loc Cert.S5PrepReferenceIdeal.main_arg3)) (m ((c.tc : Thread Cert.S5PrepReferenceIdeal.nD Cert.S5PrepReferenceIdeal.τ).loc Cert.S5PrepReferenceIdeal.main_arg4)) (m ((c.tc : Thread Cert.S5PrepReferenceIdeal.nD Cert.S5PrepReferenceIdeal.τ).loc Cert.S5PrepReferenceIdeal.main_arg5)) (m ((c.tc : Thread Cert.S5PrepReferenceIdeal.nD Cert.S5PrepReferenceIdeal.τ).loc Cert.S5PrepReferenceIdeal.main_arg6))).2.1 = (fun _ => 1#1)
    ∧ (Cert.Pre_finite4.fn (F := Ideal) (m ((c.tc : Thread Cert.S5PrepReferenceIdeal.nD Cert.S5PrepReferenceIdeal.τ).loc Cert.S5PrepReferenceIdeal.main_arg0)) (m ((c.tc : Thread Cert.S5PrepReferenceIdeal.nD Cert.S5PrepReferenceIdeal.τ).loc Cert.S5PrepReferenceIdeal.main_arg1)) (m ((c.tc : Thread Cert.S5PrepReferenceIdeal.nD Cert.S5PrepReferenceIdeal.τ).loc Cert.S5PrepReferenceIdeal.main_arg2)) (m ((c.tc : Thread Cert.S5PrepReferenceIdeal.nD Cert.S5PrepReferenceIdeal.τ).loc Cert.S5PrepReferenceIdeal.main_arg3)) (m ((c.tc : Thread Cert.S5PrepReferenceIdeal.nD Cert.S5PrepReferenceIdeal.τ).loc Cert.S5PrepReferenceIdeal.main_arg4)) (m ((c.tc : Thread Cert.S5PrepReferenceIdeal.nD Cert.S5PrepReferenceIdeal.τ).loc Cert.S5PrepReferenceIdeal.main_arg5)) (m ((c.tc : Thread Cert.S5PrepReferenceIdeal.nD Cert.S5PrepReferenceIdeal.τ).loc Cert.S5PrepReferenceIdeal.main_arg6))).2.2.1 = (fun _ => 1#1)
    ∧ (Cert.Pre_finite4.fn (F := Ideal) (m ((c.tc : Thread Cert.S5PrepReferenceIdeal.nD Cert.S5PrepReferenceIdeal.τ).loc Cert.S5PrepReferenceIdeal.main_arg0)) (m ((c.tc : Thread Cert.S5PrepReferenceIdeal.nD Cert.S5PrepReferenceIdeal.τ).loc Cert.S5PrepReferenceIdeal.main_arg1)) (m ((c.tc : Thread Cert.S5PrepReferenceIdeal.nD Cert.S5PrepReferenceIdeal.τ).loc Cert.S5PrepReferenceIdeal.main_arg2)) (m ((c.tc : Thread Cert.S5PrepReferenceIdeal.nD Cert.S5PrepReferenceIdeal.τ).loc Cert.S5PrepReferenceIdeal.main_arg3)) (m ((c.tc : Thread Cert.S5PrepReferenceIdeal.nD Cert.S5PrepReferenceIdeal.τ).loc Cert.S5PrepReferenceIdeal.main_arg4)) (m ((c.tc : Thread Cert.S5PrepReferenceIdeal.nD Cert.S5PrepReferenceIdeal.τ).loc Cert.S5PrepReferenceIdeal.main_arg5)) (m ((c.tc : Thread Cert.S5PrepReferenceIdeal.nD Cert.S5PrepReferenceIdeal.τ).loc Cert.S5PrepReferenceIdeal.main_arg6))).2.2.2.1 = (fun _ => 1#1)
    ∧ (Cert.Pre_finite4.fn (F := Ideal) (m ((c.tc : Thread Cert.S5PrepReferenceIdeal.nD Cert.S5PrepReferenceIdeal.τ).loc Cert.S5PrepReferenceIdeal.main_arg0)) (m ((c.tc : Thread Cert.S5PrepReferenceIdeal.nD Cert.S5PrepReferenceIdeal.τ).loc Cert.S5PrepReferenceIdeal.main_arg1)) (m ((c.tc : Thread Cert.S5PrepReferenceIdeal.nD Cert.S5PrepReferenceIdeal.τ).loc Cert.S5PrepReferenceIdeal.main_arg2)) (m ((c.tc : Thread Cert.S5PrepReferenceIdeal.nD Cert.S5PrepReferenceIdeal.τ).loc Cert.S5PrepReferenceIdeal.main_arg3)) (m ((c.tc : Thread Cert.S5PrepReferenceIdeal.nD Cert.S5PrepReferenceIdeal.τ).loc Cert.S5PrepReferenceIdeal.main_arg4)) (m ((c.tc : Thread Cert.S5PrepReferenceIdeal.nD Cert.S5PrepReferenceIdeal.τ).loc Cert.S5PrepReferenceIdeal.main_arg5)) (m ((c.tc : Thread Cert.S5PrepReferenceIdeal.nD Cert.S5PrepReferenceIdeal.τ).loc Cert.S5PrepReferenceIdeal.main_arg6))).2.2.2.2.1 = (fun _ => 1#1)
    ∧ (Cert.Pre_finite4.fn (F := Ideal) (m ((c.tc : Thread Cert.S5PrepReferenceIdeal.nD Cert.S5PrepReferenceIdeal.τ).loc Cert.S5PrepReferenceIdeal.main_arg0)) (m ((c.tc : Thread Cert.S5PrepReferenceIdeal.nD Cert.S5PrepReferenceIdeal.τ).loc Cert.S5PrepReferenceIdeal.main_arg1)) (m ((c.tc : Thread Cert.S5PrepReferenceIdeal.nD Cert.S5PrepReferenceIdeal.τ).loc Cert.S5PrepReferenceIdeal.main_arg2)) (m ((c.tc : Thread Cert.S5PrepReferenceIdeal.nD Cert.S5PrepReferenceIdeal.τ).loc Cert.S5PrepReferenceIdeal.main_arg3)) (m ((c.tc : Thread Cert.S5PrepReferenceIdeal.nD Cert.S5PrepReferenceIdeal.τ).loc Cert.S5PrepReferenceIdeal.main_arg4)) (m ((c.tc : Thread Cert.S5PrepReferenceIdeal.nD Cert.S5PrepReferenceIdeal.τ).loc Cert.S5PrepReferenceIdeal.main_arg5)) (m ((c.tc : Thread Cert.S5PrepReferenceIdeal.nD Cert.S5PrepReferenceIdeal.τ).loc Cert.S5PrepReferenceIdeal.main_arg6))).2.2.2.2.2.1 = (fun _ => 1#1)
    ∧ (Cert.Pre_finite4.fn (F := Ideal) (m ((c.tc : Thread Cert.S5PrepReferenceIdeal.nD Cert.S5PrepReferenceIdeal.τ).loc Cert.S5PrepReferenceIdeal.main_arg0)) (m ((c.tc : Thread Cert.S5PrepReferenceIdeal.nD Cert.S5PrepReferenceIdeal.τ).loc Cert.S5PrepReferenceIdeal.main_arg1)) (m ((c.tc : Thread Cert.S5PrepReferenceIdeal.nD Cert.S5PrepReferenceIdeal.τ).loc Cert.S5PrepReferenceIdeal.main_arg2)) (m ((c.tc : Thread Cert.S5PrepReferenceIdeal.nD Cert.S5PrepReferenceIdeal.τ).loc Cert.S5PrepReferenceIdeal.main_arg3)) (m ((c.tc : Thread Cert.S5PrepReferenceIdeal.nD Cert.S5PrepReferenceIdeal.τ).loc Cert.S5PrepReferenceIdeal.main_arg4)) (m ((c.tc : Thread Cert.S5PrepReferenceIdeal.nD Cert.S5PrepReferenceIdeal.τ).loc Cert.S5PrepReferenceIdeal.main_arg5)) (m ((c.tc : Thread Cert.S5PrepReferenceIdeal.nD Cert.S5PrepReferenceIdeal.τ).loc Cert.S5PrepReferenceIdeal.main_arg6))).2.2.2.2.2.2.1 = (fun _ => 1#1)
    ∧ (Cert.Pre_finite4.fn (F := Ideal) (m ((c.tc : Thread Cert.S5PrepReferenceIdeal.nD Cert.S5PrepReferenceIdeal.τ).loc Cert.S5PrepReferenceIdeal.main_arg0)) (m ((c.tc : Thread Cert.S5PrepReferenceIdeal.nD Cert.S5PrepReferenceIdeal.τ).loc Cert.S5PrepReferenceIdeal.main_arg1)) (m ((c.tc : Thread Cert.S5PrepReferenceIdeal.nD Cert.S5PrepReferenceIdeal.τ).loc Cert.S5PrepReferenceIdeal.main_arg2)) (m ((c.tc : Thread Cert.S5PrepReferenceIdeal.nD Cert.S5PrepReferenceIdeal.τ).loc Cert.S5PrepReferenceIdeal.main_arg3)) (m ((c.tc : Thread Cert.S5PrepReferenceIdeal.nD Cert.S5PrepReferenceIdeal.τ).loc Cert.S5PrepReferenceIdeal.main_arg4)) (m ((c.tc : Thread Cert.S5PrepReferenceIdeal.nD Cert.S5PrepReferenceIdeal.τ).loc Cert.S5PrepReferenceIdeal.main_arg5)) (m ((c.tc : Thread Cert.S5PrepReferenceIdeal.nD Cert.S5PrepReferenceIdeal.τ).loc Cert.S5PrepReferenceIdeal.main_arg6))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2))
      ∧ r.2.sem = fun _ => 0)

def quiescent_S5 [hS5 : Cert.S5.Facts] : Prop :=
  ∀ (m : (ℓ : Loc Cert.S5.nD Cert.S5.τ Cert.S5.sig) → Buf (Elt Bits) ℓ) (g : Dev Cert.S5.nD → PrngReg), Pre_S5 m →
    θ_run (Cert.S5.defs (F := Bits)) (onTc (τ := Cert.S5.τ) (Cert.S5.main (F := Bits))) ⟨m, fun _ => 0, g⟩ (fun r => (∀ c : Dev Cert.S5.nD,
      r.2.mem ((c.tc : Thread Cert.S5.nD Cert.S5.τ).loc Cert.S5.main_arg0) = m ((c.tc : Thread Cert.S5.nD Cert.S5.τ).loc Cert.S5.main_arg0)
      ∧ r.2.mem ((c.tc : Thread Cert.S5.nD Cert.S5.τ).loc Cert.S5.main_arg1) = m ((c.tc : Thread Cert.S5.nD Cert.S5.τ).loc Cert.S5.main_arg1)
      ∧ r.2.mem ((c.tc : Thread Cert.S5.nD Cert.S5.τ).loc Cert.S5.main_arg2) = m ((c.tc : Thread Cert.S5.nD Cert.S5.τ).loc Cert.S5.main_arg2)
      ∧ r.2.mem ((c.tc : Thread Cert.S5.nD Cert.S5.τ).loc Cert.S5.main_arg3) = m ((c.tc : Thread Cert.S5.nD Cert.S5.τ).loc Cert.S5.main_arg3)
      ∧ r.2.mem ((c.tc : Thread Cert.S5.nD Cert.S5.τ).loc Cert.S5.main_arg4) = m ((c.tc : Thread Cert.S5.nD Cert.S5.τ).loc Cert.S5.main_arg4)
      ∧ r.2.mem ((c.tc : Thread Cert.S5.nD Cert.S5.τ).loc Cert.S5.main_arg5) = m ((c.tc : Thread Cert.S5.nD Cert.S5.τ).loc Cert.S5.main_arg5))
      ∧ r.2.sem = fun _ => 0)

def quiescent_S5Ideal [hS5Ideal : Cert.S5Ideal.Facts] : Prop :=
  ∀ (m : (ℓ : Loc Cert.S5Ideal.nD Cert.S5Ideal.τ Cert.S5Ideal.sig) → Buf (Elt Ideal) ℓ) (g : Dev Cert.S5Ideal.nD → PrngReg), Pre_S5Ideal m →
    θ_run (Cert.S5Ideal.defs (F := Ideal)) (onTc (τ := Cert.S5Ideal.τ) (Cert.S5Ideal.main (F := Ideal))) ⟨m, fun _ => 0, g⟩ (fun r => (∀ c : Dev Cert.S5Ideal.nD,
      r.2.mem ((c.tc : Thread Cert.S5Ideal.nD Cert.S5Ideal.τ).loc Cert.S5Ideal.main_arg0) = m ((c.tc : Thread Cert.S5Ideal.nD Cert.S5Ideal.τ).loc Cert.S5Ideal.main_arg0)
      ∧ r.2.mem ((c.tc : Thread Cert.S5Ideal.nD Cert.S5Ideal.τ).loc Cert.S5Ideal.main_arg1) = m ((c.tc : Thread Cert.S5Ideal.nD Cert.S5Ideal.τ).loc Cert.S5Ideal.main_arg1)
      ∧ r.2.mem ((c.tc : Thread Cert.S5Ideal.nD Cert.S5Ideal.τ).loc Cert.S5Ideal.main_arg2) = m ((c.tc : Thread Cert.S5Ideal.nD Cert.S5Ideal.τ).loc Cert.S5Ideal.main_arg2)
      ∧ r.2.mem ((c.tc : Thread Cert.S5Ideal.nD Cert.S5Ideal.τ).loc Cert.S5Ideal.main_arg3) = m ((c.tc : Thread Cert.S5Ideal.nD Cert.S5Ideal.τ).loc Cert.S5Ideal.main_arg3)
      ∧ r.2.mem ((c.tc : Thread Cert.S5Ideal.nD Cert.S5Ideal.τ).loc Cert.S5Ideal.main_arg4) = m ((c.tc : Thread Cert.S5Ideal.nD Cert.S5Ideal.τ).loc Cert.S5Ideal.main_arg4)
      ∧ r.2.mem ((c.tc : Thread Cert.S5Ideal.nD Cert.S5Ideal.τ).loc Cert.S5Ideal.main_arg5) = m ((c.tc : Thread Cert.S5Ideal.nD Cert.S5Ideal.τ).loc Cert.S5Ideal.main_arg5))
      ∧ r.2.sem = fun _ => 0)

def quiescent_S5Ideal_pre_finite3 [hS5Ideal : Cert.S5Ideal.Facts] [hPre_finite3 : Cert.Pre_finite3.Facts] : Prop :=
  ∀ (m : (ℓ : Loc Cert.S5Ideal.nD Cert.S5Ideal.τ Cert.S5Ideal.sig) → Buf (Elt Ideal) ℓ) (g : Dev Cert.S5Ideal.nD → PrngReg), Pre_S5Ideal_finite3 m →
    θ_run (Cert.S5Ideal.defs (F := Ideal)) (onTc (τ := Cert.S5Ideal.τ) (Cert.S5Ideal.main (F := Ideal))) ⟨m, fun _ => 0, g⟩ (fun r => (∀ c : Dev Cert.S5Ideal.nD,
      r.2.mem ((c.tc : Thread Cert.S5Ideal.nD Cert.S5Ideal.τ).loc Cert.S5Ideal.main_arg0) = m ((c.tc : Thread Cert.S5Ideal.nD Cert.S5Ideal.τ).loc Cert.S5Ideal.main_arg0)
      ∧ r.2.mem ((c.tc : Thread Cert.S5Ideal.nD Cert.S5Ideal.τ).loc Cert.S5Ideal.main_arg1) = m ((c.tc : Thread Cert.S5Ideal.nD Cert.S5Ideal.τ).loc Cert.S5Ideal.main_arg1)
      ∧ r.2.mem ((c.tc : Thread Cert.S5Ideal.nD Cert.S5Ideal.τ).loc Cert.S5Ideal.main_arg2) = m ((c.tc : Thread Cert.S5Ideal.nD Cert.S5Ideal.τ).loc Cert.S5Ideal.main_arg2)
      ∧ r.2.mem ((c.tc : Thread Cert.S5Ideal.nD Cert.S5Ideal.τ).loc Cert.S5Ideal.main_arg3) = m ((c.tc : Thread Cert.S5Ideal.nD Cert.S5Ideal.τ).loc Cert.S5Ideal.main_arg3)
      ∧ r.2.mem ((c.tc : Thread Cert.S5Ideal.nD Cert.S5Ideal.τ).loc Cert.S5Ideal.main_arg4) = m ((c.tc : Thread Cert.S5Ideal.nD Cert.S5Ideal.τ).loc Cert.S5Ideal.main_arg4)
      ∧ r.2.mem ((c.tc : Thread Cert.S5Ideal.nD Cert.S5Ideal.τ).loc Cert.S5Ideal.main_arg5) = m ((c.tc : Thread Cert.S5Ideal.nD Cert.S5Ideal.τ).loc Cert.S5Ideal.main_arg5))
      ∧ r.2.sem = fun _ => 0)

def quiescent_S5ReferenceIdeal [hS5ReferenceIdeal : Cert.S5ReferenceIdeal.Facts] : Prop :=
  ∀ (m : (ℓ : Loc Cert.S5ReferenceIdeal.nD Cert.S5ReferenceIdeal.τ Cert.S5ReferenceIdeal.sig) → Buf (Elt Ideal) ℓ) (g : Dev Cert.S5ReferenceIdeal.nD → PrngReg), Pre_S5ReferenceIdeal m →
    θ_run (Cert.S5ReferenceIdeal.defs (F := Ideal)) (onTc (τ := Cert.S5ReferenceIdeal.τ) (Cert.S5ReferenceIdeal.main (F := Ideal))) ⟨m, fun _ => 0, g⟩ (fun r => (∀ c : Dev Cert.S5ReferenceIdeal.nD,
      r.2.mem ((c.tc : Thread Cert.S5ReferenceIdeal.nD Cert.S5ReferenceIdeal.τ).loc Cert.S5ReferenceIdeal.main_arg0) = m ((c.tc : Thread Cert.S5ReferenceIdeal.nD Cert.S5ReferenceIdeal.τ).loc Cert.S5ReferenceIdeal.main_arg0)
      ∧ r.2.mem ((c.tc : Thread Cert.S5ReferenceIdeal.nD Cert.S5ReferenceIdeal.τ).loc Cert.S5ReferenceIdeal.main_arg1) = m ((c.tc : Thread Cert.S5ReferenceIdeal.nD Cert.S5ReferenceIdeal.τ).loc Cert.S5ReferenceIdeal.main_arg1)
      ∧ r.2.mem ((c.tc : Thread Cert.S5ReferenceIdeal.nD Cert.S5ReferenceIdeal.τ).loc Cert.S5ReferenceIdeal.main_arg2) = m ((c.tc : Thread Cert.S5ReferenceIdeal.nD Cert.S5ReferenceIdeal.τ).loc Cert.S5ReferenceIdeal.main_arg2)
      ∧ r.2.mem ((c.tc : Thread Cert.S5ReferenceIdeal.nD Cert.S5ReferenceIdeal.τ).loc Cert.S5ReferenceIdeal.main_arg3) = m ((c.tc : Thread Cert.S5ReferenceIdeal.nD Cert.S5ReferenceIdeal.τ).loc Cert.S5ReferenceIdeal.main_arg3)
      ∧ r.2.mem ((c.tc : Thread Cert.S5ReferenceIdeal.nD Cert.S5ReferenceIdeal.τ).loc Cert.S5ReferenceIdeal.main_arg4) = m ((c.tc : Thread Cert.S5ReferenceIdeal.nD Cert.S5ReferenceIdeal.τ).loc Cert.S5ReferenceIdeal.main_arg4)
      ∧ r.2.mem ((c.tc : Thread Cert.S5ReferenceIdeal.nD Cert.S5ReferenceIdeal.τ).loc Cert.S5ReferenceIdeal.main_arg5) = m ((c.tc : Thread Cert.S5ReferenceIdeal.nD Cert.S5ReferenceIdeal.τ).loc Cert.S5ReferenceIdeal.main_arg5))
      ∧ r.2.sem = fun _ => 0)

def quiescent_S5ReferenceIdeal_pre_finite3 [hS5ReferenceIdeal : Cert.S5ReferenceIdeal.Facts] [hPre_finite3 : Cert.Pre_finite3.Facts] : Prop :=
  ∀ (m : (ℓ : Loc Cert.S5ReferenceIdeal.nD Cert.S5ReferenceIdeal.τ Cert.S5ReferenceIdeal.sig) → Buf (Elt Ideal) ℓ) (g : Dev Cert.S5ReferenceIdeal.nD → PrngReg), Pre_S5ReferenceIdeal_finite3 m →
    θ_run (Cert.S5ReferenceIdeal.defs (F := Ideal)) (onTc (τ := Cert.S5ReferenceIdeal.τ) (Cert.S5ReferenceIdeal.main (F := Ideal))) ⟨m, fun _ => 0, g⟩ (fun r => (∀ c : Dev Cert.S5ReferenceIdeal.nD,
      r.2.mem ((c.tc : Thread Cert.S5ReferenceIdeal.nD Cert.S5ReferenceIdeal.τ).loc Cert.S5ReferenceIdeal.main_arg0) = m ((c.tc : Thread Cert.S5ReferenceIdeal.nD Cert.S5ReferenceIdeal.τ).loc Cert.S5ReferenceIdeal.main_arg0)
      ∧ r.2.mem ((c.tc : Thread Cert.S5ReferenceIdeal.nD Cert.S5ReferenceIdeal.τ).loc Cert.S5ReferenceIdeal.main_arg1) = m ((c.tc : Thread Cert.S5ReferenceIdeal.nD Cert.S5ReferenceIdeal.τ).loc Cert.S5ReferenceIdeal.main_arg1)
      ∧ r.2.mem ((c.tc : Thread Cert.S5ReferenceIdeal.nD Cert.S5ReferenceIdeal.τ).loc Cert.S5ReferenceIdeal.main_arg2) = m ((c.tc : Thread Cert.S5ReferenceIdeal.nD Cert.S5ReferenceIdeal.τ).loc Cert.S5ReferenceIdeal.main_arg2)
      ∧ r.2.mem ((c.tc : Thread Cert.S5ReferenceIdeal.nD Cert.S5ReferenceIdeal.τ).loc Cert.S5ReferenceIdeal.main_arg3) = m ((c.tc : Thread Cert.S5ReferenceIdeal.nD Cert.S5ReferenceIdeal.τ).loc Cert.S5ReferenceIdeal.main_arg3)
      ∧ r.2.mem ((c.tc : Thread Cert.S5ReferenceIdeal.nD Cert.S5ReferenceIdeal.τ).loc Cert.S5ReferenceIdeal.main_arg4) = m ((c.tc : Thread Cert.S5ReferenceIdeal.nD Cert.S5ReferenceIdeal.τ).loc Cert.S5ReferenceIdeal.main_arg4)
      ∧ r.2.mem ((c.tc : Thread Cert.S5ReferenceIdeal.nD Cert.S5ReferenceIdeal.τ).loc Cert.S5ReferenceIdeal.main_arg5) = m ((c.tc : Thread Cert.S5ReferenceIdeal.nD Cert.S5ReferenceIdeal.τ).loc Cert.S5ReferenceIdeal.main_arg5))
      ∧ r.2.sem = fun _ => 0)

def quiescent_S5Prep [hS5Prep : Cert.S5Prep.Facts] : Prop :=
  ∀ (m : (ℓ : Loc Cert.S5Prep.nD Cert.S5Prep.τ Cert.S5Prep.sig) → Buf (Elt Bits) ℓ) (g : Dev Cert.S5Prep.nD → PrngReg), Pre_S5Prep m →
    θ_run (Cert.S5Prep.defs (F := Bits)) (onTc (τ := Cert.S5Prep.τ) (Cert.S5Prep.main (F := Bits))) ⟨m, fun _ => 0, g⟩ (fun r => (∀ c : Dev Cert.S5Prep.nD,
      r.2.mem ((c.tc : Thread Cert.S5Prep.nD Cert.S5Prep.τ).loc Cert.S5Prep.main_arg0) = m ((c.tc : Thread Cert.S5Prep.nD Cert.S5Prep.τ).loc Cert.S5Prep.main_arg0)
      ∧ r.2.mem ((c.tc : Thread Cert.S5Prep.nD Cert.S5Prep.τ).loc Cert.S5Prep.main_arg1) = m ((c.tc : Thread Cert.S5Prep.nD Cert.S5Prep.τ).loc Cert.S5Prep.main_arg1)
      ∧ r.2.mem ((c.tc : Thread Cert.S5Prep.nD Cert.S5Prep.τ).loc Cert.S5Prep.main_arg2) = m ((c.tc : Thread Cert.S5Prep.nD Cert.S5Prep.τ).loc Cert.S5Prep.main_arg2)
      ∧ r.2.mem ((c.tc : Thread Cert.S5Prep.nD Cert.S5Prep.τ).loc Cert.S5Prep.main_arg3) = m ((c.tc : Thread Cert.S5Prep.nD Cert.S5Prep.τ).loc Cert.S5Prep.main_arg3)
      ∧ r.2.mem ((c.tc : Thread Cert.S5Prep.nD Cert.S5Prep.τ).loc Cert.S5Prep.main_arg4) = m ((c.tc : Thread Cert.S5Prep.nD Cert.S5Prep.τ).loc Cert.S5Prep.main_arg4)
      ∧ r.2.mem ((c.tc : Thread Cert.S5Prep.nD Cert.S5Prep.τ).loc Cert.S5Prep.main_arg5) = m ((c.tc : Thread Cert.S5Prep.nD Cert.S5Prep.τ).loc Cert.S5Prep.main_arg5)
      ∧ r.2.mem ((c.tc : Thread Cert.S5Prep.nD Cert.S5Prep.τ).loc Cert.S5Prep.main_arg6) = m ((c.tc : Thread Cert.S5Prep.nD Cert.S5Prep.τ).loc Cert.S5Prep.main_arg6))
      ∧ r.2.sem = fun _ => 0)

def quiescent_S5PrepIdeal [hS5PrepIdeal : Cert.S5PrepIdeal.Facts] : Prop :=
  ∀ (m : (ℓ : Loc Cert.S5PrepIdeal.nD Cert.S5PrepIdeal.τ Cert.S5PrepIdeal.sig) → Buf (Elt Ideal) ℓ) (g : Dev Cert.S5PrepIdeal.nD → PrngReg), Pre_S5PrepIdeal m →
    θ_run (Cert.S5PrepIdeal.defs (F := Ideal)) (onTc (τ := Cert.S5PrepIdeal.τ) (Cert.S5PrepIdeal.main (F := Ideal))) ⟨m, fun _ => 0, g⟩ (fun r => (∀ c : Dev Cert.S5PrepIdeal.nD,
      r.2.mem ((c.tc : Thread Cert.S5PrepIdeal.nD Cert.S5PrepIdeal.τ).loc Cert.S5PrepIdeal.main_arg0) = m ((c.tc : Thread Cert.S5PrepIdeal.nD Cert.S5PrepIdeal.τ).loc Cert.S5PrepIdeal.main_arg0)
      ∧ r.2.mem ((c.tc : Thread Cert.S5PrepIdeal.nD Cert.S5PrepIdeal.τ).loc Cert.S5PrepIdeal.main_arg1) = m ((c.tc : Thread Cert.S5PrepIdeal.nD Cert.S5PrepIdeal.τ).loc Cert.S5PrepIdeal.main_arg1)
      ∧ r.2.mem ((c.tc : Thread Cert.S5PrepIdeal.nD Cert.S5PrepIdeal.τ).loc Cert.S5PrepIdeal.main_arg2) = m ((c.tc : Thread Cert.S5PrepIdeal.nD Cert.S5PrepIdeal.τ).loc Cert.S5PrepIdeal.main_arg2)
      ∧ r.2.mem ((c.tc : Thread Cert.S5PrepIdeal.nD Cert.S5PrepIdeal.τ).loc Cert.S5PrepIdeal.main_arg3) = m ((c.tc : Thread Cert.S5PrepIdeal.nD Cert.S5PrepIdeal.τ).loc Cert.S5PrepIdeal.main_arg3)
      ∧ r.2.mem ((c.tc : Thread Cert.S5PrepIdeal.nD Cert.S5PrepIdeal.τ).loc Cert.S5PrepIdeal.main_arg4) = m ((c.tc : Thread Cert.S5PrepIdeal.nD Cert.S5PrepIdeal.τ).loc Cert.S5PrepIdeal.main_arg4)
      ∧ r.2.mem ((c.tc : Thread Cert.S5PrepIdeal.nD Cert.S5PrepIdeal.τ).loc Cert.S5PrepIdeal.main_arg5) = m ((c.tc : Thread Cert.S5PrepIdeal.nD Cert.S5PrepIdeal.τ).loc Cert.S5PrepIdeal.main_arg5)
      ∧ r.2.mem ((c.tc : Thread Cert.S5PrepIdeal.nD Cert.S5PrepIdeal.τ).loc Cert.S5PrepIdeal.main_arg6) = m ((c.tc : Thread Cert.S5PrepIdeal.nD Cert.S5PrepIdeal.τ).loc Cert.S5PrepIdeal.main_arg6))
      ∧ r.2.sem = fun _ => 0)

def quiescent_S5PrepIdeal_pre_finite4 [hS5PrepIdeal : Cert.S5PrepIdeal.Facts] [hPre_finite4 : Cert.Pre_finite4.Facts] : Prop :=
  ∀ (m : (ℓ : Loc Cert.S5PrepIdeal.nD Cert.S5PrepIdeal.τ Cert.S5PrepIdeal.sig) → Buf (Elt Ideal) ℓ) (g : Dev Cert.S5PrepIdeal.nD → PrngReg), Pre_S5PrepIdeal_finite4 m →
    θ_run (Cert.S5PrepIdeal.defs (F := Ideal)) (onTc (τ := Cert.S5PrepIdeal.τ) (Cert.S5PrepIdeal.main (F := Ideal))) ⟨m, fun _ => 0, g⟩ (fun r => (∀ c : Dev Cert.S5PrepIdeal.nD,
      r.2.mem ((c.tc : Thread Cert.S5PrepIdeal.nD Cert.S5PrepIdeal.τ).loc Cert.S5PrepIdeal.main_arg0) = m ((c.tc : Thread Cert.S5PrepIdeal.nD Cert.S5PrepIdeal.τ).loc Cert.S5PrepIdeal.main_arg0)
      ∧ r.2.mem ((c.tc : Thread Cert.S5PrepIdeal.nD Cert.S5PrepIdeal.τ).loc Cert.S5PrepIdeal.main_arg1) = m ((c.tc : Thread Cert.S5PrepIdeal.nD Cert.S5PrepIdeal.τ).loc Cert.S5PrepIdeal.main_arg1)
      ∧ r.2.mem ((c.tc : Thread Cert.S5PrepIdeal.nD Cert.S5PrepIdeal.τ).loc Cert.S5PrepIdeal.main_arg2) = m ((c.tc : Thread Cert.S5PrepIdeal.nD Cert.S5PrepIdeal.τ).loc Cert.S5PrepIdeal.main_arg2)
      ∧ r.2.mem ((c.tc : Thread Cert.S5PrepIdeal.nD Cert.S5PrepIdeal.τ).loc Cert.S5PrepIdeal.main_arg3) = m ((c.tc : Thread Cert.S5PrepIdeal.nD Cert.S5PrepIdeal.τ).loc Cert.S5PrepIdeal.main_arg3)
      ∧ r.2.mem ((c.tc : Thread Cert.S5PrepIdeal.nD Cert.S5PrepIdeal.τ).loc Cert.S5PrepIdeal.main_arg4) = m ((c.tc : Thread Cert.S5PrepIdeal.nD Cert.S5PrepIdeal.τ).loc Cert.S5PrepIdeal.main_arg4)
      ∧ r.2.mem ((c.tc : Thread Cert.S5PrepIdeal.nD Cert.S5PrepIdeal.τ).loc Cert.S5PrepIdeal.main_arg5) = m ((c.tc : Thread Cert.S5PrepIdeal.nD Cert.S5PrepIdeal.τ).loc Cert.S5PrepIdeal.main_arg5)
      ∧ r.2.mem ((c.tc : Thread Cert.S5PrepIdeal.nD Cert.S5PrepIdeal.τ).loc Cert.S5PrepIdeal.main_arg6) = m ((c.tc : Thread Cert.S5PrepIdeal.nD Cert.S5PrepIdeal.τ).loc Cert.S5PrepIdeal.main_arg6))
      ∧ r.2.sem = fun _ => 0)

def quiescent_S5PrepReferenceIdeal [hS5PrepReferenceIdeal : Cert.S5PrepReferenceIdeal.Facts] : Prop :=
  ∀ (m : (ℓ : Loc Cert.S5PrepReferenceIdeal.nD Cert.S5PrepReferenceIdeal.τ Cert.S5PrepReferenceIdeal.sig) → Buf (Elt Ideal) ℓ) (g : Dev Cert.S5PrepReferenceIdeal.nD → PrngReg), Pre_S5PrepReferenceIdeal m →
    θ_run (Cert.S5PrepReferenceIdeal.defs (F := Ideal)) (onTc (τ := Cert.S5PrepReferenceIdeal.τ) (Cert.S5PrepReferenceIdeal.main (F := Ideal))) ⟨m, fun _ => 0, g⟩ (fun r => (∀ c : Dev Cert.S5PrepReferenceIdeal.nD,
      r.2.mem ((c.tc : Thread Cert.S5PrepReferenceIdeal.nD Cert.S5PrepReferenceIdeal.τ).loc Cert.S5PrepReferenceIdeal.main_arg0) = m ((c.tc : Thread Cert.S5PrepReferenceIdeal.nD Cert.S5PrepReferenceIdeal.τ).loc Cert.S5PrepReferenceIdeal.main_arg0)
      ∧ r.2.mem ((c.tc : Thread Cert.S5PrepReferenceIdeal.nD Cert.S5PrepReferenceIdeal.τ).loc Cert.S5PrepReferenceIdeal.main_arg1) = m ((c.tc : Thread Cert.S5PrepReferenceIdeal.nD Cert.S5PrepReferenceIdeal.τ).loc Cert.S5PrepReferenceIdeal.main_arg1)
      ∧ r.2.mem ((c.tc : Thread Cert.S5PrepReferenceIdeal.nD Cert.S5PrepReferenceIdeal.τ).loc Cert.S5PrepReferenceIdeal.main_arg2) = m ((c.tc : Thread Cert.S5PrepReferenceIdeal.nD Cert.S5PrepReferenceIdeal.τ).loc Cert.S5PrepReferenceIdeal.main_arg2)
      ∧ r.2.mem ((c.tc : Thread Cert.S5PrepReferenceIdeal.nD Cert.S5PrepReferenceIdeal.τ).loc Cert.S5PrepReferenceIdeal.main_arg3) = m ((c.tc : Thread Cert.S5PrepReferenceIdeal.nD Cert.S5PrepReferenceIdeal.τ).loc Cert.S5PrepReferenceIdeal.main_arg3)
      ∧ r.2.mem ((c.tc : Thread Cert.S5PrepReferenceIdeal.nD Cert.S5PrepReferenceIdeal.τ).loc Cert.S5PrepReferenceIdeal.main_arg4) = m ((c.tc : Thread Cert.S5PrepReferenceIdeal.nD Cert.S5PrepReferenceIdeal.τ).loc Cert.S5PrepReferenceIdeal.main_arg4)
      ∧ r.2.mem ((c.tc : Thread Cert.S5PrepReferenceIdeal.nD Cert.S5PrepReferenceIdeal.τ).loc Cert.S5PrepReferenceIdeal.main_arg5) = m ((c.tc : Thread Cert.S5PrepReferenceIdeal.nD Cert.S5PrepReferenceIdeal.τ).loc Cert.S5PrepReferenceIdeal.main_arg5)
      ∧ r.2.mem ((c.tc : Thread Cert.S5PrepReferenceIdeal.nD Cert.S5PrepReferenceIdeal.τ).loc Cert.S5PrepReferenceIdeal.main_arg6) = m ((c.tc : Thread Cert.S5PrepReferenceIdeal.nD Cert.S5PrepReferenceIdeal.τ).loc Cert.S5PrepReferenceIdeal.main_arg6))
      ∧ r.2.sem = fun _ => 0)

def quiescent_S5PrepReferenceIdeal_pre_finite4 [hS5PrepReferenceIdeal : Cert.S5PrepReferenceIdeal.Facts] [hPre_finite4 : Cert.Pre_finite4.Facts] : Prop :=
  ∀ (m : (ℓ : Loc Cert.S5PrepReferenceIdeal.nD Cert.S5PrepReferenceIdeal.τ Cert.S5PrepReferenceIdeal.sig) → Buf (Elt Ideal) ℓ) (g : Dev Cert.S5PrepReferenceIdeal.nD → PrngReg), Pre_S5PrepReferenceIdeal_finite4 m →
    θ_run (Cert.S5PrepReferenceIdeal.defs (F := Ideal)) (onTc (τ := Cert.S5PrepReferenceIdeal.τ) (Cert.S5PrepReferenceIdeal.main (F := Ideal))) ⟨m, fun _ => 0, g⟩ (fun r => (∀ c : Dev Cert.S5PrepReferenceIdeal.nD,
      r.2.mem ((c.tc : Thread Cert.S5PrepReferenceIdeal.nD Cert.S5PrepReferenceIdeal.τ).loc Cert.S5PrepReferenceIdeal.main_arg0) = m ((c.tc : Thread Cert.S5PrepReferenceIdeal.nD Cert.S5PrepReferenceIdeal.τ).loc Cert.S5PrepReferenceIdeal.main_arg0)
      ∧ r.2.mem ((c.tc : Thread Cert.S5PrepReferenceIdeal.nD Cert.S5PrepReferenceIdeal.τ).loc Cert.S5PrepReferenceIdeal.main_arg1) = m ((c.tc : Thread Cert.S5PrepReferenceIdeal.nD Cert.S5PrepReferenceIdeal.τ).loc Cert.S5PrepReferenceIdeal.main_arg1)
      ∧ r.2.mem ((c.tc : Thread Cert.S5PrepReferenceIdeal.nD Cert.S5PrepReferenceIdeal.τ).loc Cert.S5PrepReferenceIdeal.main_arg2) = m ((c.tc : Thread Cert.S5PrepReferenceIdeal.nD Cert.S5PrepReferenceIdeal.τ).loc Cert.S5PrepReferenceIdeal.main_arg2)
      ∧ r.2.mem ((c.tc : Thread Cert.S5PrepReferenceIdeal.nD Cert.S5PrepReferenceIdeal.τ).loc Cert.S5PrepReferenceIdeal.main_arg3) = m ((c.tc : Thread Cert.S5PrepReferenceIdeal.nD Cert.S5PrepReferenceIdeal.τ).loc Cert.S5PrepReferenceIdeal.main_arg3)
      ∧ r.2.mem ((c.tc : Thread Cert.S5PrepReferenceIdeal.nD Cert.S5PrepReferenceIdeal.τ).loc Cert.S5PrepReferenceIdeal.main_arg4) = m ((c.tc : Thread Cert.S5PrepReferenceIdeal.nD Cert.S5PrepReferenceIdeal.τ).loc Cert.S5PrepReferenceIdeal.main_arg4)
      ∧ r.2.mem ((c.tc : Thread Cert.S5PrepReferenceIdeal.nD Cert.S5PrepReferenceIdeal.τ).loc Cert.S5PrepReferenceIdeal.main_arg5) = m ((c.tc : Thread Cert.S5PrepReferenceIdeal.nD Cert.S5PrepReferenceIdeal.τ).loc Cert.S5PrepReferenceIdeal.main_arg5)
      ∧ r.2.mem ((c.tc : Thread Cert.S5PrepReferenceIdeal.nD Cert.S5PrepReferenceIdeal.τ).loc Cert.S5PrepReferenceIdeal.main_arg6) = m ((c.tc : Thread Cert.S5PrepReferenceIdeal.nD Cert.S5PrepReferenceIdeal.τ).loc Cert.S5PrepReferenceIdeal.main_arg6))
      ∧ r.2.sem = fun _ => 0)

def preserves_Kernel_KernelIdeal : Prop :=
  IdealRules.named_const.Statement Cert.KernelIdeal.κ "alpha" .f32 0x3F9837F0#32 ((Real.sqrt (Real.sqrt 2) : ℝ) : EReal)
  ∧ IdealRules.named_const.Statement Cert.KernelIdeal.κ "ln_eps" .f32 0x3727C5AC#32 ((1 / 100000 : ℝ) : EReal)

def algebraic_KernelIdeal_ReferenceIdeal_on_h_only [hKernelIdeal : Cert.KernelIdeal.Facts] [hReferenceIdeal : Cert.ReferenceIdeal.Facts] [hOn_h_only : Cert.On_h_only.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![16, 16384, 128]⟩ : Shape).Idx, (Cert.On_h_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 i = 1#1 → r.2.mem ((c.tc : Thread Cert.KernelIdeal.nD Cert.KernelIdeal.τ).loc Cert.KernelIdeal.main_v30_0) i = v0 c i)
          ∧ (∀ i : (⟨3, ![16, 2048, 128]⟩ : Shape).Idx, (Cert.On_h_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2 i = 1#1 → r.2.mem ((c.tc : Thread Cert.KernelIdeal.nD Cert.KernelIdeal.τ).loc Cert.KernelIdeal.main_v30_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![16, 16384, 128]⟩ : Shape).Idx, (Cert.On_h_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 i = 1#1 → r.2.mem ((c.tc : Thread Cert.ReferenceIdeal.nD Cert.ReferenceIdeal.τ).loc Cert.ReferenceIdeal.main_v142) i = v0 c i)
          ∧ (∀ i : (⟨3, ![16, 2048, 128]⟩ : Shape).Idx, (Cert.On_h_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2 i = 1#1 → r.2.mem ((c.tc : Thread Cert.ReferenceIdeal.nD Cert.ReferenceIdeal.τ).loc Cert.ReferenceIdeal.main_v143) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v10_0)) (v1 : (c : Dev Cert.InprojIdeal.nD) → Buf (Elt Ideal) ((c.tc : Thread Cert.InprojIdeal.nD Cert.InprojIdeal.τ).loc Cert.InprojIdeal.main_v10_1)) (v2 : (c : Dev Cert.InprojIdeal.nD) → Buf (Elt Ideal) ((c.tc : Thread Cert.InprojIdeal.nD Cert.InprojIdeal.τ).loc Cert.InprojIdeal.main_v10_2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v10_0) = v0 c
          ∧ r.2.mem ((c.tc : Thread Cert.InprojIdeal.nD Cert.InprojIdeal.τ).loc Cert.InprojIdeal.main_v10_1) = v1 c
          ∧ r.2.mem ((c.tc : Thread Cert.InprojIdeal.nD Cert.InprojIdeal.τ).loc Cert.InprojIdeal.main_v10_2) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v18) = v0 c
          ∧ r.2.mem ((c.tc : Thread Cert.InprojReferenceIdeal.nD Cert.InprojReferenceIdeal.τ).loc Cert.InprojReferenceIdeal.main_v20) = v1 c
          ∧ r.2.mem ((c.tc : Thread Cert.InprojReferenceIdeal.nD Cert.InprojReferenceIdeal.τ).loc Cert.InprojReferenceIdeal.main_v23) = v2 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2))

def preserves_S5_S5Ideal : Prop :=
  IdealRules.named_const.Statement Cert.S5Ideal.κ "gelu_cubic" .f32 0x3D372713#32 ((8943 / 200000 : ℝ) : EReal)
  ∧ IdealRules.named_const.Statement Cert.S5Ideal.κ "gelu_scale" .f32 0x3F4C422A#32 ((Real.sqrt (2 * Real.pi⁻¹) : ℝ) : EReal)

def algebraic_S5Ideal_S5ReferenceIdeal_pre_finite3 [hS5Ideal : Cert.S5Ideal.Facts] [hS5ReferenceIdeal : Cert.S5ReferenceIdeal.Facts] [hPre_finite3 : Cert.Pre_finite3.Facts] : Prop :=
  ∀ (m : (ℓ : Loc Cert.S5Ideal.nD Cert.S5Ideal.τ Cert.S5Ideal.sig) → Buf (Elt Ideal) ℓ) (g : Dev Cert.S5Ideal.nD → PrngReg)
    (m' : (ℓ : Loc Cert.S5ReferenceIdeal.nD Cert.S5ReferenceIdeal.τ Cert.S5ReferenceIdeal.sig) → Buf (Elt Ideal) ℓ) (g' : Dev Cert.S5ReferenceIdeal.nD → PrngReg), Pre_S5Ideal_finite3 m →
    (∀ c : Dev Cert.S5Ideal.nD,
      m' ((c.tc : Thread Cert.S5ReferenceIdeal.nD Cert.S5ReferenceIdeal.τ).loc Cert.S5ReferenceIdeal.main_arg0) = m ((c.tc : Thread Cert.S5Ideal.nD Cert.S5Ideal.τ).loc Cert.S5Ideal.main_arg0)
      ∧ m' ((c.tc : Thread Cert.S5ReferenceIdeal.nD Cert.S5ReferenceIdeal.τ).loc Cert.S5ReferenceIdeal.main_arg1) = m ((c.tc : Thread Cert.S5Ideal.nD Cert.S5Ideal.τ).loc Cert.S5Ideal.main_arg1)
      ∧ m' ((c.tc : Thread Cert.S5ReferenceIdeal.nD Cert.S5ReferenceIdeal.τ).loc Cert.S5ReferenceIdeal.main_arg2) = m ((c.tc : Thread Cert.S5Ideal.nD Cert.S5Ideal.τ).loc Cert.S5Ideal.main_arg2)
      ∧ m' ((c.tc : Thread Cert.S5ReferenceIdeal.nD Cert.S5ReferenceIdeal.τ).loc Cert.S5ReferenceIdeal.main_arg3) = m ((c.tc : Thread Cert.S5Ideal.nD Cert.S5Ideal.τ).loc Cert.S5Ideal.main_arg3)
      ∧ m' ((c.tc : Thread Cert.S5ReferenceIdeal.nD Cert.S5ReferenceIdeal.τ).loc Cert.S5ReferenceIdeal.main_arg4) = m ((c.tc : Thread Cert.S5Ideal.nD Cert.S5Ideal.τ).loc Cert.S5Ideal.main_arg4)
      ∧ m' ((c.tc : Thread Cert.S5ReferenceIdeal.nD Cert.S5ReferenceIdeal.τ).loc Cert.S5ReferenceIdeal.main_arg5) = m ((c.tc : Thread Cert.S5Ideal.nD Cert.S5Ideal.τ).loc Cert.S5Ideal.main_arg5)) →
    ∃ (v0 : (c : Dev Cert.S5Ideal.nD) → Buf (Elt Ideal) ((c.tc : Thread Cert.S5Ideal.nD Cert.S5Ideal.τ).loc Cert.S5Ideal.main_v86)),
      θ_run (Cert.S5Ideal.defs (F := Ideal)) (onTc (τ := Cert.S5Ideal.τ) (Cert.S5Ideal.main (F := Ideal))) ⟨m, fun _ => 0, g⟩ (fun r => ∀ c : Dev Cert.S5Ideal.nD,
          r.2.mem ((c.tc : Thread Cert.S5Ideal.nD Cert.S5Ideal.τ).loc Cert.S5Ideal.main_v86) = v0 c
          ∧ r.2.mem ((c.tc : Thread Cert.S5Ideal.nD Cert.S5Ideal.τ).loc Cert.S5Ideal.main_arg0) = m ((c.tc : Thread Cert.S5Ideal.nD Cert.S5Ideal.τ).loc Cert.S5Ideal.main_arg0)
          ∧ r.2.mem ((c.tc : Thread Cert.S5Ideal.nD Cert.S5Ideal.τ).loc Cert.S5Ideal.main_arg1) = m ((c.tc : Thread Cert.S5Ideal.nD Cert.S5Ideal.τ).loc Cert.S5Ideal.main_arg1)
          ∧ r.2.mem ((c.tc : Thread Cert.S5Ideal.nD Cert.S5Ideal.τ).loc Cert.S5Ideal.main_arg2) = m ((c.tc : Thread Cert.S5Ideal.nD Cert.S5Ideal.τ).loc Cert.S5Ideal.main_arg2)
          ∧ r.2.mem ((c.tc : Thread Cert.S5Ideal.nD Cert.S5Ideal.τ).loc Cert.S5Ideal.main_arg3) = m ((c.tc : Thread Cert.S5Ideal.nD Cert.S5Ideal.τ).loc Cert.S5Ideal.main_arg3)
          ∧ r.2.mem ((c.tc : Thread Cert.S5Ideal.nD Cert.S5Ideal.τ).loc Cert.S5Ideal.main_arg4) = m ((c.tc : Thread Cert.S5Ideal.nD Cert.S5Ideal.τ).loc Cert.S5Ideal.main_arg4)
          ∧ r.2.mem ((c.tc : Thread Cert.S5Ideal.nD Cert.S5Ideal.τ).loc Cert.S5Ideal.main_arg5) = m ((c.tc : Thread Cert.S5Ideal.nD Cert.S5Ideal.τ).loc Cert.S5Ideal.main_arg5))
      ∧ θ_run (Cert.S5ReferenceIdeal.defs (F := Ideal)) (onTc (τ := Cert.S5ReferenceIdeal.τ) (Cert.S5ReferenceIdeal.main (F := Ideal))) ⟨m', fun _ => 0, g'⟩ (fun r => ∀ c : Dev Cert.S5ReferenceIdeal.nD,
          r.2.mem ((c.tc : Thread Cert.S5ReferenceIdeal.nD Cert.S5ReferenceIdeal.τ).loc Cert.S5ReferenceIdeal.main_v51) = v0 c
          ∧ r.2.mem ((c.tc : Thread Cert.S5ReferenceIdeal.nD Cert.S5ReferenceIdeal.τ).loc Cert.S5ReferenceIdeal.main_arg0) = m' ((c.tc : Thread Cert.S5ReferenceIdeal.nD Cert.S5ReferenceIdeal.τ).loc Cert.S5ReferenceIdeal.main_arg0)
          ∧ r.2.mem ((c.tc : Thread Cert.S5ReferenceIdeal.nD Cert.S5ReferenceIdeal.τ).loc Cert.S5ReferenceIdeal.main_arg1) = m' ((c.tc : Thread Cert.S5ReferenceIdeal.nD Cert.S5ReferenceIdeal.τ).loc Cert.S5ReferenceIdeal.main_arg1)
          ∧ r.2.mem ((c.tc : Thread Cert.S5ReferenceIdeal.nD Cert.S5ReferenceIdeal.τ).loc Cert.S5ReferenceIdeal.main_arg2) = m' ((c.tc : Thread Cert.S5ReferenceIdeal.nD Cert.S5ReferenceIdeal.τ).loc Cert.S5ReferenceIdeal.main_arg2)
          ∧ r.2.mem ((c.tc : Thread Cert.S5ReferenceIdeal.nD Cert.S5ReferenceIdeal.τ).loc Cert.S5ReferenceIdeal.main_arg3) = m' ((c.tc : Thread Cert.S5ReferenceIdeal.nD Cert.S5ReferenceIdeal.τ).loc Cert.S5ReferenceIdeal.main_arg3)
          ∧ r.2.mem ((c.tc : Thread Cert.S5ReferenceIdeal.nD Cert.S5ReferenceIdeal.τ).loc Cert.S5ReferenceIdeal.main_arg4) = m' ((c.tc : Thread Cert.S5ReferenceIdeal.nD Cert.S5ReferenceIdeal.τ).loc Cert.S5ReferenceIdeal.main_arg4)
          ∧ r.2.mem ((c.tc : Thread Cert.S5ReferenceIdeal.nD Cert.S5ReferenceIdeal.τ).loc Cert.S5ReferenceIdeal.main_arg5) = m' ((c.tc : Thread Cert.S5ReferenceIdeal.nD Cert.S5ReferenceIdeal.τ).loc Cert.S5ReferenceIdeal.main_arg5))

def preserves_S5Prep_S5PrepIdeal : Prop :=
  True

def algebraic_S5PrepIdeal_S5PrepReferenceIdeal_pre_finite4 [hS5PrepIdeal : Cert.S5PrepIdeal.Facts] [hS5PrepReferenceIdeal : Cert.S5PrepReferenceIdeal.Facts] [hPre_finite4 : Cert.Pre_finite4.Facts] : Prop :=
  ∀ (m : (ℓ : Loc Cert.S5PrepIdeal.nD Cert.S5PrepIdeal.τ Cert.S5PrepIdeal.sig) → Buf (Elt Ideal) ℓ) (g : Dev Cert.S5PrepIdeal.nD → PrngReg)
    (m' : (ℓ : Loc Cert.S5PrepReferenceIdeal.nD Cert.S5PrepReferenceIdeal.τ Cert.S5PrepReferenceIdeal.sig) → Buf (Elt Ideal) ℓ) (g' : Dev Cert.S5PrepReferenceIdeal.nD → PrngReg), Pre_S5PrepIdeal_finite4 m →
    (∀ c : Dev Cert.S5PrepIdeal.nD,
      m' ((c.tc : Thread Cert.S5PrepReferenceIdeal.nD Cert.S5PrepReferenceIdeal.τ).loc Cert.S5PrepReferenceIdeal.main_arg0) = m ((c.tc : Thread Cert.S5PrepIdeal.nD Cert.S5PrepIdeal.τ).loc Cert.S5PrepIdeal.main_arg0)
      ∧ m' ((c.tc : Thread Cert.S5PrepReferenceIdeal.nD Cert.S5PrepReferenceIdeal.τ).loc Cert.S5PrepReferenceIdeal.main_arg1) = m ((c.tc : Thread Cert.S5PrepIdeal.nD Cert.S5PrepIdeal.τ).loc Cert.S5PrepIdeal.main_arg1)
      ∧ m' ((c.tc : Thread Cert.S5PrepReferenceIdeal.nD Cert.S5PrepReferenceIdeal.τ).loc Cert.S5PrepReferenceIdeal.main_arg2) = m ((c.tc : Thread Cert.S5PrepIdeal.nD Cert.S5PrepIdeal.τ).loc Cert.S5PrepIdeal.main_arg2)
      ∧ m' ((c.tc : Thread Cert.S5PrepReferenceIdeal.nD Cert.S5PrepReferenceIdeal.τ).loc Cert.S5PrepReferenceIdeal.main_arg3) = m ((c.tc : Thread Cert.S5PrepIdeal.nD Cert.S5PrepIdeal.τ).loc Cert.S5PrepIdeal.main_arg3)
      ∧ m' ((c.tc : Thread Cert.S5PrepReferenceIdeal.nD Cert.S5PrepReferenceIdeal.τ).loc Cert.S5PrepReferenceIdeal.main_arg4) = m ((c.tc : Thread Cert.S5PrepIdeal.nD Cert.S5PrepIdeal.τ).loc Cert.S5PrepIdeal.main_arg4)
      ∧ m' ((c.tc : Thread Cert.S5PrepReferenceIdeal.nD Cert.S5PrepReferenceIdeal.τ).loc Cert.S5PrepReferenceIdeal.main_arg5) = m ((c.tc : Thread Cert.S5PrepIdeal.nD Cert.S5PrepIdeal.τ).loc Cert.S5PrepIdeal.main_arg5)
      ∧ m' ((c.tc : Thread Cert.S5PrepReferenceIdeal.nD Cert.S5PrepReferenceIdeal.τ).loc Cert.S5PrepReferenceIdeal.main_arg6) = m ((c.tc : Thread Cert.S5PrepIdeal.nD Cert.S5PrepIdeal.τ).loc Cert.S5PrepIdeal.main_arg6)) →
    ∃ (v0 : (c : Dev Cert.S5PrepIdeal.nD) → Buf (Elt Ideal) ((c.tc : Thread Cert.S5PrepIdeal.nD Cert.S5PrepIdeal.τ).loc Cert.S5PrepIdeal.main_v109)) (v1 : (c : Dev Cert.S5PrepIdeal.nD) → Buf (Elt Ideal) ((c.tc : Thread Cert.S5PrepIdeal.nD Cert.S5PrepIdeal.τ).loc Cert.S5PrepIdeal.main_v104)) (v2 : (c : Dev Cert.S5PrepIdeal.nD) → Buf (Elt Ideal) ((c.tc : Thread Cert.S5PrepIdeal.nD Cert.S5PrepIdeal.τ).loc Cert.S5PrepIdeal.main_v106)) (v3 : (c : Dev Cert.S5PrepIdeal.nD) → Buf (Elt Ideal) ((c.tc : Thread Cert.S5PrepIdeal.nD Cert.S5PrepIdeal.τ).loc Cert.S5PrepIdeal.main_v108)),
      θ_run (Cert.S5PrepIdeal.defs (F := Ideal)) (onTc (τ := Cert.S5PrepIdeal.τ) (Cert.S5PrepIdeal.main (F := Ideal))) ⟨m, fun _ => 0, g⟩ (fun r => ∀ c : Dev Cert.S5PrepIdeal.nD,
          r.2.mem ((c.tc : Thread Cert.S5PrepIdeal.nD Cert.S5PrepIdeal.τ).loc Cert.S5PrepIdeal.main_v109) = v0 c
          ∧ r.2.mem ((c.tc : Thread Cert.S5PrepIdeal.nD Cert.S5PrepIdeal.τ).loc Cert.S5PrepIdeal.main_v104) = v1 c
          ∧ r.2.mem ((c.tc : Thread Cert.S5PrepIdeal.nD Cert.S5PrepIdeal.τ).loc Cert.S5PrepIdeal.main_v106) = v2 c
          ∧ r.2.mem ((c.tc : Thread Cert.S5PrepIdeal.nD Cert.S5PrepIdeal.τ).loc Cert.S5PrepIdeal.main_v108) = v3 c
          ∧ r.2.mem ((c.tc : Thread Cert.S5PrepIdeal.nD Cert.S5PrepIdeal.τ).loc Cert.S5PrepIdeal.main_arg0) = m ((c.tc : Thread Cert.S5PrepIdeal.nD Cert.S5PrepIdeal.τ).loc Cert.S5PrepIdeal.main_arg0)
          ∧ r.2.mem ((c.tc : Thread Cert.S5PrepIdeal.nD Cert.S5PrepIdeal.τ).loc Cert.S5PrepIdeal.main_arg1) = m ((c.tc : Thread Cert.S5PrepIdeal.nD Cert.S5PrepIdeal.τ).loc Cert.S5PrepIdeal.main_arg1)
          ∧ r.2.mem ((c.tc : Thread Cert.S5PrepIdeal.nD Cert.S5PrepIdeal.τ).loc Cert.S5PrepIdeal.main_arg2) = m ((c.tc : Thread Cert.S5PrepIdeal.nD Cert.S5PrepIdeal.τ).loc Cert.S5PrepIdeal.main_arg2)
          ∧ r.2.mem ((c.tc : Thread Cert.S5PrepIdeal.nD Cert.S5PrepIdeal.τ).loc Cert.S5PrepIdeal.main_arg3) = m ((c.tc : Thread Cert.S5PrepIdeal.nD Cert.S5PrepIdeal.τ).loc Cert.S5PrepIdeal.main_arg3)
          ∧ r.2.mem ((c.tc : Thread Cert.S5PrepIdeal.nD Cert.S5PrepIdeal.τ).loc Cert.S5PrepIdeal.main_arg4) = m ((c.tc : Thread Cert.S5PrepIdeal.nD Cert.S5PrepIdeal.τ).loc Cert.S5PrepIdeal.main_arg4)
          ∧ r.2.mem ((c.tc : Thread Cert.S5PrepIdeal.nD Cert.S5PrepIdeal.τ).loc Cert.S5PrepIdeal.main_arg5) = m ((c.tc : Thread Cert.S5PrepIdeal.nD Cert.S5PrepIdeal.τ).loc Cert.S5PrepIdeal.main_arg5)
          ∧ r.2.mem ((c.tc : Thread Cert.S5PrepIdeal.nD Cert.S5PrepIdeal.τ).loc Cert.S5PrepIdeal.main_arg6) = m ((c.tc : Thread Cert.S5PrepIdeal.nD Cert.S5PrepIdeal.τ).loc Cert.S5PrepIdeal.main_arg6))
      ∧ θ_run (Cert.S5PrepReferenceIdeal.defs (F := Ideal)) (onTc (τ := Cert.S5PrepReferenceIdeal.τ) (Cert.S5PrepReferenceIdeal.main (F := Ideal))) ⟨m', fun _ => 0, g'⟩ (fun r => ∀ c : Dev Cert.S5PrepReferenceIdeal.nD,
          r.2.mem ((c.tc : Thread Cert.S5PrepReferenceIdeal.nD Cert.S5PrepReferenceIdeal.τ).loc Cert.S5PrepReferenceIdeal.main_v100) = v0 c
          ∧ r.2.mem ((c.tc : Thread Cert.S5PrepReferenceIdeal.nD Cert.S5PrepReferenceIdeal.τ).loc Cert.S5PrepReferenceIdeal.main_v99) = v1 c
          ∧ r.2.mem ((c.tc : Thread Cert.S5PrepReferenceIdeal.nD Cert.S5PrepReferenceIdeal.τ).loc Cert.S5PrepReferenceIdeal.main_v48_5) = v2 c
          ∧ r.2.mem ((c.tc : Thread Cert.S5PrepReferenceIdeal.nD Cert.S5PrepReferenceIdeal.τ).loc Cert.S5PrepReferenceIdeal.main_v48_6) = v3 c
          ∧ r.2.mem ((c.tc : Thread Cert.S5PrepReferenceIdeal.nD Cert.S5PrepReferenceIdeal.τ).loc Cert.S5PrepReferenceIdeal.main_arg0) = m' ((c.tc : Thread Cert.S5PrepReferenceIdeal.nD Cert.S5PrepReferenceIdeal.τ).loc Cert.S5PrepReferenceIdeal.main_arg0)
          ∧ r.2.mem ((c.tc : Thread Cert.S5PrepReferenceIdeal.nD Cert.S5PrepReferenceIdeal.τ).loc Cert.S5PrepReferenceIdeal.main_arg1) = m' ((c.tc : Thread Cert.S5PrepReferenceIdeal.nD Cert.S5PrepReferenceIdeal.τ).loc Cert.S5PrepReferenceIdeal.main_arg1)
          ∧ r.2.mem ((c.tc : Thread Cert.S5PrepReferenceIdeal.nD Cert.S5PrepReferenceIdeal.τ).loc Cert.S5PrepReferenceIdeal.main_arg2) = m' ((c.tc : Thread Cert.S5PrepReferenceIdeal.nD Cert.S5PrepReferenceIdeal.τ).loc Cert.S5PrepReferenceIdeal.main_arg2)
          ∧ r.2.mem ((c.tc : Thread Cert.S5PrepReferenceIdeal.nD Cert.S5PrepReferenceIdeal.τ).loc Cert.S5PrepReferenceIdeal.main_arg3) = m' ((c.tc : Thread Cert.S5PrepReferenceIdeal.nD Cert.S5PrepReferenceIdeal.τ).loc Cert.S5PrepReferenceIdeal.main_arg3)
          ∧ r.2.mem ((c.tc : Thread Cert.S5PrepReferenceIdeal.nD Cert.S5PrepReferenceIdeal.τ).loc Cert.S5PrepReferenceIdeal.main_arg4) = m' ((c.tc : Thread Cert.S5PrepReferenceIdeal.nD Cert.S5PrepReferenceIdeal.τ).loc Cert.S5PrepReferenceIdeal.main_arg4)
          ∧ r.2.mem ((c.tc : Thread Cert.S5PrepReferenceIdeal.nD Cert.S5PrepReferenceIdeal.τ).loc Cert.S5PrepReferenceIdeal.main_arg5) = m' ((c.tc : Thread Cert.S5PrepReferenceIdeal.nD Cert.S5PrepReferenceIdeal.τ).loc Cert.S5PrepReferenceIdeal.main_arg5)
          ∧ r.2.mem ((c.tc : Thread Cert.S5PrepReferenceIdeal.nD Cert.S5PrepReferenceIdeal.τ).loc Cert.S5PrepReferenceIdeal.main_arg6) = m' ((c.tc : Thread Cert.S5PrepReferenceIdeal.nD Cert.S5PrepReferenceIdeal.τ).loc Cert.S5PrepReferenceIdeal.main_arg6))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojReferenceIdeal : Cert.InprojReferenceIdeal.Facts) (hS5 : Cert.S5.Facts) (hS5Ideal : Cert.S5Ideal.Facts) (hS5ReferenceIdeal : Cert.S5ReferenceIdeal.Facts) (hS5Prep : Cert.S5Prep.Facts) (hS5PrepIdeal : Cert.S5PrepIdeal.Facts) (hS5PrepReferenceIdeal : Cert.S5PrepReferenceIdeal.Facts) (hPre_finite : Cert.Pre_finite.Facts) (hPre_finite3 : Cert.Pre_finite3.Facts) (hPre_finite4 : Cert.Pre_finite4.Facts) (hOn_h_only : Cert.On_h_only.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Inproj (hInproj := hInproj)
    ∧ quiescent_InprojIdeal (hInprojIdeal := hInprojIdeal)
    ∧ quiescent_InprojReferenceIdeal (hInprojReferenceIdeal := hInprojReferenceIdeal)
    ∧ quiescent_S5 (hS5 := hS5)
    ∧ quiescent_S5Ideal (hS5Ideal := hS5Ideal)
    ∧ quiescent_S5Ideal_pre_finite3 (hS5Ideal := hS5Ideal) (hPre_finite3 := hPre_finite3)
    ∧ quiescent_S5ReferenceIdeal (hS5ReferenceIdeal := hS5ReferenceIdeal)
    ∧ quiescent_S5ReferenceIdeal_pre_finite3 (hS5ReferenceIdeal := hS5ReferenceIdeal) (hPre_finite3 := hPre_finite3)
    ∧ quiescent_S5Prep (hS5Prep := hS5Prep)
    ∧ quiescent_S5PrepIdeal (hS5PrepIdeal := hS5PrepIdeal)
    ∧ quiescent_S5PrepIdeal_pre_finite4 (hS5PrepIdeal := hS5PrepIdeal) (hPre_finite4 := hPre_finite4)
    ∧ quiescent_S5PrepReferenceIdeal (hS5PrepReferenceIdeal := hS5PrepReferenceIdeal)
    ∧ quiescent_S5PrepReferenceIdeal_pre_finite4 (hS5PrepReferenceIdeal := hS5PrepReferenceIdeal) (hPre_finite4 := hPre_finite4)
    ∧ preserves_Kernel_KernelIdeal
    ∧ algebraic_KernelIdeal_ReferenceIdeal_on_h_only (hKernelIdeal := hKernelIdeal) (hReferenceIdeal := hReferenceIdeal) (hOn_h_only := hOn_h_only)
    ∧ algebraic_KernelIdeal_ReferenceIdeal_pre_finite (hKernelIdeal := hKernelIdeal) (hReferenceIdeal := hReferenceIdeal) (hPre_finite := hPre_finite)
    ∧ preserves_Inproj_InprojIdeal
    ∧ algebraic_InprojIdeal_InprojReferenceIdeal (hInprojIdeal := hInprojIdeal) (hInprojReferenceIdeal := hInprojReferenceIdeal)
    ∧ preserves_S5_S5Ideal
    ∧ algebraic_S5Ideal_S5ReferenceIdeal_pre_finite3 (hS5Ideal := hS5Ideal) (hS5ReferenceIdeal := hS5ReferenceIdeal) (hPre_finite3 := hPre_finite3)
    ∧ preserves_S5Prep_S5PrepIdeal
    ∧ algebraic_S5PrepIdeal_S5PrepReferenceIdeal_pre_finite4 (hS5PrepIdeal := hS5PrepIdeal) (hS5PrepReferenceIdeal := hS5PrepReferenceIdeal) (hPre_finite4 := hPre_finite4)
-- ==== On_h_only.lean ====
abbrev S16x2048x1024 : Shape := ⟨3, ![16, 2048, 1024]⟩
abbrev S16x512x2048 : Shape := ⟨3, ![16, 512, 2048]⟩
abbrev S16x2048x512 : Shape := ⟨3, ![16, 2048, 512]⟩
abbrev S1024x3584 : Shape := ⟨2, ![1024, 3584]⟩
abbrev S3584 : Shape := ⟨1, ![3584]⟩
abbrev S512x2048 : Shape := ⟨2, ![512, 2048]⟩
abbrev S2048 : Shape := ⟨1, ![2048]⟩
abbrev S512x1024 : Shape := ⟨2, ![512, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S16x16384x128 : Shape := ⟨3, ![16, 16384, 128]⟩
abbrev S16x2048x128 : Shape := ⟨3, ![16, 2048, 128]⟩

class Facts : Prop where
  bcast_S_S16x16384x128 : S_.BroadcastsInDim S16x16384x128 (![] : Fin 0 → Fin S16x16384x128.rank)
  bcast_S_S16x2048x128 : S_.BroadcastsInDim S16x2048x128 (![] : Fin 0 → Fin S16x2048x128.rank)

variable [Facts]

def fn {F : FTy → Type} [FloatOps F] (main_arg0 : FVec F S16x2048x1024 .bf16) (main_arg1 : FVec F S16x512x2048 .bf16) (main_arg2 : FVec F S16x2048x512 .bf16) (main_arg3 : FVec F S1024x3584 .f32) (main_arg4 : FVec F S3584 .f32) (main_arg5 : FVec F S512x2048 .f32) (main_arg6 : FVec F S2048 .f32) (main_arg7 : FVec F S512x1024 .f32) (main_arg8 : FVec F S1024 .f32) (main_arg9 : FVec F S1024x1024 .f32) (main_arg10 : FVec F S1024 .f32) (main_arg11 : FVec F S1024 .f32) (main_arg12 : FVec F S1024 .f32) (main_arg13 : FVec F S1024x4 .f32) (main_arg14 : FVec F S4 .f32) (main_arg15 : FVec F S1024x32 .f32) (main_arg16 : FVec F S32 .f32) : IVec S16x16384x128 1 × IVec S16x2048x128 1 :=
  let main_c : IVec S_ 1 := constantI S_ 1 1#1
  let main_v0 : IVec S16x16384x128 1 := broadcastInDim S16x16384x128 ![] bcast_S_S16x16384x128 main_c
  let main_c_0 : IVec S_ 1 := constantI S_ 1 0#1
  let main_v1 : IVec S16x2048x128 1 := broadcastInDim S16x2048x128 ![] bcast_S_S16x2048x128 main_c_0
  (main_v0, main_v1)
-- ==== Pre_finite.lean ====
abbrev S16x2048x1024 : Shape := ⟨3, ![16, 2048, 1024]⟩
abbrev S16x512x2048 : Shape := ⟨3, ![16, 512, 2048]⟩
abbrev S16x2048x512 : Shape := ⟨3, ![16, 2048, 512]⟩
abbrev S1024x3584 : Shape := ⟨2, ![1024, 3584]⟩
abbrev S3584 : Shape := ⟨1, ![3584]⟩
abbrev S512x2048 : Shape := ⟨2, ![512, 2048]⟩
abbrev S2048 : Shape := ⟨1, ![2048]⟩
abbrev S512x1024 : Shape := ⟨2, ![512, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩

class Facts : Prop where
  bcast_S_S16x2048x1024 : S_.BroadcastsInDim S16x2048x1024 (![] : Fin 0 → Fin S16x2048x1024.rank)
  bcast_S_S16x512x2048 : S_.BroadcastsInDim S16x512x2048 (![] : Fin 0 → Fin S16x512x2048.rank)
  bcast_S_S16x2048x512 : S_.BroadcastsInDim S16x2048x512 (![] : Fin 0 → Fin S16x2048x512.rank)
  bcast_S_S1024x3584 : S_.BroadcastsInDim S1024x3584 (![] : Fin 0 → Fin S1024x3584.rank)
  bcast_S_S3584 : S_.BroadcastsInDim S3584 (![] : Fin 0 → Fin S3584.rank)
  bcast_S_S512x2048 : S_.BroadcastsInDim S512x2048 (![] : Fin 0 → Fin S512x2048.rank)
  bcast_S_S2048 : S_.BroadcastsInDim S2048 (![] : Fin 0 → Fin S2048.rank)
  bcast_S_S512x1024 : S_.BroadcastsInDim S512x1024 (![] : Fin 0 → Fin S512x1024.rank)
  bcast_S_S1024 : S_.BroadcastsInDim S1024 (![] : Fin 0 → Fin S1024.rank)
  bcast_S_S1024x1024 : S_.BroadcastsInDim S1024x1024 (![] : Fin 0 → Fin S1024x1024.rank)
  bcast_S_S1024x4 : S_.BroadcastsInDim S1024x4 (![] : Fin 0 → Fin S1024x4.rank)
  bcast_S_S4 : S_.BroadcastsInDim S4 (![] : Fin 0 → Fin S4.rank)
  bcast_S_S1024x32 : S_.BroadcastsInDim S1024x32 (![] : Fin 0 → Fin S1024x32.rank)
  bcast_S_S32 : S_.BroadcastsInDim S32 (![] : Fin 0 → Fin S32.rank)

variable [Facts]

def fn_part2 {F : FTy → Type} [FloatOps F] (main_arg12 : FVec F S1024 .f32) (main_arg13 : FVec F S1024x4 .f32) (main_arg14 : FVec F S4 .f32) (main_arg15 : FVec F S1024x32 .f32) (main_arg16 : FVec F S32 .f32) (main_v2 : IVec S16x2048x1024 1) (main_v5 : IVec S16x512x2048 1) (main_v8 : IVec S16x2048x512 1) (main_v11 : IVec S1024x3584 1) (main_v14 : IVec S3584 1) (main_v17 : IVec S512x2048 1) (main_v20 : IVec S2048 1) (main_v23 : IVec S512x1024 1) (main_v26 : IVec S1024 1) (main_v29 : IVec S1024x1024 1) (main_v32 : IVec S1024 1) (main_v35 : IVec S1024 1) : IVec S16x2048x1024 1 × IVec S16x512x2048 1 × IVec S16x2048x512 1 × IVec S1024x3584 1 × IVec S3584 1 × IVec S512x2048 1 × IVec S2048 1 × IVec S512x1024 1 × IVec S1024 1 × IVec S1024x1024 1 × IVec S1024 1 × IVec S1024 1 × IVec S1024 1 × IVec S1024x4 1 × IVec S4 1 × IVec S1024x32 1 × IVec S32 1 :=
  let main_v36 : FVec F S1024 .f32 := Host.absf main_arg12
  let main_cst_11 : FVec F S_ .f32 := constant S_ .f32 0x7F800000#32
  let main_v37 : FVec F S1024 .f32 := broadcastInDim S1024 ![] bcast_S_S1024 main_cst_11
  let main_v38 : IVec S1024 1 := cmpf .olt main_v36 main_v37
  let main_v39 : FVec F S1024x4 .f32 := Host.absf main_arg13
  let main_cst_12 : FVec F S_ .f32 := constant S_ .f32 0x7F800000#32
  let main_v40 : FVec F S1024x4 .f32 := broadcastInDim S1024x4 ![] bcast_S_S1024x4 main_cst_12
  let main_v41 : IVec S1024x4 1 := cmpf .olt main_v39 main_v40
  let main_v42 : FVec F S4 .f32 := Host.absf main_arg14
  let main_cst_13 : FVec F S_ .f32 := constant S_ .f32 0x7F800000#32
  let main_v43 : FVec F S4 .f32 := broadcastInDim S4 ![] bcast_S_S4 main_cst_13
  let main_v44 : IVec S4 1 := cmpf .olt main_v42 main_v43
  let main_v45 : FVec F S1024x32 .f32 := Host.absf main_arg15
  let main_cst_14 : FVec F S_ .f32 := constant S_ .f32 0x7F800000#32
  let main_v46 : FVec F S1024x32 .f32 := broadcastInDim S1024x32 ![] bcast_S_S1024x32 main_cst_14
  let main_v47 : IVec S1024x32 1 := cmpf .olt main_v45 main_v46
  let main_v48 : FVec F S32 .f32 := Host.absf main_arg16
  let main_cst_15 : FVec F S_ .f32 := constant S_ .f32 0x7F800000#32
  let main_v49 : FVec F S32 .f32 := broadcastInDim S32 ![] bcast_S_S32 main_cst_15
  let main_v50 : IVec S32 1 := cmpf .olt main_v48 main_v49
  (main_v2, main_v5, main_v8, main_v11, main_v14, main_v17, main_v20, main_v23, main_v26, main_v29, main_v32, main_v35, main_v38, main_v41, main_v44, main_v47, main_v50)

def fn_part1 {F : FTy → Type} [FloatOps F] (main_arg6 : FVec F S2048 .f32) (main_arg7 : FVec F S512x1024 .f32) (main_arg8 : FVec F S1024 .f32) (main_arg9 : FVec F S1024x1024 .f32) (main_arg10 : FVec F S1024 .f32) (main_arg11 : FVec F S1024 .f32) (main_arg12 : FVec F S1024 .f32) (main_arg13 : FVec F S1024x4 .f32) (main_arg14 : FVec F S4 .f32) (main_arg15 : FVec F S1024x32 .f32) (main_arg16 : FVec F S32 .f32) (main_v2 : IVec S16x2048x1024 1) (main_v5 : IVec S16x512x2048 1) (main_v8 : IVec S16x2048x512 1) (main_v11 : IVec S1024x3584 1) (main_v14 : IVec S3584 1) (main_v17 : IVec S512x2048 1) : IVec S16x2048x1024 1 × IVec S16x512x2048 1 × IVec S16x2048x512 1 × IVec S1024x3584 1 × IVec S3584 1 × IVec S512x2048 1 × IVec S2048 1 × IVec S512x1024 1 × IVec S1024 1 × IVec S1024x1024 1 × IVec S1024 1 × IVec S1024 1 × IVec S1024 1 × IVec S1024x4 1 × IVec S4 1 × IVec S1024x32 1 × IVec S32 1 :=
  let main_v18 : FVec F S2048 .f32 := Host.absf main_arg6
  let main_cst_5 : FVec F S_ .f32 := constant S_ .f32 0x7F800000#32
  let main_v19 : FVec F S2048 .f32 := broadcastInDim S2048 ![] bcast_S_S2048 main_cst_5
  let main_v20 : IVec S2048 1 := cmpf .olt main_v18 main_v19
  let main_v21 : FVec F S512x1024 .f32 := Host.absf main_arg7
  let main_cst_6 : FVec F S_ .f32 := constant S_ .f32 0x7F800000#32
  let main_v22 : FVec F S512x1024 .f32 := broadcastInDim S512x1024 ![] bcast_S_S512x1024 main_cst_6
  let main_v23 : IVec S512x1024 1 := cmpf .olt main_v21 main_v22
  let main_v24 : FVec F S1024 .f32 := Host.absf main_arg8
  let main_cst_7 : FVec F S_ .f32 := constant S_ .f32 0x7F800000#32
  let main_v25 : FVec F S1024 .f32 := broadcastInDim S1024 ![] bcast_S_S1024 main_cst_7
  let main_v26 : IVec S1024 1 := cmpf .olt main_v24 main_v25
  let main_v27 : FVec F S1024x1024 .f32 := Host.absf main_arg9
  let main_cst_8 : FVec F S_ .f32 := constant S_ .f32 0x7F800000#32
  let main_v28 : FVec F S1024x1024 .f32 := broadcastInDim S1024x1024 ![] bcast_S_S1024x1024 main_cst_8
  let main_v29 : IVec S1024x1024 1 := cmpf .olt main_v27 main_v28
  let main_v30 : FVec F S1024 .f32 := Host.absf main_arg10
  let main_cst_9 : FVec F S_ .f32 := constant S_ .f32 0x7F800000#32
  let main_v31 : FVec F S1024 .f32 := broadcastInDim S1024 ![] bcast_S_S1024 main_cst_9
  let main_v32 : IVec S1024 1 := cmpf .olt main_v30 main_v31
  let main_v33 : FVec F S1024 .f32 := Host.absf main_arg11
  let main_cst_10 : FVec F S_ .f32 := constant S_ .f32 0x7F800000#32
  let main_v34 : FVec F S1024 .f32 := broadcastInDim S1024 ![] bcast_S_S1024 main_cst_10
  let main_v35 : IVec S1024 1 := cmpf .olt main_v33 main_v34
  fn_part2 (F := F) main_arg12 main_arg13 main_arg14 main_arg15 main_arg16 main_v2 main_v5 main_v8 main_v11 main_v14 main_v17 main_v20 main_v23 main_v26 main_v29 main_v32 main_v35

def fn {F : FTy → Type} [FloatOps F] (main_arg0 : FVec F S16x2048x1024 .bf16) (main_arg1 : FVec F S16x512x2048 .bf16) (main_arg2 : FVec F S16x2048x512 .bf16) (main_arg3 : FVec F S1024x3584 .f32) (main_arg4 : FVec F S3584 .f32) (main_arg5 : FVec F S512x2048 .f32) (main_arg6 : FVec F S2048 .f32) (main_arg7 : FVec F S512x1024 .f32) (main_arg8 : FVec F S1024 .f32) (main_arg9 : FVec F S1024x1024 .f32) (main_arg10 : FVec F S1024 .f32) (main_arg11 : FVec F S1024 .f32) (main_arg12 : FVec F S1024 .f32) (main_arg13 : FVec F S1024x4 .f32) (main_arg14 : FVec F S4 .f32) (main_arg15 : FVec F S1024x32 .f32) (main_arg16 : FVec F S32 .f32) : IVec S16x2048x1024 1 × IVec S16x512x2048 1 × IVec S16x2048x512 1 × IVec S1024x3584 1 × IVec S3584 1 × IVec S512x2048 1 × IVec S2048 1 × IVec S512x1024 1 × IVec S1024 1 × IVec S1024x1024 1 × IVec S1024 1 × IVec S1024 1 × IVec S1024 1 × IVec S1024x4 1 × IVec S4 1 × IVec S1024x32 1 × IVec S32 1 :=
  let main_v0 : FVec F S16x2048x1024 .bf16 := Host.absf main_arg0
  let main_cst : FVec F S_ .bf16 := constant S_ .bf16 0x7F80#16
  let main_v1 : FVec F S16x2048x1024 .bf16 := broadcastInDim S16x2048x1024 ![] bcast_S_S16x2048x1024 main_cst
  let main_v2 : IVec S16x2048x1024 1 := cmpf .olt main_v0 main_v1
  let main_v3 : FVec F S16x512x2048 .bf16 := Host.absf main_arg1
  let main_cst_0 : FVec F S_ .bf16 := constant S_ .bf16 0x7F80#16
  let main_v4 : FVec F S16x512x2048 .bf16 := broadcastInDim S16x512x2048 ![] bcast_S_S16x512x2048 main_cst_0
  let main_v5 : IVec S16x512x2048 1 := cmpf .olt main_v3 main_v4
  let main_v6 : FVec F S16x2048x512 .bf16 := Host.absf main_arg2
  let main_cst_1 : FVec F S_ .bf16 := constant S_ .bf16 0x7F80#16
  let main_v7 : FVec F S16x2048x512 .bf16 := broadcastInDim S16x2048x512 ![] bcast_S_S16x2048x512 main_cst_1
  let main_v8 : IVec S16x2048x512 1 := cmpf .olt main_v6 main_v7
  let main_v9 : FVec F S1024x3584 .f32 := Host.absf main_arg3
  let main_cst_2 : FVec F S_ .f32 := constant S_ .f32 0x7F800000#32
  let main_v10 : FVec F S1024x3584 .f32 := broadcastInDim S1024x3584 ![] bcast_S_S1024x3584 main_cst_2
  let main_v11 : IVec S1024x3584 1 := cmpf .olt main_v9 main_v10
  let main_v12 : FVec F S3584 .f32 := Host.absf main_arg4
  let main_cst_3 : FVec F S_ .f32 := constant S_ .f32 0x7F800000#32
  let main_v13 : FVec F S3584 .f32 := broadcastInDim S3584 ![] bcast_S_S3584 main_cst_3
  let main_v14 : IVec S3584 1 := cmpf .olt main_v12 main_v13
  let main_v15 : FVec F S512x2048 .f32 := Host.absf main_arg5
  let main_cst_4 : FVec F S_ .f32 := constant S_ .f32 0x7F800000#32
  let main_v16 : FVec F S512x2048 .f32 := broadcastInDim S512x2048 ![] bcast_S_S512x2048 main_cst_4
  let main_v17 : IVec S512x2048 1 := cmpf .olt main_v15 main_v16
  fn_part1 (F := F) main_arg6 main_arg7 main_arg8 main_arg9 main_arg10 main_arg11 main_arg12 main_arg13 main_arg14 main_arg15 main_arg16 main_v2 main_v5 main_v8 main_v11 main_v14 main_v17
-- ==== Pre_finite3.lean ====
abbrev S16x512x2048 : Shape := ⟨3, ![16, 512, 2048]⟩
abbrev S32x384x256 : Shape := ⟨3, ![32, 384, 256]⟩
abbrev S32x256x128 : Shape := ⟨3, ![32, 256, 128]⟩
abbrev S32x64 : Shape := ⟨2, ![32, 64]⟩
abbrev S512 : Shape := ⟨1, ![512]⟩
abbrev S_ : Shape := ⟨0, ![]⟩

class Facts : Prop where
  bcast_S_S16x512x2048 : S_.BroadcastsInDim S16x512x2048 (![] : Fin 0 → Fin S16x512x2048.rank)
  bcast_S_S32x384x256 : S_.BroadcastsInDim S32x384x256 (![] : Fin 0 → Fin S32x384x256.rank)
  bcast_S_S32x64 : S_.BroadcastsInDim S32x64 (![] : Fin 0 → Fin S32x64.rank)

variable [Facts]

def fn {F : FTy → Type} [FloatOps F] (main_arg0 : FVec F S16x512x2048 .bf16) (main_arg1 : FVec F S32x384x256 .bf16) (main_arg2 : FVec F S32x256x128 .bf16) (main_arg3 : FVec F S32x64 .f32) (main_arg4 : FVec F S32x64 .f32) (main_arg5 : FVec F S512 .f32) : IVec S16x512x2048 1 × IVec S32x384x256 1 × IVec S32x64 1 × IVec S32x64 1 :=
  let main_v0 : FVec F S16x512x2048 .bf16 := Host.absf main_arg0
  let main_cst : FVec F S_ .bf16 := constant S_ .bf16 0x7F80#16
  let main_v1 : FVec F S16x512x2048 .bf16 := broadcastInDim S16x512x2048 ![] bcast_S_S16x512x2048 main_cst
  let main_v2 : IVec S16x512x2048 1 := cmpf .olt main_v0 main_v1
  let main_v3 : FVec F S32x384x256 .bf16 := Host.absf main_arg1
  let main_cst_0 : FVec F S_ .bf16 := constant S_ .bf16 0x7F80#16
  let main_v4 : FVec F S32x384x256 .bf16 := broadcastInDim S32x384x256 ![] bcast_S_S32x384x256 main_cst_0
  let main_v5 : IVec S32x384x256 1 := cmpf .olt main_v3 main_v4
  let main_v6 : FVec F S32x64 .f32 := Host.absf main_arg3
  let main_cst_1 : FVec F S_ .f32 := constant S_ .f32 0x7F800000#32
  let main_v7 : FVec F S32x64 .f32 := broadcastInDim S32x64 ![] bcast_S_S32x64 main_cst_1
  let main_v8 : IVec S32x64 1 := cmpf .olt main_v6 main_v7
  let main_v9 : FVec F S32x64 .f32 := Host.absf main_arg4
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  (main_v2, main_v5, main_v8, main_v11)
-- ==== Pre_finite4.lean ====
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S_ : Shape := ⟨0, ![]⟩

class Facts : Prop where
  bcast_S_S32x64 : S_.BroadcastsInDim S32x64 (![] : Fin 0 → Fin S32x64.rank)
  bcast_S_S32 : S_.BroadcastsInDim S32 (![] : Fin 0 → Fin S32.rank)
  bcast_S_S32x64x16 : S_.BroadcastsInDim S32x64x16 (![] : Fin 0 → Fin S32x64x16.rank)
  bcast_S_S32x16x64 : S_.BroadcastsInDim S32x16x64 (![] : Fin 0 → Fin S32x16x64.rank)

variable [Facts]

def fn_part1 {F : FTy → Type} [FloatOps F] (main_arg0 : FVec F S32x64 .f32) (main_arg1 : FVec F S32x64 .f32) (main_arg6 : FVec F S32x16x64 .f32) (main_v2 : IVec S32x64 1) (main_v5 : IVec S32x64 1) (main_v8 : IVec S32 1) (main_v11 : IVec S32x64x16 1) (main_v14 : IVec S32x64x16 1) (main_v17 : IVec S32x16x64 1) : IVec S32x64 1 × IVec S32x64 1 × IVec S32 1 × IVec S32x64x16 1 × IVec S32x64x16 1 × IVec S32x16x64 1 × IVec S32x16x64 1 × IVec S32x64 1 :=
  let main_v18 : FVec F S32x16x64 .f32 := Host.absf main_arg6
  let main_cst_5 : FVec F S_ .f32 := constant S_ .f32 0x7F800000#32
  let main_v19 : FVec F S32x16x64 .f32 := broadcastInDim S32x16x64 ![] bcast_S_S32x16x64 main_cst_5
  let main_v20 : IVec S32x16x64 1 := cmpf .olt main_v18 main_v19
  let main_v21 : FVec F S32x64 .f32 := mulf main_arg0 main_arg0
  let main_v22 : FVec F S32x64 .f32 := mulf main_arg1 main_arg1
  let main_v23 : FVec F S32x64 .f32 := addf main_v21 main_v22
  let main_cst_6 : FVec F S_ .f32 := constant S_ .f32 0x00000000#32
  let main_v24 : FVec F S32x64 .f32 := broadcastInDim S32x64 ![] bcast_S_S32x64 main_cst_6
  let main_v25 : IVec S32x64 1 := cmpf .ogt main_v23 main_v24
  (main_v2, main_v5, main_v8, main_v11, main_v14, main_v17, main_v20, main_v25)

def fn {F : FTy → Type} [FloatOps F] (main_arg0 : FVec F S32x64 .f32) (main_arg1 : FVec F S32x64 .f32) (main_arg2 : FVec F S32 .f32) (main_arg3 : FVec F S32x64x16 .f32) (main_arg4 : FVec F S32x64x16 .f32) (main_arg5 : FVec F S32x16x64 .f32) (main_arg6 : FVec F S32x16x64 .f32) : IVec S32x64 1 × IVec S32x64 1 × IVec S32 1 × IVec S32x64x16 1 × IVec S32x64x16 1 × IVec S32x16x64 1 × IVec S32x16x64 1 × IVec S32x64 1 :=
  let main_v0 : FVec F S32x64 .f32 := Host.absf main_arg0
  let main_cst : FVec F S_ .f32 := constant S_ .f32 0x7F800000#32
  let main_v1 : FVec F S32x64 .f32 := broadcastInDim S32x64 ![] bcast_S_S32x64 main_cst
  let main_v2 : IVec S32x64 1 := cmpf .olt main_v0 main_v1
  let main_v3 : FVec F S32x64 .f32 := Host.absf main_arg1
  let main_cst_0 : FVec F S_ .f32 := constant S_ .f32 0x7F800000#32
  let main_v4 : FVec F S32x64 .f32 := broadcastInDim S32x64 ![] bcast_S_S32x64 main_cst_0
  let main_v5 : IVec S32x64 1 := cmpf .olt main_v3 main_v4
  let main_v6 : FVec F S32 .f32 := Host.absf main_arg2
  let main_cst_1 : FVec F S_ .f32 := constant S_ .f32 0x7F800000#32
  let main_v7 : FVec F S32 .f32 := broadcastInDim S32 ![] bcast_S_S32 main_cst_1
  let main_v8 : IVec S32 1 := cmpf .olt main_v6 main_v7
  let main_v9 : FVec F S32x64x16 .f32 := Host.absf main_arg3
  let main_cst_2 : FVec F S_ .f32 := constant S_ .f32 0x7F800000#32
  let main_v10 : FVec F S32x64x16 .f32 := broadcastInDim S32x64x16 ![] bcast_S_S32x64x16 main_cst_2
  let main_v11 : IVec S32x64x16 1 := cmpf .olt main_v9 main_v10
  let main_v12 : FVec F S32x64x16 .f32 := Host.absf main_arg4
  let main_cst_3 : FVec F S_ .f32 := constant S_ .f32 0x7F800000#32
  let main_v13 : FVec F S32x64x16 .f32 := broadcastInDim S32x64x16 ![] bcast_S_S32x64x16 main_cst_3
  let main_v14 : IVec S32x64x16 1 := cmpf .olt main_v12 main_v13
  let main_v15 : FVec F S32x16x64 .f32 := Host.absf main_arg5
  let main_cst_4 : FVec F S_ .f32 := constant S_ .f32 0x7F800000#32
  let main_v16 : FVec F S32x16x64 .f32 := broadcastInDim S32x16x64 ![] bcast_S_S32x16x64 main_cst_4
  let main_v17 : IVec S32x16x64 1 := cmpf .olt main_v15 main_v16
  fn_part1 (F := F) main_arg0 main_arg1 main_arg6 main_v2 main_v5 main_v8 main_v11 main_v14 main_v17
-- ==== Kernel.lean ====
abbrev S16x2048x1024 : Shape := ⟨3, ![16, 2048, 1024]⟩
abbrev S16x512x2048 : Shape := ⟨3, ![16, 512, 2048]⟩
abbrev S16x2048x512 : Shape := ⟨3, ![16, 2048, 512]⟩
abbrev S1024x3584 : Shape := ⟨2, ![1024, 3584]⟩
abbrev S3584 : Shape := ⟨1, ![3584]⟩
abbrev S512x2048 : Shape := ⟨2, ![512, 2048]⟩
abbrev S2048 : Shape := ⟨1, ![2048]⟩
abbrev S512x1024 : Shape := ⟨2, ![512, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1024x2048 : Shape := ⟨2, ![1024, 2048]⟩
abbrev S1x2048 : Shape := ⟨2, ![1, 2048]⟩
abbrev S1x1024 : Shape := ⟨2, ![1, 1024]⟩
abbrev S16x16384x128 : Shape := ⟨3, ![16, 16384, 128]⟩
abbrev S16x2048x128 : Shape := ⟨3, ![16, 2048, 128]⟩
abbrev S1x512x1024 : Shape := ⟨3, ![1, 512, 1024]⟩
abbrev S1x512x512 : Shape := ⟨3, ![1, 512, 512]⟩
abbrev S1x4096x128 : Shape := ⟨3, ![1, 4096, 128]⟩
abbrev S1x512x128 : Shape := ⟨3, ![1, 512, 128]⟩
abbrev S512x512 : Shape := ⟨2, ![512, 512]⟩
abbrev S512 : Shape := ⟨1, ![512]⟩
abbrev S512x1 : Shape := ⟨2, ![512, 1]⟩
abbrev S512x128 : Shape := ⟨2, ![512, 128]⟩

abbrev nBuf : Space → Nat
  | .hbm => 57
  | .vmem => 23
  | .smem => 0
  | _ => 0

abbrev bufTy : (tb : Table) → Fin (tcTables nBuf tb) → BufTy
  | .hbm, ⟨0, _⟩ => ⟨S16x2048x1024, .bf16⟩
  | .hbm, ⟨1, _⟩ => ⟨S16x512x2048, .bf16⟩
  | .hbm, ⟨2, _⟩ => ⟨S16x2048x512, .bf16⟩
  | .hbm, ⟨3, _⟩ => ⟨S1024x3584, .f32⟩
  | .hbm, ⟨4, _⟩ => ⟨S3584, .f32⟩
  | .hbm, ⟨5, _⟩ => ⟨S512x2048, .f32⟩
  | .hbm, ⟨6, _⟩ => ⟨S2048, .f32⟩
  | .hbm, ⟨7, _⟩ => ⟨S512x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024x4, .f32⟩
  | .hbm, ⟨14, _⟩ => ⟨S4, .f32⟩
  | .hbm, ⟨15, _⟩ => ⟨S1024x32, .f32⟩
  | .hbm, ⟨16, _⟩ => ⟨S32, .f32⟩
  | .hbm, ⟨17, _⟩ => ⟨S_, .f32⟩
  | .hbm, ⟨18, _⟩ => ⟨S1024x128, .f32⟩
  | .hbm, ⟨19, _⟩ => ⟨S_, .i32⟩
  | .hbm, ⟨20, _⟩ => ⟨S1, .i32⟩
  | .hbm, ⟨21, _⟩ => ⟨S1024x128, .f32⟩
  | .hbm, ⟨22, _⟩ => ⟨S_, .i32⟩
  | .hbm, ⟨23, _⟩ => ⟨S1, .i32⟩
  | .hbm, ⟨24, _⟩ => ⟨S1024x128, .f32⟩
  | .hbm, ⟨25, _⟩ => ⟨S_, .f32⟩
  | .hbm, ⟨26, _⟩ => ⟨S1x128, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S1x128, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S1x128, .f32⟩
  | .hbm, ⟨39, _⟩ => ⟨S1024x128, .bf16⟩
  | .hbm, ⟨40, _⟩ => ⟨S1024x128, .f32⟩
  | .hbm, ⟨41, _⟩ => ⟨S1024x128, .f32⟩
  | .hbm, ⟨42, _⟩ => ⟨S1024x128, .bf16⟩
  | .hbm, ⟨43, _⟩ => ⟨S1024x2048, .f32⟩
  | .hbm, ⟨44, _⟩ => ⟨S1024x2048, .bf16⟩
  | .hbm, ⟨45, _⟩ => ⟨S2048, .f32⟩
  | .hbm, ⟨46, _⟩ => ⟨S1x2048, .f32⟩
  | .hbm, ⟨47, _⟩ => ⟨S512x2048, .bf16⟩
  | .hbm, ⟨48, _⟩ => ⟨S1x2048, .f32⟩
  | .hbm, ⟨49, _⟩ => ⟨S512x1024, .bf16⟩
  | .hbm, ⟨50, _⟩ => ⟨S1x1024, .f32⟩
  | .hbm, ⟨51, _⟩ => ⟨S1024x1024, .bf16⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S16x16384x128, .f32⟩
  | .hbm, ⟨56, _⟩ => ⟨S16x2048x128, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1024x2048, .bf16⟩
  | .local _ .vmem, ⟨7, _⟩ => ⟨S1x2048, .f32⟩
  | .local _ .vmem, ⟨8, _⟩ => ⟨S512x2048, .bf16⟩
  | .local _ .vmem, ⟨9, _⟩ => ⟨S1x2048, .f32⟩
  | .local _ .vmem, ⟨10, _⟩ => ⟨S512x1024, .bf16⟩
  | .local _ .vmem, ⟨11, _⟩ => ⟨S1x1024, .f32⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1024x128, .bf16⟩
  | .local _ .vmem, ⟨17, _⟩ => ⟨S1024x128, .bf16⟩
  | .local _ .vmem, ⟨18, _⟩ => ⟨S1x128, .f32⟩
  | .local _ .vmem, ⟨19, _⟩ => ⟨S1x4096x128, .f32⟩
  | .local _ .vmem, ⟨20, _⟩ => ⟨S1x4096x128, .f32⟩
  | .local _ .vmem, ⟨21, _⟩ => ⟨S1x512x128, .f32⟩
  | .local _ .vmem, ⟨22, _⟩ => ⟨S1x512x128, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_cst_1 : Ref sig .tc := ⟨.hbm, 25, rfl⟩
abbrev main_v5 : Ref sig .tc := ⟨.hbm, 26, rfl⟩
abbrev main_c_2 : Ref sig .tc := ⟨.hbm, 27, rfl⟩
abbrev main_v6 : Ref sig .tc := ⟨.hbm, 28, rfl⟩
abbrev main_c_3 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_c_4 : Ref sig .tc := ⟨.hbm, 33, rfl⟩
abbrev main_v10 : Ref sig .tc := ⟨.hbm, 34, rfl⟩
abbrev main_c_5 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30_0 : Ref sig .tc := ⟨.hbm, 55, rfl⟩
abbrev main_v30_1 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20
abbrev cc0_sem17_0 : DmaSem sig := 21
abbrev cc0_sem17_1 : DmaSem sig := 22

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x4096x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== KernelIdeal.lean ====
variable {F : FTy → Type} [FloatOps F] [Named F]
def κ : String → Option EReal := fun
  | "alpha" => some ((Real.sqrt (Real.sqrt 2) : ℝ) : EReal)
  | "ln_eps" => some ((1 / 100000 : ℝ) : EReal)
  | _ => none
-- ==== ReferenceIdeal.lean ====
abbrev S16x2048x1024 : Shape := ⟨3, ![16, 2048, 1024]⟩
abbrev S16x512x2048 : Shape := ⟨3, ![16, 512, 2048]⟩
abbrev S16x2048x512 : Shape := ⟨3, ![16, 2048, 512]⟩
abbrev S1024x3584 : Shape := ⟨2, ![1024, 3584]⟩
abbrev S3584 : Shape := ⟨1, ![3584]⟩
abbrev S512x2048 : Shape := ⟨2, ![512, 2048]⟩
abbrev S2048 : Shape := ⟨1, ![2048]⟩
abbrev S512x1024 : Shape := ⟨2, ![512, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S1024x2048 : Shape := ⟨2, ![1024, 2048]⟩
abbrev S16x2048x2048 : Shape := ⟨3, ![16, 2048, 2048]⟩
abbrev S1x1x2048 : Shape := ⟨3, ![1, 1, 2048]⟩
abbrev S_ : Shape := ⟨0, ![]⟩
abbrev S1x1x1024 : Shape := ⟨3, ![1, 1, 1024]⟩
abbrev S16x2048 : Shape := ⟨2, ![16, 2048]⟩
abbrev S16x2048x1 : Shape := ⟨3, ![16, 2048, 1]⟩
abbrev S32768x1024 : Shape := ⟨2, ![32768, 1024]⟩
abbrev S32768x4 : Shape := ⟨2, ![32768, 4]⟩
abbrev S1x4 : Shape := ⟨2, ![1, 4]⟩
abbrev S32768 : Shape := ⟨1, ![32768]⟩
abbrev S32768x1 : Shape := ⟨2, ![32768, 1]⟩
abbrev S32768x1x1 : Shape := ⟨3, ![32768, 1, 1]⟩
abbrev S1 : Shape := ⟨1, ![1]⟩
abbrev S1x1x1 : Shape := ⟨3, ![1, 1, 1]⟩
abbrev S32768x32 : Shape := ⟨2, ![32768, 32]⟩
abbrev S1x32 : Shape := ⟨2, ![1, 32]⟩
abbrev S32768x4x8 : Shape := ⟨3, ![32768, 4, 8]⟩
abbrev S32768x1x8 : Shape := ⟨3, ![32768, 1, 8]⟩
abbrev S32768x8 : Shape := ⟨2, ![32768, 8]⟩
abbrev S32768x2 : Shape := ⟨2, ![32768, 2]⟩
abbrev S32768x123 : Shape := ⟨2, ![32768, 123]⟩
abbrev S32768x128 : Shape := ⟨2, ![32768, 128]⟩
abbrev S16x16384x128 : Shape := ⟨3, ![16, 16384, 128]⟩
abbrev S16x2048x128 : Shape := ⟨3, ![16, 2048, 128]⟩

abbrev nBuf : Space → Nat
  | .hbm => 234
  | .vmem => 0
  | .smem => 0
  | _ => 0

abbrev hbmTy0_0 (i : Nat) : BufTy := match i % 128 with
  | 0 => ⟨S16x2048x1024, .bf16⟩
  | 1 => ⟨S16x512x2048, .bf16⟩
  | 2 => ⟨S16x2048x512, .bf16⟩
  | 3 => ⟨S1024x3584, .f32⟩
  | 4 => ⟨S3584, .f32⟩
  | 5 => ⟨S512x2048, .f32⟩
  | 6 => ⟨S2048, .f32⟩
  | 7 => ⟨S512x1024, .f32⟩
  | 8 => ⟨S1024, .f32⟩
  | 9 => ⟨S1024x1024, .f32⟩
  | 10 => ⟨S1024, .f32⟩
  | 11 => ⟨S1024, .f32⟩
  | 12 => ⟨S1024, .f32⟩
  | 13 => ⟨S1024x4, .f32⟩
  | 14 => ⟨S4, .f32⟩
  | 15 => ⟨S1024x32, .f32⟩
  | 16 => ⟨S32, .f32⟩
  | 17 => ⟨S16x2048x1024, .f32⟩
  | 18 => ⟨S16x512x2048, .f32⟩
  | 19 => ⟨S16x2048x512, .f32⟩
  | 20 => ⟨S16x2048x512, .f32⟩
  | 21 => ⟨S1024x2048, .f32⟩
  | 22 => ⟨S16x2048x2048, .f32⟩
  | 23 => ⟨S2048, .f32⟩
  | 24 => ⟨S1x1x2048, .f32⟩
  | 25 => ⟨S16x2048x2048, .f32⟩
  | 26 => ⟨S16x2048x2048, .f32⟩
  | 27 => ⟨S16x2048x1024, .f32⟩
  | 28 => ⟨S16x2048x1024, .f32⟩
  | 29 => ⟨S16x2048x2048, .f32⟩
  | 30 => ⟨S1x1x2048, .f32⟩
  | 31 => ⟨S16x2048x2048, .f32⟩
  | 32 => ⟨S16x2048x2048, .f32⟩
  | 33 => ⟨S16x2048x1024, .f32⟩
  | 34 => ⟨S16x2048x1024, .f32⟩
  | 35 => ⟨S16x2048x1024, .f32⟩
  | 36 => ⟨S16x2048x1024, .f32⟩
  | 37 => ⟨S_, .f32⟩
  | 38 => ⟨S16x2048x1024, .f32⟩
  | 39 => ⟨S16x2048x1024, .f32⟩
  | 40 => ⟨S_, .f32⟩
  | 41 => ⟨S16x2048x1024, .f32⟩
  | 42 => ⟨S16x2048x1024, .f32⟩
  | 43 => ⟨S16x2048x1024, .f32⟩
  | 44 => ⟨S16x2048x1024, .f32⟩
  | 45 => ⟨S1x1x1024, .f32⟩
  | 46 => ⟨S16x2048x1024, .f32⟩
  | 47 => ⟨S16x2048x1024, .f32⟩
  | 48 => ⟨S16x2048x1024, .f32⟩
  | 49 => ⟨S16x2048x1024, .f32⟩
  | 50 => ⟨S_, .f32⟩
  | 51 => ⟨S16x2048x1024, .f32⟩
  | 52 => ⟨S16x2048x1024, .f32⟩
  | 53 => ⟨S_, .f32⟩
  | 54 => ⟨S16x2048x1024, .f32⟩
  | 55 => ⟨S16x2048x1024, .f32⟩
  | 56 => ⟨S16x2048x1024, .f32⟩
  | 57 => ⟨S16x2048x1024, .f32⟩
  | 58 => ⟨S16x2048x1024, .f32⟩
  | 59 => ⟨S_, .f32⟩
  | 60 => ⟨S16x2048x1024, .f32⟩
  | 61 => ⟨S16x2048x1024, .f32⟩
  | 62 => ⟨S_, .f32⟩
  | 63 => ⟨S16x2048x1024, .f32⟩
  | 64 => ⟨S16x2048x1024, .f32⟩
  | 65 => ⟨S16x2048x1024, .f32⟩
  | 66 => ⟨S16x2048x1024, .f32⟩
  | 67 => ⟨S16x2048x1024, .f32⟩
  | 68 => ⟨S1x1x1024, .f32⟩
  | 69 => ⟨S16x2048x1024, .f32⟩
  | 70 => ⟨S16x2048x1024, .f32⟩
  | 71 => ⟨S_, .f32⟩
  | 72 => ⟨S_, .f32⟩
  | 73 => ⟨S_, .f32⟩
  | 74 => ⟨S16x2048x1024, .f32⟩
  | 75 => ⟨S16x2048x1024, .f32⟩
  | 76 => ⟨S16x2048x1024, .f32⟩
  | 77 => ⟨S_, .f32⟩
  | 78 => ⟨S_, .f32⟩
  | 79 => ⟨S_, .f32⟩
  | 80 => ⟨S_, .f32⟩
  | 81 => ⟨S16x2048, .f32⟩
  | 82 => ⟨S16x2048x1, .f32⟩
  | 83 => ⟨S_, .f32⟩
  | 84 => ⟨S16x2048x1, .f32⟩
  | 85 => ⟨S16x2048x1, .f32⟩
  | 86 => ⟨S16x2048x1024, .f32⟩
  | 87 => ⟨S16x2048x1024, .f32⟩
  | 88 => ⟨S16x2048x1024, .f32⟩
  | 89 => ⟨S_, .f32⟩
  | 90 => ⟨S16x2048, .f32⟩
  | 91 => ⟨S16x2048x1, .f32⟩
  | 92 => ⟨S_, .f32⟩
  | 93 => ⟨S16x2048x1, .f32⟩
  | 94 => ⟨S16x2048x1, .f32⟩
  | 95 => ⟨S16x2048x1024, .f32⟩
  | 96 => ⟨S16x2048x1024, .f32⟩
  | 97 => ⟨S16x2048x1, .f32⟩
  | 98 => ⟨S16x2048x1, .f32⟩
  | 99 => ⟨S16x2048x1, .f32⟩
  | 100 => ⟨S16x2048x1024, .f32⟩
  | 101 => ⟨S16x2048x1024, .f32⟩
  | 102 => ⟨S1x1x1024, .f32⟩
  | 103 => ⟨S16x2048x1024, .f32⟩
  | 104 => ⟨S16x2048x1024, .f32⟩
  | 105 => ⟨S1x1x1024, .f32⟩
  | 106 => ⟨S16x2048x1024, .f32⟩
  | 107 => ⟨S16x2048x1024, .f32⟩
  | 108 => ⟨S32768x1024, .f32⟩
  | 109 => ⟨S32768x4, .f32⟩
  | 110 => ⟨S1x4, .f32⟩
  | 111 => ⟨S32768x4, .f32⟩
  | 112 => ⟨S32768x4, .f32⟩
  | 113 => ⟨S_, .f32⟩
  | 114 => ⟨S32768, .f32⟩
  | 115 => ⟨S_, .f32⟩
  | 116 => ⟨S32768, .f32⟩
  | 117 => ⟨S32768, .f32⟩
  | 118 => ⟨S32768x1, .f32⟩
  | 119 => ⟨S32768x4, .f32⟩
  | 120 => ⟨S32768x4, .f32⟩
  | 121 => ⟨S32768x4, .f32⟩
  | 122 => ⟨S_, .f32⟩
  | 123 => ⟨S32768, .f32⟩
  | 124 => ⟨S32768x1, .f32⟩
  | 125 => ⟨S32768x4, .f32⟩
  | 126 => ⟨S32768x4, .f32⟩
  | 127 => ⟨S32768x1, .f32⟩
  | _ => ⟨S16x2048x1024, .bf16⟩

abbrev hbmTy0_1 (i : Nat) : BufTy := match i % 128 with
  | 0 => ⟨S32768x1, .i32⟩
  | 1 => ⟨S_, .i32⟩
  | 2 => ⟨S32768x1, .i32⟩
  | 3 => ⟨S32768x1, .i1⟩
  | 4 => ⟨S_, .i32⟩
  | 5 => ⟨S32768x1, .i32⟩
  | 6 => ⟨S32768x1, .i32⟩
  | 7 => ⟨S32768x1, .i32⟩
  | 8 => ⟨S32768x1x1, .i32⟩
  | 9 => ⟨S1, .i32⟩
  | 10 => ⟨S_, .i32⟩
  | 11 => ⟨S32768x1x1, .i32⟩
  | 12 => ⟨S32768x1x1, .i1⟩
  | 13 => ⟨S1x1x1, .i32⟩
  | 14 => ⟨S32768x1x1, .i32⟩
  | 15 => ⟨S32768x1x1, .i1⟩
  | 16 => ⟨S32768x1x1, .i1⟩
  | 17 => ⟨S_, .i1⟩
  | 18 => ⟨S32768x1, .i1⟩
  | 19 => ⟨S32768x1, .f32⟩
  | 20 => ⟨S_, .f32⟩
  | 21 => ⟨S32768x1, .f32⟩
  | 22 => ⟨S32768x1, .f32⟩
  | 23 => ⟨S32768x32, .f32⟩
  | 24 => ⟨S1x32, .f32⟩
  | 25 => ⟨S32768x32, .f32⟩
  | 26 => ⟨S32768x32, .f32⟩
  | 27 => ⟨S32768x4x8, .f32⟩
  | 28 => ⟨S32768x1x1, .i32⟩
  | 29 => ⟨S_, .i32⟩
  | 30 => ⟨S32768x1x1, .i32⟩
  | 31 => ⟨S32768x1x1, .i1⟩
  | 32 => ⟨S_, .i32⟩
  | 33 => ⟨S32768x1x1, .i32⟩
  | 34 => ⟨S32768x1x1, .i32⟩
  | 35 => ⟨S32768x1x1, .i32⟩
  | 36 => ⟨S1, .i32⟩
  | 37 => ⟨S_, .i32⟩
  | 38 => ⟨S32768x1x1, .i32⟩
  | 39 => ⟨S32768x1x1, .i1⟩
  | 40 => ⟨S1x1x1, .i32⟩
  | 41 => ⟨S32768x1x1, .i32⟩
  | 42 => ⟨S32768x1x1, .i1⟩
  | 43 => ⟨S32768x1x1, .i1⟩
  | 44 => ⟨S_, .i1⟩
  | 45 => ⟨S32768x1, .i1⟩
  | 46 => ⟨S32768x1x8, .f32⟩
  | 47 => ⟨S32768x1x8, .i1⟩
  | 48 => ⟨S_, .f32⟩
  | 49 => ⟨S32768x1x8, .f32⟩
  | 50 => ⟨S32768x1x8, .f32⟩
  | 51 => ⟨S32768x8, .f32⟩
  | 52 => ⟨S32768x2, .f32⟩
  | 53 => ⟨S32768x2, .i32⟩
  | 54 => ⟨S_, .f32⟩
  | 55 => ⟨S32768, .f32⟩
  | 56 => ⟨S_, .f32⟩
  | 57 => ⟨S32768, .f32⟩
  | 58 => ⟨S32768, .f32⟩
  | 59 => ⟨S32768x1, .f32⟩
  | 60 => ⟨S32768x2, .f32⟩
  | 61 => ⟨S32768x2, .f32⟩
  | 62 => ⟨S32768x2, .f32⟩
  | 63 => ⟨S_, .f32⟩
  | 64 => ⟨S32768, .f32⟩
  | 65 => ⟨S32768x1, .f32⟩
  | 66 => ⟨S32768x2, .f32⟩
  | 67 => ⟨S32768x2, .f32⟩
  | 68 => ⟨S32768x2, .f32⟩
  | 69 => ⟨S32768x2, .f32⟩
  | 70 => ⟨S_, .i32⟩
  | 71 => ⟨S32768x1, .i32⟩
  | 72 => ⟨S32768x1, .i32⟩
  | 73 => ⟨S32768x2, .i32⟩
  | 74 => ⟨S32768x2, .i32⟩
  | 75 => ⟨S32768x2, .f32⟩
  | 76 => ⟨S_, .i32⟩
  | 77 => ⟨S32768, .i32⟩
  | 78 => ⟨S32768x1, .i32⟩
  | 79 => ⟨S32768x1, .f32⟩
  | 80 => ⟨S_, .i32⟩
  | 81 => ⟨S32768, .i32⟩
  | 82 => ⟨S32768x1, .i32⟩
  | 83 => ⟨S32768x1, .f32⟩
  | 84 => ⟨S32768x1, .f32⟩
  | 85 => ⟨S_, .f32⟩
  | 86 => ⟨S32768x1, .f32⟩
  | 87 => ⟨S32768x1, .f32⟩
  | 88 => ⟨S_, .f32⟩
  | 89 => ⟨S32768x1, .f32⟩
  | 90 => ⟨S32768x1, .f32⟩
  | 91 => ⟨S32768x1, .f32⟩
  | 92 => ⟨S_, .f32⟩
  | 93 => ⟨S32768x1, .f32⟩
  | 94 => ⟨S32768x1, .f32⟩
  | 95 => ⟨S32768x1, .f32⟩
  | 96 => ⟨S_, .f32⟩
  | 97 => ⟨S32768x1, .f32⟩
  | 98 => ⟨S32768x1, .f32⟩
  | 99 => ⟨S32768x1, .f32⟩
  | 100 => ⟨S32768x1, .f32⟩
  | 101 => ⟨S_, .f32⟩
  | 102 => ⟨S32768x123, .f32⟩
  | 103 => ⟨S32768x128, .f32⟩
  | 104 => ⟨S16x16384x128, .f32⟩
  | 105 => ⟨S16x2048x128, .f32⟩
  | _ => ⟨S16x2048x1024, .bf16⟩

abbrev hbmTy (i : Nat) : BufTy := match i / 128 with
  | 0 => hbmTy0_0 i
  | 1 => hbmTy0_1 i
  | _ => ⟨S16x2048x1024, .bf16⟩

abbrev bufTy : (tb : Table) → Fin (tcTables nBuf tb) → BufTy
  | .hbm, ⟨i, _⟩ => hbmTy i
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩
abbrev main_cst_0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_1 : Ref sig .tc := ⟨.hbm, 50, rfl⟩
abbrev main_v31 : Ref sig .tc := ⟨.hbm, 51, rfl⟩
abbrev main_v32 : Ref sig .tc := ⟨.hbm, 52, rfl⟩
abbrev main_cst_2 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_3 : Ref sig .tc := ⟨.hbm, 59, rfl⟩
abbrev main_v38 : Ref sig .tc := ⟨.hbm, 60, rfl⟩
abbrev main_v39 : Ref sig .tc := ⟨.hbm, 61, rfl⟩
abbrev main_cst_4 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_5 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_6 : Ref sig .tc := ⟨.hbm, 77, rfl⟩
abbrev main_cst_7 : Ref sig .tc := ⟨.hbm, 78, rfl⟩
abbrev main_v53 : Ref sig .tc := ⟨.hbm, 79, rfl⟩
abbrev main_cst_8 : Ref sig .tc := ⟨.hbm, 80, rfl⟩
abbrev main_v54 : Ref sig .tc := ⟨.hbm, 81, rfl⟩
abbrev main_v55 : Ref sig .tc := ⟨.hbm, 82, rfl⟩
abbrev main_cst_9 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_10 : Ref sig .tc := ⟨.hbm, 89, rfl⟩
abbrev main_v61 : Ref sig .tc := ⟨.hbm, 90, rfl⟩
abbrev main_v62 : Ref sig .tc := ⟨.hbm, 91, rfl⟩
abbrev main_cst_11 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_12 : Ref sig .tc := ⟨.hbm, 113, rfl⟩
abbrev main_v83 : Ref sig .tc := ⟨.hbm, 114, rfl⟩
abbrev main_cst_13 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_14 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_values : Ref sig .tc := ⟨.hbm, 127, rfl⟩
abbrev main_indices : Ref sig .tc := ⟨.hbm, 128, rfl⟩
abbrev main_call0_c : Ref sig .tc := ⟨.hbm, 129, rfl⟩
abbrev main_call0_v0 : Ref sig .tc := ⟨.hbm, 130, rfl⟩
abbrev main_call0_v1 : Ref sig .tc := ⟨.hbm, 131, rfl⟩
abbrev main_call0_c_0 : Ref sig .tc := ⟨.hbm, 132, rfl⟩
abbrev main_call0_v2 : Ref sig .tc := ⟨.hbm, 133, rfl⟩
abbrev main_call0_v3 : Ref sig .tc := ⟨.hbm, 134, rfl⟩
abbrev main_call0_v4 : Ref sig .tc := ⟨.hbm, 135, rfl⟩
abbrev main_call0_v5 : Ref sig .tc := ⟨.hbm, 136, rfl⟩
abbrev main_call0_c_1 : Ref sig .tc := ⟨.hbm, 137, rfl⟩
abbrev main_call0_c_2 : Ref sig .tc := ⟨.hbm, 138, rfl⟩
abbrev main_call0_v6 : Ref sig .tc := ⟨.hbm, 139, rfl⟩
abbrev main_call0_v7 : Ref sig .tc := ⟨.hbm, 140, rfl⟩
abbrev main_call0_v8 : Ref sig .tc := ⟨.hbm, 141, rfl⟩
abbrev main_call0_v9 : Ref sig .tc := ⟨.hbm, 142, rfl⟩
abbrev main_call0_v10 : Ref sig .tc := ⟨.hbm, 143, rfl⟩
abbrev main_call0_v11 : Ref sig .tc := ⟨.hbm, 144, rfl⟩
abbrev main_call0_c_3 : Ref sig .tc := ⟨.hbm, 145, rfl⟩
abbrev main_call0_v12 : Ref sig .tc := ⟨.hbm, 146, rfl⟩
abbrev main_call0_v13 : Ref sig .tc := ⟨.hbm, 147, rfl⟩
abbrev main_call0_cst : Ref sig .tc := ⟨.hbm, 148, rfl⟩
abbrev main_call0_v14 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_call1_c : Ref sig .tc := ⟨.hbm, 157, rfl⟩
abbrev main_call1_v0 : Ref sig .tc := ⟨.hbm, 158, rfl⟩
abbrev main_call1_v1 : Ref sig .tc := ⟨.hbm, 159, rfl⟩
abbrev main_call1_c_0 : Ref sig .tc := ⟨.hbm, 160, rfl⟩
abbrev main_call1_v2 : Ref sig .tc := ⟨.hbm, 161, rfl⟩
abbrev main_call1_v3 : Ref sig .tc := ⟨.hbm, 162, rfl⟩
abbrev main_call1_v4 : Ref sig .tc := ⟨.hbm, 163, rfl⟩
abbrev main_call1_c_1 : Ref sig .tc := ⟨.hbm, 164, rfl⟩
abbrev main_call1_c_2 : Ref sig .tc := ⟨.hbm, 165, rfl⟩
abbrev main_call1_v5 : Ref sig .tc := ⟨.hbm, 166, rfl⟩
abbrev main_call1_v6 : Ref sig .tc := ⟨.hbm, 167, rfl⟩
abbrev main_call1_v7 : Ref sig .tc := ⟨.hbm, 168, rfl⟩
abbrev main_call1_v8 : Ref sig .tc := ⟨.hbm, 169, rfl⟩
abbrev main_call1_v9 : Ref sig .tc := ⟨.hbm, 170, rfl⟩
abbrev main_call1_v10 : Ref sig .tc := ⟨.hbm, 171, rfl⟩
abbrev main_call1_c_3 : Ref sig .tc := ⟨.hbm, 172, rfl⟩
abbrev main_call1_v11 : Ref sig .tc := ⟨.hbm, 173, rfl⟩
abbrev main_call1_v12 : Ref sig .tc := ⟨.hbm, 174, rfl⟩
abbrev main_call1_v13 : Ref sig .tc := ⟨.hbm, 175, rfl⟩
abbrev main_call1_cst : Ref sig .tc := ⟨.hbm, 176, rfl⟩
abbrev main_call1_v14 : Ref sig .tc := ⟨.hbm, 177, rfl⟩
abbrev main_v101 : Ref sig .tc := ⟨.hbm, 178, rfl⟩
abbrev main_v102 : Ref sig .tc := ⟨.hbm, 179, rfl⟩
abbrev main_values_15 : Ref sig .tc := ⟨.hbm, 180, rfl⟩
abbrev main_indices_16 : Ref sig .tc := ⟨.hbm, 181, rfl⟩
abbrev main_cst_17 : Ref sig .tc := ⟨.hbm, 182, rfl⟩
abbrev main_v103 : Ref sig .tc := ⟨.hbm, 183, rfl⟩
abbrev main_cst_18 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_cst_19 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_c : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_c_20 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_c_21 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_cst_22 : Ref sig .tc := ⟨.hbm, 213, rfl⟩
abbrev main_v128 : Ref sig .tc := ⟨.hbm, 214, rfl⟩
abbrev main_v129 : Ref sig .tc := ⟨.hbm, 215, rfl⟩
abbrev main_cst_23 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_cst_24 : Ref sig .tc := ⟨.hbm, 220, rfl⟩
abbrev main_v133 : Ref sig .tc := ⟨.hbm, 221, rfl⟩
abbrev main_v134 : Ref sig .tc := ⟨.hbm, 222, rfl⟩
abbrev main_v135 : Ref sig .tc := ⟨.hbm, 223, rfl⟩
abbrev main_cst_25 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_cst_26 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩

abbrev nD : Nat := 1
abbrev τ : Topo := Topo.v7x

variable {F : FTy → Type} [FloatOps F]
-- ==== Inproj.lean ====
abbrev S16x2048x1024 : Shape := ⟨3, ![16, 2048, 1024]⟩
abbrev S1024x3584 : Shape := ⟨2, ![1024, 3584]⟩
abbrev S3584 : Shape := ⟨1, ![3584]⟩
abbrev S32768x1024 : Shape := ⟨2, ![32768, 1024]⟩
abbrev S1024x512 : Shape := ⟨2, ![1024, 512]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S1024 : Shape := ⟨1, ![1024]⟩
abbrev S1x1024 : Shape := ⟨2, ![1, 1024]⟩
abbrev S16x512x2048 : Shape := ⟨3, ![16, 512, 2048]⟩
abbrev S16x2048x512 : Shape := ⟨3, ![16, 2048, 512]⟩
abbrev S2048x128 : Shape := ⟨2, ![2048, 128]⟩
abbrev S16x512x128 : Shape := ⟨3, ![16, 512, 128]⟩
abbrev S16x128x512 : Shape := ⟨3, ![16, 128, 512]⟩
abbrev S16x128x1024 : Shape := ⟨3, ![16, 128, 1024]⟩
abbrev S128x128 : Shape := ⟨2, ![128, 128]⟩
abbrev S128x1024 : Shape := ⟨2, ![128, 1024]⟩
abbrev S512x512 : Shape := ⟨2, ![512, 512]⟩
abbrev S512x128 : Shape := ⟨2, ![512, 128]⟩
abbrev S1x512x128 : Shape := ⟨3, ![1, 512, 128]⟩
abbrev S128x512 : Shape := ⟨2, ![128, 512]⟩
abbrev S1x128x512 : Shape := ⟨3, ![1, 128, 512]⟩
abbrev S1x128x1024 : Shape := ⟨3, ![1, 128, 1024]⟩

abbrev nBuf : Space → Nat
  | .hbm => 16
  | .vmem => 26
  | .smem => 0
  | _ => 0

abbrev bufTy : (tb : Table) → Fin (tcTables nBuf tb) → BufTy
  | .hbm, ⟨0, _⟩ => ⟨S16x2048x1024, .f32⟩
  | .hbm, ⟨1, _⟩ => ⟨S1024x3584, .f32⟩
  | .hbm, ⟨2, _⟩ => ⟨S3584, .f32⟩
  | .hbm, ⟨3, _⟩ => ⟨S32768x1024, .f32⟩
  | .hbm, ⟨4, _⟩ => ⟨S1024x512, .f32⟩
  | .hbm, ⟨5, _⟩ => ⟨S512x1024, .f32⟩
  | .hbm, ⟨6, _⟩ => ⟨S512x1024, .bf16⟩
  | .hbm, ⟨7, _⟩ => ⟨S512, .f32⟩
  | .hbm, ⟨8, _⟩ => ⟨S512x1, .f32⟩
  | .hbm, ⟨9, _⟩ => ⟨S1024x1024, .f32⟩
  | .hbm, ⟨10, _⟩ => ⟨S1024x1024, .bf16⟩
  | .hbm, ⟨11, _⟩ => ⟨S1024, .f32⟩
  | .hbm, ⟨12, _⟩ => ⟨S1x1024, .f32⟩
  | .hbm, ⟨13, _⟩ => ⟨S16x512x2048, .bf16⟩
  | .hbm, ⟨14, _⟩ => ⟨S16x2048x512, .f32⟩
  | .hbm, ⟨15, _⟩ => ⟨S16x2048x1024, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S512x1024, .bf16⟩
  | .local _ .vmem, ⟨17, _⟩ => ⟨S512x1, .f32⟩
  | .local _ .vmem, ⟨18, _⟩ => ⟨S1024x1024, .bf16⟩
  | .local _ .vmem, ⟨19, _⟩ => ⟨S1x1024, .f32⟩
  | .local _ .vmem, ⟨20, _⟩ => ⟨S16x512x128, .bf16⟩
  | .local _ .vmem, ⟨21, _⟩ => ⟨S16x512x128, .bf16⟩
  | .local _ .vmem, ⟨22, _⟩ => ⟨S16x128x512, .f32⟩
  | .local _ .vmem, ⟨23, _⟩ => ⟨S16x128x512, .f32⟩
  | .local _ .vmem, ⟨24, _⟩ => ⟨S16x128x1024, .bf16⟩
  | .local _ .vmem, ⟨25, _⟩ => ⟨S16x128x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev main_v10_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S16x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== InprojReferenceIdeal.lean ====
abbrev S16x2048x1024 : Shape := ⟨3, ![16, 2048, 1024]⟩
abbrev S1024x3584 : Shape := ⟨2, ![1024, 3584]⟩
abbrev S3584 : Shape := ⟨1, ![3584]⟩
abbrev S1024x1536 : Shape := ⟨2, ![1024, 1536]⟩
abbrev S16x2048x1536 : Shape := ⟨3, ![16, 2048, 1536]⟩
abbrev S1536 : Shape := ⟨1, ![1536]⟩
abbrev S1x1x1536 : Shape := ⟨3, ![1, 1, 1536]⟩
abbrev S16x2048x512 : Shape := ⟨3, ![16, 2048, 512]⟩
abbrev S_ : Shape := ⟨0, ![]⟩
abbrev S2048x16x512 : Shape := ⟨3, ![2048, 16, 512]⟩
abbrev S16x512x2048 : Shape := ⟨3, ![16, 512, 2048]⟩
abbrev S2048x16x1024 : Shape := ⟨3, ![2048, 16, 1024]⟩

abbrev nBuf : Space → Nat
  | .hbm => 29
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x3584, .f32⟩
  | .hbm, ⟨2, _⟩ => ⟨S3584, .f32⟩
  | .hbm, ⟨3, _⟩ => ⟨S1024x1536, .f32⟩
  | .hbm, ⟨4, _⟩ => ⟨S16x2048x1536, .f32⟩
  | .hbm, ⟨5, _⟩ => ⟨S1536, .f32⟩
  | .hbm, ⟨6, _⟩ => ⟨S1x1x1536, .f32⟩
  | .hbm, ⟨7, _⟩ => ⟨S16x2048x1536, .f32⟩
  | .hbm, ⟨8, _⟩ => ⟨S16x2048x1536, .f32⟩
  | .hbm, ⟨9, _⟩ => ⟨S16x2048x512, .f32⟩
  | .hbm, ⟨10, _⟩ => ⟨S16x2048x512, .f32⟩
  | .hbm, ⟨11, _⟩ => ⟨S16x2048x512, .f32⟩
  | .hbm, ⟨12, _⟩ => ⟨S16x2048x512, .f32⟩
  | .hbm, ⟨13, _⟩ => ⟨S16x2048x512, .f32⟩
  | .hbm, ⟨14, _⟩ => ⟨S_, .f32⟩
  | .hbm, ⟨15, _⟩ => ⟨S16x2048x512, .f32⟩
  | .hbm, ⟨16, _⟩ => ⟨S16x2048x512, .f32⟩
  | .hbm, ⟨17, _⟩ => ⟨S_, .f32⟩
  | .hbm, ⟨18, _⟩ => ⟨S16x2048x512, .f32⟩
  | .hbm, ⟨19, _⟩ => ⟨S16x2048x512, .f32⟩
  | .hbm, ⟨20, _⟩ => ⟨S16x2048x512, .f32⟩
  | .hbm, ⟨21, _⟩ => ⟨S2048x16x512, .f32⟩
  | .hbm, ⟨22, _⟩ => ⟨S16x512x2048, .f32⟩
  | .hbm, ⟨23, _⟩ => ⟨S16x512x2048, .bf16⟩
  | .hbm, ⟨24, _⟩ => ⟨S2048x16x512, .f32⟩
  | .hbm, ⟨25, _⟩ => ⟨S16x2048x512, .f32⟩
  | .hbm, ⟨26, _⟩ => ⟨S2048x16x1024, .f32⟩
  | .hbm, ⟨27, _⟩ => ⟨S16x2048x1024, .f32⟩
  | .hbm, ⟨28, _⟩ => ⟨S16x2048x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]
-- ==== S5.lean ====
abbrev S16x512x2048 : Shape := ⟨3, ![16, 512, 2048]⟩
abbrev S32x384x256 : Shape := ⟨3, ![32, 384, 256]⟩
abbrev S32x256x128 : Shape := ⟨3, ![32, 256, 128]⟩
abbrev S32x64 : Shape := ⟨2, ![32, 64]⟩
abbrev S512 : Shape := ⟨1, ![512]⟩
abbrev S32x128 : Shape := ⟨2, ![32, 128]⟩
abbrev S1x32x128 : Shape := ⟨3, ![1, 32, 128]⟩
abbrev S_ : Shape := ⟨0, ![]⟩
abbrev S16x32x128 : Shape := ⟨3, ![16, 32, 128]⟩
abbrev S32x128x16 : Shape := ⟨3, ![32, 128, 16]⟩
abbrev S32x1x16 : Shape := ⟨3, ![32, 1, 16]⟩
abbrev S1x32x1x1x1x16 : Shape := ⟨6, ![1, 32, 1, 1, 1, 16]⟩
abbrev S1x32x16x1x1x16 : Shape := ⟨6, ![1, 32, 16, 1, 1, 16]⟩
abbrev S32x16x16 : Shape := ⟨3, ![32, 16, 16]⟩
abbrev S32x256x1 : Shape := ⟨3, ![32, 256, 1]⟩
abbrev S16x32x16x2048 : Shape := ⟨4, ![16, 32, 16, 2048]⟩
abbrev S16x1x16x2048 : Shape := ⟨4, ![16, 1, 16, 2048]⟩
abbrev S1x384x256 : Shape := ⟨3, ![1, 384, 256]⟩
abbrev S1x256x128 : Shape := ⟨3, ![1, 256, 128]⟩
abbrev S1x128x16 : Shape := ⟨3, ![1, 128, 16]⟩
abbrev S1x256x1 : Shape := ⟨3, ![1, 256, 1]⟩
abbrev S1x1x16x2048 : Shape := ⟨4, ![1, 1, 16, 2048]⟩
abbrev S16x2048 : Shape := ⟨2, ![16, 2048]⟩
abbrev S256x2048 : Shape := ⟨2, ![256, 2048]⟩
abbrev S384x256 : Shape := ⟨2, ![384, 256]⟩
abbrev S384x2048 : Shape := ⟨2, ![384, 2048]⟩
abbrev S128x2048 : Shape := ⟨2, ![128, 2048]⟩
abbrev S1x128x1 : Shape := ⟨3, ![1, 128, 1]⟩
abbrev S128x1 : Shape := ⟨2, ![128, 1]⟩
abbrev S256x128 : Shape := ⟨2, ![256, 128]⟩
abbrev S256x1 : Shape := ⟨2, ![256, 1]⟩

abbrev nBuf : Space → Nat
  | .hbm => 101
  | .vmem => 12
  | .smem => 0
  | _ => 0

abbrev bufTy : (tb : Table) → Fin (tcTables nBuf tb) → BufTy
  | .hbm, ⟨0, _⟩ => ⟨S16x512x2048, .bf16⟩
  | .hbm, ⟨1, _⟩ => ⟨S32x384x256, .bf16⟩
  | .hbm, ⟨2, _⟩ => ⟨S32x256x128, .bf16⟩
  | .hbm, ⟨3, _⟩ => ⟨S32x64, .f32⟩
  | .hbm, ⟨4, _⟩ => ⟨S32x64, .f32⟩
  | .hbm, ⟨5, _⟩ => ⟨S512, .f32⟩
  | .hbm, ⟨6, _⟩ => ⟨S32x128, .f32⟩
  | .hbm, ⟨7, _⟩ => ⟨S1x32x128, .f32⟩
  | .hbm, ⟨8, _⟩ => ⟨S32x64, .f32⟩
  | .hbm, ⟨9, _⟩ => ⟨S32x128, .f32⟩
  | .hbm, ⟨10, _⟩ => ⟨S1x32x128, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S_, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x128, .f32⟩
  | .hbm, ⟨19, _⟩ => ⟨S1x32x128, .f32⟩
  | .hbm, ⟨20, _⟩ => ⟨S32x64, .f32⟩
  | .hbm, ⟨21, _⟩ => ⟨S32x128, .f32⟩
  | .hbm, ⟨22, _⟩ => ⟨S1x32x128, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S_, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x128, .f32⟩
  | .hbm, ⟨31, _⟩ => ⟨S1x32x128, .f32⟩
  | .hbm, ⟨32, _⟩ => ⟨S32x64, .f32⟩
  | .hbm, ⟨33, _⟩ => ⟨S32x128, .f32⟩
  | .hbm, ⟨34, _⟩ => ⟨S1x32x128, .f32⟩
  | .hbm, ⟨35, _⟩ => ⟨S32x64, .f32⟩
  | .hbm, ⟨36, _⟩ => ⟨S32x64, .f32⟩
  | .hbm, ⟨37, _⟩ => ⟨S32x64, .f32⟩
  | .hbm, ⟨38, _⟩ => ⟨S_, .f32⟩
  | .hbm, ⟨39, _⟩ => ⟨S32x64, .f32⟩
  | .hbm, ⟨40, _⟩ => ⟨S32x64, .f32⟩
  | .hbm, ⟨41, _⟩ => ⟨S32x64, .f32⟩
  | .hbm, ⟨42, _⟩ => ⟨S32x128, .f32⟩
  | .hbm, ⟨43, _⟩ => ⟨S1x32x128, .f32⟩
  | .hbm, ⟨44, _⟩ => ⟨S32x64, .f32⟩
  | .hbm, ⟨45, _⟩ => ⟨S32x128, .f32⟩
  | .hbm, ⟨46, _⟩ => ⟨S1x32x128, .f32⟩
  | .hbm, ⟨47, _⟩ => ⟨S32x64, .f32⟩
  | .hbm, ⟨48, _⟩ => ⟨S32x64, .f32⟩
  | .hbm, ⟨49, _⟩ => ⟨S32x64, .f32⟩
  | .hbm, ⟨50, _⟩ => ⟨S_, .f32⟩
  | .hbm, ⟨51, _⟩ => ⟨S32x64, .f32⟩
  | .hbm, ⟨52, _⟩ => ⟨S32x64, .f32⟩
  | .hbm, ⟨53, _⟩ => ⟨S32x64, .f32⟩
  | .hbm, ⟨54, _⟩ => ⟨S32x128, .f32⟩
  | .hbm, ⟨55, _⟩ => ⟨S1x32x128, .f32⟩
  | .hbm, ⟨56, _⟩ => ⟨S32x64, .f32⟩
  | .hbm, ⟨57, _⟩ => ⟨S32x128, .f32⟩
  | .hbm, ⟨58, _⟩ => ⟨S1x32x128, .f32⟩
  | .hbm, ⟨59, _⟩ => ⟨S32x64, .f32⟩
  | .hbm, ⟨60, _⟩ => ⟨S32x64, .f32⟩
  | .hbm, ⟨61, _⟩ => ⟨S32x64, .f32⟩
  | .hbm, ⟨62, _⟩ => ⟨S_, .f32⟩
  | .hbm, ⟨63, _⟩ => ⟨S32x64, .f32⟩
  | .hbm, ⟨64, _⟩ => ⟨S32x64, .f32⟩
  | .hbm, ⟨65, _⟩ => ⟨S32x64, .f32⟩
  | .hbm, ⟨66, _⟩ => ⟨S32x128, .f32⟩
  | .hbm, ⟨67, _⟩ => ⟨S1x32x128, .f32⟩
  | .hbm, ⟨68, _⟩ => ⟨S32x64, .f32⟩
  | .hbm, ⟨69, _⟩ => ⟨S32x128, .f32⟩
  | .hbm, ⟨70, _⟩ => ⟨S1x32x128, .f32⟩
  | .hbm, ⟨71, _⟩ => ⟨S32x64, .f32⟩
  | .hbm, ⟨72, _⟩ => ⟨S32x64, .f32⟩
  | .hbm, ⟨73, _⟩ => ⟨S32x64, .f32⟩
  | .hbm, ⟨74, _⟩ => ⟨S_, .f32⟩
  | .hbm, ⟨75, _⟩ => ⟨S32x64, .f32⟩
  | .hbm, ⟨76, _⟩ => ⟨S32x64, .f32⟩
  | .hbm, ⟨77, _⟩ => ⟨S32x64, .f32⟩
  | .hbm, ⟨78, _⟩ => ⟨S32x128, .f32⟩
  | .hbm, ⟨79, _⟩ => ⟨S1x32x128, .f32⟩
  | .hbm, ⟨80, _⟩ => ⟨S32x64, .f32⟩
  | .hbm, ⟨81, _⟩ => ⟨S32x128, .f32⟩
  | .hbm, ⟨82, _⟩ => ⟨S1x32x128, .f32⟩
  | .hbm, ⟨83, _⟩ => ⟨S32x64, .f32⟩
  | .hbm, ⟨84, _⟩ => ⟨S32x64, .f32⟩
  | .hbm, ⟨85, _⟩ => ⟨S32x64, .f32⟩
  | .hbm, ⟨86, _⟩ => ⟨S_, .f32⟩
  | .hbm, ⟨87, _⟩ => ⟨S32x64, .f32⟩
  | .hbm, ⟨88, _⟩ => ⟨S32x64, .f32⟩
  | .hbm, ⟨89, _⟩ => ⟨S32x64, .f32⟩
  | .hbm, ⟨90, _⟩ => ⟨S_, .f32⟩
  | .hbm, ⟨91, _⟩ => ⟨S1x32x128, .f32⟩
  | .hbm, ⟨92, _⟩ => ⟨S16x32x128, .f32⟩
  | .hbm, ⟨93, _⟩ => ⟨S32x128x16, .f32⟩
  | .hbm, ⟨94, _⟩ => ⟨S32x1x16, .f32⟩
  | .hbm, ⟨95, _⟩ => ⟨S1x32x1x1x1x16, .f32⟩
  | .hbm, ⟨96, _⟩ => ⟨S1x32x16x1x1x16, .f32⟩
  | .hbm, ⟨97, _⟩ => ⟨S32x16x16, .f32⟩
  | .hbm, ⟨98, _⟩ => ⟨S32x256x1, .f32⟩
  | .hbm, ⟨99, _⟩ => ⟨S16x32x16x2048, .bf16⟩
  | .hbm, ⟨100, _⟩ => ⟨S16x32x16x2048, .bf16⟩
  | .local _ .vmem, ⟨0, _⟩ => ⟨S16x1x16x2048, .bf16⟩
  | .local _ .vmem, ⟨1, _⟩ => ⟨S16x1x16x2048, .bf16⟩
  | .local _ .vmem, ⟨2, _⟩ => ⟨S1x384x256, .bf16⟩
  | .local _ .vmem, ⟨3, _⟩ => ⟨S1x384x256, .bf16⟩
  | .local _ .vmem, ⟨4, _⟩ => ⟨S1x256x128, .bf16⟩
  | .local _ .vmem, ⟨5, _⟩ => ⟨S1x256x128, .bf16⟩
  | .local _ .vmem, ⟨6, _⟩ => ⟨S1x128x16, .f32⟩
  | .local _ .vmem, ⟨7, _⟩ => ⟨S1x128x16, .f32⟩
  | .local _ .vmem, ⟨8, _⟩ => ⟨S1x256x1, .f32⟩
  | .local _ .vmem, ⟨9, _⟩ => ⟨S1x256x1, .f32⟩
  | .local _ .vmem, ⟨10, _⟩ => ⟨S16x1x16x2048, .bf16⟩
  | .local _ .vmem, ⟨11, _⟩ => ⟨S16x1x16x2048, .bf16⟩
  | _, _ => ⟨S16x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_2 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_3 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_4 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_cst_5 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_cst_6 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S16x1x16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1x16x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== S5Ideal.lean ====
variable {F : FTy → Type} [FloatOps F] [Named F]
def κ : String → Option EReal := fun
  | "gelu_cubic" => some ((8943 / 200000 : ℝ) : EReal)
  | "gelu_scale" => some ((Real.sqrt (2 * Real.pi⁻¹) : ℝ) : EReal)
  | _ => none
-- ==== S5ReferenceIdeal.lean ====
abbrev S16x512x2048 : Shape := ⟨3, ![16, 512, 2048]⟩
abbrev S32x384x256 : Shape := ⟨3, ![32, 384, 256]⟩
abbrev S32x256x128 : Shape := ⟨3, ![32, 256, 128]⟩
abbrev S32x64 : Shape := ⟨2, ![32, 64]⟩
abbrev S512 : Shape := ⟨1, ![512]⟩
abbrev S16x32x16x16x128 : Shape := ⟨5, ![16, 32, 16, 16, 128]⟩
abbrev S128x16x32x16x16 : Shape := ⟨5, ![128, 16, 32, 16, 16]⟩
abbrev S128x16x32x256 : Shape := ⟨4, ![128, 16, 32, 256]⟩
abbrev S32x128x256 : Shape := ⟨3, ![32, 128, 256]⟩
abbrev S32x128x128x16 : Shape := ⟨4, ![32, 128, 128, 16]⟩
abbrev S128x16x32x128 : Shape := ⟨4, ![128, 16, 32, 128]⟩
abbrev S_ : Shape := ⟨0, ![]⟩
abbrev S16x32x64 : Shape := ⟨3, ![16, 32, 64]⟩
abbrev S128x16x32x64 : Shape := ⟨4, ![128, 16, 32, 64]⟩
abbrev S1x16x32x128 : Shape := ⟨4, ![1, 16, 32, 128]⟩
abbrev S16x32x128 : Shape := ⟨3, ![16, 32, 128]⟩
abbrev S1x32x64 : Shape := ⟨3, ![1, 32, 64]⟩
abbrev S1x16x32x64 : Shape := ⟨4, ![1, 16, 32, 64]⟩
abbrev S32x256x256 : Shape := ⟨3, ![32, 256, 256]⟩
abbrev S32x256x128x16 : Shape := ⟨4, ![32, 256, 128, 16]⟩
abbrev S32x1x16 : Shape := ⟨3, ![32, 1, 16]⟩
abbrev S1x1x32x1x16 : Shape := ⟨5, ![1, 1, 32, 1, 16]⟩
abbrev S16x32x16x2048 : Shape := ⟨4, ![16, 32, 16, 2048]⟩

abbrev nBuf : Space → Nat
  | .hbm => 112
  | .vmem => 0
  | .smem => 0
  | _ => 0

abbrev bufTy : (tb : Table) → Fin (tcTables nBuf tb) → BufTy
  | .hbm, ⟨0, _⟩ => ⟨S16x512x2048, .bf16⟩
  | .hbm, ⟨1, _⟩ => ⟨S32x384x256, .bf16⟩
  | .hbm, ⟨2, _⟩ => ⟨S32x256x128, .bf16⟩
  | .hbm, ⟨3, _⟩ => ⟨S32x64, .f32⟩
  | .hbm, ⟨4, _⟩ => ⟨S32x64, .f32⟩
  | .hbm, ⟨5, _⟩ => ⟨S512, .f32⟩
  | .hbm, ⟨6, _⟩ => ⟨S16x512x2048, .f32⟩
  | .hbm, ⟨7, _⟩ => ⟨S16x32x16x16x128, .f32⟩
  | .hbm, ⟨8, _⟩ => ⟨S128x16x32x16x16, .f32⟩
  | .hbm, ⟨9, _⟩ => ⟨S128x16x32x256, .f32⟩
  | .hbm, ⟨10, _⟩ => ⟨S32x128x256, .bf16⟩
  | .hbm, ⟨11, _⟩ => ⟨S32x128x256, .f32⟩
  | .hbm, ⟨12, _⟩ => ⟨S32x128x128x16, .f32⟩
  | .hbm, ⟨13, _⟩ => ⟨S128x16x32x128, .f32⟩
  | .hbm, ⟨14, _⟩ => ⟨S_, .f32⟩
  | .hbm, ⟨15, _⟩ => ⟨S16x32x64, .f32⟩
  | .hbm, ⟨16, _⟩ => ⟨S_, .f32⟩
  | .hbm, ⟨17, _⟩ => ⟨S128x16x32x64, .f32⟩
  | .hbm, ⟨18, _⟩ => ⟨S_, .f32⟩
  | .hbm, ⟨19, _⟩ => ⟨S128x16x32x64, .f32⟩
  | .hbm, ⟨20, _⟩ => ⟨S_, .i32⟩
  | .hbm, ⟨21, _⟩ => ⟨S128x16x32x128, .f32⟩
  | .hbm, ⟨22, _⟩ => ⟨S32x64, .f32⟩
  | .hbm, ⟨23, _⟩ => ⟨S32x64, .f32⟩
  | .hbm, ⟨24, _⟩ => ⟨S_, .i32⟩
  | .hbm, ⟨25, _⟩ => ⟨S16x32x64, .f32⟩
  | .hbm, ⟨26, _⟩ => ⟨S16x32x64, .f32⟩
  | .hbm, ⟨27, _⟩ => ⟨S128x16x32x64, .f32⟩
  | .hbm, ⟨28, _⟩ => ⟨S128x16x32x64, .f32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S1x16x32x128, .f32⟩
  | .hbm, ⟨35, _⟩ => ⟨S16x32x128, .f32⟩
  | .hbm, ⟨36, _⟩ => ⟨S1x32x64, .f32⟩
  | .hbm, ⟨37, _⟩ => ⟨S16x32x64, .f32⟩
  | .hbm, ⟨38, _⟩ => ⟨S16x32x64, .f32⟩
  | .hbm, ⟨39, _⟩ => ⟨S1x32x64, .f32⟩
  | .hbm, ⟨40, _⟩ => ⟨S16x32x64, .f32⟩
  | .hbm, ⟨41, _⟩ => ⟨S16x32x64, .f32⟩
  | .hbm, ⟨42, _⟩ => ⟨S16x32x64, .f32⟩
  | .hbm, ⟨43, _⟩ => ⟨S16x32x64, .f32⟩
  | .hbm, ⟨44, _⟩ => ⟨S16x32x64, .f32⟩
  | .hbm, ⟨45, _⟩ => ⟨S1x32x64, .f32⟩
  | .hbm, ⟨46, _⟩ => ⟨S16x32x64, .f32⟩
  | .hbm, ⟨47, _⟩ => ⟨S16x32x64, .f32⟩
  | .hbm, ⟨48, _⟩ => ⟨S1x32x64, .f32⟩
  | .hbm, ⟨49, _⟩ => ⟨S16x32x64, .f32⟩
  | .hbm, ⟨50, _⟩ => ⟨S16x32x64, .f32⟩
  | .hbm, ⟨51, _⟩ => ⟨S16x32x64, .f32⟩
  | .hbm, ⟨52, _⟩ => ⟨S16x32x64, .f32⟩
  | .hbm, ⟨53, _⟩ => ⟨S16x32x64, .f32⟩
  | .hbm, ⟨54, _⟩ => ⟨S1x16x32x64, .f32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S128x16x32x64, .f32⟩
  | .hbm, ⟨59, _⟩ => ⟨S1x16x32x64, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S128x16x32x64, .f32⟩
  | .hbm, ⟨64, _⟩ => ⟨S_, .i32⟩
  | .hbm, ⟨65, _⟩ => ⟨S_, .i32⟩
  | .hbm, ⟨66, _⟩ => ⟨S16x512x2048, .f32⟩
  | .hbm, ⟨67, _⟩ => ⟨S16x32x16x16x128, .f32⟩
  | .hbm, ⟨68, _⟩ => ⟨S128x16x32x16x16, .f32⟩
  | .hbm, ⟨69, _⟩ => ⟨S128x16x32x256, .f32⟩
  | .hbm, ⟨70, _⟩ => ⟨S32x256x256, .bf16⟩
  | .hbm, ⟨71, _⟩ => ⟨S32x256x256, .f32⟩
  | .hbm, ⟨72, _⟩ => ⟨S32x256x128x16, .f32⟩
  | .hbm, ⟨73, _⟩ => ⟨S128x16x32x256, .f32⟩
  | .hbm, ⟨74, _⟩ => ⟨S128x16x32x128, .f32⟩
  | .hbm, ⟨75, _⟩ => ⟨S32x256x128, .f32⟩
  | .hbm, ⟨76, _⟩ => ⟨S32x256x128x16, .f32⟩
  | .hbm, ⟨77, _⟩ => ⟨S128x16x32x256, .f32⟩
  | .hbm, ⟨78, _⟩ => ⟨S128x16x32x256, .f32⟩
  | .hbm, ⟨79, _⟩ => ⟨S128x16x32x16x16, .f32⟩
  | .hbm, ⟨80, _⟩ => ⟨S32x1x16, .f32⟩
  | .hbm, ⟨81, _⟩ => ⟨S128x16x32x16x16, .f32⟩
  | .hbm, ⟨82, _⟩ => ⟨S1x1x32x1x16, .f32⟩
  | .hbm, ⟨83, _⟩ => ⟨S128x16x32x16x16, .f32⟩
  | .hbm, ⟨84, _⟩ => ⟨S128x16x32x16x16, .f32⟩
  | .hbm, ⟨85, _⟩ => ⟨S128x16x32x16x16, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S128x16x32x16x16, .f32⟩
  | .hbm, ⟨95, _⟩ => ⟨S128x16x32x16x16, .f32⟩
  | .hbm, ⟨96, _⟩ => ⟨S128x16x32x16x16, .f32⟩
  | .hbm, ⟨97, _⟩ => ⟨S128x16x32x16x16, .f32⟩
  | .hbm, ⟨98, _⟩ => ⟨S128x16x32x16x16, .f32⟩
  | .hbm, ⟨99, _⟩ => ⟨S128x16x32x16x16, .f32⟩
  | .hbm, ⟨100, _⟩ => ⟨S128x16x32x16x16, .f32⟩
  | .hbm, ⟨101, _⟩ => ⟨S128x16x32x16x16, .f32⟩
  | .hbm, ⟨102, _⟩ => ⟨S_, .f32⟩
  | .hbm, ⟨103, _⟩ => ⟨S128x16x32x16x16, .f32⟩
  | .hbm, ⟨104, _⟩ => ⟨S128x16x32x16x16, .f32⟩
  | .hbm, ⟨105, _⟩ => ⟨S_, .f32⟩
  | .hbm, ⟨106, _⟩ => ⟨S128x16x32x16x16, .f32⟩
  | .hbm, ⟨107, _⟩ => ⟨S128x16x32x16x16, .f32⟩
  | .hbm, ⟨108, _⟩ => ⟨S128x16x32x16x16, .f32⟩
  | .hbm, ⟨109, _⟩ => ⟨S16x32x16x16x128, .f32⟩
  | .hbm, ⟨110, _⟩ => ⟨S16x32x16x2048, .f32⟩
  | .hbm, ⟨111, _⟩ => ⟨S16x32x16x2048, .bf16⟩
  | _, _ => ⟨S16x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_c : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev main_v11_4 : Ref sig .tc := ⟨.hbm, 25, rfl⟩
abbrev main_v11_5 : Ref sig .tc := ⟨.hbm, 26, rfl⟩
abbrev main_v11_6 : Ref sig .tc := ⟨.hbm, 27, rfl⟩
abbrev main_v11_7 : Ref sig .tc := ⟨.hbm, 28, rfl⟩
abbrev main_while0c_c_15 : Ref sig .tc := ⟨.hbm, 29, rfl⟩
abbrev main_while0c_v52 : Ref sig .tc := ⟨.hbm, 30, rfl⟩
abbrev main_while0b_call0_c : Ref sig .tc := ⟨.hbm, 31, rfl⟩
abbrev main_while0b_call0_c_0 : Ref sig .tc := ⟨.hbm, 32, rfl⟩
abbrev main_while0b_call0_c_1 : Ref sig .tc := ⟨.hbm, 33, rfl⟩
abbrev main_while0b_call0_v0 : Ref sig .tc := ⟨.hbm, 34, rfl⟩
abbrev main_while0b_v52 : Ref sig .tc := ⟨.hbm, 35, rfl⟩
abbrev main_while0b_v53 : Ref sig .tc := ⟨.hbm, 36, rfl⟩
abbrev main_while0b_v54 : Ref sig .tc := ⟨.hbm, 37, rfl⟩
abbrev main_while0b_v55 : Ref sig .tc := ⟨.hbm, 38, rfl⟩
abbrev main_while0b_v56 : Ref sig .tc := ⟨.hbm, 39, rfl⟩
abbrev main_while0b_v57 : Ref sig .tc := ⟨.hbm, 40, rfl⟩
abbrev main_while0b_v58 : Ref sig .tc := ⟨.hbm, 41, rfl⟩
abbrev main_while0b_v59 : Ref sig .tc := ⟨.hbm, 42, rfl⟩
abbrev main_while0b_v60 : Ref sig .tc := ⟨.hbm, 43, rfl⟩
abbrev main_while0b_v61 : Ref sig .tc := ⟨.hbm, 44, rfl⟩
abbrev main_while0b_v62 : Ref sig .tc := ⟨.hbm, 45, rfl⟩
abbrev main_while0b_v63 : Ref sig .tc := ⟨.hbm, 46, rfl⟩
abbrev main_while0b_v64 : Ref sig .tc := ⟨.hbm, 47, rfl⟩
abbrev main_while0b_v65 : Ref sig .tc := ⟨.hbm, 48, rfl⟩
abbrev main_while0b_v66 : Ref sig .tc := ⟨.hbm, 49, rfl⟩
abbrev main_while0b_v67 : Ref sig .tc := ⟨.hbm, 50, rfl⟩
abbrev main_while0b_v68 : Ref sig .tc := ⟨.hbm, 51, rfl⟩
abbrev main_while0b_v69 : Ref sig .tc := ⟨.hbm, 52, rfl⟩
abbrev main_while0b_v70 : Ref sig .tc := ⟨.hbm, 53, rfl⟩
abbrev main_while0b_call1_v0 : Ref sig .tc := ⟨.hbm, 54, rfl⟩
abbrev main_while0b_call1_c : Ref sig .tc := ⟨.hbm, 55, rfl⟩
abbrev main_while0b_call1_c_0 : Ref sig .tc := ⟨.hbm, 56, rfl⟩
abbrev main_while0b_call1_c_1 : Ref sig .tc := ⟨.hbm, 57, rfl⟩
abbrev main_while0b_v71 : Ref sig .tc := ⟨.hbm, 58, rfl⟩
abbrev main_while0b_call2_v0 : Ref sig .tc := ⟨.hbm, 59, rfl⟩
abbrev main_while0b_call2_c : Ref sig .tc := ⟨.hbm, 60, rfl⟩
abbrev main_while0b_call2_c_0 : Ref sig .tc := ⟨.hbm, 61, rfl⟩
abbrev main_while0b_call2_c_1 : Ref sig .tc := ⟨.hbm, 62, rfl⟩
abbrev main_while0b_v72 : Ref sig .tc := ⟨.hbm, 63, rfl⟩
abbrev main_while0b_c_15 : Ref sig .tc := ⟨.hbm, 64, rfl⟩
abbrev main_while0b_v73 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_cst_2 : Ref sig .tc := ⟨.hbm, 86, rfl⟩
abbrev main_v32 : Ref sig .tc := ⟨.hbm, 87, rfl⟩
abbrev main_cst_3 : Ref sig .tc := ⟨.hbm, 88, rfl⟩
abbrev main_v33 : Ref sig .tc := ⟨.hbm, 89, rfl⟩
abbrev main_v34 : Ref sig .tc := ⟨.hbm, 90, rfl⟩
abbrev main_cst_4 : Ref sig .tc := ⟨.hbm, 91, rfl⟩
abbrev main_cst_5 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_cst_6 : Ref sig .tc := ⟨.hbm, 102, rfl⟩
abbrev main_v44 : Ref sig .tc := ⟨.hbm, 103, rfl⟩
abbrev main_v45 : Ref sig .tc := ⟨.hbm, 104, rfl⟩
abbrev main_cst_7 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩

abbrev nD : Nat := 1
abbrev τ : Topo := Topo.v7x

variable {F : FTy → Type} [FloatOps F]

abbrev main_while0_count : Scf.Loop 32 := ⟨0#32, 128#32, 1#32⟩
-- ==== S5Prep.lean ====
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x1 : Shape := ⟨2, ![32, 1]⟩
abbrev S_ : Shape := ⟨0, ![]⟩
abbrev S32x64x1 : Shape := ⟨3, ![32, 64, 1]⟩
abbrev S17 : Shape := ⟨1, ![17]⟩
abbrev S17x1x1 : Shape := ⟨3, ![17, 1, 1]⟩
abbrev S1x32x64 : Shape := ⟨3, ![1, 32, 64]⟩
abbrev S17x32x64 : Shape := ⟨3, ![17, 32, 64]⟩
abbrev S1x32x16x64 : Shape := ⟨4, ![1, 32, 16, 64]⟩
abbrev S17x32x1x64 : Shape := ⟨4, ![17, 32, 1, 64]⟩
abbrev S17x32x16x64 : Shape := ⟨4, ![17, 32, 16, 64]⟩
abbrev S17x32x16x128 : Shape := ⟨4, ![17, 32, 16, 128]⟩
abbrev S32x17x16x128 : Shape := ⟨4, ![32, 17, 16, 128]⟩
abbrev S32x272x128 : Shape := ⟨3, ![32, 272, 128]⟩
abbrev S32x128x16 : Shape := ⟨3, ![32, 128, 16]⟩
abbrev S16x32x64 : Shape := ⟨3, ![16, 32, 64]⟩
abbrev S16x32x128 : Shape := ⟨3, ![16, 32, 128]⟩
abbrev S32x128x32 : Shape := ⟨3, ![32, 128, 32]⟩
abbrev S32x256x128 : Shape := ⟨3, ![32, 256, 128]⟩
abbrev S32x384x256 : Shape := ⟨3, ![32, 384, 256]⟩
abbrev S1x272x128 : Shape := ⟨3, ![1, 272, 128]⟩
abbrev S1x128x16 : Shape := ⟨3, ![1, 128, 16]⟩
abbrev S1x128x32 : Shape := ⟨3, ![1, 128, 32]⟩
abbrev S1x384x256 : Shape := ⟨3, ![1, 384, 256]⟩
abbrev S128x16 : Shape := ⟨2, ![128, 16]⟩
abbrev S1x256x128 : Shape := ⟨3, ![1, 256, 128]⟩
abbrev S256x128 : Shape := ⟨2, ![256, 128]⟩
abbrev S256x16 : Shape := ⟨2, ![256, 16]⟩
abbrev S256x256 : Shape := ⟨2, ![256, 256]⟩
abbrev S1x256x256 : Shape := ⟨3, ![1, 256, 256]⟩
abbrev S1x256x16 : Shape := ⟨3, ![1, 256, 16]⟩
abbrev S1x128x1 : Shape := ⟨3, ![1, 128, 1]⟩
abbrev S128x1 : Shape := ⟨2, ![128, 1]⟩
abbrev S240x16 : Shape := ⟨2, ![240, 16]⟩
abbrev S1x240x16 : Shape := ⟨3, ![1, 240, 16]⟩
abbrev S224x16 : Shape := ⟨2, ![224, 16]⟩
abbrev S1x224x16 : Shape := ⟨3, ![1, 224, 16]⟩
abbrev S208x16 : Shape := ⟨2, ![208, 16]⟩
abbrev S1x208x16 : Shape := ⟨3, ![1, 208, 16]⟩
abbrev S192x16 : Shape := ⟨2, ![192, 16]⟩
abbrev S1x192x16 : Shape := ⟨3, ![1, 192, 16]⟩
abbrev S176x16 : Shape := ⟨2, ![176, 16]⟩
abbrev S1x176x16 : Shape := ⟨3, ![1, 176, 16]⟩
abbrev S160x16 : Shape := ⟨2, ![160, 16]⟩
abbrev S1x160x16 : Shape := ⟨3, ![1, 160, 16]⟩
abbrev S144x16 : Shape := ⟨2, ![144, 16]⟩
abbrev S1x144x16 : Shape := ⟨3, ![1, 144, 16]⟩
abbrev S112x16 : Shape := ⟨2, ![112, 16]⟩
abbrev S1x112x16 : Shape := ⟨3, ![1, 112, 16]⟩
abbrev S96x16 : Shape := ⟨2, ![96, 16]⟩
abbrev S1x96x16 : Shape := ⟨3, ![1, 96, 16]⟩
abbrev S80x16 : Shape := ⟨2, ![80, 16]⟩
abbrev S1x80x16 : Shape := ⟨3, ![1, 80, 16]⟩
abbrev S64x16 : Shape := ⟨2, ![64, 16]⟩
abbrev S1x64x16 : Shape := ⟨3, ![1, 64, 16]⟩
abbrev S48x16 : Shape := ⟨2, ![48, 16]⟩
abbrev S1x48x16 : Shape := ⟨3, ![1, 48, 16]⟩
abbrev S32x16 : Shape := ⟨2, ![32, 16]⟩
abbrev S1x32x16 : Shape := ⟨3, ![1, 32, 16]⟩
abbrev S16x16 : Shape := ⟨2, ![16, 16]⟩
abbrev S1x16x16 : Shape := ⟨3, ![1, 16, 16]⟩

abbrev nBuf : Space → Nat
  | .hbm => 119
  | .vmem => 8
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x16x64, .f32⟩
  | .hbm, ⟨6, _⟩ => ⟨S32x16x64, .f32⟩
  | .hbm, ⟨7, _⟩ => ⟨S32, .f32⟩
  | .hbm, ⟨8, _⟩ => ⟨S32x1, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S_, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S_, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64, .f32⟩
  | .hbm, ⟨36, _⟩ => ⟨S32x64, .f32⟩
  | .hbm, ⟨37, _⟩ => ⟨S32x64x1, .f32⟩
  | .hbm, ⟨38, _⟩ => ⟨S32x64x16, .f32⟩
  | .hbm, ⟨39, _⟩ => ⟨S32x64x16, .f32⟩
  | .hbm, ⟨40, _⟩ => ⟨S32x64x1, .f32⟩
  | .hbm, ⟨41, _⟩ => ⟨S32x64x16, .f32⟩
  | .hbm, ⟨42, _⟩ => ⟨S32x64x16, .f32⟩
  | .hbm, ⟨43, _⟩ => ⟨S32x64x16, .f32⟩
  | .hbm, ⟨44, _⟩ => ⟨S32x64x1, .f32⟩
  | .hbm, ⟨45, _⟩ => ⟨S32x64x16, .f32⟩
  | .hbm, ⟨46, _⟩ => ⟨S32x64x16, .f32⟩
  | .hbm, ⟨47, _⟩ => ⟨S32x64x1, .f32⟩
  | .hbm, ⟨48, _⟩ => ⟨S32x64x16, .f32⟩
  | .hbm, ⟨49, _⟩ => ⟨S32x64x16, .f32⟩
  | .hbm, ⟨50, _⟩ => ⟨S32x64x16, .f32⟩
  | .hbm, ⟨51, _⟩ => ⟨S17, .f32⟩
  | .hbm, ⟨52, _⟩ => ⟨S17x1x1, .f32⟩
  | .hbm, ⟨53, _⟩ => ⟨S32x64, .f32⟩
  | .hbm, ⟨54, _⟩ => ⟨S32x64, .f32⟩
  | .hbm, ⟨55, _⟩ => ⟨S1x32x64, .f32⟩
  | .hbm, ⟨56, _⟩ => ⟨S17x32x64, .f32⟩
  | .hbm, ⟨57, _⟩ => ⟨S17x32x64, .f32⟩
  | .hbm, ⟨58, _⟩ => ⟨S17x32x64, .f32⟩
  | .hbm, ⟨59, _⟩ => ⟨S17x32x64, .f32⟩
  | .hbm, ⟨60, _⟩ => ⟨S32x64, .f32⟩
  | .hbm, ⟨61, _⟩ => ⟨S32x64, .f32⟩
  | .hbm, ⟨62, _⟩ => ⟨S1x32x64, .f32⟩
  | .hbm, ⟨63, _⟩ => ⟨S17x32x64, .f32⟩
  | .hbm, ⟨64, _⟩ => ⟨S17x32x64, .f32⟩
  | .hbm, ⟨65, _⟩ => ⟨S17x32x64, .f32⟩
  | .hbm, ⟨66, _⟩ => ⟨S17x32x64, .f32⟩
  | .hbm, ⟨67, _⟩ => ⟨S17x32x64, .f32⟩
  | .hbm, ⟨68, _⟩ => ⟨S32x64, .f32⟩
  | .hbm, ⟨69, _⟩ => ⟨S32x64, .f32⟩
  | .hbm, ⟨70, _⟩ => ⟨S1x32x64, .f32⟩
  | .hbm, ⟨71, _⟩ => ⟨S17x32x64, .f32⟩
  | .hbm, ⟨72, _⟩ => ⟨S17x32x64, .f32⟩
  | .hbm, ⟨73, _⟩ => ⟨S17x32x64, .f32⟩
  | .hbm, ⟨74, _⟩ => ⟨S17x32x64, .f32⟩
  | .hbm, ⟨75, _⟩ => ⟨S17x32x64, .f32⟩
  | .hbm, ⟨76, _⟩ => ⟨S1x32x16x64, .f32⟩
  | .hbm, ⟨77, _⟩ => ⟨S17x32x1x64, .f32⟩
  | .hbm, ⟨78, _⟩ => ⟨S17x32x16x64, .f32⟩
  | .hbm, ⟨79, _⟩ => ⟨S17x32x16x64, .f32⟩
  | .hbm, ⟨80, _⟩ => ⟨S17x32x16x64, .f32⟩
  | .hbm, ⟨81, _⟩ => ⟨S1x32x16x64, .f32⟩
  | .hbm, ⟨82, _⟩ => ⟨S17x32x1x64, .f32⟩
  | .hbm, ⟨83, _⟩ => ⟨S17x32x16x64, .f32⟩
  | .hbm, ⟨84, _⟩ => ⟨S17x32x16x64, .f32⟩
  | .hbm, ⟨85, _⟩ => ⟨S17x32x16x64, .f32⟩
  | .hbm, ⟨86, _⟩ => ⟨S17x32x16x64, .f32⟩
  | .hbm, ⟨87, _⟩ => ⟨S1x32x16x64, .f32⟩
  | .hbm, ⟨88, _⟩ => ⟨S17x32x1x64, .f32⟩
  | .hbm, ⟨89, _⟩ => ⟨S17x32x16x64, .f32⟩
  | .hbm, ⟨90, _⟩ => ⟨S17x32x16x64, .f32⟩
  | .hbm, ⟨91, _⟩ => ⟨S17x32x16x64, .f32⟩
  | .hbm, ⟨92, _⟩ => ⟨S1x32x16x64, .f32⟩
  | .hbm, ⟨93, _⟩ => ⟨S17x32x1x64, .f32⟩
  | .hbm, ⟨94, _⟩ => ⟨S17x32x16x64, .f32⟩
  | .hbm, ⟨95, _⟩ => ⟨S17x32x16x64, .f32⟩
  | .hbm, ⟨96, _⟩ => ⟨S17x32x16x64, .f32⟩
  | .hbm, ⟨97, _⟩ => ⟨S17x32x16x64, .f32⟩
  | .hbm, ⟨98, _⟩ => ⟨S17x32x16x64, .f32⟩
  | .hbm, ⟨99, _⟩ => ⟨S17x32x16x128, .f32⟩
  | .hbm, ⟨100, _⟩ => ⟨S32x17x16x128, .f32⟩
  | .hbm, ⟨101, _⟩ => ⟨S32x272x128, .f32⟩
  | .hbm, ⟨102, _⟩ => ⟨S32x128x16, .f32⟩
  | .hbm, ⟨103, _⟩ => ⟨S16x32x64, .f32⟩
  | .hbm, ⟨104, _⟩ => ⟨S16x32x64, .f32⟩
  | .hbm, ⟨105, _⟩ => ⟨S16x32x64, .f32⟩
  | .hbm, ⟨106, _⟩ => ⟨S16x32x64, .f32⟩
  | .hbm, ⟨107, _⟩ => ⟨S16x32x128, .f32⟩
  | .hbm, ⟨108, _⟩ => ⟨S32x128x16, .f32⟩
  | .hbm, ⟨109, _⟩ => ⟨S16x32x64, .f32⟩
  | .hbm, ⟨110, _⟩ => ⟨S16x32x128, .f32⟩
  | .hbm, ⟨111, _⟩ => ⟨S32x128x16, .f32⟩
  | .hbm, ⟨112, _⟩ => ⟨S32x128x32, .f32⟩
  | .hbm, ⟨113, _⟩ => ⟨S32x256x128, .f32⟩
  | .hbm, ⟨114, _⟩ => ⟨S1x32x64, .f32⟩
  | .hbm, ⟨115, _⟩ => ⟨S32x64, .f32⟩
  | .hbm, ⟨116, _⟩ => ⟨S1x32x64, .f32⟩
  | .hbm, ⟨117, _⟩ => ⟨S32x64, .f32⟩
  | .hbm, ⟨118, _⟩ => ⟨S32x384x256, .f32⟩
  | .local _ .vmem, ⟨0, _⟩ => ⟨S1x272x128, .f32⟩
  | .local _ .vmem, ⟨1, _⟩ => ⟨S1x272x128, .f32⟩
  | .local _ .vmem, ⟨2, _⟩ => ⟨S1x128x16, .f32⟩
  | .local _ .vmem, ⟨3, _⟩ => ⟨S1x128x16, .f32⟩
  | .local _ .vmem, ⟨4, _⟩ => ⟨S1x128x32, .f32⟩
  | .local _ .vmem, ⟨5, _⟩ => ⟨S1x128x32, .f32⟩
  | .local _ .vmem, ⟨6, _⟩ => ⟨S1x384x256, .f32⟩
  | .local _ .vmem, ⟨7, _⟩ => ⟨S1x384x256, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x272x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x384x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== S5PrepReferenceIdeal.lean ====
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x1 : Shape := ⟨2, ![32, 1]⟩
abbrev S_ : Shape := ⟨0, ![]⟩
abbrev S32x64x1 : Shape := ⟨3, ![32, 64, 1]⟩
abbrev S16x32x64x16 : Shape := ⟨4, ![16, 32, 64, 16]⟩
abbrev S16x32x64 : Shape := ⟨3, ![16, 32, 64]⟩
abbrev S1x32x64x16 : Shape := ⟨4, ![1, 32, 64, 16]⟩
abbrev S1x32x64 : Shape := ⟨3, ![1, 32, 64]⟩
abbrev S32x16x16x16 : Shape := ⟨4, ![32, 16, 16, 16]⟩
abbrev S16x32x16x16 : Shape := ⟨4, ![16, 32, 16, 16]⟩
abbrev S16 : Shape := ⟨1, ![16]⟩
abbrev S16x1x1 : Shape := ⟨3, ![16, 1, 1]⟩
abbrev S1x16x1 : Shape := ⟨3, ![1, 16, 1]⟩
abbrev S1x1x16 : Shape := ⟨3, ![1, 1, 16]⟩
abbrev S1x16x16 : Shape := ⟨3, ![1, 16, 16]⟩
abbrev S16x16x16 : Shape := ⟨3, ![16, 16, 16]⟩
abbrev S32x16x16x16x16 : Shape := ⟨5, ![32, 16, 16, 16, 16]⟩
abbrev S32x256x256 : Shape := ⟨3, ![32, 256, 256]⟩
abbrev S16x32x128x16 : Shape := ⟨4, ![16, 32, 128, 16]⟩
abbrev S32x128x16x16 : Shape := ⟨4, ![32, 128, 16, 16]⟩
abbrev S32x128x256 : Shape := ⟨3, ![32, 128, 256]⟩
abbrev S16x32x1x64 : Shape := ⟨4, ![16, 32, 1, 64]⟩
abbrev S1x32x16x64 : Shape := ⟨4, ![1, 32, 16, 64]⟩
abbrev S16x32x16x64 : Shape := ⟨4, ![16, 32, 16, 64]⟩
abbrev S16x32x16x128 : Shape := ⟨4, ![16, 32, 16, 128]⟩
abbrev S32x16x16x128 : Shape := ⟨4, ![32, 16, 16, 128]⟩
abbrev S32x256x128 : Shape := ⟨3, ![32, 256, 128]⟩
abbrev S32x384x256 : Shape := ⟨3, ![32, 384, 256]⟩

abbrev nBuf : Space → Nat
  | .hbm => 169
  | .vmem => 0
  | .smem => 0
  | _ => 0

abbrev hbmTy0_0 (i : Nat) : BufTy := match i % 128 with
  | 0 => ⟨S32x64, .f32⟩
  | 1 => ⟨S32x64, .f32⟩
  | 2 => ⟨S32, .f32⟩
  | 3 => ⟨S32x64x16, .f32⟩
  | 4 => ⟨S32x64x16, .f32⟩
  | 5 => ⟨S32x16x64, .f32⟩
  | 6 => ⟨S32x16x64, .f32⟩
  | 7 => ⟨S32, .f32⟩
  | 8 => ⟨S32x1, .f32⟩
  | 9 => ⟨S32x64, .f32⟩
  | 10 => ⟨S32x64, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S_, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S_, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S32x64x1, .f32⟩
  | 38 => ⟨S32x64x16, .f32⟩
  | 39 => ⟨S32x64x16, .f32⟩
  | 40 => ⟨S32x64x1, .f32⟩
  | 41 => ⟨S32x64x16, .f32⟩
  | 42 => ⟨S32x64x16, .f32⟩
  | 43 => ⟨S32x64x16, .f32⟩
  | 44 => ⟨S32x64x1, .f32⟩
  | 45 => ⟨S32x64x16, .f32⟩
  | 46 => ⟨S32x64x16, .f32⟩
  | 47 => ⟨S32x64x1, .f32⟩
  | 48 => ⟨S32x64x16, .f32⟩
  | 49 => ⟨S32x64x16, .f32⟩
  | 50 => ⟨S32x64x16, .f32⟩
  | 51 => ⟨S_, .f32⟩
  | 52 => ⟨S32x64, .f32⟩
  | 53 => ⟨S_, .f32⟩
  | 54 => ⟨S32x64, .f32⟩
  | 55 => ⟨S_, .f32⟩
  | 56 => ⟨S16x32x64x16, .f32⟩
  | 57 => ⟨S_, .f32⟩
  | 58 => ⟨S16x32x64x16, .f32⟩
  | 59 => ⟨S_, .f32⟩
  | 60 => ⟨S16x32x64, .f32⟩
  | 61 => ⟨S_, .f32⟩
  | 62 => ⟨S16x32x64, .f32⟩
  | 63 => ⟨S_, .i32⟩
  | 64 => ⟨S32x64, .f32⟩
  | 65 => ⟨S32x64, .f32⟩
  | 66 => ⟨S_, .i32⟩
  | 67 => ⟨S32x64x16, .f32⟩
  | 68 => ⟨S32x64x16, .f32⟩
  | 69 => ⟨S32x64, .f32⟩
  | 70 => ⟨S32x64, .f32⟩
  | 71 => ⟨S16x32x64x16, .f32⟩
  | 72 => ⟨S16x32x64x16, .f32⟩
  | 73 => ⟨S16x32x64, .f32⟩
  | 74 => ⟨S16x32x64, .f32⟩
  | 75 => ⟨S_, .i32⟩
  | 76 => ⟨S_, .i1⟩
  | 77 => ⟨S32x64x1, .f32⟩
  | 78 => ⟨S32x64x16, .f32⟩
  | 79 => ⟨S32x64x16, .f32⟩
  | 80 => ⟨S32x64x1, .f32⟩
  | 81 => ⟨S32x64x16, .f32⟩
  | 82 => ⟨S32x64x16, .f32⟩
  | 83 => ⟨S32x64x16, .f32⟩
  | 84 => ⟨S32x64x1, .f32⟩
  | 85 => ⟨S32x64x16, .f32⟩
  | 86 => ⟨S32x64x16, .f32⟩
  | 87 => ⟨S32x64x1, .f32⟩
  | 88 => ⟨S32x64x16, .f32⟩
  | 89 => ⟨S32x64x16, .f32⟩
  | 90 => ⟨S32x64x16, .f32⟩
  | 91 => ⟨S32x64, .f32⟩
  | 92 => ⟨S32x64, .f32⟩
  | 93 => ⟨S32x64, .f32⟩
  | 94 => ⟨S32x64, .f32⟩
  | 95 => ⟨S32x64, .f32⟩
  | 96 => ⟨S32x64, .f32⟩
  | 97 => ⟨S1x32x64x16, .f32⟩
  | 98 => ⟨S_, .i32⟩
  | 99 => ⟨S_, .i32⟩
  | 100 => ⟨S_, .i32⟩
  | 101 => ⟨S16x32x64x16, .f32⟩
  | 102 => ⟨S1x32x64x16, .f32⟩
  | 103 => ⟨S_, .i32⟩
  | 104 => ⟨S_, .i32⟩
  | 105 => ⟨S_, .i32⟩
  | 106 => ⟨S16x32x64x16, .f32⟩
  | 107 => ⟨S1x32x64, .f32⟩
  | 108 => ⟨S_, .i32⟩
  | 109 => ⟨S_, .i32⟩
  | 110 => ⟨S16x32x64, .f32⟩
  | 111 => ⟨S1x32x64, .f32⟩
  | 112 => ⟨S_, .i32⟩
  | 113 => ⟨S_, .i32⟩
  | 114 => ⟨S16x32x64, .f32⟩
  | 115 => ⟨S_, .i32⟩
  | 116 => ⟨S_, .i32⟩
  | 117 => ⟨S32x16x16x16, .f32⟩
  | 118 => ⟨S16x32x16x16, .f32⟩
  | 119 => ⟨S32x16x16x16, .f32⟩
  | 120 => ⟨S16x32x16x16, .f32⟩
  | 121 => ⟨S16x32x16x16, .f32⟩
  | 122 => ⟨S16, .i32⟩
  | 123 => ⟨S16x1x1, .i32⟩
  | 124 => ⟨S16, .i32⟩
  | 125 => ⟨S1x16x1, .i32⟩
  | 126 => ⟨S16, .i32⟩
  | 127 => ⟨S1x1x16, .i32⟩
  | _ => ⟨S32x64, .f32⟩

abbrev hbmTy0_1 (i : Nat) : BufTy := match i % 128 with
  | 0 => ⟨S1x16x16, .i32⟩
  | 1 => ⟨S1x16x16, .i32⟩
  | 2 => ⟨S1x16x16, .i32⟩
  | 3 => ⟨S16x16x16, .i32⟩
  | 4 => ⟨S16x16x16, .i32⟩
  | 5 => ⟨S16x16x16, .i1⟩
  | 6 => ⟨S16x16x16, .f32⟩
  | 7 => ⟨S32x16x16x16x16, .f32⟩
  | 8 => ⟨S32x16x16x16x16, .f32⟩
  | 9 => ⟨S32x256x256, .f32⟩
  | 10 => ⟨S16x32x128x16, .f32⟩
  | 11 => ⟨S16x32x128x16, .f32⟩
  | 12 => ⟨S32x128x16x16, .f32⟩
  | 13 => ⟨S32x128x256, .f32⟩
  | 14 => ⟨S16x32x1x64, .f32⟩
  | 15 => ⟨S1x32x16x64, .f32⟩
  | 16 => ⟨S16x32x16x64, .f32⟩
  | 17 => ⟨S16x32x16x64, .f32⟩
  | 18 => ⟨S16x32x16x64, .f32⟩
  | 19 => ⟨S16x32x1x64, .f32⟩
  | 20 => ⟨S1x32x16x64, .f32⟩
  | 21 => ⟨S16x32x16x64, .f32⟩
  | 22 => ⟨S16x32x16x64, .f32⟩
  | 23 => ⟨S16x32x16x64, .f32⟩
  | 24 => ⟨S16x32x16x64, .f32⟩
  | 25 => ⟨S16x32x1x64, .f32⟩
  | 26 => ⟨S1x32x16x64, .f32⟩
  | 27 => ⟨S16x32x16x64, .f32⟩
  | 28 => ⟨S16x32x16x64, .f32⟩
  | 29 => ⟨S16x32x16x64, .f32⟩
  | 30 => ⟨S16x32x1x64, .f32⟩
  | 31 => ⟨S1x32x16x64, .f32⟩
  | 32 => ⟨S16x32x16x64, .f32⟩
  | 33 => ⟨S16x32x16x64, .f32⟩
  | 34 => ⟨S16x32x16x64, .f32⟩
  | 35 => ⟨S16x32x16x64, .f32⟩
  | 36 => ⟨S16x32x16x64, .f32⟩
  | 37 => ⟨S16x32x16x128, .f32⟩
  | 38 => ⟨S32x16x16x128, .f32⟩
  | 39 => ⟨S32x256x128, .f32⟩
  | 40 => ⟨S32x384x256, .f32⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_1 : Ref sig .tc := ⟨.hbm, 51, rfl⟩
abbrev main_v42 : Ref sig .tc := ⟨.hbm, 52, rfl⟩
abbrev main_cst_2 : Ref sig .tc := ⟨.hbm, 53, rfl⟩
abbrev main_v43 : Ref sig .tc := ⟨.hbm, 54, rfl⟩
abbrev main_cst_3 : Ref sig .tc := ⟨.hbm, 55, rfl⟩
abbrev main_v44 : Ref sig .tc := ⟨.hbm, 56, rfl⟩
abbrev main_cst_4 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_c : Ref sig .tc := ⟨.hbm, 63, rfl⟩
abbrev main_v48_0 : Ref sig .tc := ⟨.hbm, 64, rfl⟩
abbrev main_v48_1 : Ref sig .tc := ⟨.hbm, 65, rfl⟩
abbrev main_v48_2 : Ref sig .tc := ⟨.hbm, 66, rfl⟩
abbrev main_v48_3 : Ref sig .tc := ⟨.hbm, 67, rfl⟩
abbrev main_v48_4 : Ref sig .tc := ⟨.hbm, 68, rfl⟩
abbrev main_v48_5 : Ref sig .tc := ⟨.hbm, 69, rfl⟩
abbrev main_v48_6 : Ref sig .tc := ⟨.hbm, 70, rfl⟩
abbrev main_v48_7 : Ref sig .tc := ⟨.hbm, 71, rfl⟩
abbrev main_v48_8 : Ref sig .tc := ⟨.hbm, 72, rfl⟩
abbrev main_v48_9 : Ref sig .tc := ⟨.hbm, 73, rfl⟩
abbrev main_v48_10 : Ref sig .tc := ⟨.hbm, 74, rfl⟩
abbrev main_while0c_c_17 : Ref sig .tc := ⟨.hbm, 75, rfl⟩
abbrev main_while0c_v101 : Ref sig .tc := ⟨.hbm, 76, rfl⟩
abbrev main_while0b_v101 : Ref sig .tc := ⟨.hbm, 77, rfl⟩
abbrev main_while0b_v102 : Ref sig .tc := ⟨.hbm, 78, rfl⟩
abbrev main_while0b_v103 : Ref sig .tc := ⟨.hbm, 79, rfl⟩
abbrev main_while0b_v104 : Ref sig .tc := ⟨.hbm, 80, rfl⟩
abbrev main_while0b_v105 : Ref sig .tc := ⟨.hbm, 81, rfl⟩
abbrev main_while0b_v106 : Ref sig .tc := ⟨.hbm, 82, rfl⟩
abbrev main_while0b_v107 : Ref sig .tc := ⟨.hbm, 83, rfl⟩
abbrev main_while0b_v108 : Ref sig .tc := ⟨.hbm, 84, rfl⟩
abbrev main_while0b_v109 : Ref sig .tc := ⟨.hbm, 85, rfl⟩
abbrev main_while0b_v110 : Ref sig .tc := ⟨.hbm, 86, rfl⟩
abbrev main_while0b_v111 : Ref sig .tc := ⟨.hbm, 87, rfl⟩
abbrev main_while0b_v112 : Ref sig .tc := ⟨.hbm, 88, rfl⟩
abbrev main_while0b_v113 : Ref sig .tc := ⟨.hbm, 89, rfl⟩
abbrev main_while0b_v114 : Ref sig .tc := ⟨.hbm, 90, rfl⟩
abbrev main_while0b_v115 : Ref sig .tc := ⟨.hbm, 91, rfl⟩
abbrev main_while0b_v116 : Ref sig .tc := ⟨.hbm, 92, rfl⟩
abbrev main_while0b_v117 : Ref sig .tc := ⟨.hbm, 93, rfl⟩
abbrev main_while0b_v118 : Ref sig .tc := ⟨.hbm, 94, rfl⟩
abbrev main_while0b_v119 : Ref sig .tc := ⟨.hbm, 95, rfl⟩
abbrev main_while0b_v120 : Ref sig .tc := ⟨.hbm, 96, rfl⟩
abbrev main_while0b_call0_v0 : Ref sig .tc := ⟨.hbm, 97, rfl⟩
abbrev main_while0b_call0_c : Ref sig .tc := ⟨.hbm, 98, rfl⟩
abbrev main_while0b_call0_c_0 : Ref sig .tc := ⟨.hbm, 99, rfl⟩
abbrev main_while0b_call0_c_1 : Ref sig .tc := ⟨.hbm, 100, rfl⟩
abbrev main_while0b_v121 : Ref sig .tc := ⟨.hbm, 101, rfl⟩
abbrev main_while0b_call1_v0 : Ref sig .tc := ⟨.hbm, 102, rfl⟩
abbrev main_while0b_call1_c : Ref sig .tc := ⟨.hbm, 103, rfl⟩
abbrev main_while0b_call1_c_0 : Ref sig .tc := ⟨.hbm, 104, rfl⟩
abbrev main_while0b_call1_c_1 : Ref sig .tc := ⟨.hbm, 105, rfl⟩
abbrev main_while0b_v122 : Ref sig .tc := ⟨.hbm, 106, rfl⟩
abbrev main_while0b_call2_v0 : Ref sig .tc := ⟨.hbm, 107, rfl⟩
abbrev main_while0b_call2_c : Ref sig .tc := ⟨.hbm, 108, rfl⟩
abbrev main_while0b_call2_c_0 : Ref sig .tc := ⟨.hbm, 109, rfl⟩
abbrev main_while0b_v123 : Ref sig .tc := ⟨.hbm, 110, rfl⟩
abbrev main_while0b_call3_v0 : Ref sig .tc := ⟨.hbm, 111, rfl⟩
abbrev main_while0b_call3_c : Ref sig .tc := ⟨.hbm, 112, rfl⟩
abbrev main_while0b_call3_c_0 : Ref sig .tc := ⟨.hbm, 113, rfl⟩
abbrev main_while0b_v124 : Ref sig .tc := ⟨.hbm, 114, rfl⟩
abbrev main_while0b_c_17 : Ref sig .tc := ⟨.hbm, 115, rfl⟩
abbrev main_while0b_v125 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩

abbrev nD : Nat := 1
abbrev τ : Topo := Topo.v7x

variable {F : FTy → Type} [FloatOps F]

abbrev main_while0_count : Scf.Loop 32 := ⟨0#32, 16#32, 1#32⟩
-- ==== Proof.KernelIdealFrame.lean ====
/- The body of the mixing call, run once at a generic grid point, and the frame of `KernelIdeal` from it: what the two output
   windows hold after the body is named (`hOut`: the normalised rows, written by eight strided stores; `routeOut`: the
   routing lanes, one store), every input block is left in place. -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Pipeline.FrameBody
public import Idealize.ShloMosaic.Lib.Pipeline.Value
public import Idealize.ShloMosaic.Lib.Tactic

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the body computes, from the input blocks -/

/-- The normalised rows `h` of the block. -/
def hRows (x0 : Vec F S1x512x1024 .bf16) (x1 : Vec F S1x512x512 .bf16) (x2 : Vec F S1x512x512 .bf16) (x3 : Vec F S1024x2048 .bf16) (x4 : Vec F S1x2048 .f32) (x5 : Vec F S512x2048 .bf16) (x6 : Vec F S1x2048 .f32) (x7 : Vec F S512x1024 .bf16) (x8 : Vec F S1x1024 .f32) (x9 : Vec F S1024x1024 .bf16) (x10 : Vec F S1x1024 .f32) (x11 : Vec F S1x1024 .f32) (x12 : Vec F S1x1024 .f32) (x13 : Vec F S1024x128 .bf16) (x14 : Vec F S1024x128 .bf16) (x15 : Vec F S1x128 .f32) : FVec F S512x1024 .f32 :=
  k0_pay6 (k0_pay2 (View.ld x2 (Rect.unit (s := S1x512x512) ![0, 0, 0] S1x512x512.size inb_S1x512x512_S1x512x512_0_0_0)) (View.ld x7 (Rect.unit (s := S512x1024) ![0, 0] S512x1024.size inb_S512x1024_S512x1024_0_0)) (View.ld x8 (Rect.unit (s := S1x1024) ![0, 0] S1x1024.size inb_S1x1024_S1x1024_0_0))) (k0_pay3 (View.ld x0 (Rect.unit (s := S1x512x1024) ![0, 0, 0] S1x512x1024.size inb_S1x512x1024_S1x512x1024_0_0_0))) (k0_pay4 (View.ld x0 (Rect.unit (s := S1x512x1024) ![0, 0, 0] S1x512x1024.size inb_S1x512x1024_S1x512x1024_0_0_0)) (View.ld x3 (Rect.unit (s := S1024x2048) ![0, 0] S1024x2048.size inb_S1024x2048_S1024x2048_0_0)) (View.ld x4 (Rect.unit (s := S1x2048) ![0, 0] S1x2048.size inb_S1x2048_S1x2048_0_0)))
    (k0_pay5 (View.ld x1 (Rect.unit (s := S1x512x512) ![0, 0, 0] S1x512x512.size inb_S1x512x512_S1x512x512_0_0_0)) (View.ld x5 (Rect.unit (s := S512x2048) ![0, 0] S512x2048.size inb_S512x2048_S512x2048_0_0)) (View.ld x6 (Rect.unit (s := S1x2048) ![0, 0] S1x2048.size inb_S1x2048_S1x2048_0_0)) (View.ld x0 (Rect.unit (s := S1x512x1024) ![0, 0, 0] S1x512x1024.size inb_S1x512x1024_S1x512x1024_0_0_0)) (View.ld x3 (Rect.unit (s := S1024x2048) ![0, 0] S1024x2048.size inb_S1024x2048_S1024x2048_0_0)) (View.ld x4 (Rect.unit (s := S1x2048) ![0, 0] S1x2048.size inb_S1x2048_S1x2048_0_0))) (View.ld x9 (Rect.unit (s := S1024x1024) ![0, 0] S1024x1024.size inb_S1024x1024_S1024x1024_0_0)) (View.ld x10 (Rect.unit (s := S1x1024) ![0, 0] S1x1024.size inb_S1x1024_S1x1024_0_0)) (View.ld x11 (Rect.unit (s := S1x1024) ![0, 0] S1x1024.size inb_S1x1024_S1x1024_0_0)) (View.ld x12 (Rect.unit (s := S1x1024) ![0, 0] S1x1024.size inb_S1x1024_S1x1024_0_0))

/-- The routing scores of the block, in the lanes of the combined table. -/
def zRows (h : FVec F S512x1024 .f32) (x13 : Vec F S1024x128 .bf16) (x14 : Vec F S1024x128 .bf16) (x15 : Vec F S1x128 .f32) : FVec F S512x128 .f32 :=
  k0_pay17 h (k0_pay16 h) (View.ld x13 (Rect.unit (s := S1024x128) ![0, 0] S1024x128.size inb_S1024x128_S1024x128_0_0)) (View.ld x13 (Rect.unit (s := S1024x128) ![0, 0] S1024x128.size inb_S1024x128_S1024x128_0_0)) (View.ld x14 (Rect.unit (s := S1024x128) ![0, 0] S1024x128.size inb_S1024x128_S1024x128_0_0)) (View.ld x15 (Rect.unit (s := S1x128) ![0, 0] S1x128.size inb_S1x128_S1x128_0_0))

/-- The routing lanes of the block, from its rows `h` and the routing weights. -/
def routeRows (h : FVec F S512x1024 .f32) (x13 : Vec F S1024x128 .bf16) (x14 : Vec F S1024x128 .bf16) (x15 : Vec F S1x128 .f32) : FVec F S512x128 .f32 :=
  k0_pay40 (iota .tc S512x128 32 [1] iota_S512x128_d1_w32) (k0_pay22 h (k0_pay16 h) (View.ld x13 (Rect.unit (s := S1024x128) ![0, 0] S1024x128.size inb_S1024x128_S1024x128_0_0)) (View.ld x13 (Rect.unit (s := S1024x128) ![0, 0] S1024x128.size inb_S1024x128_S1024x128_0_0)) (View.ld x14 (Rect.unit (s := S1024x128) ![0, 0] S1024x128.size inb_S1024x128_S1024x128_0_0)) (View.ld x15 (Rect.unit (s := S1x128) ![0, 0] S1x128.size inb_S1x128_S1x128_0_0)))
    (k0_pay26 (k0_pay22 h (k0_pay16 h) (View.ld x13 (Rect.unit (s := S1024x128) ![0, 0] S1024x128.size inb_S1024x128_S1024x128_0_0)) (View.ld x13 (Rect.unit (s := S1024x128) ![0, 0] S1024x128.size inb_S1024x128_S1024x128_0_0)) (View.ld x14 (Rect.unit (s := S1024x128) ![0, 0] S1024x128.size inb_S1024x128_S1024x128_0_0)) (View.ld x15 (Rect.unit (s := S1x128) ![0, 0] S1x128.size inb_S1x128_S1x128_0_0))))
    (k0_pay30 (zRows h x13 x14 x15) k0_pay18 (k0_pay22 h (k0_pay16 h) (View.ld x13 (Rect.unit (s := S1024x128) ![0, 0] S1024x128.size inb_S1024x128_S1024x128_0_0)) (View.ld x13 (Rect.unit (s := S1024x128) ![0, 0] S1024x128.size inb_S1024x128_S1024x128_0_0)) (View.ld x14 (Rect.unit (s := S1024x128) ![0, 0] S1024x128.size inb_S1024x128_S1024x128_0_0)) (View.ld x15 (Rect.unit (s := S1x128) ![0, 0] S1x128.size inb_S1x128_S1x128_0_0))))
    (k0_pay34 (zRows h x13 x14 x15) k0_pay18 (k0_pay22 h (k0_pay16 h) (View.ld x13 (Rect.unit (s := S1024x128) ![0, 0] S1024x128.size inb_S1024x128_S1024x128_0_0)) (View.ld x13 (Rect.unit (s := S1024x128) ![0, 0] S1024x128.size inb_S1024x128_S1024x128_0_0)) (View.ld x14 (Rect.unit (s := S1024x128) ![0, 0] S1024x128.size inb_S1024x128_S1024x128_0_0)) (View.ld x15 (Rect.unit (s := S1x128) ![0, 0] S1x128.size inb_S1x128_S1x128_0_0))))
    (k0_pay37 (zRows h x13 x14 x15) k0_pay18 (k0_pay22 h (k0_pay16 h) (View.ld x13 (Rect.unit (s := S1024x128) ![0, 0] S1024x128.size inb_S1024x128_S1024x128_0_0)) (View.ld x13 (Rect.unit (s := S1024x128) ![0, 0] S1024x128.size inb_S1024x128_S1024x128_0_0)) (View.ld x14 (Rect.unit (s := S1024x128) ![0, 0] S1024x128.size inb_S1024x128_S1024x128_0_0)) (View.ld x15 (Rect.unit (s := S1x128) ![0, 0] S1x128.size inb_S1x128_S1x128_0_0))) (k0_pay23 h (k0_pay16 h) (View.ld x13 (Rect.unit (s := S1024x128) ![0, 0] S1024x128.size inb_S1024x128_S1024x128_0_0)) (View.ld x13 (Rect.unit (s := S1024x128) ![0, 0] S1024x128.size inb_S1024x128_S1024x128_0_0)) (View.ld x14 (Rect.unit (s := S1024x128) ![0, 0] S1024x128.size inb_S1024x128_S1024x128_0_0)) (View.ld x15 (Rect.unit (s := S1x128) ![0, 0] S1x128.size inb_S1x128_S1x128_0_0))) k0_pay24)
    (k0_pay38 (zRows h x13 x14 x15) k0_pay18 (k0_pay22 h (k0_pay16 h) (View.ld x13 (Rect.unit (s := S1024x128) ![0, 0] S1024x128.size inb_S1024x128_S1024x128_0_0)) (View.ld x13 (Rect.unit (s := S1024x128) ![0, 0] S1024x128.size inb_S1024x128_S1024x128_0_0)) (View.ld x14 (Rect.unit (s := S1024x128) ![0, 0] S1024x128.size inb_S1024x128_S1024x128_0_0)) (View.ld x15 (Rect.unit (s := S1x128) ![0, 0] S1x128.size inb_S1x128_S1x128_0_0))) (k0_pay23 h (k0_pay16 h) (View.ld x13 (Rect.unit (s := S1024x128) ![0, 0] S1024x128.size inb_S1024x128_S1024x128_0_0)) (View.ld x13 (Rect.unit (s := S1024x128) ![0, 0] S1024x128.size inb_S1024x128_S1024x128_0_0)) (View.ld x14 (Rect.unit (s := S1024x128) ![0, 0] S1024x128.size inb_S1024x128_S1024x128_0_0)) (View.ld x15 (Rect.unit (s := S1x128) ![0, 0] S1x128.size inb_S1x128_S1x128_0_0))) k0_pay24)
    (k0_pay39 (zRows h x13 x14 x15) k0_pay18 (k0_pay22 h (k0_pay16 h) (View.ld x13 (Rect.unit (s := S1024x128) ![0, 0] S1024x128.size inb_S1024x128_S1024x128_0_0)) (View.ld x13 (Rect.unit (s := S1024x128) ![0, 0] S1024x128.size inb_S1024x128_S1024x128_0_0)) (View.ld x14 (Rect.unit (s := S1024x128) ![0, 0] S1024x128.size inb_S1024x128_S1024x128_0_0)) (View.ld x15 (Rect.unit (s := S1x128) ![0, 0] S1x128.size inb_S1x128_S1x128_0_0))))
/-- The rows that lane chunk 0 is stored to: row 0 of every token's eight. -/
abbrev rh0 : Rect S1x4096x128 := ⟨(⟨![0, 0, 0], S1x512x128.size, ![1, 8, 1], inb_S1x4096x128_S1x512x128_0_0_0_s_1_8_1⟩ : LoadRect S1x4096x128), spos_1_8_1⟩
/-- The rows that lane chunk 1 is stored to: row 1 of every token's eight. -/
abbrev rh1 : Rect S1x4096x128 := ⟨(⟨![0, 1, 0], S1x512x128.size, ![1, 8, 1], inb_S1x4096x128_S1x512x128_0_1_0_s_1_8_1⟩ : LoadRect S1x4096x128), spos_1_8_1⟩
/-- The rows that lane chunk 2 is stored to: row 2 of every token's eight. -/
abbrev rh2 : Rect S1x4096x128 := ⟨(⟨![0, 2, 0], S1x512x128.size, ![1, 8, 1], inb_S1x4096x128_S1x512x128_0_2_0_s_1_8_1⟩ : LoadRect S1x4096x128), spos_1_8_1⟩
/-- The rows that lane chunk 3 is stored to: row 3 of every token's eight. -/
abbrev rh3 : Rect S1x4096x128 := ⟨(⟨![0, 3, 0], S1x512x128.size, ![1, 8, 1], inb_S1x4096x128_S1x512x128_0_3_0_s_1_8_1⟩ : LoadRect S1x4096x128), spos_1_8_1⟩
/-- The rows that lane chunk 4 is stored to: row 4 of every token's eight. -/
abbrev rh4 : Rect S1x4096x128 := ⟨(⟨![0, 4, 0], S1x512x128.size, ![1, 8, 1], inb_S1x4096x128_S1x512x128_0_4_0_s_1_8_1⟩ : LoadRect S1x4096x128), spos_1_8_1⟩
/-- The rows that lane chunk 5 is stored to: row 5 of every token's eight. -/
abbrev rh5 : Rect S1x4096x128 := ⟨(⟨![0, 5, 0], S1x512x128.size, ![1, 8, 1], inb_S1x4096x128_S1x512x128_0_5_0_s_1_8_1⟩ : LoadRect S1x4096x128), spos_1_8_1⟩
/-- The rows that lane chunk 6 is stored to: row 6 of every token's eight. -/
abbrev rh6 : Rect S1x4096x128 := ⟨(⟨![0, 6, 0], S1x512x128.size, ![1, 8, 1], inb_S1x4096x128_S1x512x128_0_6_0_s_1_8_1⟩ : LoadRect S1x4096x128), spos_1_8_1⟩
/-- The rows that lane chunk 7 is stored to: row 7 of every token's eight. -/
abbrev rh7 : Rect S1x4096x128 := ⟨(⟨![0, 7, 0], S1x512x128.size, ![1, 8, 1], inb_S1x4096x128_S1x512x128_0_7_0_s_1_8_1⟩ : LoadRect S1x4096x128), spos_1_8_1⟩
/-- The pieces of the first output window, the last store first. -/
def hPieces (h : FVec F S512x1024 .f32) (h0 : FVec F S512x128 .f32) : List (View.Piece (Elt F) S1x4096x128 .f32) :=
  [⟨rh7, k0_pay15 h⟩, ⟨rh6, k0_pay14 h⟩, ⟨rh5, k0_pay13 h⟩, ⟨rh4, k0_pay12 h⟩, ⟨rh3, k0_pay11 h⟩, ⟨rh2, k0_pay10 h⟩, ⟨rh1, k0_pay9 h⟩, ⟨rh0, k0_pay8 h0⟩]

/-- The first output window after the body. -/
def hOut (x0 : Vec F S1x512x1024 .bf16) (x1 : Vec F S1x512x512 .bf16) (x2 : Vec F S1x512x512 .bf16) (x3 : Vec F S1024x2048 .bf16) (x4 : Vec F S1x2048 .f32) (x5 : Vec F S512x2048 .bf16) (x6 : Vec F S1x2048 .f32) (x7 : Vec F S512x1024 .bf16) (x8 : Vec F S1x1024 .f32) (x9 : Vec F S1024x1024 .bf16) (x10 : Vec F S1x1024 .f32) (x11 : Vec F S1x1024 .f32) (x12 : Vec F S1x1024 .f32) (x13 : Vec F S1024x128 .bf16) (x14 : Vec F S1024x128 .bf16) (x15 : Vec F S1x128 .f32) : Vec F S1x4096x128 .f32 :=
  View.canon (hPieces (hRows x0 x1 x2 x3 x4 x5 x6 x7 x8 x9 x10 x11 x12 x13 x14 x15) (k0_pay7 (k0_pay2 (View.ld x2 (Rect.unit (s := S1x512x512) ![0, 0, 0] S1x512x512.size inb_S1x512x512_S1x512x512_0_0_0)) (View.ld x7 (Rect.unit (s := S512x1024) ![0, 0] S512x1024.size inb_S512x1024_S512x1024_0_0)) (View.ld x8 (Rect.unit (s := S1x1024) ![0, 0] S1x1024.size inb_S1x1024_S1x1024_0_0))) (k0_pay3 (View.ld x0 (Rect.unit (s := S1x512x1024) ![0, 0, 0] S1x512x1024.size inb_S1x512x1024_S1x512x1024_0_0_0))) (k0_pay4 (View.ld x0 (Rect.unit (s := S1x512x1024) ![0, 0, 0] S1x512x1024.size inb_S1x512x1024_S1x512x1024_0_0_0)) (View.ld x3 (Rect.unit (s := S1024x2048) ![0, 0] S1024x2048.size inb_S1024x2048_S1024x2048_0_0)) (View.ld x4 (Rect.unit (s := S1x2048) ![0, 0] S1x2048.size inb_S1x2048_S1x2048_0_0)))
    (k0_pay5 (View.ld x1 (Rect.unit (s := S1x512x512) ![0, 0, 0] S1x512x512.size inb_S1x512x512_S1x512x512_0_0_0)) (View.ld x5 (Rect.unit (s := S512x2048) ![0, 0] S512x2048.size inb_S512x2048_S512x2048_0_0)) (View.ld x6 (Rect.unit (s := S1x2048) ![0, 0] S1x2048.size inb_S1x2048_S1x2048_0_0)) (View.ld x0 (Rect.unit (s := S1x512x1024) ![0, 0, 0] S1x512x1024.size inb_S1x512x1024_S1x512x1024_0_0_0)) (View.ld x3 (Rect.unit (s := S1024x2048) ![0, 0] S1024x2048.size inb_S1024x2048_S1024x2048_0_0)) (View.ld x4 (Rect.unit (s := S1x2048) ![0, 0] S1x2048.size inb_S1x2048_S1x2048_0_0))) (View.ld x9 (Rect.unit (s := S1024x1024) ![0, 0] S1024x1024.size inb_S1024x1024_S1024x1024_0_0)) (View.ld x10 (Rect.unit (s := S1x1024) ![0, 0] S1x1024.size inb_S1x1024_S1x1024_0_0)) (View.ld x11 (Rect.unit (s := S1x1024) ![0, 0] S1x1024.size inb_S1x1024_S1x1024_0_0)) (View.ld x12 (Rect.unit (s := S1x1024) ![0, 0] S1x1024.size inb_S1x1024_S1x1024_0_0))))

/-- The second output window after the body. -/
def routeOut (x0 : Vec F S1x512x1024 .bf16) (x1 : Vec F S1x512x512 .bf16) (x2 : Vec F S1x512x512 .bf16) (x3 : Vec F S1024x2048 .bf16) (x4 : Vec F S1x2048 .f32) (x5 : Vec F S512x2048 .bf16) (x6 : Vec F S1x2048 .f32) (x7 : Vec F S512x1024 .bf16) (x8 : Vec F S1x1024 .f32) (x9 : Vec F S1024x1024 .bf16) (x10 : Vec F S1x1024 .f32) (x11 : Vec F S1x1024 .f32) (x12 : Vec F S1x1024 .f32) (x13 : Vec F S1024x128 .bf16) (x14 : Vec F S1024x128 .bf16) (x15 : Vec F S1x128 .f32) : Vec F S1x512x128 .f32 :=
  k0_pay1 (routeRows (hRows x0 x1 x2 x3 x4 x5 x6 x7 x8 x9 x10 x11 x12 x13 x14 x15) x13 x14 x15)

/-- Row `8·q + s` lies in the rows of lane chunk `s`. -/
theorem mem_strided (s : Nat) (hs : s < 8) (inb) (sp) (y : S1x4096x128.Idx) (h : (y 1).val % 8 = s) :
    y ∈ (⟨(⟨![0, s, 0], S1x512x128.size, ![1, 8, 1], inb⟩ : LoadRect S1x4096x128), sp⟩ : Rect S1x4096x128).set := by
  have h0 : (y 0).val < 1 := (y 0).isLt
  have h1 : (y 1).val < 4096 := (y 1).isLt
  have h2 : (y 2).val < 128 := (y 2).isLt
  refine (LoadRect.mem_set _).mpr fun a => ?_
  match a with
  | ⟨0, _⟩ => exact ⟨0, by show 0 < 1; omega, by show (y 0).val = 0 + 1 * 0; omega⟩
  | ⟨1, _⟩ => exact ⟨(y 1).val / 8, by show (y 1).val / 8 < 512; omega, by show (y 1).val = s + 8 * ((y 1).val / 8); omega⟩
  | ⟨2, _⟩ => exact ⟨(y 2).val, by show (y 2).val < 128; omega, by show (y 2).val = 0 + 1 * (y 2).val; omega⟩

/-- The zero offsets of a rank-3 store. -/
theorem zeros3 : (![0, 0, 0] : Fin 3 → Nat) = fun _ => 0 := by funext a; fin_cases a <;> rfl

/-- The eight stores cover the first output window. -/
theorem hPieces_cover (h : FVec F S512x1024 .f32) (h0 : FVec F S512x128 .f32) (y : S1x4096x128.Idx) :
    ∃ pc ∈ hPieces h h0, y ∈ pc.1.set := by
  have hm : (y 1).val % 8 < 8 := Nat.mod_lt _ (by omega)
  unfold hPieces
  generalize hq : (y 1).val % 8 = q at hm
  have hd : q = 0 ∨ q = 1 ∨ q = 2 ∨ q = 3 ∨ q = 4 ∨ q = 5 ∨ q = 6 ∨ q = 7 := by omega
  rcases hd with h' | h' | h' | h' | h' | h' | h' | h' <;> subst h'
  · exact ⟨_, .tail _ (.tail _ (.tail _ (.tail _ (.tail _ (.tail _ (.tail _ (.head _))))))), mem_strided 0 (by omega) _ _ y hq⟩
  · exact ⟨_, .tail _ (.tail _ (.tail _ (.tail _ (.tail _ (.tail _ (.head _)))))), mem_strided 1 (by omega) _ _ y hq⟩
  · exact ⟨_, .tail _ (.tail _ (.tail _ (.tail _ (.tail _ (.head _))))), mem_strided 2 (by omega) _ _ y hq⟩
  · exact ⟨_, .tail _ (.tail _ (.tail _ (.tail _ (.head _)))), mem_strided 3 (by omega) _ _ y hq⟩
  · exact ⟨_, .tail _ (.tail _ (.tail _ (.head _))), mem_strided 4 (by omega) _ _ y hq⟩
  · exact ⟨_, .tail _ (.tail _ (.head _)), mem_strided 5 (by omega) _ _ y hq⟩
  · exact ⟨_, .tail _ (.head _), mem_strided 6 (by omega) _ _ y hq⟩
  · exact ⟨_, .head _, mem_strided 7 (by omega) _ _ y hq⟩

/-! ## The body's triple -/

set_option maxHeartbeats 4000000 in
/-- The body on whole staging buffers, the inputs at contents `xW`, runs and leaves the inputs as they were and the two
    outputs at `hOut` and `routeOut`. -/
theorem sound_kernel (c : Dev nD) (E : Set ℕ) (i : grid0.Coords) (arg2 : Memref sig .tc .vmem S1x512x1024 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x1024 .bf16) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x128 .bf16) (harg15 : arg15.IsWhole) (arg16 : Memref sig .tc .vmem S1024x128 .bf16) (harg16 : arg16.IsWhole) (arg17 : Memref sig .tc .vmem S1x128 .f32) (harg17 : arg17.IsWhole) (arg18 : Memref sig .tc .vmem S1x4096x128 .f32) (harg18 : arg18.IsWhole) (arg19 : Memref sig .tc .vmem S1x512x128 .f32) (harg19 : arg19.IsWhole)
    (x0 : Vec F S1x512x1024 .bf16) (x1 : Vec F S1x512x512 .bf16) (x2 : Vec F S1x512x512 .bf16) (x3 : Vec F S1024x2048 .bf16) (x4 : Vec F S1x2048 .f32) (x5 : Vec F S512x2048 .bf16) (x6 : Vec F S1x2048 .f32) (x7 : Vec F S512x1024 .bf16) (x8 : Vec F S1x1024 .f32) (x9 : Vec F S1024x1024 .bf16) (x10 : Vec F S1x1024 .f32) (x11 : Vec F S1x1024 .f32) (x12 : Vec F S1x1024 .f32) (x13 : Vec F S1024x128 .bf16) (x14 : Vec F S1024x128 .bf16) (x15 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare (hOut x0 x1 x2 x3 x4 x5 x6 x7 x8 x9 x10 x11 x12 x13 x14 x15) ∗ owns (c : Thread nD τ) arg19 fullShare (routeOut x0 x1 x2 x3 x4 x5 x6 x7 x8 x9 x10 x11 x12 x13 x14 x15)) -∗ K ⟨⟩))
      ⊢ wp frame (wpE (defs₀ (F := F)) Variants.none c none) E (cc0_mix i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_mix_eq_skeleton]; unfold cc0_mix_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    refine (View.read_writes_eq_canon _ _ _ (hPieces_cover _ _)).trans ?_
    rfl
  iexists _; isplitr
  swap; · iexact H17
  ipureintro
  refine (View.read_writes_eq_canon _ _ _ (fun y => ⟨_, List.mem_singleton.mpr rfl, View.mem_set_unit_zero (S := S1x512x128) zeros3 inb_S1x512x128_S1x512x128_0_0_0 y⟩)).trans ?_
  rw [View.canon_unit_zero zeros3]
  rfl

/-! ## The pipeline's proof data -/

/-- The arrays as the region finds them; each input block left in place, each output at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => hOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨17, _⟩ => routeOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨n + 18, h⟩ => absurd (show n + 18 < 18 from h) (by omega)
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
/-- The first output block after the body at point `t`. -/
theorem after0_16 (c : Dev nD) (t : Fin cfg0.N) : (dats m 0 c).after 16 t = hOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
/-- The second output block after the body at point `t`. -/
theorem after0_17 (c : Dev nD) (t : Fin cfg0.N) : (dats m 0 c).after 17 t = routeOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body at a grid point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t))

set_option maxHeartbeats 1600000 in
/-- The body at any point, from `sound_kernel`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel c Set.univ (grid0.coords t) _ _ _ _ _ _ _ _ _ _ _ _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The body table's row is the body. -/
theorem defs₀_row (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every window's array ends at what the proof data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

end Cert.KernelIdeal.Mix

end
-- ==== Proof.Rows.lean ====
/- One token's row, as plain functions over the extended reals: the gates of the merge, the two branches, the output
   projection, the residual and the normalisation. Both programs are read as `hRow` of a token's row. -/
module

public import Idealize.ShloMosaic.PureOps.Ideal

@[expose] public section

noncomputable section

namespace Cert.Rows

open Idealize.ShloMosaic

/-- The parameters of the mixing layer, as functions of their coordinates. -/
structure Params where
  /-- the gates' weights and bias: columns below 1024 gate the S5 branch, the others the convolution branch -/
  wg : Fin 1024 → Fin 2048 → EReal
  bg : Fin 2048 → EReal
  /-- the gated linear unit's weights and bias: columns below 1024 the value, the others its gate -/
  wu : Fin 512 → Fin 2048 → EReal
  bu : Fin 2048 → EReal
  /-- the convolution branch's projection -/
  wc : Fin 512 → Fin 1024 → EReal
  bc : Fin 1024 → EReal
  /-- the output projection -/
  wo : Fin 1024 → Fin 1024 → EReal
  bo : Fin 1024 → EReal
  /-- the normalisation's scale and shift -/
  g : Fin 1024 → EReal
  b : Fin 1024 → EReal

/-- Column `j` of the first half of 2048 columns. -/
abbrev lo (j : Fin 1024) : Fin 2048 := ⟨j.val, by omega⟩
/-- Column `j` of the second half of 2048 columns. -/
abbrev hi (j : Fin 1024) : Fin 2048 := ⟨1024 + j.val, by omega⟩

/-- The weight of the residual, the fourth root of two. -/
def alpha : EReal := ((Real.sqrt (Real.sqrt 2) : ℝ) : EReal)
/-- The normalisation's epsilon. -/
def eps : EReal := ((1 / 100000 : ℝ) : EReal)

variable (p : Params) (x : Fin 1024 → EReal) (y c : Fin 512 → EReal)

/-- The gates before the sigmoid. -/
def gates (n : Fin 2048) : EReal := ∑ k, x k * p.wg k n + p.bg n

/-- The gated linear unit's two halves. -/
def glu (n : Fin 2048) : EReal := ∑ k, y k * p.wu k n + p.bu n

/-- The S5 branch under its gate. -/
def sBranch (j : Fin 1024) : EReal :=
  Ideal.logistic (gates p x (lo j)) * (glu p y (lo j) * Ideal.logistic (glu p y (hi j)))

/-- The convolution branch's projection. -/
def cProj (j : Fin 1024) : EReal := ∑ k, c k * p.wc k j + p.bc j

/-- The merged row. -/
def merged (j : Fin 1024) : EReal := sBranch p x y j + Ideal.logistic (gates p x (hi j)) * cProj p c j

/-- The residual's sum: the weighted input and the output projection of the merged row. -/
def resid (j : Fin 1024) : EReal := alpha * x j + (∑ k, merged p x y c k * p.wo k j + p.bo j)

/-- The mean of a row of 1024 (the divisor as both programs spell it). -/
def mean (v : Fin 1024 → EReal) : EReal := Ideal.div (∑ k, v k) (Ideal.ofBits .f32 0x44800000#32)

/-- The normalised row of `v`. -/
def norm (v : Fin 1024 → EReal) (j : Fin 1024) : EReal :=
  (v j - mean v) * Ideal.rsqrt (mean (fun k => (v k - mean v) * (v k - mean v)) + eps) * p.g j + p.b j

/-- A token's row `h`. -/
def hRow (j : Fin 1024) : EReal := norm p (resid p x y c) j

end Cert.Rows

end
-- ==== Proof.KernelRows.lean ====
/- The kernel's body at an index: row `r` of the block's `hRows` is `Rows.hRow` of the row's inputs. -/
module

public import proofs.«01_k».proof.Proof.KernelIdealFrame
public import proofs.«01_k».proof.Proof.Rows
public import Idealize.ShloMosaic.Lib.Pointwise

@[expose] public section

set_option maxRecDepth 16384

noncomputable section

namespace Cert.KernelIdeal.MixValue

open Cert.KernelIdeal Cert.KernelIdeal.Gen Cert.KernelIdeal.Mix
open Idealize.ShloMosaic Idealize.ShloMosaic.TcCoe

/-- The residual's weight, named the real that it is. -/
theorem named_alpha : Named.named (F := Ideal) κ "alpha" (φ := .f32) 0x3F9837F0#32 = Rows.alpha :=
  IdealRules.named_const.ideal_named_scalar _ _ _ _ rfl

/-- The epsilon, named the real that it is. -/
theorem named_eps : Named.named (F := Ideal) κ "ln_eps" (φ := .f32) 0x3727C5AC#32 = Rows.eps :=
  IdealRules.named_const.ideal_named_scalar _ _ _ _ rfl

theorem zeros2 : (![0, 0] : Fin 2 → ℕ) = fun _ => 0 := by funext a; fin_cases a <;> rfl

/-- The parameters that the body finds in its windows' blocks. -/
def blockParams (x3 : Vec Ideal S1024x2048 .bf16) (x4 : Vec Ideal S1x2048 .f32) (x5 : Vec Ideal S512x2048 .bf16)
    (x6 : Vec Ideal S1x2048 .f32) (x7 : Vec Ideal S512x1024 .bf16) (x8 : Vec Ideal S1x1024 .f32)
    (x9 : Vec Ideal S1024x1024 .bf16) (x10 x11 x12 : Vec Ideal S1x1024 .f32) : Rows.Params where
  wg k n := x3 (ix2 k n)
  bg n := x4 (ix2 0 n)
  wu k n := x5 (ix2 k n)
  bu n := x6 (ix2 0 n)
  wc k n := x7 (ix2 k n)
  bc n := x8 (ix2 0 n)
  wo k n := x9 (ix2 k n)
  bo n := x10 (ix2 0 n)
  g n := x11 (ix2 0 n)
  b n := x12 (ix2 0 n)

variable (x0 : Vec Ideal S1x512x1024 .bf16) (x1 x2 : Vec Ideal S1x512x512 .bf16) (x3 : Vec Ideal S1024x2048 .bf16)
  (x4 : Vec Ideal S1x2048 .f32) (x5 : Vec Ideal S512x2048 .bf16)
  (x6 : Vec Ideal S1x2048 .f32) (x7 : Vec Ideal S512x1024 .bf16) (x8 : Vec Ideal S1x1024 .f32)
  (x9 : Vec Ideal S1024x1024 .bf16) (x10 x11 x12 : Vec Ideal S1x1024 .f32)
  (x13 x14 : Vec Ideal S1024x128 .bf16) (x15 : Vec Ideal S1x128 .f32)

theorem pay2_apply (r : Fin 512) (j : Fin 1024) :
    k0_pay2 x2 x7 x8 (ix2 r j)
      = Rows.cProj (blockParams x3 x4 x5 x6 x7 x8 x9 x10 x11 x12) (fun k => x2 (ix3 0 r k)) j := by
  pointwise [k0_pay2]
  rfl

theorem pay4_apply (r : Fin 512) (n : Fin 2048) :
    k0_pay4 x0 x3 x4 (ix2 r n)
      = Rows.gates (blockParams x3 x4 x5 x6 x7 x8 x9 x10 x11 x12) (fun k => x0 (ix3 0 r k)) n := by
  pointwise [k0_pay4, k0_pay3]
  rfl

theorem pay5_apply (r : Fin 512) (j : Fin 1024) :
    k0_pay5 x1 x5 x6 x0 x3 x4 (ix2 r j)
      = Rows.sBranch (blockParams x3 x4 x5 x6 x7 x8 x9 x10 x11 x12) (fun k => x0 (ix3 0 r k)) (fun k => x1 (ix3 0 k r)) j := by
  pointwise [k0_pay5, k0_pay4, k0_pay3]
  rfl

theorem pay3_apply (r : Fin 512) (j : Fin 1024) : k0_pay3 x0 (ix2 r j) = x0 (ix3 0 r j) := by
  pointwise [k0_pay3]

/-- The body's normalisation, from any two branches. -/
theorem pay6_apply (v8 : FVec Ideal S512x1024 .f32) (v23 : FVec Ideal S512x1024 .bf16) (v30 : FVec Ideal S512x2048 .f32)
    (v33 : FVec Ideal S512x1024 .f32) (r : Fin 512) (j : Fin 1024) :
    k0_pay6 v8 v23 v30 v33 x9 x10 x11 x12 (ix2 r j)
      = Rows.norm (blockParams x3 x4 x5 x6 x7 x8 x9 x10 x11 x12)
          (fun j => Rows.alpha * v23 (ix2 r j)
            + (∑ k, (v33 (ix2 r k) + Ideal.logistic (v30 (ix2 r (Rows.hi k))) * v8 (ix2 r k)) * x9 (ix2 k j) + x10 (ix2 0 j))) j := by
  pointwise [k0_pay6]
  rw [named_alpha, named_eps]
  rfl

/-- Row `r` of the block's `hRows`. -/
theorem hRows_apply (r : Fin 512) (j : Fin 1024) :
    hRows x0 x1 x2 x3 x4 x5 x6 x7 x8 x9 x10 x11 x12 x13 x14 x15 (ix2 r j)
      = Rows.hRow (blockParams x3 x4 x5 x6 x7 x8 x9 x10 x11 x12)
          (fun k => x0 (ix3 0 r k)) (fun k => x1 (ix3 0 k r)) (fun k => x2 (ix3 0 r k)) j := by
  unfold hRows
  simp only [View.ld_unit_zero (S := S1x512x1024) zeros3, View.ld_unit_zero (S := S1x512x512) zeros3,
    View.ld_unit_zero (S := S1024x2048) zeros2, View.ld_unit_zero (S := S1x2048) zeros2,
    View.ld_unit_zero (S := S512x2048) zeros2, View.ld_unit_zero (S := S512x1024) zeros2,
    View.ld_unit_zero (S := S1x1024) zeros2, View.ld_unit_zero (S := S1024x1024) zeros2]
  rw [pay6_apply x3 x4 x5 x6 x7 x8]
  simp only [pay2_apply x2 x3 x4 x5 x6 x7 x8 x9 x10 x11 x12, pay3_apply, pay4_apply x0 x3 x4 x5 x6 x7 x8 x9 x10 x11 x12,
    pay5_apply x0 x1 x3 x4 x5 x6 x7 x8 x9 x10 x11 x12]
  rfl

end Cert.KernelIdeal.MixValue

end
-- ==== Proof.Consts.lean ====
/- The two constants that the reference computes, as the reals that they are. -/
module

public import Idealize.ShloMosaic.PureOps.Ideal
public import proofs.«01_k».proof.Proof.Rows

@[expose] public section

noncomputable section

namespace Cert.Consts

open Idealize.ShloMosaic

theorem ofBits_two : Ideal.ofBits .f32 0x40000000#32 = ((2 : ℝ) : EReal) := by
  simp [Ideal.ofBits, Ideal.ieee, -EReal.coe_mul]; norm_num

theorem ofBits_1e5 : Ideal.ofBits .f32 0x47C35000#32 = ((100000 : ℝ) : EReal) := by
  simp [Ideal.ofBits, Ideal.ieee, -EReal.coe_mul]; norm_num

/-- The root of the root of two. -/
theorem alpha_eq : Ideal.sqrt (Ideal.sqrt (Ideal.ofBits .f32 0x40000000#32)) = Rows.alpha := by
  rw [ofBits_two, Ideal.sqrt_coe, if_neg (by norm_num), Ideal.sqrt_coe, if_neg (by exact not_lt.mpr (Real.sqrt_nonneg _))]
  rfl

/-- One divided by a hundred thousand. -/
theorem eps_eq : Ideal.div 1 (Ideal.ofBits .f32 0x47C35000#32) = Rows.eps := by
  rw [ofBits_1e5, Ideal.div_coe (by norm_num), one_mul]; rfl

end Cert.Consts

end
-- ==== Proof.ReferenceRows.lean ====
/- The reference at an index: token `(t, r)`'s row of its `h` is `Rows.hRow` of the token's inputs. -/
module

public import proofs.«01_k».proof.Proof.Gen.ReferenceIdeal.Read
public import proofs.«01_k».proof.Proof.Consts
public import Idealize.ShloMosaic.Lib.Pointwise

@[expose] public section

set_option maxRecDepth 16384

noncomputable section

namespace Cert.ReferenceIdeal.MixValue

open Cert.ReferenceIdeal Cert.ReferenceIdeal.Read Idealize.ShloMosaic Idealize.ShloMosaic.TcCoe

/-- The parameters of the layer, read in the arguments. -/
def argParams (x3 : FVec Ideal S1024x3584 .f32) (x4 : FVec Ideal S3584 .f32) (x5 : FVec Ideal S512x2048 .f32)
    (x6 : FVec Ideal S2048 .f32) (x7 : FVec Ideal S512x1024 .f32) (x8 : FVec Ideal S1024 .f32)
    (x9 : FVec Ideal S1024x1024 .f32) (x10 x11 x12 : FVec Ideal S1024 .f32) : Rows.Params where
  wg k n := x3 (ix2 k ⟨1536 + n.val, by omega⟩)
  bg n := x4 (ix1 ⟨1536 + n.val, by omega⟩)
  wu k n := x5 (ix2 k n)
  bu n := x6 (ix1 n)
  wc k n := x7 (ix2 k n)
  bc n := x8 (ix1 n)
  wo k n := x9 (ix2 k n)
  bo n := x10 (ix1 n)
  g n := x11 (ix1 n)
  b n := x12 (ix1 n)

variable (x0 : FVec Ideal S16x2048x1024 .bf16) (x1 : FVec Ideal S16x512x2048 .bf16) (x2 : FVec Ideal S16x2048x512 .bf16)
  (x3 : FVec Ideal S1024x3584 .f32) (x4 : FVec Ideal S3584 .f32) (x5 : FVec Ideal S512x2048 .f32)
  (x6 : FVec Ideal S2048 .f32) (x7 : FVec Ideal S512x1024 .f32) (x8 : FVec Ideal S1024 .f32)
  (x9 : FVec Ideal S1024x1024 .f32) (x10 x11 x12 : FVec Ideal S1024 .f32)

theorem v9_apply (t : Fin 16) (r : Fin 2048) (n : Fin 2048) :
    val_main_v9 (F := Ideal) x0 x3 x4 (ix3 t r n)
      = Rows.gates (argParams x3 x4 x5 x6 x7 x8 x9 x10 x11 x12) (fun k => x0 (ix3 t r k)) n := by
  pointwise [val_main_v9, val_main_v8, val_main_v7, val_main_v6, val_main_v5, val_main_v4, val_main_v0]
  rfl

theorem v15_apply (t : Fin 16) (r : Fin 2048) (n : Fin 2048) :
    val_main_v15 (F := Ideal) x1 x5 x6 (ix3 t r n)
      = Rows.glu (argParams x3 x4 x5 x6 x7 x8 x9 x10 x11 x12) (fun k => x1 (ix3 t k r)) n := by
  pointwise [val_main_v15, val_main_v14, val_main_v13, val_main_v12, val_main_v2, val_main_v1]
  rfl

theorem v24_apply (t : Fin 16) (r : Fin 2048) (j : Fin 1024) :
    val_main_v24 (F := Ideal) x1 x5 x6 (ix3 t r j)
      = Rows.glu (argParams x3 x4 x5 x6 x7 x8 x9 x10 x11 x12) (fun k => x1 (ix3 t k r)) (Rows.lo j)
        * Ideal.logistic (Rows.glu (argParams x3 x4 x5 x6 x7 x8 x9 x10 x11 x12) (fun k => x1 (ix3 t k r)) (Rows.hi j)) := by
  pointwise [val_main_v24, val_main_v23, val_main_v22, val_main_v21, val_main_v20, val_main_v19, val_main_v18,
    val_main_v17, val_main_v16, val_main_cst, val_main_cst_0]
  rw [v15_apply x1 x3 x4 x5 x6 x7 x8 x9 x10 x11 x12, v15_apply x1 x3 x4 x5 x6 x7 x8 x9 x10 x11 x12]
  rfl

theorem v28_apply (t : Fin 16) (r : Fin 2048) (j : Fin 1024) :
    val_main_v28 (F := Ideal) x2 x7 x8 (ix3 t r j)
      = Rows.cProj (argParams x3 x4 x5 x6 x7 x8 x9 x10 x11 x12) (fun k => x2 (ix3 t r k)) j := by
  pointwise [val_main_v28, val_main_v27, val_main_v26, val_main_v25, val_main_v3]
  rfl

theorem v43_apply (t : Fin 16) (r : Fin 2048) (j : Fin 1024) :
    val_main_v43 (F := Ideal) x0 x1 x2 x3 x4 x5 x6 x7 x8 (ix3 t r j)
      = Rows.merged (argParams x3 x4 x5 x6 x7 x8 x9 x10 x11 x12) (fun k => x0 (ix3 t r k)) (fun k => x1 (ix3 t k r))
          (fun k => x2 (ix3 t r k)) j := by
  pointwise [val_main_v43, val_main_v42, val_main_v41, val_main_v40, val_main_v39, val_main_v38, val_main_v37,
    val_main_v36, val_main_v35, val_main_v34, val_main_v33, val_main_v32, val_main_v31, val_main_v30, val_main_v29,
    val_main_v11, val_main_v10, val_main_cst_1, val_main_cst_2, val_main_cst_3, val_main_cst_4]
  rw [v9_apply x0 x3 x4 x5 x6 x7 x8 x9 x10 x11 x12, v9_apply x0 x3 x4 x5 x6 x7 x8 x9 x10 x11 x12,
    v24_apply x1 x3 x4 x5 x6 x7 x8 x9 x10 x11 x12, v28_apply x2 x3 x4 x5 x6 x7 x8 x9 x10 x11 x12]
  rfl

theorem v52_apply (t : Fin 16) (r : Fin 2048) (j : Fin 1024) :
    val_main_v52 (F := Ideal) x0 x1 x2 x3 x4 x5 x6 x7 x8 x9 x10 (ix3 t r j)
      = Rows.resid (argParams x3 x4 x5 x6 x7 x8 x9 x10 x11 x12) (fun k => x0 (ix3 t r k)) (fun k => x1 (ix3 t k r))
          (fun k => x2 (ix3 t r k)) j := by
  pointwise [val_main_v52, val_main_v51, val_main_v50, val_main_v49, val_main_v48, val_main_v47, val_main_v46,
    val_main_v45, val_main_v44, val_main_cst_5, val_main_v0]
  rw [Consts.alpha_eq]
  simp only [v43_apply x0 x1 x2 x3 x4 x5 x6 x7 x8 x9 x10 x11 x12]
  rfl

/-- Token `(t, r)`'s row of the reference's `h`. -/
theorem v77_apply (t : Fin 16) (r : Fin 2048) (j : Fin 1024) :
    val_main_v77 (F := Ideal) x0 x1 x2 x3 x4 x5 x6 x7 x8 x9 x10 x11 x12 (ix3 t r j)
      = Rows.hRow (argParams x3 x4 x5 x6 x7 x8 x9 x10 x11 x12) (fun k => x0 (ix3 t r k)) (fun k => x1 (ix3 t k r))
          (fun k => x2 (ix3 t r k)) j := by
  pointwise [val_main_v77, val_main_v76, val_main_v75, val_main_v74, val_main_v73, val_main_v72, val_main_v71,
    val_main_v70, val_main_v69, val_main_v68, val_main_v67, val_main_v66, val_main_v65, val_main_v64, val_main_v63,
    val_main_v62, val_main_v61, val_main_v60, val_main_v59, val_main_v58, val_main_v57, val_main_v56, val_main_v55,
    val_main_v54, val_main_v53, val_main_cst_6, val_main_cst_7, val_main_cst_8, val_main_cst_9, val_main_cst_10,
    val_main_cst_11]
  rw [Consts.eps_eq]
  simp only [v52_apply x0 x1 x2 x3 x4 x5 x6 x7 x8 x9 x10 x11 x12]
  rfl

end Cert.ReferenceIdeal.MixValue

end
-- ==== Proof.KernelBlock.lean ====
/- What one grid point leaves in the two output blocks, at an index, and what it reads: the block of a token's inputs and
   the parameters, read in the arguments. -/
module

public import proofs.«01_k».proof.Proof.KernelRows
public import proofs.«01_k».proof.Proof.ReferenceRows
public import Idealize.ShloMosaic.Lib.Pipeline.ValueKit
public import Idealize.ShloMosaic.Lib.Claim

@[expose] public section

set_option maxRecDepth 16384

noncomputable section

namespace Cert.KernelIdeal.MixValue

open Cert.KernelIdeal Cert.KernelIdeal.Gen Cert.KernelIdeal.Mix
open Idealize.ShloMosaic Idealize.ShloMosaic.TcCoe

/-- Row `8·q + s`, lane `l` of the first output block holds column `128·s + l` of row `q`. -/
def unfoldRow (h : FVec Ideal S512x1024 .f32) (y : S1x4096x128.Idx) : EReal :=
  h (ix2 ⟨(y 1).val / 8, by have : (y 1).val < 4096 := (y 1).isLt; omega⟩
    ⟨128 * ((y 1).val % 8) + (y 2).val, by have : (y 2).val < 128 := (y 2).isLt; omega⟩)

/-- One chunk of 128 lanes, stored at every eighth row. -/
theorem chunk_piece (h : FVec Ideal S512x1024 .f32) (s : ℕ) (hs : s < 8) (inb) (sp)
    (v : FVec Ideal S1x512x128 .f32)
    (hv : ∀ (q : Fin 512) (l : Fin 128), v (ix3 0 q l) = h (ix2 q ⟨128 * s + l.val, by omega⟩))
    (x : S1x512x128.Idx) :
    v x = unfoldRow h
      ((⟨(⟨![0, s, 0], S1x512x128.size, ![1, 8, 1], inb⟩ : LoadRect S1x4096x128), sp⟩ : Rect S1x4096x128).emb x) := by
  obtain ⟨a, q, l, rfl⟩ : ∃ a q l, x = ix3 a q l := ⟨x 0, x 1, x 2, (eq_ix3 x).symm ▸ rfl⟩
  obtain rfl : a = 0 := Subsingleton.elim _ _
  rw [hv]
  unfold unfoldRow
  refine congrArg h ?_
  congr 1
  · apply Fin.ext
    show q.val = (s + 8 * q.val) / 8
    omega
  · apply Fin.ext
    show 128 * s + l.val = 128 * ((s + 8 * q.val) % 8) + (0 + 1 * l.val)
    omega

/-- Each of the eight stores writes a chunk of `unfoldRow`. -/
theorem hPieces_eq (h : FVec Ideal S512x1024 .f32) (h0 : FVec Ideal S512x128 .f32)
    (h0v : ∀ (q : Fin 512) (l : Fin 128), h0 (ix2 q l) = h (ix2 q ⟨128 * 0 + l.val, by omega⟩)) (y : S1x4096x128.Idx) :
    View.canon (Val := Elt Ideal) (hPieces h h0) y = unfoldRow h y := by
  refine View.canon_apply_of_pieces (Val := Elt Ideal) (unfoldRow h) (hPieces h h0) ?_ y (hPieces_cover h h0 y)
  intro p hp
  simp only [hPieces, List.mem_cons, List.not_mem_nil, or_false] at hp
  rcases hp with rfl | rfl | rfl | rfl | rfl | rfl | rfl | rfl
  · exact chunk_piece h 7 (by omega) _ _ _ fun q l => by pointwise [k0_pay15]
  · exact chunk_piece h 6 (by omega) _ _ _ fun q l => by pointwise [k0_pay14]
  · exact chunk_piece h 5 (by omega) _ _ _ fun q l => by pointwise [k0_pay13]
  · exact chunk_piece h 4 (by omega) _ _ _ fun q l => by pointwise [k0_pay12]
  · exact chunk_piece h 3 (by omega) _ _ _ fun q l => by pointwise [k0_pay11]
  · exact chunk_piece h 2 (by omega) _ _ _ fun q l => by pointwise [k0_pay10]
  · exact chunk_piece h 1 (by omega) _ _ _ fun q l => by pointwise [k0_pay9]
  · exact chunk_piece h 0 (by omega) _ _ _ fun q l => by
      pointwise [k0_pay8]; rw [h0v]; exact congrArg h (congrArg (ix2 q) (Fin.ext (by show 128 * 0 + l.val = l.val; omega)))

variable (x0 : Vec Ideal S1x512x1024 .bf16) (x1 x2 : Vec Ideal S1x512x512 .bf16) (x3 : Vec Ideal S1024x2048 .bf16)
  (x4 : Vec Ideal S1x2048 .f32) (x5 : Vec Ideal S512x2048 .bf16)
  (x6 : Vec Ideal S1x2048 .f32) (x7 : Vec Ideal S512x1024 .bf16) (x8 : Vec Ideal S1x1024 .f32)
  (x9 : Vec Ideal S1024x1024 .bf16) (x10 x11 x12 : Vec Ideal S1x1024 .f32)
  (x13 x14 : Vec Ideal S1024x128 .bf16) (x15 : Vec Ideal S1x128 .f32)

/-- The first output block is the block's rows, each unfolded over eight rows of lanes. -/
theorem hOut_eq (y : S1x4096x128.Idx) :
    hOut x0 x1 x2 x3 x4 x5 x6 x7 x8 x9 x10 x11 x12 x13 x14 x15 y
      = unfoldRow (hRows x0 x1 x2 x3 x4 x5 x6 x7 x8 x9 x10 x11 x12 x13 x14 x15) y := by
  unfold hOut
  refine hPieces_eq _ _ (fun q l => ?_) y
  unfold hRows
  pointwise [k0_pay7]

/-! ## The blocks that a point reads -/

variable (m : (ℓ : Loc nD τ sig) → Buf (Elt Ideal) ℓ) (c : Dev nD)

/-- Point `t` is row block `t / 16` of chunk token `t % 16`. -/
theorem idx0 : ∀ t : Fin cfg0.N, win0_0.index t = ![t.val % 16, t.val / 16, 0] := by decide +kernel
theorem idx1 : ∀ t : Fin cfg0.N, win0_1.index t = ![t.val % 16, 0, t.val / 16] := by decide +kernel
theorem idx2 : ∀ t : Fin cfg0.N, win0_2.index t = ![t.val % 16, t.val / 16, 0] := by decide +kernel
theorem idx16 : ∀ t : Fin cfg0.N, win0_16.index t = ![t.val % 16, t.val / 16, 0] := by decide +kernel
theorem idx17 : ∀ t : Fin cfg0.N, win0_17.index t = ![t.val % 16, t.val / 16, 0] := by decide +kernel

theorem tt (t : Fin cfg0.N) : t.val < 64 := lt_of_lt_of_eq t.isLt N_0

/-- Point `t`'s chunk token. -/
abbrev tok (t : Fin cfg0.N) : Fin 16 := ⟨t.val % 16, by omega⟩
/-- Row `r` of point `t`'s block. -/
abbrev row (t : Fin cfg0.N) (r : Fin 512) : Fin 2048 := ⟨512 * (t.val / 16) + r.val, by have := tt t; omega⟩

theorem x_blk (t : Fin cfg0.N) (r : Fin 512) (k : Fin 1024) :
    iblk m c 0 t (ix3 0 r k) = (m ((c : Thread nD τ).loc main_arg0) : FVec Ideal S16x2048x1024 .bf16) (ix3 (tok t) (row t r) k) := by
  blk_ext [iblk, V, idx0 t]

theorem y_blk (t : Fin cfg0.N) (k r : Fin 512) :
    iblk m c 1 t (ix3 0 k r) = (m ((c : Thread nD τ).loc main_arg1) : FVec Ideal S16x512x2048 .bf16) (ix3 (tok t) k (row t r)) := by
  blk_ext [iblk, V, idx1 t]

theorem c_blk (t : Fin cfg0.N) (r k : Fin 512) :
    iblk m c 2 t (ix3 0 r k) = (m ((c : Thread nD τ).loc main_arg2) : FVec Ideal S16x2048x512 .bf16) (ix3 (tok t) (row t r) k) := by
  blk_ext [iblk, V, idx2 t]

theorem idxP : ∀ t : Fin cfg0.N, win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![0, 0] ∧ win0_15.index t = ![0, 0] := by decide +kernel

/-- The layer's parameters, read in the arguments at launch. -/
abbrev params : Rows.Params := ReferenceIdeal.MixValue.argParams
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9)) (m ((c : Thread nD τ).loc main_arg10)) (m ((c : Thread nD τ).loc main_arg11))
  (m ((c : Thread nD τ).loc main_arg12))

theorem wg_blk (t : Fin cfg0.N) (k : Fin 1024) (n : Fin 2048) : iblk m c 3 t (ix2 k n) = (params m c).wg k n := by
  show _ = (m ((c : Thread nD τ).loc main_arg3) : FVec Ideal S1024x3584 .f32) (ix2 k ⟨1536 + n.val, by omega⟩)
  blk_ext! [iblk, V, idxP t]

theorem bg_blk (t : Fin cfg0.N) (n : Fin 2048) : iblk m c 4 t (ix2 0 n) = (params m c).bg n := by
  show _ = (m ((c : Thread nD τ).loc main_arg4) : FVec Ideal S3584 .f32) (ix1 ⟨1536 + n.val, by omega⟩)
  blk_ext! [iblk, V, idxP t]

theorem wu_blk (t : Fin cfg0.N) (k : Fin 512) (n : Fin 2048) : iblk m c 5 t (ix2 k n) = (params m c).wu k n := by
  show _ = (m ((c : Thread nD τ).loc main_arg5) : FVec Ideal S512x2048 .f32) (ix2 k n)
  blk_ext! [iblk, V, idxP t]

theorem bu_blk (t : Fin cfg0.N) (n : Fin 2048) : iblk m c 6 t (ix2 0 n) = (params m c).bu n := by
  show _ = (m ((c : Thread nD τ).loc main_arg6) : FVec Ideal S2048 .f32) (ix1 n)
  blk_ext! [iblk, V, idxP t]

theorem wc_blk (t : Fin cfg0.N) (k : Fin 512) (n : Fin 1024) : iblk m c 7 t (ix2 k n) = (params m c).wc k n := by
  show _ = (m ((c : Thread nD τ).loc main_arg7) : FVec Ideal S512x1024 .f32) (ix2 k n)
  blk_ext! [iblk, V, idxP t]

theorem bc_blk (t : Fin cfg0.N) (n : Fin 1024) : iblk m c 8 t (ix2 0 n) = (params m c).bc n := by
  show _ = (m ((c : Thread nD τ).loc main_arg8) : FVec Ideal S1024 .f32) (ix1 n)
  blk_ext! [iblk, V, idxP t]

theorem wo_blk (t : Fin cfg0.N) (k : Fin 1024) (n : Fin 1024) : iblk m c 9 t (ix2 k n) = (params m c).wo k n := by
  show _ = (m ((c : Thread nD τ).loc main_arg9) : FVec Ideal S1024x1024 .f32) (ix2 k n)
  blk_ext! [iblk, V, idxP t]

theorem bo_blk (t : Fin cfg0.N) (n : Fin 1024) : iblk m c 10 t (ix2 0 n) = (params m c).bo n := by
  show _ = (m ((c : Thread nD τ).loc main_arg10) : FVec Ideal S1024 .f32) (ix1 n)
  blk_ext! [iblk, V, idxP t]

theorem g_blk (t : Fin cfg0.N) (n : Fin 1024) : iblk m c 11 t (ix2 0 n) = (params m c).g n := by
  show _ = (m ((c : Thread nD τ).loc main_arg11) : FVec Ideal S1024 .f32) (ix1 n)
  blk_ext! [iblk, V, idxP t]

theorem b_blk (t : Fin cfg0.N) (n : Fin 1024) : iblk m c 12 t (ix2 0 n) = (params m c).b n := by
  show _ = (m ((c : Thread nD τ).loc main_arg12) : FVec Ideal S1024 .f32) (ix1 n)
  blk_ext! [iblk, V, idxP t]

/-- The parameters in a point's blocks are the arguments'. -/
theorem blockParams_eq (t : Fin cfg0.N) :
    blockParams (iblk m c 3 t) (iblk m c 4 t) (iblk m c 5 t) (iblk m c 6 t) (iblk m c 7 t) (iblk m c 8 t) (iblk m c 9 t)
      (iblk m c 10 t) (iblk m c 11 t) (iblk m c 12 t) = params m c := by
  unfold blockParams
  simp only [wg_blk m c t, bg_blk m c t, wu_blk m c t, bu_blk m c t, wc_blk m c t, bc_blk m c t, wo_blk m c t, bo_blk m c t,
    g_blk m c t, b_blk m c t]

end Cert.KernelIdeal.MixValue

end
-- ==== Proof.KernelH.lean ====
/- The first result of the kernel: every token's row `h`, each unfolded over eight rows of 128 lanes. -/
module

public import proofs.«01_k».proof.Proof.KernelBlock
public import Idealize.ShloMosaic.Lib.Pipeline.ValueKit
public import Idealize.ShloMosaic.Lib.Claim

@[expose] public section

set_option maxRecDepth 16384

noncomputable section

namespace Cert.KernelIdeal.MixValue

open Cert.KernelIdeal Cert.KernelIdeal.Gen Cert.KernelIdeal.Mix
open Idealize.ShloMosaic Idealize.ShloMosaic.TcCoe

variable (m : (ℓ : Loc nD τ sig) → Buf (Elt Ideal) ℓ) (c : Dev nD)

/-- Token `(t, r)`'s row `h`, from the arguments at launch. -/
def hTok (t : Fin 16) (r : Fin 2048) (j : Fin 1024) : EReal :=
  Rows.hRow (params m c)
    (fun k => (m ((c : Thread nD τ).loc main_arg0) : FVec Ideal S16x2048x1024 .bf16) (ix3 t r k))
    (fun k => (m ((c : Thread nD τ).loc main_arg1) : FVec Ideal S16x512x2048 .bf16) (ix3 t k r))
    (fun k => (m ((c : Thread nD τ).loc main_arg2) : FVec Ideal S16x2048x512 .bf16) (ix3 t r k)) j

/-- The rows of point `t`'s block. -/
abbrev hBlk (t : Fin cfg0.N) : FVec Ideal S512x1024 .f32 :=
  hRows (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)
    (iblk m c 14 t) (iblk m c 15 t)

theorem hBlk_apply (t : Fin cfg0.N) (r : Fin 512) (j : Fin 1024) :
    hBlk m c t (ix2 r j) = hTok m c (tok t) (row t r) j := by
  unfold hBlk
  rw [hRows_apply, blockParams_eq]
  unfold hTok
  simp only [x_blk m c t, y_blk m c t, c_blk m c t]

/-! ## The first result -/

/-- The first result: row `8·r + s`, lane `l` of chunk token `t` holds column `128·s + l` of token `(t, r)`'s `h`. -/
def hArr : FVec Ideal S16x16384x128 .f32 := fun i =>
  hTok m c (i 0) ⟨(i 1).val / 8, by have : (i 1).val < 16384 := (i 1).isLt; omega⟩
    ⟨128 * ((i 1).val % 8) + (i 2).val, by have : (i 2).val < 128 := (i 2).isLt; omega⟩

/-- `hArr` at an index, by its coordinates. -/
theorem hArr_apply (i : S16x16384x128.Idx) (t : Fin 16) (r : Fin 2048) (j : Fin 1024) (h0 : (i 0).val = t.val)
    (h1 : (i 1).val / 8 = r.val) (h2 : 128 * ((i 1).val % 8) + (i 2).val = j.val) : hArr m c i = hTok m c t r j := by
  unfold hArr
  congr 1
  · exact Fin.ext h0
  · exact Fin.ext h1
  · exact Fin.ext h2

/-- Where point `t`'s block of the first result lies. -/
theorem emb16 (t : Fin cfg0.N) (y : S1x4096x128.Idx) :
    ((((cfg0.win 16).blk t).view.emb y) 0 : ℕ) = t.val % 16 ∧ ((((cfg0.win 16).blk t).view.emb y) 1 : ℕ) = t.val / 16 * 4096 + (y 1).val
      ∧ ((((cfg0.win 16).blk t).view.emb y) 2 : ℕ) = (y 2).val := by
  have hy0 : (y 0).val < 1 := (y 0).isLt
  refine ⟨?_, ?_, ?_⟩
  · blk_simp [idx16 t]
  · blk_simp [idx16 t]
  · blk_simp [idx16 t]

/-- What point `t` leaves in its block of the first result. -/
theorem flushed16 (t : Fin cfg0.N) (y : S1x4096x128.Idx) :
    (dats m 0 c).after 16 t y = hArr m c (((cfg0.win 16).blk t).view.emb y) := by
  have hy1 : (y 1).val < 4096 := (y 1).isLt
  have hy2 : (y 2).val < 128 := (y 2).isLt
  have ht := tt t
  obtain ⟨e0, e1, e2⟩ := emb16 t y
  rw [after0_16]
  refine (hOut_eq _ _ _ _ _ _ _ _ _ _ _ _ _ _ _ _ y).trans ?_
  · unfold unfoldRow
    refine (hBlk_apply m c t _ _).trans ?_
    refine (hArr_apply m c _ _ _ _ e0 ?_ ?_).symm
    · rw [e1]; show _ = 512 * (t.val / 16) + (y 1).val / 8; omega
    · rw [e1, e2]; show _ = 128 * ((y 1).val % 8) + (y 2).val; omega

theorem final_h : (dats m 0 c).arrAt 16 cfg0.N = (hArr m c : Buf (Elt Ideal) ((c : Thread nD τ).loc main_v30_0)) := by
  refine (dats m 0 c).arrAt_eq_of_covers 16 _ (by decide +kernel) fun t hf y => ?_
  blk_simp
  exact flushed16 m c t y

end Cert.KernelIdeal.MixValue

end
-- ==== Proof.ReferenceH.lean ====
/- The first result of the reference: every token's row `h`, each unfolded over eight rows of 128 lanes. -/
module

public import proofs.«01_k».proof.Proof.ReferenceRows

@[expose] public section

set_option maxRecDepth 16384

noncomputable section

namespace Cert.ReferenceIdeal.MixValue

open Cert.ReferenceIdeal Cert.ReferenceIdeal.Read Idealize.ShloMosaic Idealize.ShloMosaic.TcCoe

variable (x0 : FVec Ideal S16x2048x1024 .bf16) (x1 : FVec Ideal S16x512x2048 .bf16) (x2 : FVec Ideal S16x2048x512 .bf16)
  (x3 : FVec Ideal S1024x3584 .f32) (x4 : FVec Ideal S3584 .f32) (x5 : FVec Ideal S512x2048 .f32)
  (x6 : FVec Ideal S2048 .f32) (x7 : FVec Ideal S512x1024 .f32) (x8 : FVec Ideal S1024 .f32)
  (x9 : FVec Ideal S1024x1024 .f32) (x10 x11 x12 : FVec Ideal S1024 .f32)

/-- The reference's first result at an index, by its coordinates. -/
theorem v142_apply (i : S16x16384x128.Idx) (t : Fin 16) (r : Fin 2048) (j : Fin 1024) (h0 : (i 0).val = t.val)
    (h1 : (i 1).val / 8 = r.val) (h2 : 128 * ((i 1).val % 8) + (i 2).val = j.val) :
    val_main_v142 (F := Ideal) x0 x1 x2 x3 x4 x5 x6 x7 x8 x9 x10 x11 x12 i
      = Rows.hRow (argParams x3 x4 x5 x6 x7 x8 x9 x10 x11 x12) (fun k => x0 (ix3 t r k)) (fun k => x1 (ix3 t k r))
          (fun k => x2 (ix3 t r k)) j := by
  have b0 : (i 0).val < 16 := (i 0).isLt
  have b1 : (i 1).val < 16384 := (i 1).isLt
  have b2 : (i 2).val < 128 := (i 2).isLt
  rw [val_main_v142_apply]
  refine Eq.trans (congrArg _ (funext fun a => Fin.ext ?_)) (v77_apply x0 x1 x2 x3 x4 x5 x6 x7 x8 x9 x10 x11 x12 t r j)
  match a with
  | ⟨0, _⟩ => show (((i 0).val * 16384 + (i 1).val) * 128 + (i 2).val) / 2097152 = t.val; omega
  | ⟨1, _⟩ => show (((i 0).val * 16384 + (i 1).val) * 128 + (i 2).val) / 1024 % 2048 = r.val; omega
  | ⟨2, _⟩ => show (((i 0).val * 16384 + (i 1).val) * 128 + (i 2).val) % 1024 = j.val; omega

end Cert.ReferenceIdeal.MixValue

end
-- ==== Proof.Tie.lean ====
/- The kernel's final memory and the reference's, tied: the array of hidden states is the same. -/
module

public import proofs.«01_k».proof.Proof.KernelH
public import proofs.«01_k».proof.Proof.ReferenceH
public import proofs.«01_k».proof.Proof.Gen.ReferenceIdeal.Run
public import Idealize.ShloMosaic.Lib.Claim

@[expose] public section

set_option maxRecDepth 16384

noncomputable section

namespace Cert.Tie

open Idealize.ShloMosaic Idealize.SL.Sem Idealize.ShloMosaic.TcCoe
open Cert.KernelIdeal (nD τ)

/-- The kernel's memory at launch. -/
abbrev KMem := (ℓ : Loc Cert.KernelIdeal.nD Cert.KernelIdeal.τ Cert.KernelIdeal.sig) → Buf (Elt Ideal) ℓ
/-- The reference's memory at launch. -/
abbrev RMem := (ℓ : Loc Cert.ReferenceIdeal.nD Cert.ReferenceIdeal.τ Cert.ReferenceIdeal.sig) → Buf (Elt Ideal) ℓ

/-- The array of hidden states that the kernel's run leaves is the one its rows give. -/
theorem kernel_h (m : KMem) (r) (h : Pipeline.FramePost Cert.KernelIdeal.cfgs (Cert.KernelIdeal.Mix.dats m) 0 (Cert.KernelIdeal.Gen.V m) r)
    (c : Dev Cert.KernelIdeal.nD) :
    r.2.mem ((c.tc : Thread Cert.KernelIdeal.nD Cert.KernelIdeal.τ).loc Cert.KernelIdeal.main_v30_0)
      = Cert.KernelIdeal.MixValue.hArr m c :=
  ((h c).1 16).trans (Cert.KernelIdeal.MixValue.final_h m c)

/-- The second array that the kernel's run leaves. -/
abbrev routeFinal (m : KMem) (c : Dev Cert.KernelIdeal.nD) : FVec Ideal Cert.KernelIdeal.S16x2048x128 .f32 :=
  (Cert.KernelIdeal.Mix.dats m 0 c).arrAt 17 Cert.KernelIdeal.cfg0.N

theorem kernel_route (m : KMem) (r) (h : Pipeline.FramePost Cert.KernelIdeal.cfgs (Cert.KernelIdeal.Mix.dats m) 0 (Cert.KernelIdeal.Gen.V m) r)
    (c : Dev Cert.KernelIdeal.nD) :
    r.2.mem ((c.tc : Thread Cert.KernelIdeal.nD Cert.KernelIdeal.τ).loc Cert.KernelIdeal.main_v30_1) = routeFinal m c :=
  (h c).1 17

/-- The reference's array of hidden states, over any arguments that are the kernel's. -/
theorem reference_h (m : KMem) (m' : RMem) (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    shapeCast _ (Cert.ReferenceIdeal.Value.res_main_v77 (StableHlo.launchContents m' c)) Cert.ReferenceIdeal.Gen.facts.shapeCasts_S16x2048x1024_S16x16384x128
      = (Cert.KernelIdeal.MixValue.hArr m c : FVec Ideal Cert.ReferenceIdeal.S16x16384x128 .f32) := by
  refine (Cert.ReferenceIdeal.Read.val_main_v142_eq (F := Ideal) (StableHlo.launchContents m' c)).trans ?_
  show Cert.ReferenceIdeal.Read.val_main_v142 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) = _
  rw [a0, a1, a2, a3, a4, a5, a6, a7, a8, a9, a10, a11, a12]
  funext i
  have b0 : (i 0).val < 16 := (i 0).isLt
  have b1 : (i 1).val < 16384 := (i 1).isLt
  have b2 : (i 2).val < 128 := (i 2).isLt
  refine (Cert.ReferenceIdeal.MixValue.v142_apply _ _ _ _ _ _ _ _ _ _ _ _ _ i ⟨(i 0).val, b0⟩ ⟨(i 1).val / 8, by omega⟩
    ⟨128 * ((i 1).val % 8) + (i 2).val, by omega⟩ rfl rfl rfl).trans ?_
  exact (Cert.KernelIdeal.MixValue.hArr_apply m c i ⟨(i 0).val, b0⟩ ⟨(i 1).val / 8, by omega⟩
    ⟨128 * ((i 1).val % 8) + (i 2).val, by omega⟩ rfl rfl rfl).symm

end Cert.Tie

end
-- ==== Proof.Select.lean ====
/- The choice of the largest element and of the second largest, of equal ones the earlier: stated by order alone, met by a
   stable sort, and read off a masked maximum and a masked least lane. -/
module

public import Idealize.ShloMosaic.PureOps.Ideal
public import Idealize.ShloMosaic.Lib.SortFacts
public import Mathlib.Data.Finset.Fold
public import Mathlib.Data.EReal.Basic

@[expose] public section

noncomputable section

namespace Cert.Select

open Idealize.ShloMosaic

variable {n : ℕ} (f : Fin n → EReal)

/-- Position `i` is chosen before position `j`: its element is larger, or equal and earlier. -/
def Ahead (i j : Fin n) : Prop := f j < f i ∨ (f j = f i ∧ i < j)

/-- Position `i` is the first of the largest. -/
def IsFirst (i : Fin n) : Prop := ∀ j, j ≠ i → Ahead f i j

/-- Position `k` is the first of the largest but for position `i`. -/
def IsSecond (i k : Fin n) : Prop := k ≠ i ∧ ∀ j, j ≠ i → j ≠ k → Ahead f k j

theorem Ahead.le {f : Fin n → EReal} {i j : Fin n} (h : Ahead f i j) : f j ≤ f i := h.elim le_of_lt fun h => h.1.le

theorem Ahead.lt_of_eq {f : Fin n → EReal} {i j : Fin n} (h : Ahead f i j) (e : f j = f i) : i < j :=
  h.elim (fun h => absurd e h.ne) fun h => h.2

theorem IsFirst.le {f : Fin n → EReal} {i : Fin n} (h : IsFirst f i) (j : Fin n) : f j ≤ f i := by
  rcases eq_or_ne j i with rfl | hj
  · exact le_rfl
  · exact (h j hj).le

theorem IsFirst.le_of_eq {f : Fin n → EReal} {i : Fin n} (h : IsFirst f i) (j : Fin n) (e : f j = f i) : i ≤ j := by
  rcases eq_or_ne j i with rfl | hj
  · exact le_rfl
  · exact ((h j hj).lt_of_eq e).le

theorem IsSecond.le {f : Fin n → EReal} {i k : Fin n} (h : IsSecond f i k) (j : Fin n) (hj : j ≠ i) : f j ≤ f k := by
  rcases eq_or_ne j k with rfl | hk
  · exact le_rfl
  · exact (h.2 j hj hk).le

theorem IsSecond.le_of_eq {f : Fin n → EReal} {i k : Fin n} (h : IsSecond f i k) (j : Fin n) (hj : j ≠ i)
    (e : f j = f k) : k ≤ j := by
  rcases eq_or_ne j k with rfl | hk
  · exact le_rfl
  · exact ((h.2 j hj hk).lt_of_eq e).le

/-! ## A stable sort, larger first -/

variable (B : Fin n → Fin n → Bool) (hB : ∀ i j, B i j = true ↔ f j < f i)

include hB in
/-- One insertion keeps the order, if what is inserted comes from an earlier position. -/
theorem ahead_insert (a : Fin n) (l : List (Fin n)) (ha : ∀ b ∈ l, a < b) (hl : l.Pairwise (Ahead f)) :
    (insertBefore B a l).Pairwise (Ahead f) := by
  induction l with
  | nil => exact List.pairwise_singleton _ _
  | cons b l ih =>
    obtain ⟨h1, h2⟩ := List.pairwise_cons.mp hl
    unfold insertBefore
    split
    · rename_i h
      refine List.pairwise_cons.mpr ⟨fun c hc => ?_, ih (fun c hc => ha c (List.mem_cons_of_mem _ hc)) h2⟩
      rcases List.mem_cons.mp ((perm_insertBefore B a l).mem_iff.mp hc) with rfl | hc
      · exact Or.inl ((hB _ _).mp h)
      · exact h1 c hc
    · rename_i h
      have hba : f b ≤ f a := not_lt.mp fun h' => h ((hB _ _).mpr h')
      refine List.pairwise_cons.mpr ⟨fun c hc => ?_, hl⟩
      have hca : f c ≤ f a := by
        rcases List.mem_cons.mp hc with rfl | hc
        · exact hba
        · exact (h1 c hc).le.trans hba
      exact (lt_or_eq_of_le hca).imp id fun e => ⟨e, ha c hc⟩

include hB in
theorem ahead_sort (l : List (Fin n)) (hl : l.Pairwise (· < ·)) : (stableSort B l).Pairwise (Ahead f) := by
  induction l with
  | nil => exact List.Pairwise.nil
  | cons a l ih =>
    obtain ⟨h1, h2⟩ := List.pairwise_cons.mp hl
    exact ahead_insert f B hB a _ (fun b hb => h1 b ((perm_stableSort B l).mem_iff.mp hb)) (ih h2)

include hB in
theorem ahead_sortedFrom (i j : Fin n) (hij : i < j) : Ahead f (sortedFrom B i) (sortedFrom B j) := by
  have hp := List.pairwise_iff_get.mp (ahead_sort f B hB (List.finRange n) (List.pairwise_lt_finRange n))
  exact hp (i.cast (length_sortPositions n B).symm) (j.cast (length_sortPositions n B).symm) hij

include hB in
/-- The sort's first position. -/
theorem isFirst_sorted (z : Fin n) (hz : z.val = 0) : IsFirst f (sortedFrom B z) := by
  intro j hj
  obtain ⟨k, rfl⟩ := sortedFrom_surjective B j
  refine ahead_sortedFrom f B hB z k (lt_of_le_of_ne (Fin.le_def.mpr (by omega)) ?_)
  rintro rfl; exact hj rfl

include hB in
/-- The sort's second position. -/
theorem isSecond_sorted (z o : Fin n) (hz : z.val = 0) (ho : o.val = 1) :
    IsSecond f (sortedFrom B z) (sortedFrom B o) := by
  refine ⟨fun e => ?_, fun j hj hk => ?_⟩
  · have := sortedFrom_injective B e
    rw [this] at ho; omega
  · obtain ⟨k, rfl⟩ := sortedFrom_surjective B j
    refine ahead_sortedFrom f B hB o k ?_
    have h1 : k.val ≠ z.val := fun e => hj (congrArg _ (Fin.ext e))
    have h2 : k.val ≠ o.val := fun e => hk (congrArg _ (Fin.ext e))
    exact Fin.lt_def.mpr (by omega)

/-! ## A masked maximum and a masked least lane -/

variable {m : ℕ} (mask : Fin m → BitVec 1)

theorem bit_cases (b : BitVec 1) : b = 1#1 ∨ b = 0#1 := by
  have : ∀ b : BitVec 1, b = 1#1 ∨ b = 0#1 := by decide
  exact this b

theorem ofBool_eq (p : Prop) [Decidable p] : (BitVec.ofBool (decide p) = 1#1) ↔ p := by
  by_cases h : p <;> simp [h]

theorem andi_eq (a b : BitVec 1) : IntOp.andi a b = 1#1 ↔ a = 1#1 ∧ b = 1#1 := by
  have : ∀ a b : BitVec 1, IntOp.andi a b = 1#1 ↔ a = 1#1 ∧ b = 1#1 := by decide
  exact this a b

/-- The largest of the elements under a mask is `z i`, if lane `i` is under it and none there is larger. -/
theorem fold_max (z : Fin m → EReal) (i : Fin m) (hi : mask i = 1#1) (hle : ∀ j, mask j = 1#1 → z j ≤ z i) :
    Finset.fold max (⊥ : EReal) (fun x => Scalar.select (mask x) (z x) ⊥) Finset.univ = z i := by
  refine le_antisymm ((Finset.fold_max_le _).mpr ⟨bot_le, fun x _ => ?_⟩) ((Finset.le_fold_max _).mpr (Or.inr ⟨i, Finset.mem_univ _, ?_⟩))
  · rcases bit_cases (mask x) with h | h
    · rw [h]; exact hle x h
    · rw [h]; exact bot_le
  · rw [hi]; exact le_rfl

/-- The least lane that the mask leaves is lane `i`, if it leaves lane `i` and none before. -/
theorem fold_min (lane : Fin m → EReal) (big : EReal) (i : Fin m) (hi : mask i = 1#1) (hbig : lane i ≤ big)
    (hle : ∀ j, mask j = 1#1 → lane i ≤ lane j) :
    Finset.fold min (⊤ : EReal) (fun x => Scalar.select (mask x) (lane x) big) Finset.univ = lane i := by
  refine le_antisymm ((Finset.fold_min_le _).mpr (Or.inr ⟨i, Finset.mem_univ _, ?_⟩)) ((Finset.le_fold_min _).mpr ⟨le_top, fun x _ => ?_⟩)
  · rw [hi]; exact le_rfl
  · rcases bit_cases (mask x) with h | h
    · rw [h]; exact hle x h
    · rw [h]; exact hbig

end Cert.Select

end
-- ==== Proof.RouteSpec.lean ====
/- One token's routing lanes, over the reals: from the scores of the four groups and of the thirty-two experts, the chosen
   group and the two chosen experts of it. -/
module

public import Mathlib.Analysis.SpecialFunctions.Exp

@[expose] public section

noncomputable section

namespace Cert.Route

/-- Expert `a` of group `g`, among all experts. -/
abbrev expert (g : Fin 4) (a : Fin 8) : Fin 32 := ⟨8 * g.val + a.val, by omega⟩

/-- The lane of group `k`. -/
abbrev groupLane (k : Fin 4) : Fin 128 := ⟨k.val, by omega⟩
/-- The lane of expert `e`. -/
abbrev expertLane (e : Fin 32) : Fin 128 := ⟨4 + e.val, by omega⟩

variable (rg : Fin 4 → ℝ) (re : Fin 32 → ℝ) (g : Fin 4) (a b : Fin 8)

/-- The probability of the chosen group. -/
def group : ℝ := 1 / ∑ k, Real.exp (rg k - rg g)

/-- The second expert's weight relative to the first's. -/
def ratio : ℝ := Real.exp (re (expert g b) - re (expert g a))

/-- The number of the pair of chosen experts: pairs of a group in lexicographic order, groups one after another. -/
def pair : ℝ :=
  (g.val : ℝ) * 28 + ((min a.val b.val : ℕ) : ℝ) * (15 - ((min a.val b.val : ℕ) : ℝ)) / 2
    + (((max a.val b.val : ℕ) : ℝ) - ((min a.val b.val : ℕ) : ℝ) - 1)

/-- The routing lanes: the two experts, their gates, the pair's number, zeros. -/
def lanes (l : ℕ) : ℝ :=
  if l = 0 then ((8 * g.val + a.val : ℕ) : ℝ)
  else if l = 1 then ((8 * g.val + b.val : ℕ) : ℝ)
  else if l = 2 then group rg g * (1 / (1 + ratio re g a b))
  else if l = 3 then group rg g * (ratio re g a b / (1 + ratio re g a b))
  else if l = 4 then pair g a b
  else 0

theorem sum_pos : 0 < ∑ k, Real.exp (rg k - rg g) := Finset.sum_pos (fun _ _ => Real.exp_pos _) ⟨g, Finset.mem_univ _⟩

theorem ratio_pos : 0 < ratio re g a b := Real.exp_pos _

end Cert.Route

end
-- ==== Proof.KernelRouteRows.lean ====
/- The kernel's routing lanes at an index: row `r` of the block's routing lanes is `Route.lanes` of the row's scores, if the
   scores are real. -/
module

public import proofs.«01_k».proof.Proof.KernelRows
public import proofs.«01_k».proof.Proof.Select
public import proofs.«01_k».proof.Proof.RouteSpec
public import Idealize.ShloMosaic.Lib.Pointwise
public import Mathlib.Tactic.NormNum
public import Mathlib.Tactic.Ring
public import Mathlib.Tactic.FieldSimp

@[expose] public section

set_option maxRecDepth 16384

noncomputable section

namespace Cert.KernelIdeal.MixValue

open Cert.KernelIdeal Cert.KernelIdeal.Gen Cert.KernelIdeal.Mix
open Idealize.ShloMosaic Idealize.ShloMosaic.TcCoe

/-! ## The literals -/

theorem lit_bot : Ideal.ofBits .f32 0xFF800000#32 = ⊥ := by simp [Ideal.ofBits, Ideal.ieee]
theorem lit_top : Ideal.ofBits .f32 0x7F800000#32 = ⊤ := by simp [Ideal.ofBits, Ideal.ieee]
theorem lit_big : Ideal.ofBits .f32 0x4E6E6B28#32 = ((1000000000 : ℝ) : EReal) := by
  simp [Ideal.ofBits, Ideal.ieee, -EReal.coe_mul]; norm_num
theorem lit_4 : Ideal.ofBits .f32 0x40800000#32 = ((4 : ℝ) : EReal) := by
  simp [Ideal.ofBits, Ideal.ieee, -EReal.coe_mul]; norm_num
theorem lit_8 : Ideal.ofBits .f32 0x41000000#32 = ((8 : ℝ) : EReal) := by
  simp [Ideal.ofBits, Ideal.ieee, -EReal.coe_mul]; norm_num
theorem lit_28 : Ideal.ofBits .f32 0x41E00000#32 = ((28 : ℝ) : EReal) := by
  simp [Ideal.ofBits, Ideal.ieee, -EReal.coe_mul]; norm_num
theorem lit_15 : Ideal.ofBits .f32 0x41700000#32 = ((15 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_1 : Ideal.ofBits .f32 0x3F800000#32 = ((1 : ℝ) : EReal) := by
  simp [Ideal.ofBits, Ideal.ieee, -EReal.coe_mul]; norm_num

/-! ## The lanes -/

theorem lane_int : ∀ x : Fin 128, (BitVec.ofNat 32 x.val).toInt = (x.val : ℤ) := by decide
theorem lane_lt : ∀ x : Fin 128, IntOp.cmpi .slt (BitVec.ofNat 32 x.val) 4#32 = 1#1 ↔ x.val < 4 := by decide

theorem lane_float (x : Fin 128) :
    (FloatOps.sitofp (F := Ideal) .f32 (BitVec.ofNat 32 x.val)) = ((x.val : ℝ) : EReal) := by
  show (((BitVec.ofNat 32 x.val).toInt : ℝ) : EReal) = _
  rw [lane_int]; norm_cast

theorem pay18_apply (r : Fin 512) (x : Fin 128) : k0_pay18 (F := Ideal) (ix2 r x) = ((x.val : ℝ) : EReal) := by
  pointwise [k0_pay18]
  exact lane_float x

/-- A lane's number as a real number, compared. -/
theorem lane_le {a b : ℕ} : ((a : ℝ) : EReal) ≤ ((b : ℝ) : EReal) ↔ a ≤ b := by
  rw [EReal.coe_le_coe_iff, Nat.cast_le]

/-! ## The group -/

section group
variable (v73 : FVec Ideal S512x1024 .f32) (v106 : FVec Ideal S512x1024 .bf16) (v110 v113 v117 : Vec Ideal S1024x128 .bf16)
  (v121 : Vec Ideal S1x128 .f32) (r : Fin 512) (rg : Fin 4 → ℝ) (g : Fin 4)
  (hz : ∀ k : Fin 4, k0_pay17 v73 v106 v110 v113 v117 v121 (ix2 r ⟨k.val, by omega⟩) = (rg k : EReal))
  (hg : Select.IsFirst (fun k => (rg k : EReal)) g)

include hz hg

theorem group_le (j : Fin 128) (hj : IntOp.cmpi .slt (BitVec.ofNat 32 j.val) 4#32 = 1#1) :
    k0_pay17 v73 v106 v110 v113 v117 v121 (ix2 r j) ≤ k0_pay17 v73 v106 v110 v113 v117 v121 (ix2 r ⟨g.val, by omega⟩) := by
  have h := (lane_lt j).mp hj
  rw [hz g, hz ⟨j.val, h⟩]
  exact hg.le _

theorem gmax_apply : k0_pay21 v73 v106 v110 v113 v117 v121 (ix2 r 0) = (rg g : EReal) := by
  unfold k0_pay21 k0_pay20
  have hle := group_le v73 v106 v110 v113 v117 v121 r rg g hz hg
  have hzg := hz g
  generalize k0_pay17 v73 v106 v110 v113 v117 v121 = z at hle hzg ⊢
  pointwise [k0_pay19]
  rw [lit_bot, ← hzg]
  exact Select.fold_max _ (fun x => z (ix2 r x)) ⟨g.val, by omega⟩ ((lane_lt _).mpr g.isLt) hle

theorem gsel_apply : k0_pay22 v73 v106 v110 v113 v117 v121 (ix2 r 0) = ((g.val : ℝ) : EReal) := by
  have hmax := gmax_apply v73 v106 v110 v113 v117 v121 r rg g hz hg
  unfold k0_pay22 k0_pay20
  generalize k0_pay21 v73 v106 v110 v113 v117 v121 = mx at hmax ⊢
  generalize k0_pay17 v73 v106 v110 v113 v117 v121 = z at hz ⊢
  pointwise [k0_pay19, k0_pay18]
  rw [lit_bot, lit_top, lit_big]
  refine (Select.fold_min _ (fun x : Fin 128 => FloatOps.sitofp (F := Ideal) .f32 (BitVec.ofNat 32 x.val)) _
    ⟨g.val, by omega⟩ ?_ ?_ fun j hj => ?_).trans (lane_float _)
  · refine (Select.andi_eq _ _).mpr ⟨(lane_lt _).mpr g.isLt, (@Select.ofBool_eq _ _).mpr ?_⟩
    rw [(lane_lt ⟨g.val, by omega⟩).mpr g.isLt, hmax]
    exact hz g
  · rw [lane_float, EReal.coe_le_coe_iff]
    have : (g.val : ℝ) < 4 := by exact_mod_cast g.isLt
    show (g.val : ℝ) ≤ _
    linarith
  · obtain ⟨h1, h2⟩ := (Select.andi_eq _ _).mp hj
    have e := (@Select.ofBool_eq _ _).mp h2
    rw [h1, hmax] at e
    have h := (lane_lt j).mp h1
    replace e : z (ix2 r j) = (rg g : EReal) := e
    rw [hz ⟨j.val, h⟩] at e
    rw [lane_float, lane_float]
    exact lane_le.mpr (hg.le_of_eq ⟨j.val, h⟩ e)

theorem gsum_apply :
    k0_pay23 v73 v106 v110 v113 v117 v121 (ix2 r 0) = ((∑ k, Real.exp (rg k - rg g) : ℝ) : EReal) := by
  have hmax := gmax_apply v73 v106 v110 v113 v117 v121 r rg g hz hg
  unfold k0_pay23 k0_pay20
  generalize k0_pay21 v73 v106 v110 v113 v117 v121 = mx at hmax ⊢
  generalize k0_pay17 v73 v106 v110 v113 v117 v121 = z at hz ⊢
  pointwise [k0_pay19]
  rw [hmax]
  refine (Fin.sum_univ_add (a := 4) (b := 124) _).trans ?_
  have h2 : ∀ x : Fin 124, IntOp.cmpi .slt (BitVec.ofNat 32 (Fin.natAdd 4 x).val) 4#32 = 0#1 := by decide
  have h1 : ∀ x : Fin 4, IntOp.cmpi .slt (BitVec.ofNat 32 (Fin.castAdd 124 x).val) 4#32 = 1#1 := by decide
  rw [Finset.sum_eq_zero (s := Finset.univ (α := Fin 124)) (fun x _ => by rw [h2 x]; rfl), add_zero]
  simp only [Fin.sum_univ_four, EReal.coe_add]
  have h3 : ∀ x : Fin 4, Scalar.select (IntOp.cmpi .slt (BitVec.ofNat 32 (Fin.castAdd 124 x).val) 4#32)
      (Ideal.exp (Scalar.select (IntOp.cmpi .slt (BitVec.ofNat 32 (Fin.castAdd 124 x).val) 4#32) (z (ix2 r (Fin.castAdd 124 x)))
        (Ideal.ofBits FTy.f32 4286578688#32) - (rg g : EReal))) 0 = ((Real.exp (rg x - rg g) : ℝ) : EReal) := fun x => by
    rw [h1 x]
    show Ideal.exp (z (ix2 r (Fin.castAdd 124 x)) - (rg g : EReal)) = _
    rw [show z (ix2 r (Fin.castAdd 124 x)) = (rg x : EReal) from hz x, ← EReal.coe_sub]
    rfl
  rw [← h3 0, ← h3 1, ← h3 2, ← h3 3]

end group

/-! ## The experts -/

/-- The lane of expert `a` of group `g`. -/
abbrev laneOf (g : Fin 4) (a : Fin 8) : Fin 128 := ⟨4 + (8 * g.val + a.val), by omega⟩

section experts
variable (z : FVec Ideal S512x128 .f32) (gs : FVec Ideal S512x1 .f32) (r : Fin 512) (re : Fin 32 → ℝ) (g : Fin 4)
  (hgs : gs (ix2 r 0) = ((g.val : ℝ) : EReal))
  (hz : ∀ e : Fin 32, z (ix2 r ⟨4 + e.val, by omega⟩) = (re e : EReal))
  (a b : Fin 8) (ha : Select.IsFirst (fun k => (re (Route.expert g k) : EReal)) a)
  (hb : Select.IsSecond (fun k => (re (Route.expert g k) : EReal)) a b)

include hgs

theorem lo_apply : k0_pay26 gs (ix2 r 0) = (((4 + 8 * g.val : ℕ) : ℝ) : EReal) := by
  pointwise [k0_pay26]
  rw [hgs, lit_4, lit_8, ← EReal.coe_mul, ← EReal.coe_add]
  norm_cast

theorem emask_iff (x : Fin 128) :
    k0_pay27 k0_pay18 gs (ix2 r x) = 1#1 ↔ 4 + 8 * g.val ≤ x.val ∧ x.val < 4 + 8 * g.val + 8 := by
  have hlo := lo_apply gs r g hgs
  pointwise [k0_pay27]
  rw [Select.andi_eq, @Select.ofBool_eq _ _, @Select.ofBool_eq _ _, hlo, pay18_apply, lit_8, ← EReal.coe_add, lane_le,
    EReal.coe_lt_coe_iff]
  exact and_congr_right fun _ => by norm_cast

/-- A lane under the mask is an expert of the group. -/
theorem emask_lane (x : Fin 128) (h : k0_pay27 k0_pay18 gs (ix2 r x) = 1#1) : ∃ k : Fin 8, x = laneOf g k := by
  obtain ⟨h1, h2⟩ := (emask_iff gs r g hgs x).mp h
  exact ⟨⟨x.val - (4 + 8 * g.val), by omega⟩, Fin.ext (by show x.val = 4 + (8 * g.val + (x.val - (4 + 8 * g.val))); omega)⟩

theorem emask_of (k : Fin 8) : k0_pay27 k0_pay18 gs (ix2 r (laneOf g k)) = 1#1 :=
  (emask_iff gs r g hgs _).mpr ⟨by show 4 + 8 * g.val ≤ 4 + (8 * g.val + k.val); omega,
    by show 4 + (8 * g.val + k.val) < 4 + 8 * g.val + 8; omega⟩

omit hgs in
theorem lane_big (k : Fin 128) : ((k.val : ℝ) : EReal) ≤ ((1000000000 : ℝ) : EReal) := by
  rw [EReal.coe_le_coe_iff]
  have : (k.val : ℝ) < 128 := by exact_mod_cast k.isLt
  linarith

include hz

omit hgs in
theorem score_apply (k : Fin 8) : z (ix2 r (laneOf g k)) = (re (Route.expert g k) : EReal) := hz (Route.expert g k)

include ha

/-- The largest score of the group's experts. -/
theorem v1_apply : k0_pay29 z k0_pay18 gs (ix2 r 0) = (re (Route.expert g a) : EReal) := by
  pointwise [k0_pay29, k0_pay28]
  rw [lit_bot, ← score_apply z r re g hz a]
  refine Select.fold_max _ (fun x => z (ix2 r x)) (laneOf g a) (emask_of gs r g hgs a) fun j hj => ?_
  obtain ⟨k, rfl⟩ := emask_lane gs r g hgs j hj
  show z (ix2 r (laneOf g k)) ≤ z (ix2 r (laneOf g a))
  rw [score_apply z r re g hz, score_apply z r re g hz]
  exact ha.le k

/-- The lane of the first expert. -/
theorem i1_apply : k0_pay30 z k0_pay18 gs (ix2 r 0) = (((laneOf g a).val : ℝ) : EReal) := by
  have hv := v1_apply z gs r re g hgs hz a ha
  unfold k0_pay30 k0_pay28
  generalize k0_pay29 z k0_pay18 gs = mx at hv ⊢
  have hmask := emask_of gs r g hgs
  have hlane := emask_lane gs r g hgs
  generalize k0_pay27 k0_pay18 gs = mask at hmask hlane ⊢
  pointwise
  rw [lit_bot, lit_top, lit_big]
  refine (Select.fold_min _ (fun x : Fin 128 => k0_pay18 (F := Ideal) (ix2 r x)) _ (laneOf g a) ?_ ?_ fun j hj => ?_).trans
    (pay18_apply r _)
  · refine (Select.andi_eq _ _).mpr ⟨hmask a, (@Select.ofBool_eq _ _).mpr ?_⟩
    rw [hmask a, hv]
    exact score_apply z r re g hz a
  · rw [pay18_apply]; exact lane_big _
  · obtain ⟨h1, h2⟩ := (Select.andi_eq _ _).mp hj
    have e := (@Select.ofBool_eq _ _).mp h2
    rw [h1, hv] at e
    obtain ⟨k, rfl⟩ := hlane j h1
    replace e : z (ix2 r (laneOf g k)) = _ := e
    rw [score_apply z r re g hz] at e
    have := Fin.le_def.mp (ha.le_of_eq k e)
    rw [pay18_apply, pay18_apply]
    exact lane_le.mpr (by show 4 + (8 * g.val + a.val) ≤ 4 + (8 * g.val + k.val); omega)

theorem emask2_iff (k : Fin 8) : k0_pay31 z k0_pay18 gs (ix2 r (laneOf g k)) = 1#1 ↔ k ≠ a := by
  have h1 := i1_apply z gs r re g hgs hz a ha
  have hmask := emask_of gs r g hgs k
  unfold k0_pay31
  generalize k0_pay30 z k0_pay18 gs = i1 at h1 ⊢
  generalize k0_pay27 k0_pay18 gs = mask at hmask ⊢
  pointwise
  rw [Select.andi_eq, @Select.ofBool_eq _ _, h1, pay18_apply, hmask]
  refine ⟨fun h e => h.2 (by rw [e]), fun h => ⟨rfl, fun e => h ?_⟩⟩
  have e' := EReal.coe_eq_coe_iff.mp e
  have e'' : 4 + (8 * g.val + k.val) = 4 + (8 * g.val + a.val) := by exact_mod_cast e'
  exact Fin.ext (by omega)

omit hz ha in
theorem emask2_lane (x : Fin 128) (h : k0_pay31 z k0_pay18 gs (ix2 r x) = 1#1) : ∃ k : Fin 8, x = laneOf g k := by
  refine emask_lane gs r g hgs x ?_
  unfold k0_pay31 at h
  generalize k0_pay27 k0_pay18 gs = mask at h ⊢
  exact ((Select.andi_eq _ _).mp h).1

include hb

/-- The second largest score of the group's experts. -/
theorem v2_apply : k0_pay33 z k0_pay18 gs (ix2 r 0) = (re (Route.expert g b) : EReal) := by
  have hm := emask2_iff z gs r re g hgs hz a ha
  have hl := emask2_lane z gs r g hgs
  unfold k0_pay33 k0_pay32
  generalize k0_pay31 z k0_pay18 gs = mask at hm hl ⊢
  pointwise
  rw [lit_bot, ← score_apply z r re g hz b]
  refine Select.fold_max _ (fun x => z (ix2 r x)) (laneOf g b) ((hm b).mpr hb.1) fun j hj => ?_
  obtain ⟨k, rfl⟩ := hl j hj
  show z (ix2 r (laneOf g k)) ≤ z (ix2 r (laneOf g b))
  rw [score_apply z r re g hz, score_apply z r re g hz]
  exact hb.le k ((hm k).mp hj)

/-- The lane of the second expert. -/
theorem i2_apply : k0_pay34 z k0_pay18 gs (ix2 r 0) = (((laneOf g b).val : ℝ) : EReal) := by
  have hv := v2_apply z gs r re g hgs hz a b ha hb
  have hm := emask2_iff z gs r re g hgs hz a ha
  have hl := emask2_lane z gs r g hgs
  unfold k0_pay34 k0_pay32
  generalize k0_pay33 z k0_pay18 gs = mx at hv ⊢
  generalize k0_pay31 z k0_pay18 gs = mask at hm hl ⊢
  pointwise
  rw [lit_bot, lit_top, lit_big]
  refine (Select.fold_min _ (fun x : Fin 128 => k0_pay18 (F := Ideal) (ix2 r x)) _ (laneOf g b) ?_ ?_ fun j hj => ?_).trans
    (pay18_apply r _)
  · refine (Select.andi_eq _ _).mpr ⟨(hm b).mpr hb.1, (@Select.ofBool_eq _ _).mpr ?_⟩
    rw [(hm b).mpr hb.1, hv]
    exact score_apply z r re g hz b
  · rw [pay18_apply]; exact lane_big _
  · obtain ⟨h1, h2⟩ := (Select.andi_eq _ _).mp hj
    have e := (@Select.ofBool_eq _ _).mp h2
    rw [h1, hv] at e
    obtain ⟨k, rfl⟩ := hl j h1
    replace e : z (ix2 r (laneOf g k)) = _ := e
    rw [score_apply z r re g hz] at e
    have := Fin.le_def.mp (hb.le_of_eq k ((hm k).mp h1) e)
    rw [pay18_apply, pay18_apply]
    exact lane_le.mpr (by show 4 + (8 * g.val + b.val) ≤ 4 + (8 * g.val + k.val); omega)

/-- The second expert's weight relative to the first's. -/
theorem e2_apply : k0_pay35 z k0_pay18 gs (ix2 r 0) = (Route.ratio re g a b : EReal) := by
  have h1 := v1_apply z gs r re g hgs hz a ha
  have h2 := v2_apply z gs r re g hgs hz a b ha hb
  pointwise [k0_pay35]
  rw [h1, h2, ← EReal.coe_sub]
  rfl

theorem inv_apply : k0_pay36 z k0_pay18 gs (ix2 r 0) = ((1 / (1 + Route.ratio re g a b) : ℝ) : EReal) := by
  have h := e2_apply z gs r re g hgs hz a b ha hb
  have hp := Route.ratio_pos re g a b
  pointwise [k0_pay36]
  rw [h, ← EReal.coe_one, ← EReal.coe_add, Ideal.div_coe (by positivity), ← EReal.coe_mul]
  norm_num

omit hgs hz ha hb in
theorem lanes_max (k j : Fin 8) : max (((laneOf g k).val : ℝ) : EReal) (((laneOf g j).val : ℝ) : EReal)
    = (((4 + 8 * g.val + max k.val j.val : ℕ) : ℝ) : EReal) := by
  rw [← EReal.coe_strictMono.monotone.map_max, ← Nat.cast_max]
  congr 2
  show max (4 + (8 * g.val + k.val)) (4 + (8 * g.val + j.val)) = _
  omega

omit hgs hz ha hb in
theorem lanes_min (k j : Fin 8) : min (((laneOf g k).val : ℝ) : EReal) (((laneOf g j).val : ℝ) : EReal)
    = (((4 + 8 * g.val + min k.val j.val : ℕ) : ℝ) : EReal) := by
  rw [← EReal.coe_strictMono.monotone.map_min, ← Nat.cast_min]
  congr 2
  show min (4 + (8 * g.val + k.val)) (4 + (8 * g.val + j.val)) = _
  omega

theorem min_apply : k0_pay39 z k0_pay18 gs (ix2 r 0) = (((4 + 8 * g.val + min a.val b.val : ℕ) : ℝ) : EReal) := by
  have h1 := i1_apply z gs r re g hgs hz a ha
  have h2 := i2_apply z gs r re g hgs hz a b ha hb
  pointwise [k0_pay39]
  rw [h1, h2]
  exact lanes_min g a b

variable (ss : FVec Ideal S512x1 .f32) (rg : Fin 4 → ℝ) (hss : ss (ix2 r 0) = ((∑ k, Real.exp (rg k - rg g) : ℝ) : EReal))

include hss

theorem gate1_apply : k0_pay37 z k0_pay18 gs ss k0_pay24 (ix2 r 0)
    = ((Route.group rg g * (1 / (1 + Route.ratio re g a b)) : ℝ) : EReal) := by
  have h := inv_apply z gs r re g hgs hz a b ha hb
  have hp := Route.sum_pos rg g
  pointwise [k0_pay37, k0_pay25, k0_pay24]
  rw [h, hss, ← EReal.coe_one, Ideal.div_coe hp.ne', ← EReal.coe_mul, ← EReal.coe_mul, one_mul]
  rfl

theorem gate2_apply : k0_pay38 z k0_pay18 gs ss k0_pay24 (ix2 r 0)
    = ((Route.group rg g * (Route.ratio re g a b / (1 + Route.ratio re g a b)) : ℝ) : EReal) := by
  have h := inv_apply z gs r re g hgs hz a b ha hb
  have h2 := e2_apply z gs r re g hgs hz a b ha hb
  have hp := Route.sum_pos rg g
  pointwise [k0_pay38, k0_pay25, k0_pay24]
  rw [h, h2, hss, ← EReal.coe_one, Ideal.div_coe hp.ne', ← EReal.coe_mul, ← EReal.coe_mul, ← EReal.coe_mul, one_mul, mul_one_div]
  rfl

omit hgs hz ha hb hss in
theorem sel_lane (x : Fin 128) (n : Fin 128) (u v : EReal) :
    Scalar.select (IntOp.cmpi .eq (BitVec.ofNat 32 x.val) (BitVec.ofNat 32 n.val)) u v = if x.val = n.val then u else v := by
  have h : ∀ x n : Fin 128, IntOp.cmpi .eq (BitVec.ofNat 32 x.val) (BitVec.ofNat 32 n.val) = if x = n then 1#1 else 0#1 := by
    intro x n
    by_cases e : x = n
    · rw [e, if_pos rfl]; simp [IntOp.cmpi]
    · rw [if_neg e]
      have : BitVec.ofNat 32 x.val ≠ BitVec.ofNat 32 n.val := fun h => e (Fin.ext (by
        have := congrArg BitVec.toInt h
        rw [lane_int, lane_int] at this
        exact_mod_cast this))
      show BitVec.ofBool (BitVec.ofNat 32 x.val == BitVec.ofNat 32 n.val) = 0#1
      rw [beq_eq_false_iff_ne.mpr this]
      rfl
  rw [h]
  by_cases e : x = n
  · rw [if_pos e, if_pos (congrArg Fin.val e)]; rfl
  · rw [if_neg e, if_neg fun h => e (Fin.ext h)]; rfl

/-- The routing lanes that the block stores. -/
theorem lanes_apply (l : Fin 128) :
    k0_pay40 (iota .tc S512x128 32 [1] iota_S512x128_d1_w32) gs (k0_pay26 gs) (k0_pay30 z k0_pay18 gs) (k0_pay34 z k0_pay18 gs)
      (k0_pay37 z k0_pay18 gs ss k0_pay24) (k0_pay38 z k0_pay18 gs ss k0_pay24) (k0_pay39 z k0_pay18 gs) (ix2 r l)
      = ((Route.lanes rg re g a b l.val : ℝ) : EReal) := by
  have e1 := gate1_apply z gs r re g hgs hz a b ha hb ss rg hss
  have e2 := gate2_apply z gs r re g hgs hz a b ha hb ss rg hss
  have e3 := min_apply z gs r re g hgs hz a b ha hb
  have e4 := lo_apply gs r g hgs
  have e5 := i1_apply z gs r re g hgs hz a ha
  have e6 := i2_apply z gs r re g hgs hz a b ha hb
  generalize k0_pay37 z k0_pay18 gs ss k0_pay24 = p37 at e1 ⊢
  generalize k0_pay38 z k0_pay18 gs ss k0_pay24 = p38 at e2 ⊢
  generalize k0_pay39 z k0_pay18 gs = p39 at e3 ⊢
  generalize k0_pay26 gs = p26 at e4 ⊢
  generalize k0_pay30 z k0_pay18 gs = p30 at e5 ⊢
  generalize k0_pay34 z k0_pay18 gs = p34 at e6 ⊢
  pointwise [k0_pay40]
  rw [e1, e2, e3, e4, e5, e6, hgs, lit_28, lit_15, lit_half, lit_4, lanes_max]
  refine (sel_lane l 4 _ _).trans ?_
  rw [show Scalar.select (IntOp.cmpi .eq (BitVec.ofNat 32 l.val) 3#32) = _ from funext fun u => funext (sel_lane l 3 u),
    show Scalar.select (IntOp.cmpi .eq (BitVec.ofNat 32 l.val) 2#32) = _ from funext fun u => funext (sel_lane l 2 u),
    show Scalar.select (IntOp.cmpi .eq (BitVec.ofNat 32 l.val) 1#32) = _ from funext fun u => funext (sel_lane l 1 u),
    show Scalar.select (IntOp.cmpi .eq (BitVec.ofNat 32 l.val) 0#32) = _ from funext fun u => funext (sel_lane l 0 u)]
  have h0 : (((laneOf g a).val : ℝ) : EReal) - ((4 : ℝ) : EReal) = (((8 * g.val + a.val : ℕ) : ℝ) : EReal) := by
    rw [← EReal.coe_sub]; congr 1; push_cast; ring
  have h1 : (((laneOf g b).val : ℝ) : EReal) - ((4 : ℝ) : EReal) = (((8 * g.val + b.val : ℕ) : ℝ) : EReal) := by
    rw [← EReal.coe_sub]; congr 1; push_cast; ring
  rw [h0, h1, ← EReal.coe_one, ← EReal.coe_zero]
  have h4 : ((g.val : ℝ) : EReal) * ((28 : ℝ) : EReal)
      + ((((4 + 8 * g.val + min a.val b.val : ℕ) : ℝ) : EReal) - (((4 + 8 * g.val : ℕ) : ℝ) : EReal))
        * (((15 : ℝ) : EReal) - ((((4 + 8 * g.val + min a.val b.val : ℕ) : ℝ) : EReal) - (((4 + 8 * g.val : ℕ) : ℝ) : EReal)))
        * ((1 / 2 : ℝ) : EReal)
      + ((((4 + 8 * g.val + max a.val b.val : ℕ) : ℝ) : EReal) - (((4 + 8 * g.val : ℕ) : ℝ) : EReal)
        - ((((4 + 8 * g.val + min a.val b.val : ℕ) : ℝ) : EReal) - (((4 + 8 * g.val : ℕ) : ℝ) : EReal)) - ((1 : ℝ) : EReal))
      = ((Route.pair g a b : ℝ) : EReal) := by
    simp only [← EReal.coe_sub, ← EReal.coe_mul, ← EReal.coe_add]
    congr 1
    unfold Route.pair
    push_cast
    ring
  rw [h4]
  unfold Route.lanes
  have hl := l.isLt
  show (if l.val = 4 then _ else if l.val = 3 then _ else if l.val = 2 then _ else if l.val = 1 then _ else if l.val = 0 then _ else _) = _
  split_ifs <;> first | rfl | omega

end experts

/-! ## All lanes of a row -/

/-- A row's lanes, from its scores: groups in lanes 0–3, experts in lanes 4–35. -/
theorem routeRows_apply (h : FVec Ideal S512x1024 .f32) (x13 x14 : Vec Ideal S1024x128 .bf16) (x15 : Vec Ideal S1x128 .f32)
    (r : Fin 512) (rg : Fin 4 → ℝ) (re : Fin 32 → ℝ)
    (hg : ∀ k : Fin 4, zRows h x13 x14 x15 (ix2 r (Route.groupLane k)) = (rg k : EReal))
    (he : ∀ e : Fin 32, zRows h x13 x14 x15 (ix2 r (Route.expertLane e)) = (re e : EReal))
    (g : Fin 4) (a b : Fin 8) (h0 : Select.IsFirst (fun k => (rg k : EReal)) g)
    (ha : Select.IsFirst (fun k => (re (Route.expert g k) : EReal)) a)
    (hb : Select.IsSecond (fun k => (re (Route.expert g k) : EReal)) a b) (l : Fin 128) :
    routeRows h x13 x14 x15 (ix2 r l) = ((Route.lanes rg re g a b l.val : ℝ) : EReal) := by
  unfold zRows at hg
  exact lanes_apply (zRows h x13 x14 x15) _ r re g (gsel_apply _ _ _ _ _ _ r rg g hg h0) he a b ha hb _ rg
    (gsum_apply _ _ _ _ _ _ r rg g hg h0) l

/-- A row's score in a lane: the row times the lane's weights and bias, where the high and low halves of the row and of the
    weights are taken apart. -/
theorem zRows_apply (h : FVec Ideal S512x1024 .f32) (x13 x14 : Vec Ideal S1024x128 .bf16) (x15 : Vec Ideal S1x128 .f32)
    (r : Fin 512) (l : Fin 128) :
    zRows h x13 x14 x15 (ix2 r l) = (∑ k : Fin 1024, h (ix2 r k) * x13 (ix2 k l))
      + (∑ k : Fin 1024, (h (ix2 r k) - h (ix2 r k)) * x13 (ix2 k l)) + (∑ k : Fin 1024, h (ix2 r k) * x14 (ix2 k l)) + x15 (ix2 0 l) := by
  unfold zRows
  rw [View.ld_unit_zero (S := S1024x128) zeros2, View.ld_unit_zero (S := S1024x128) zeros2, View.ld_unit_zero (S := S1x128) zeros2]
  pointwise [k0_pay17, k0_pay16]

theorem routeOut_apply (x0 : Vec Ideal S1x512x1024 .bf16) (x1 x2 : Vec Ideal S1x512x512 .bf16) (x3 : Vec Ideal S1024x2048 .bf16)
    (x4 : Vec Ideal S1x2048 .f32) (x5 : Vec Ideal S512x2048 .bf16)
    (x6 : Vec Ideal S1x2048 .f32) (x7 : Vec Ideal S512x1024 .bf16) (x8 : Vec Ideal S1x1024 .f32)
    (x9 : Vec Ideal S1024x1024 .bf16) (x10 x11 x12 : Vec Ideal S1x1024 .f32)
    (x13 x14 : Vec Ideal S1024x128 .bf16) (x15 : Vec Ideal S1x128 .f32) (r : Fin 512) (l : Fin 128) :
    routeOut x0 x1 x2 x3 x4 x5 x6 x7 x8 x9 x10 x11 x12 x13 x14 x15 (ix3 0 r l)
      = routeRows (hRows x0 x1 x2 x3 x4 x5 x6 x7 x8 x9 x10 x11 x12 x13 x14 x15) x13 x14 x15 (ix2 r l) := by
  unfold routeOut
  pointwise [k0_pay1]

end Cert.KernelIdeal.MixValue

end
-- ==== Proof.RouteWeights.lean ====
/- The routing weights and biases that the kernel reads: a matrix and a row of 128 lanes, in which the groups' lanes 0–3 and
   the experts' lanes 4–35 are set, at an index. -/
module

public import proofs.«01_k».proof.Proof.KernelBlock
public import Idealize.ShloMosaic.Lib.Routing.OpsPair
public import Idealize.ShloMosaic.Lib.Routing.OpsSet

@[expose] public section

set_option maxRecDepth 16384

noncomputable section

namespace Cert.KernelIdeal.MixValue

open Cert.KernelIdeal Cert.KernelIdeal.Gen Cert.KernelIdeal.Mix
open Idealize.ShloMosaic Idealize.ShloMosaic.TcCoe
open Idealize.ShloMosaic.Routing (shape1 shape2)

/-! ## A block of lanes that is set -/

/-- Where an update of a matrix lands. -/
theorem lands2 {R C : ℕ} {si u : Shape} (d : ScatterDims (shape2 R C) si u) (k : u.Idx) (idx : IVec si 32) (r : Fin R) (l : Fin C) :
    d.resultIdx? k idx = some (ix2 r l)
      ↔ d.start k idx 0 + (d.window k 0 : ℤ) = (r.val : ℤ) ∧ d.start k idx 1 + (d.window k 1 : ℤ) = (l.val : ℤ) := by
  rw [Routing.resultIdx?_eq_some]
  refine ⟨fun h => ⟨h 0, h 1⟩, fun h a => ?_⟩
  match a with
  | ⟨0, _⟩ => exact h.1
  | ⟨1, _⟩ => exact h.2

/-- A scatter that sets a block of columns, at column `o + e`. -/
theorem cols_hit {α : Type} {R C K : ℕ} {si : Shape} (d : ScatterDims (shape2 R C) si (shape2 R K)) (idx : IVec si 32) (o : ℕ)
    (h0 : ∀ k, d.start k idx 0 + (d.window k 0 : ℤ) = ((k 0).val : ℤ))
    (h1 : ∀ k, d.start k idx 1 + (d.window k 1 : ℤ) = ((o + (k 1).val : ℕ) : ℤ))
    (x : (shape2 R C).Idx → α) (u : (shape2 R K).Idx → α) (r : Fin R) (e : Fin K) (l : Fin C) (hl : l.val = o + e.val) :
    Host.scatter d (fun _ b => b) x idx u (ix2 r l) = u (ix2 r e) := by
  refine Routing.scatter_set_hit d x idx u _ _ (fun k hk => ?_) (ix2 r e) ?_
  · obtain ⟨e0, e1⟩ := (lands2 d k idx r l).mp hk
    rw [h0] at e0
    rw [h1] at e1
    rw [eq_ix2 k]
    congr 2
    · exact Fin.ext (by exact_mod_cast e0)
    · exact Fin.ext (by have : o + (k 1).val = l.val := by exact_mod_cast e1
                        omega)
  · refine (lands2 d _ idx r l).mpr ⟨h0 _, (h1 _).trans ?_⟩
    rw [hl]
    rfl

/-- The same scatter at a column outside the block. -/
theorem cols_miss {α : Type} {R C K : ℕ} {si : Shape} (d : ScatterDims (shape2 R C) si (shape2 R K)) (idx : IVec si 32) (o : ℕ)
    (h1 : ∀ k, d.start k idx 1 + (d.window k 1 : ℤ) = ((o + (k 1).val : ℕ) : ℤ))
    (x : (shape2 R C).Idx → α) (u : (shape2 R K).Idx → α) (r : Fin R) (l : Fin C) (hl : l.val < o) :
    Host.scatter d (fun _ b => b) x idx u (ix2 r l) = x (ix2 r l) := by
  refine Routing.scatter_set_miss d x idx u _ fun k hk => ?_
  obtain ⟨_, e1⟩ := (lands2 d k idx r l).mp hk
  rw [h1] at e1
  have : o + (k 1).val = l.val := by exact_mod_cast e1
  omega

/-- A scatter that sets a block of a row's lanes, at lane `o + e`. -/
theorem row_hit {α : Type} {C K : ℕ} {si : Shape} (d : ScatterDims (shape2 1 C) si (shape1 K)) (idx : IVec si 32) (o : ℕ)
    (h0 : ∀ k, d.start k idx 0 + (d.window k 0 : ℤ) = 0)
    (h1 : ∀ k, d.start k idx 1 + (d.window k 1 : ℤ) = ((o + (k 0).val : ℕ) : ℤ))
    (x : (shape2 1 C).Idx → α) (u : (shape1 K).Idx → α) (e : Fin K) (l : Fin C) (hl : l.val = o + e.val) :
    Host.scatter d (fun _ b => b) x idx u (ix2 0 l) = u (ix1 e) := by
  refine Routing.scatter_set_hit d x idx u _ _ (fun k hk => ?_) (ix1 e) ?_
  · obtain ⟨_, e1⟩ := (lands2 d k idx 0 l).mp hk
    rw [h1] at e1
    rw [eq_ix1 k]
    congr 2
    exact Fin.ext (by have : o + (k 0).val = l.val := by exact_mod_cast e1
                      omega)
  · refine (lands2 d _ idx 0 l).mpr ⟨h0 _, (h1 _).trans ?_⟩
    rw [hl]
    rfl

/-- The same scatter at a lane outside the block. -/
theorem row_miss {α : Type} {C K : ℕ} {si : Shape} (d : ScatterDims (shape2 1 C) si (shape1 K)) (idx : IVec si 32) (o : ℕ)
    (h1 : ∀ k, d.start k idx 1 + (d.window k 1 : ℤ) = ((o + (k 0).val : ℕ) : ℤ))
    (x : (shape2 1 C).Idx → α) (u : (shape1 K).Idx → α) (l : Fin C) (hl : l.val < o) :
    Host.scatter d (fun _ b => b) x idx u (ix2 0 l) = x (ix2 0 l) := by
  refine Routing.scatter_set_miss d x idx u _ fun k hk => ?_
  obtain ⟨_, e1⟩ := (lands2 d k idx 0 l).mp hk
  rw [h1] at e1
  have : o + (k 0).val = l.val := by exact_mod_cast e1
  omega

/-! ## The weights -/

/-- The routing weights: zeros, with the groups' columns set at 0 and the experts' at 4. -/
def routeW (w13 : FVec Ideal S1024x4 .f32) (w15 : FVec Ideal S1024x32 .f32) : FVec Ideal S1024x128 .f32 :=
  Host.scatter scatter_S1024x128_S1_S1024x32_01_n_1_0 (fun _ b => b)
    (Host.scatter scatter_S1024x128_S1_S1024x4_01_n_1_0 (fun _ b => b)
      (broadcastInDim S1024x128 ![] bcast_S_S1024x128 (constant (F := Ideal) S_ .f32 0x00000000#32))
      (broadcastInDim S1 ![] bcast_S_S1 (constantI S_ 32 0#32)) w13)
    (broadcastInDim S1 ![] bcast_S_S1 (constantI S_ 32 4#32)) w15

/-- The routing biases: zeros, with the groups' lanes set at 0 and the experts' at 4. -/
def routeB (b14 : FVec Ideal S4 .f32) (b16 : FVec Ideal S32 .f32) : FVec Ideal S1x128 .f32 :=
  Host.scatter scatter_S1x128_S2_S32_0_0_01_0 (fun _ b => b)
    (Host.scatter scatter_S1x128_S2_S4_0_0_01_0 (fun _ b => b)
      (broadcastInDim S1x128 ![] bcast_S_S1x128 (constant (F := Ideal) S_ .f32 0x00000000#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0) b14)
    (concatenate S2 0 [⟨S1, broadcastInDim S1 ![] bcast_S_S1 (constantI S_ 32 0#32)⟩, ⟨S1, broadcastInDim S1 ![] bcast_S_S1 (constantI S_ 32 4#32)⟩] concatenates_S1_S1_S2_d0) b16

theorem w4_0 (k : S1024x4.Idx) (idx : IVec S1 32) : scatter_S1024x128_S1_S1024x4_01_n_1_0.start k idx 0
    + (scatter_S1024x128_S1_S1024x4_01_n_1_0.window k 0 : ℤ) = ((k 0).val : ℤ) := zero_add _
theorem w4_1 (k : S1024x4.Idx) : scatter_S1024x128_S1_S1024x4_01_n_1_0.start k (broadcastInDim S1 ![] bcast_S_S1 (constantI S_ 32 0#32)) 1
    + (scatter_S1024x128_S1_S1024x4_01_n_1_0.window k 1 : ℤ) = ((0 + (k 1).val : ℕ) : ℤ) := by
  rw [Nat.zero_add]
  exact zero_add _
theorem w32_0 (k : S1024x32.Idx) (idx : IVec S1 32) : scatter_S1024x128_S1_S1024x32_01_n_1_0.start k idx 0
    + (scatter_S1024x128_S1_S1024x32_01_n_1_0.window k 0 : ℤ) = ((k 0).val : ℤ) := zero_add _
theorem w32_1 (k : S1024x32.Idx) : scatter_S1024x128_S1_S1024x32_01_n_1_0.start k (broadcastInDim S1 ![] bcast_S_S1 (constantI S_ 32 4#32)) 1
    + (scatter_S1024x128_S1_S1024x32_01_n_1_0.window k 1 : ℤ) = ((4 + (k 1).val : ℕ) : ℤ) := by
  rw [Nat.cast_add]
  rfl

theorem routeW_group (w13 : FVec Ideal S1024x4 .f32) (w15 : FVec Ideal S1024x32 .f32) (k : Fin 1024) (e : Fin 4) :
    routeW w13 w15 (ix2 k ⟨e.val, by omega⟩) = w13 (ix2 k e) := by
  unfold routeW
  refine (cols_miss (R := 1024) (C := 128) (K := 32) _ _ 4 w32_1 _ _ k _ e.isLt).trans ?_
  exact cols_hit (R := 1024) (C := 128) (K := 4) _ _ 0 (fun k => w4_0 k _) w4_1 _ _ k e _ (Nat.zero_add _).symm

theorem routeW_expert (w13 : FVec Ideal S1024x4 .f32) (w15 : FVec Ideal S1024x32 .f32) (k : Fin 1024) (e : Fin 32) :
    routeW w13 w15 (ix2 k ⟨4 + e.val, by omega⟩) = w15 (ix2 k e) := by
  unfold routeW
  exact cols_hit (R := 1024) (C := 128) (K := 32) _ _ 4 (fun k => w32_0 k _) w32_1 _ _ k e _ rfl

theorem b4_0 (k : S4.Idx) : scatter_S1x128_S2_S4_0_0_01_0.start k (concatenate S2 0 [⟨S1, broadcastInDim S1 ![] bcast_S_S1 (constantI S_ 32 0#32)⟩, ⟨S1, broadcastInDim S1 ![] bcast_S_S1 (constantI S_ 32 0#32)⟩] concatenates_S1_S1_S2_d0) 0
    + (scatter_S1x128_S2_S4_0_0_01_0.window k 0 : ℤ) = 0 := rfl
theorem b4_1 (k : S4.Idx) : scatter_S1x128_S2_S4_0_0_01_0.start k (concatenate S2 0 [⟨S1, broadcastInDim S1 ![] bcast_S_S1 (constantI S_ 32 0#32)⟩, ⟨S1, broadcastInDim S1 ![] bcast_S_S1 (constantI S_ 32 0#32)⟩] concatenates_S1_S1_S2_d0) 1
    + (scatter_S1x128_S2_S4_0_0_01_0.window k 1 : ℤ) = ((0 + (k 0).val : ℕ) : ℤ) := by
  rw [Nat.zero_add]
  exact zero_add _
theorem b32_0 (k : S32.Idx) : scatter_S1x128_S2_S32_0_0_01_0.start k (concatenate S2 0 [⟨S1, broadcastInDim S1 ![] bcast_S_S1 (constantI S_ 32 0#32)⟩, ⟨S1, broadcastInDim S1 ![] bcast_S_S1 (constantI S_ 32 4#32)⟩] concatenates_S1_S1_S2_d0) 0
    + (scatter_S1x128_S2_S32_0_0_01_0.window k 0 : ℤ) = 0 := rfl
theorem b32_1 (k : S32.Idx) : scatter_S1x128_S2_S32_0_0_01_0.start k (concatenate S2 0 [⟨S1, broadcastInDim S1 ![] bcast_S_S1 (constantI S_ 32 0#32)⟩, ⟨S1, broadcastInDim S1 ![] bcast_S_S1 (constantI S_ 32 4#32)⟩] concatenates_S1_S1_S2_d0) 1
    + (scatter_S1x128_S2_S32_0_0_01_0.window k 1 : ℤ) = ((4 + (k 0).val : ℕ) : ℤ) := by
  rw [Nat.cast_add]
  rfl

theorem routeB_group (b14 : FVec Ideal S4 .f32) (b16 : FVec Ideal S32 .f32) (e : Fin 4) :
    routeB b14 b16 (ix2 0 ⟨e.val, by omega⟩) = b14 (ix1 e) := by
  unfold routeB
  refine (row_miss (C := 128) (K := 32) _ _ 4 b32_1 _ _ _ e.isLt).trans ?_
  exact row_hit (C := 128) (K := 4) _ _ 0 b4_0 b4_1 _ _ e _ (Nat.zero_add _).symm

theorem routeB_expert (b14 : FVec Ideal S4 .f32) (b16 : FVec Ideal S32 .f32) (e : Fin 32) :
    routeB b14 b16 (ix2 0 ⟨4 + e.val, by omega⟩) = b16 (ix1 e) := by
  unfold routeB
  exact row_hit (C := 128) (K := 32) _ _ 4 b32_0 b32_1 _ _ e _ rfl

/-! ## What a block reads -/

variable (m : (ℓ : Loc nD τ sig) → Buf (Elt Ideal) ℓ) (c : Dev nD)

/-- The routing weights and biases of the arguments at launch. -/
abbrev argW : FVec Ideal S1024x128 .f32 := routeW (m ((c : Thread nD τ).loc main_arg13)) (m ((c : Thread nD τ).loc main_arg15))
abbrev argB : FVec Ideal S1x128 .f32 := routeB (m ((c : Thread nD τ).loc main_arg14)) (m ((c : Thread nD τ).loc main_arg16))

theorem after_v14 : (V m c main_v14 : FVec Ideal S1024x128 .bf16) = truncf .bf16 (argW m c) bitsLt_bf16_f32 := by
  unfold V
  after_results_simp
  rfl

theorem after_v17 : (V m c main_v17 : FVec Ideal S1024x128 .bf16)
    = truncf .bf16 (subf (argW m c) (extf .f32 (truncf .bf16 (argW m c) bitsLt_bf16_f32) bitsLt_bf16_f32)) bitsLt_bf16_f32 := by
  unfold V
  after_results_simp
  rfl

theorem after_v13 : (V m c main_v13 : FVec Ideal S1x128 .f32) = argB m c := by
  unfold V
  after_results_simp
  rfl

end Cert.KernelIdeal.MixValue

end
-- ==== Proof.FiniteRows.lean ====
/- A token's row is real wherever its inputs and the parameters are. -/
module

public import proofs.«01_k».proof.Proof.Rows
public import Idealize.ShloMosaic.PureOps.Ideal

@[expose] public section

noncomputable section

namespace Cert.Rows

open Idealize.ShloMosaic

/-- An extended real that is a real number. -/
def IsReal (x : EReal) : Prop := ∃ r : ℝ, x = (r : EReal)

namespace IsReal
variable {x y : EReal}

theorem coe (r : ℝ) : IsReal (r : EReal) := ⟨r, rfl⟩
theorem add (hx : IsReal x) (hy : IsReal y) : IsReal (x + y) := by
  obtain ⟨a, rfl⟩ := hx; obtain ⟨b, rfl⟩ := hy; exact ⟨a + b, (EReal.coe_add a b).symm⟩
theorem mul (hx : IsReal x) (hy : IsReal y) : IsReal (x * y) := by
  obtain ⟨a, rfl⟩ := hx; obtain ⟨b, rfl⟩ := hy; exact ⟨a * b, (EReal.coe_mul a b).symm⟩
theorem sub (hx : IsReal x) (hy : IsReal y) : IsReal (x - y) := by
  obtain ⟨a, rfl⟩ := hx; obtain ⟨b, rfl⟩ := hy; exact ⟨a - b, (EReal.coe_sub a b).symm⟩
theorem self_sub (hx : IsReal x) : x - x = 0 := by
  obtain ⟨a, rfl⟩ := hx; rw [← EReal.coe_sub, sub_self, EReal.coe_zero]
theorem sum {ι : Type} (s : Finset ι) {f : ι → EReal} (h : ∀ i ∈ s, IsReal (f i)) : IsReal (∑ i ∈ s, f i) := by
  classical
  induction s using Finset.induction_on with
  | empty => exact ⟨0, by rw [Finset.sum_empty, EReal.coe_zero]⟩
  | insert a s ha ih =>
    rw [Finset.sum_insert ha]
    exact (h a (Finset.mem_insert_self a s)).add (ih fun i hi => h i (Finset.mem_insert_of_mem hi))
theorem logistic (hx : IsReal x) : IsReal (Ideal.logistic x) := by
  obtain ⟨a, rfl⟩ := hx
  have hp : (1 + Real.exp (-a)) ≠ 0 := (add_pos one_pos (Real.exp_pos _)).ne'
  unfold Ideal.logistic
  rw [← EReal.coe_neg, Ideal.exp_coe, ← EReal.coe_one, ← EReal.coe_add, Ideal.div_coe hp]
  exact (coe _).mul (coe _)

end IsReal

theorem ofBits_1024 : Ideal.ofBits .f32 0x44800000#32 = ((1024 : ℝ) : EReal) := by
  simp [Ideal.ofBits, Ideal.ieee, -EReal.coe_mul]; norm_num

/-- A finite sum of reals, taken over the extended reals. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of nonnegative reals is a nonnegative real. -/
theorem sum_sq {v : Fin 1024 → EReal} (h : ∀ k, IsReal (v k)) : ∃ r : ℝ, 0 ≤ r ∧ ∑ k, v k * v k = (r : EReal) := by
  choose f hf using h
  refine ⟨∑ k, f k * f k, Finset.sum_nonneg fun k _ => mul_self_nonneg _, ?_⟩
  rw [coe_sum]
  exact Finset.sum_congr rfl fun k _ => by rw [hf, EReal.coe_mul]

theorem mean_real {v : Fin 1024 → EReal} (h : ∀ k, IsReal (v k)) : IsReal (mean v) := by
  unfold mean
  rw [ofBits_1024, Ideal.div_coe (by norm_num)]
  exact (IsReal.sum _ fun k _ => h k).mul (IsReal.coe _)

/-- The parameters are real. -/
structure Params.Real (p : Params) : Prop where
  wg : ∀ k n, IsReal (p.wg k n)
  bg : ∀ n, IsReal (p.bg n)
  wu : ∀ k n, IsReal (p.wu k n)
  bu : ∀ n, IsReal (p.bu n)
  wc : ∀ k n, IsReal (p.wc k n)
  bc : ∀ n, IsReal (p.bc n)
  wo : ∀ k n, IsReal (p.wo k n)
  bo : ∀ n, IsReal (p.bo n)
  g : ∀ n, IsReal (p.g n)
  b : ∀ n, IsReal (p.b n)

variable {p : Params} (hp : p.Real) {x : Fin 1024 → EReal} {y c : Fin 512 → EReal} (hx : ∀ k, IsReal (x k))
  (hy : ∀ k, IsReal (y k)) (hc : ∀ k, IsReal (c k))

include hp

theorem norm_real {v : Fin 1024 → EReal} (h : ∀ k, IsReal (v k)) (j : Fin 1024) : IsReal (norm p v j) := by
  have hm := mean_real h
  obtain ⟨q, hq, e⟩ := sum_sq fun k => (h k).sub hm
  have hr : IsReal (Ideal.rsqrt (mean (fun k => (v k - mean v) * (v k - mean v)) + eps)) := by
    have e' : mean (fun k => (v k - mean v) * (v k - mean v)) + eps = ((q * (1 / 1024) + 1 / 100000 : ℝ) : EReal) := by
      rw [mean, e, ofBits_1024, Ideal.div_coe (by norm_num), ← EReal.coe_mul, eps, ← EReal.coe_add]
    have hpos : 0 < q * (1 / 1024) + 1 / 100000 := by positivity
    rw [e', Ideal.rsqrt_coe, if_neg hpos.not_gt, if_neg hpos.ne']
    exact IsReal.coe _
  exact ((((h j).sub hm).mul hr).mul (hp.g j)).add (hp.b j)

include hx

theorem gates_real (n : Fin 2048) : IsReal (gates p x n) :=
  (IsReal.sum _ fun k _ => (hx k).mul (hp.wg k n)).add (hp.bg n)

omit hx
include hy
theorem glu_real (n : Fin 2048) : IsReal (glu p y n) :=
  (IsReal.sum _ fun k _ => (hy k).mul (hp.wu k n)).add (hp.bu n)

include hx hc

theorem merged_real (j : Fin 1024) : IsReal (merged p x y c j) :=
  ((gates_real hp hx _).logistic.mul ((glu_real hp hy _).mul (glu_real hp hy _).logistic)).add
    ((gates_real hp hx _).logistic.mul ((IsReal.sum _ fun k _ => (hc k).mul (hp.wc k j)).add (hp.bc j)))

theorem hRow_real (j : Fin 1024) : IsReal (hRow p x y c j) :=
  norm_real hp (fun k => ((IsReal.coe _).mul (hx k)).add
    ((IsReal.sum _ fun i _ => (merged_real hp hx hy hc i).mul (hp.wo i k)).add (hp.bo k))) j

end Cert.Rows

end
-- ==== Proof.KernelRoute.lean ====
/- The kernel's second result: each token's routing lanes, from its scores. Where the arguments are real the high and low
   halves of a row and of the weights sum to the whole. -/
module

public import proofs.«01_k».proof.Proof.KernelH
public import proofs.«01_k».proof.Proof.KernelRouteRows
public import proofs.«01_k».proof.Proof.RouteWeights
public import proofs.«01_k».proof.Proof.FiniteRows

@[expose] public section

set_option maxRecDepth 16384

noncomputable section

namespace Cert.KernelIdeal.MixValue

open Cert.KernelIdeal Cert.KernelIdeal.Gen Cert.KernelIdeal.Mix
open Idealize.ShloMosaic Idealize.ShloMosaic.TcCoe Cert.Rows

variable (m : (ℓ : Loc nD τ sig) → Buf (Elt Ideal) ℓ) (c : Dev nD)

/-- Every argument is real everywhere. -/
structure RealArgs : Prop where
  a0 : ∀ i, IsReal ((m ((c : Thread nD τ).loc main_arg0) : FVec Ideal S16x2048x1024 .bf16) i)
  a1 : ∀ i, IsReal ((m ((c : Thread nD τ).loc main_arg1) : FVec Ideal S16x512x2048 .bf16) i)
  a2 : ∀ i, IsReal ((m ((c : Thread nD τ).loc main_arg2) : FVec Ideal S16x2048x512 .bf16) i)
  a3 : ∀ i, IsReal ((m ((c : Thread nD τ).loc main_arg3) : FVec Ideal S1024x3584 .f32) i)
  a4 : ∀ i, IsReal ((m ((c : Thread nD τ).loc main_arg4) : FVec Ideal S3584 .f32) i)
  a5 : ∀ i, IsReal ((m ((c : Thread nD τ).loc main_arg5) : FVec Ideal S512x2048 .f32) i)
  a6 : ∀ i, IsReal ((m ((c : Thread nD τ).loc main_arg6) : FVec Ideal S2048 .f32) i)
  a7 : ∀ i, IsReal ((m ((c : Thread nD τ).loc main_arg7) : FVec Ideal S512x1024 .f32) i)
  a8 : ∀ i, IsReal ((m ((c : Thread nD τ).loc main_arg8) : FVec Ideal S1024 .f32) i)
  a9 : ∀ i, IsReal ((m ((c : Thread nD τ).loc main_arg9) : FVec Ideal S1024x1024 .f32) i)
  a10 : ∀ i, IsReal ((m ((c : Thread nD τ).loc main_arg10) : FVec Ideal S1024 .f32) i)
  a11 : ∀ i, IsReal ((m ((c : Thread nD τ).loc main_arg11) : FVec Ideal S1024 .f32) i)
  a12 : ∀ i, IsReal ((m ((c : Thread nD τ).loc main_arg12) : FVec Ideal S1024 .f32) i)
  a13 : ∀ i, IsReal ((m ((c : Thread nD τ).loc main_arg13) : FVec Ideal S1024x4 .f32) i)
  a14 : ∀ i, IsReal ((m ((c : Thread nD τ).loc main_arg14) : FVec Ideal S4 .f32) i)
  a15 : ∀ i, IsReal ((m ((c : Thread nD τ).loc main_arg15) : FVec Ideal S1024x32 .f32) i)
  a16 : ∀ i, IsReal ((m ((c : Thread nD τ).loc main_arg16) : FVec Ideal S32 .f32) i)

/-! ## The blocks of the routing weights -/

theorem w_blk (t : Fin cfg0.N) (k : Fin 1024) (l : Fin 128) : iblk m c 13 t (ix2 k l) = argW m c (ix2 k l) := by
  have e : ((cfg0.win 13).blk t).view.emb (ix2 k l) = (ix2 k l : S1024x128.Idx) := by
    funext a
    apply Fin.ext
    match a with
    | ⟨0, _⟩ => blk_simp [idxP t]
    | ⟨1, _⟩ => blk_simp [idxP t]
  show (V m c main_v14 : FVec Ideal S1024x128 .bf16) (((cfg0.win 13).blk t).view.emb (ix2 k l)) = _
  rw [after_v14, e]
  pointwise

theorem wlo_blk (t : Fin cfg0.N) (k : Fin 1024) (l : Fin 128) :
    iblk m c 14 t (ix2 k l) = argW m c (ix2 k l) - argW m c (ix2 k l) := by
  have e : ((cfg0.win 14).blk t).view.emb (ix2 k l) = (ix2 k l : S1024x128.Idx) := by
    funext a
    apply Fin.ext
    match a with
    | ⟨0, _⟩ => blk_simp [idxP t]
    | ⟨1, _⟩ => blk_simp [idxP t]
  show (V m c main_v17 : FVec Ideal S1024x128 .bf16) (((cfg0.win 14).blk t).view.emb (ix2 k l)) = _
  rw [after_v17, e]
  pointwise

theorem rb_blk (t : Fin cfg0.N) (l : Fin 128) : iblk m c 15 t (ix2 0 l) = argB m c (ix2 0 l) := by
  have e : ((cfg0.win 15).blk t).view.emb (ix2 0 l) = (ix2 0 l : S1x128.Idx) := by
    funext a
    apply Fin.ext
    match a with
    | ⟨0, _⟩ => blk_simp [idxP t]
    | ⟨1, _⟩ => blk_simp [idxP t]
  show (V m c main_v13 : FVec Ideal S1x128 .f32) (((cfg0.win 15).blk t).view.emb (ix2 0 l)) = _
  rw [after_v13, e]

/-! ## The scores -/

/-- A token's score of group `k`. -/
def groupScore (t : Fin 16) (r : Fin 2048) (k : Fin 4) : EReal :=
  ∑ j, hTok m c t r j * (m ((c : Thread nD τ).loc main_arg13) : FVec Ideal S1024x4 .f32) (ix2 j k)
    + (m ((c : Thread nD τ).loc main_arg14) : FVec Ideal S4 .f32) (ix1 k)

/-- A token's score of expert `e`. -/
def expertScore (t : Fin 16) (r : Fin 2048) (e : Fin 32) : EReal :=
  ∑ j, hTok m c t r j * (m ((c : Thread nD τ).loc main_arg15) : FVec Ideal S1024x32 .f32) (ix2 j e)
    + (m ((c : Thread nD τ).loc main_arg16) : FVec Ideal S32 .f32) (ix1 e)

variable {m c} (hr : RealArgs m c)

include hr

theorem params_real : (params m c).Real where
  wg _ _ := hr.a3 _
  bg _ := hr.a4 _
  wu _ _ := hr.a5 _
  bu _ := hr.a6 _
  wc _ _ := hr.a7 _
  bc _ := hr.a8 _
  wo _ _ := hr.a9 _
  bo _ := hr.a10 _
  g _ := hr.a11 _
  b _ := hr.a12 _

theorem hTok_real (t : Fin 16) (r : Fin 2048) (j : Fin 1024) : IsReal (hTok m c t r j) :=
  hRow_real (params_real hr) (fun _ => hr.a0 _) (fun _ => hr.a1 _) (fun _ => hr.a2 _) j

theorem groupScore_real (t : Fin 16) (r : Fin 2048) (k : Fin 4) : IsReal (groupScore m c t r k) :=
  (IsReal.sum _ fun j _ => (hTok_real hr t r j).mul (hr.a13 _)).add (hr.a14 _)

theorem expertScore_real (t : Fin 16) (r : Fin 2048) (e : Fin 32) : IsReal (expertScore m c t r e) :=
  (IsReal.sum _ fun j _ => (hTok_real hr t r j).mul (hr.a15 _)).add (hr.a16 _)

/-- A block row's score in a lane whose weights are real. -/
theorem z_apply (t : Fin cfg0.N) (r : Fin 512) (l : Fin 128) (hw : ∀ k, IsReal (argW m c (ix2 k l))) :
    zRows (hBlk m c t) (iblk m c 13 t) (iblk m c 14 t) (iblk m c 15 t) (ix2 r l)
      = ∑ j, hTok m c (tok t) (row t r) j * argW m c (ix2 j l) + argB m c (ix2 0 l) := by
  rw [zRows_apply]
  simp only [hBlk_apply, w_blk m c t, wlo_blk m c t, rb_blk m c t]
  have h1 : ∑ k, (hTok m c (tok t) (row t r) k - hTok m c (tok t) (row t r) k) * argW m c (ix2 k l) = 0 :=
    Finset.sum_eq_zero fun k _ => by rw [(hTok_real hr (tok t) (row t r) k).self_sub, zero_mul]
  have h2 : ∑ k, hTok m c (tok t) (row t r) k * (argW m c (ix2 k l) - argW m c (ix2 k l)) = 0 :=
    Finset.sum_eq_zero fun k _ => by rw [(hw k).self_sub, mul_zero]
  rw [h1, h2, add_zero, add_zero]

theorem z_group (t : Fin cfg0.N) (r : Fin 512) (k : Fin 4) :
    zRows (hBlk m c t) (iblk m c 13 t) (iblk m c 14 t) (iblk m c 15 t) (ix2 r (Route.groupLane k))
      = groupScore m c (tok t) (row t r) k := by
  rw [z_apply hr t r _ fun j => by rw [argW, routeW_group]; exact hr.a13 _]
  unfold groupScore
  simp only [argW, argB, routeW_group, routeB_group]

theorem z_expert (t : Fin cfg0.N) (r : Fin 512) (e : Fin 32) :
    zRows (hBlk m c t) (iblk m c 13 t) (iblk m c 14 t) (iblk m c 15 t) (ix2 r (Route.expertLane e))
      = expertScore m c (tok t) (row t r) e := by
  rw [z_apply hr t r _ fun j => by rw [argW, routeW_expert]; exact hr.a15 _]
  unfold expertScore
  simp only [argW, argB, routeW_expert, routeB_expert]

/-! ## The second result -/

omit hr in
/-- Where point `t`'s block of the second result lies. -/
theorem emb17 (t : Fin cfg0.N) (y : S1x512x128.Idx) :
    ((((cfg0.win 17).blk t).view.emb y) 0 : ℕ) = t.val % 16 ∧ ((((cfg0.win 17).blk t).view.emb y) 1 : ℕ) = t.val / 16 * 512 + (y 1).val
      ∧ ((((cfg0.win 17).blk t).view.emb y) 2 : ℕ) = (y 2).val := by
  have hy0 : (y 0).val < 1 := (y 0).isLt
  refine ⟨?_, ?_, ?_⟩
  · blk_simp [idx17 t]
  · blk_simp [idx17 t]
  · blk_simp [idx17 t]

/-- An array that holds, at every token, the lanes of some choice of group and experts made by the token's scores is the
    second result. -/
theorem final_route (R : FVec Ideal S16x2048x128 .f32)
    (hR : ∀ (t : Fin 16) (r : Fin 2048) (rg : Fin 4 → ℝ) (re : Fin 32 → ℝ),
      (∀ k, groupScore m c t r k = (rg k : EReal)) → (∀ e, expertScore m c t r e = (re e : EReal)) →
      ∃ (g : Fin 4) (a b : Fin 8), Select.IsFirst (fun k => (rg k : EReal)) g
        ∧ Select.IsFirst (fun k => (re (Route.expert g k) : EReal)) a
        ∧ Select.IsSecond (fun k => (re (Route.expert g k) : EReal)) a b
        ∧ ∀ l : Fin 128, R (ix3 t r l) = ((Route.lanes rg re g a b l.val : ℝ) : EReal)) :
    (dats m 0 c).arrAt 17 cfg0.N = (R : Buf (Elt Ideal) ((c : Thread nD τ).loc main_v30_1)) := by
  refine (dats m 0 c).arrAt_eq_of_covers 17 _ (by decide +kernel) fun t hf y => ?_
  blk_simp
  obtain ⟨e0, e1, e2⟩ := emb17 t y
  have hy1 : (y 1).val < 512 := (y 1).isLt
  have hy2 : (y 2).val < 128 := (y 2).isLt
  rw [after0_17]
  choose rg hrg using groupScore_real hr (tok t) (row t ⟨(y 1).val, hy1⟩)
  choose re hre using expertScore_real hr (tok t) (row t ⟨(y 1).val, hy1⟩)
  obtain ⟨g, a, b, h0, ha, hb, hl⟩ := hR (tok t) (row t ⟨(y 1).val, hy1⟩) rg re hrg hre
  have ey : y = ix3 0 ⟨(y 1).val, hy1⟩ ⟨(y 2).val, hy2⟩ := by
    funext i
    match i with
    | ⟨0, _⟩ => exact Subsingleton.elim (α := Fin 1) _ _
    | ⟨1, _⟩ => rfl
    | ⟨2, _⟩ => rfl
  have ee : ((cfg0.win 17).blk t).view.emb y = (ix3 (tok t) (row t ⟨(y 1).val, hy1⟩) ⟨(y 2).val, hy2⟩ : S16x2048x128.Idx) := by
    funext i
    apply Fin.ext
    match i with
    | ⟨0, _⟩ => exact e0
    | ⟨1, _⟩ => exact e1.trans (by show _ = 512 * (t.val / 16) + (y 1).val; omega)
    | ⟨2, _⟩ => exact e2
  rw [ee]
  refine (congrArg (routeOut _ _ _ _ _ _ _ _ _ _ _ _ _ _ _ _) ey).trans ?_
  refine (routeOut_apply _ _ _ _ _ _ _ _ _ _ _ _ _ _ _ _ _ _).trans ?_
  exact (routeRows_apply (hBlk m c t) (iblk m c 13 t) (iblk m c 14 t) (iblk m c 15 t) _ rg re
    (fun k => (z_group hr t _ k).trans (hrg k)) (fun e => (z_expert hr t _ e).trans (hre e)) g a b h0 ha hb _).trans (hl _).symm

end Cert.KernelIdeal.MixValue

end
-- ==== Proof.Picks.lean ====
/- The host operations of the routing at an index: the largest entries of a row with their positions, and one element or one
   row taken per row at a position given. -/
module

public import proofs.«01_k».proof.Proof.Select
public import proofs.«01_k».proof.Proof.Gen.ReferenceIdeal.Read
public import Idealize.ShloMosaic.Lib.Pointwise

@[expose] public section

set_option maxRecDepth 16384

noncomputable section

namespace Cert.Picks

open Idealize.ShloMosaic

/-! ## The largest entries of a row -/

variable {R C K : ℕ}

/-- The position that a stable sort of row `r`, larger first, puts at place `z`. -/
def place (x : FVec Ideal ⟨2, ![R, C]⟩ .f32) (r : Fin R) (z : Fin C) : Fin C :=
  sortedFrom (fun i j => FloatOps.cmpfTotal .gt (x (ix2 r i)) (x (ix2 r j)) == 1#1) z

theorem along_row (r : Fin R) (c k : Fin C) : (ix2 r c : (⟨2, ![R, C]⟩ : Shape).Idx).along (1 : Fin 2) k = ix2 r k := by
  funext a
  match a with
  | ⟨0, _⟩ => exact Function.update_of_ne (Fin.ne_of_val_ne Nat.zero_ne_one) _ _
  | ⟨1, _⟩ => exact Function.update_self _ _ _

theorem place_before (x : FVec Ideal ⟨2, ![R, C]⟩ .f32) (r : Fin R) (z i j : Fin C) :
    (FloatOps.cmpfTotal (F := Ideal) .gt (x ((ix2 r z : (⟨2, ![R, C]⟩ : Shape).Idx).along (1 : Fin 2) i))
        (x ((ix2 r z : (⟨2, ![R, C]⟩ : Shape).Idx).along (1 : Fin 2) j)) == 1#1)
      = (FloatOps.cmpfTotal (F := Ideal) .gt (x (ix2 r i)) (x (ix2 r j)) == 1#1) := by
  rw [along_row, along_row]

theorem topK_value (x : FVec Ideal ⟨2, ![R, C]⟩ .f32) (h : (⟨2, ![R, C]⟩ : Shape).Slices (fun _ => 0) ⟨2, ![R, K]⟩)
    (r : Fin R) (k : Fin K) (z : Fin C) (hz : z.val = k.val) :
    (Host.topK ⟨2, ![R, K]⟩ 1 (FloatOps.cmpfTotal .gt) x h).1 (ix2 r k) = x (ix2 r (place x r z)) := by
  unfold Host.topK
  dsimp only
  refine (extractStridedSlice_apply _ _ h (ix2 r k) (ix2 r z) (fun a => match a with
    | ⟨0, _⟩ => (Nat.zero_add _).symm
    | ⟨1, _⟩ => hz.trans (Nat.zero_add _).symm)).trans ?_
  unfold Host.sort2
  rw [dif_pos (show 1 < (⟨2, ![R, C]⟩ : Shape).rank from Nat.one_lt_two)]
  dsimp only
  refine congrArg x (Eq.trans (congrArg (Shape.Idx.along (ix2 r z : (⟨2, ![R, C]⟩ : Shape).Idx) (1 : Fin 2)) ?_)
    (along_row r z (place x r z)))
  exact congrArg (fun B => sortedFrom B z) (funext fun i => funext fun j => place_before x r z i j)

theorem topK_position (x : FVec Ideal ⟨2, ![R, C]⟩ .f32) (h : (⟨2, ![R, C]⟩ : Shape).Slices (fun _ => 0) ⟨2, ![R, K]⟩)
    (r : Fin R) (k : Fin K) (z : Fin C) (hz : z.val = k.val) :
    (Host.topK ⟨2, ![R, K]⟩ 1 (FloatOps.cmpfTotal .gt) x h).2 (ix2 r k) = BitVec.ofNat 32 (place x r z).val := by
  unfold Host.topK
  dsimp only
  refine (extractStridedSlice_apply _ _ h (ix2 r k) (ix2 r z) (fun a => match a with
    | ⟨0, _⟩ => (Nat.zero_add _).symm
    | ⟨1, _⟩ => hz.trans (Nat.zero_add _).symm)).trans ?_
  unfold Host.sort2
  rw [dif_pos (show 1 < (⟨2, ![R, C]⟩ : Shape).rank from Nat.one_lt_two)]
  dsimp only
  refine congrArg (fun i : Fin C => BitVec.ofNat 32 i.val) (?_ : _ = place x r z)
  exact congrArg (fun B => sortedFrom B z) (funext fun i => funext fun j => place_before x r z i j)

theorem gt_iff (a b : EReal) : (FloatOps.cmpfTotal (F := Ideal) (φ := .f32) .gt a b == 1#1) = true ↔ b < a := by
  rw [beq_iff_eq]
  exact (@Select.ofBool_eq _ _)

theorem place_first (x : FVec Ideal ⟨2, ![R, C]⟩ .f32) (r : Fin R) (z : Fin C) (hz : z.val = 0) :
    Select.IsFirst (fun k => x (ix2 r k)) (place x r z) :=
  Select.isFirst_sorted (fun k => x (ix2 r k)) _ (fun _ _ => gt_iff _ _) z hz

theorem place_second (x : FVec Ideal ⟨2, ![R, C]⟩ .f32) (r : Fin R) (z o : Fin C) (hz : z.val = 0) (ho : o.val = 1) :
    Select.IsSecond (fun k => x (ix2 r k)) (place x r z) (place x r o) :=
  Select.isSecond_sorted (fun k => x (ix2 r k)) _ (fun _ _ => gt_iff _ _) z o hz ho

/-! ## An element taken per row -/

open Cert.ReferenceIdeal

/-- Position `g` of four, read as a signed word and held within the row. -/
theorem clamp_eq (w : BitVec 32) (g : Fin 4) (h : w = BitVec.ofNat 32 g.val) : min w.toInt.toNat (4 - 1) = g.val := by
  subst h
  revert g
  decide

theorem take_element (x : FVec Ideal S32768x4 .f32) (idx : IVec S32768x1x1 32) (n : Fin 32768) (g : Fin 4)
    (h : idx (ix3 n 0 0) = BitVec.ofNat 32 g.val) :
    Host.gather gather_S32768x4_S32768x1x1_S32768x1_n_1_0_0_1_2_11 x idx (ix2 n 0) = x (ix2 n g) := by
  unfold Host.gather
  refine congrArg x (funext fun a => Fin.ext ?_)
  have h01 : a = (0 : Fin 2) ∨ a = (1 : Fin 2) := by
    match a with
    | ⟨0, _⟩ => exact Or.inl rfl
    | ⟨1, _⟩ => exact Or.inr rfl
  generalize hd : gather_S32768x4_S32768x1x1_S32768x1_n_1_0_0_1_2_11 = d
  have ob : d.operandBatchingDims = [0] := by rw [← hd]; rfl
  have oc : d.collapsedSliceDims = [1] := by rw [← hd]; rfl
  have mb : (0 : Fin 2) ∈ d.operandBatchingDims := ob ▸ List.mem_singleton.mpr rfl
  have ms : (1 : Fin 2) ∈ d.startIndexMap := by rw [← hd]; exact List.mem_singleton.mpr rfl
  show d.start (ix2 n 0) idx a + d.batchCoord (ix2 n 0) a + d.offCoord (ix2 n 0) a = _
  rcases h01 with rfl | rfl
  · rw [GatherDims.start_batching _ _ _ _ (ob ▸ List.mem_singleton.mpr rfl),
      GatherDims.offCoord_eq_zero _ _ _ (fun h => ((GatherDims.mem_sKept _ _).mp h).2 (ob ▸ List.mem_singleton.mpr rfl))]
    simp only [Nat.zero_add, Nat.add_zero]
    subst hd
    unfold GatherDims.batchCoord
    rw [dif_pos mb]
    rfl
  · rw [GatherDims.batchCoord_eq_zero _ _ _ (fun h => by rw [ob] at h; simp at h),
      GatherDims.offCoord_eq_zero _ _ _ (fun h => ((GatherDims.mem_sKept _ _).mp h).1 (oc ▸ List.mem_singleton.mpr rfl))]
    simp only [Nat.add_zero]
    subst hd
    unfold GatherDims.start
    rw [dif_pos ms]
    refine (clamp_eq _ g (Eq.trans (congrArg idx (funext fun b => Fin.ext ?_)) h))
    match b with
    | ⟨0, _⟩ => rfl
    | ⟨1, _⟩ => rfl
    | ⟨2, _⟩ => rfl

theorem take_row (x : FVec Ideal S32768x4x8 .f32) (idx : IVec S32768x1x1 32) (n : Fin 32768) (g : Fin 4) (e : Fin 8)
    (h : idx (ix3 n 0 0) = BitVec.ofNat 32 g.val) :
    Host.gather gather_S32768x4x8_S32768x1x1_S32768x1x8_2_1_0_0_1_2_118 x idx (ix3 n 0 e) = x (ix3 n g e) := by
  unfold Host.gather
  refine congrArg x (funext fun a => Fin.ext ?_)
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  generalize hd : gather_S32768x4x8_S32768x1x1_S32768x1x8_2_1_0_0_1_2_118 = d
  have ob : d.operandBatchingDims = [0] := by rw [← hd]; rfl
  have oc : d.collapsedSliceDims = [1] := by rw [← hd]; rfl
  have mb : (0 : Fin 3) ∈ d.operandBatchingDims := ob ▸ List.mem_singleton.mpr rfl
  have ms : (1 : Fin 3) ∈ d.startIndexMap := by rw [← hd]; exact List.mem_singleton.mpr rfl
  show d.start (ix3 n 0 e) idx a + d.batchCoord (ix3 n 0 e) a + d.offCoord (ix3 n 0 e) a = _
  rcases h012 with rfl | rfl | rfl
  · rw [GatherDims.start_batching _ _ _ _ (ob ▸ List.mem_singleton.mpr rfl),
      GatherDims.offCoord_eq_zero _ _ _ (fun h => ((GatherDims.mem_sKept _ _).mp h).2 (ob ▸ List.mem_singleton.mpr rfl))]
    simp only [Nat.zero_add, Nat.add_zero]
    subst hd
    unfold GatherDims.batchCoord
    rw [dif_pos mb]
    rfl
  · rw [GatherDims.batchCoord_eq_zero _ _ _ (fun h => by rw [ob] at h; simp at h),
      GatherDims.offCoord_eq_zero _ _ _ (fun h => ((GatherDims.mem_sKept _ _).mp h).1 (oc ▸ List.mem_singleton.mpr rfl))]
    simp only [Nat.add_zero]
    subst hd
    unfold GatherDims.start
    rw [dif_pos ms]
    refine (clamp_eq _ g (Eq.trans (congrArg idx (funext fun b => Fin.ext ?_)) h))
    match b with
    | ⟨0, _⟩ => rfl
    | ⟨1, _⟩ => rfl
    | ⟨2, _⟩ => rfl
  · rw [GatherDims.batchCoord_eq_zero _ _ _ (fun h => by rw [ob] at h; simp at h)]
    subst hd
    unfold GatherDims.start GatherDims.offCoord
    rw [dif_neg (by decide), dif_pos (by decide)]
    simp only [Nat.zero_add, Nat.add_zero]
    rfl

end Cert.Picks

end
-- ==== Proof.ReferencePicks.lean ====
/- The reference's choice of a group and of two experts for a token, and the gates it gives them, if the token's scores are
   real. -/
module

public import proofs.«01_k».proof.Proof.ReferenceRows
public import proofs.«01_k».proof.Proof.Picks
public import proofs.«01_k».proof.Proof.KernelRouteRows
public import proofs.«01_k».proof.Proof.RouteSpec
public import proofs.«01_k».proof.Proof.FiniteRows
public import Mathlib.Tactic.NormNum
public import Mathlib.Tactic.Ring
public import Mathlib.Tactic.FieldSimp

@[expose] public section

set_option maxRecDepth 16384

noncomputable section

namespace Cert.ReferenceIdeal.MixValue

open Cert.ReferenceIdeal Cert.ReferenceIdeal.Read Idealize.ShloMosaic Idealize.ShloMosaic.TcCoe
open Cert.KernelIdeal.MixValue (lit_bot lit_28 lit_15 lit_1)

theorem lit_zero : Ideal.ofBits .f32 0x00000000#32 = ((0 : ℝ) : EReal) := by simp [Ideal.ofBits, Ideal.ieee]
theorem lit_two : Ideal.ofBits .f32 0x40000000#32 = ((2 : ℝ) : EReal) := by
  simp [Ideal.ofBits, Ideal.ieee, -EReal.coe_mul]; norm_num

/-! ## Folds over a few positions -/

theorem fold_max_le {m : ℕ} (f : Fin m → EReal) (i : Fin m) (h : ∀ j, f j ≤ f i) :
    Finset.fold max (⊥ : EReal) f Finset.univ = f i :=
  le_antisymm ((Finset.fold_max_le _).mpr ⟨bot_le, fun x _ => h x⟩)
    ((Finset.le_fold_max _).mpr (Or.inr ⟨i, Finset.mem_univ _, le_rfl⟩))

theorem fold_andi_one (f : Fin 1 → BitVec 1) (h : f 0 = 1#1) : Finset.fold IntOp.andi 1#1 f Finset.univ = 1#1 := by
  rw [Finset.univ_unique, Finset.fold_singleton, show (default : Fin 1) = 0 from rfl, h]
  decide

theorem fold_two (op : BitVec 32 → BitVec 32 → BitVec 32) [Std.Commutative op] [Std.Associative op] (z : BitVec 32)
    (f : Fin 2 → BitVec 32) : Finset.fold op z f Finset.univ = op (f 0) (op (f 1) z) := by
  rw [show (Finset.univ : Finset (Fin 2)) = insert 0 {1} from by decide, Finset.fold_insert (by decide),
    Finset.fold_singleton]

/-! ## Positions as words -/

theorem group_slt : ∀ g : Fin 4, IntOp.cmpi .slt (BitVec.ofNat 32 g.val) 0#32 = 0#1 := by decide
theorem group_range : ∀ g : Fin 4, IntOp.andi (IntOp.cmpi .sge (BitVec.ofNat 32 g.val) 0#32)
    (IntOp.cmpi .sle (BitVec.ofNat 32 g.val) 3#32) = 1#1 := by decide
theorem expert_word : ∀ (g : Fin 4) (a : Fin 8), (IntOp.addi (IntOp.muli (BitVec.ofNat 32 g.val) 8#32)
    (BitVec.ofNat 32 a.val)).toInt = ((8 * g.val + a.val : ℕ) : ℤ) := by decide
theorem group_word : ∀ g : Fin 4, (BitVec.ofNat 32 g.val).toInt = (g.val : ℤ) := by decide
theorem min_word : ∀ a b : Fin 8, (IntOp.minsi (BitVec.ofNat 32 a.val) (IntOp.minsi (BitVec.ofNat 32 b.val) 2147483647#32)).toInt
    = ((min a.val b.val : ℕ) : ℤ) := by decide
theorem max_word : ∀ a b : Fin 8, (IntOp.maxsi (BitVec.ofNat 32 a.val) (IntOp.maxsi (BitVec.ofNat 32 b.val) 2147483648#32)).toInt
    = ((max a.val b.val : ℕ) : ℤ) := by decide

theorem float_word (w : BitVec 32) (k : ℕ) (h : w.toInt = (k : ℤ)) :
    FloatOps.sitofp (F := Ideal) .f32 w = ((k : ℝ) : EReal) := by
  show ((w.toInt : ℝ) : EReal) = _
  rw [h]; norm_cast

variable (x0 : FVec Ideal S16x2048x1024 .bf16) (x1 : FVec Ideal S16x512x2048 .bf16) (x2 : FVec Ideal S16x2048x512 .bf16)
  (x3 : FVec Ideal S1024x3584 .f32) (x4 : FVec Ideal S3584 .f32) (x5 : FVec Ideal S512x2048 .f32)
  (x6 : FVec Ideal S2048 .f32) (x7 : FVec Ideal S512x1024 .f32) (x8 : FVec Ideal S1024 .f32)
  (x9 : FVec Ideal S1024x1024 .f32) (x10 x11 x12 : FVec Ideal S1024 .f32) (x13 : FVec Ideal S1024x4 .f32)
  (x14 : FVec Ideal S4 .f32) (x15 : FVec Ideal S1024x32 .f32) (x16 : FVec Ideal S32 .f32)

/-! ## The group -/

section Group

variable (n : Fin 32768) (rg : Fin 4 → ℝ)

/-- The group the reference chooses for token `n`. -/
abbrev pickG : Fin 4 := Picks.place (val_main_v82 (F := Ideal) x0 x1 x2 x3 x4 x5 x6 x7 x8 x9 x10 x11 x12 x13 x14) n 0

theorem indices_at : val_main_indices (F := Ideal) x0 x1 x2 x3 x4 x5 x6 x7 x8 x9 x10 x11 x12 x13 x14 (ix2 n 0)
    = BitVec.ofNat 32 (pickG x0 x1 x2 x3 x4 x5 x6 x7 x8 x9 x10 x11 x12 x13 x14 n).val :=
  Picks.topK_position _ _ n 0 0 rfl

variable (hg : ∀ k, val_main_v82 (F := Ideal) x0 x1 x2 x3 x4 x5 x6 x7 x8 x9 x10 x11 x12 x13 x14 (ix2 n k) = (rg k : EReal))

include hg in
theorem pickG_first : Select.IsFirst (fun k => (rg k : EReal)) (pickG x0 x1 x2 x3 x4 x5 x6 x7 x8 x9 x10 x11 x12 x13 x14 n) :=
  (funext hg : (fun k => val_main_v82 (F := Ideal) x0 x1 x2 x3 x4 x5 x6 x7 x8 x9 x10 x11 x12 x13 x14 (ix2 n k)) = fun k => (rg k : EReal)) ▸
    Picks.place_first _ n 0 rfl

include hg in
theorem v85_at : val_main_v85 (F := Ideal) x0 x1 x2 x3 x4 x5 x6 x7 x8 x9 x10 x11 x12 x13 x14 (ix1 n) = (rg (pickG x0 x1 x2 x3 x4 x5 x6 x7 x8 x9 x10 x11 x12 x13 x14 n) : EReal) := by
  have hf := pickG_first x0 x1 x2 x3 x4 x5 x6 x7 x8 x9 x10 x11 x12 x13 x14 n rg hg
  generalize pickG x0 x1 x2 x3 x4 x5 x6 x7 x8 x9 x10 x11 x12 x13 x14 n = g at hf ⊢
  generalize hz : val_main_v82 (F := Ideal) x0 x1 x2 x3 x4 x5 x6 x7 x8 x9 x10 x11 x12 x13 x14 = z at hg
  pointwise [val_main_v85, val_main_v84, val_main_v83, val_main_cst_12, val_main_cst_13]
  rw [hz, lit_bot, max_eq_right bot_le]
  refine (fold_max_le _ g fun j => ?_).trans (hg g)
  show z (ix2 n j) ≤ z (ix2 n g)
  rw [hg, hg]
  exact hf.le j

include hg in
theorem v89_at (k : Fin 4) : val_main_v89 (F := Ideal) x0 x1 x2 x3 x4 x5 x6 x7 x8 x9 x10 x11 x12 x13 x14 (ix2 n k)
    = ((Real.exp (rg k - rg (pickG x0 x1 x2 x3 x4 x5 x6 x7 x8 x9 x10 x11 x12 x13 x14 n)) : ℝ) : EReal) := by
  have h1 := v85_at x0 x1 x2 x3 x4 x5 x6 x7 x8 x9 x10 x11 x12 x13 x14 n rg hg
  have h2 := hg k
  pointwise [val_main_v89, val_main_v88, val_main_v87, val_main_v86]
  rw [h1, h2, ← EReal.coe_sub, Ideal.exp_coe]

include hg in
theorem v93_at : val_main_v93 (F := Ideal) x0 x1 x2 x3 x4 x5 x6 x7 x8 x9 x10 x11 x12 x13 x14 (ix2 n (pickG x0 x1 x2 x3 x4 x5 x6 x7 x8 x9 x10 x11 x12 x13 x14 n))
    = ((Route.group rg (pickG x0 x1 x2 x3 x4 x5 x6 x7 x8 x9 x10 x11 x12 x13 x14 n) : ℝ) : EReal) := by
  have h := v89_at x0 x1 x2 x3 x4 x5 x6 x7 x8 x9 x10 x11 x12 x13 x14 n rg hg
  generalize pickG x0 x1 x2 x3 x4 x5 x6 x7 x8 x9 x10 x11 x12 x13 x14 n = g at h ⊢
  generalize hz : val_main_v89 (F := Ideal) x0 x1 x2 x3 x4 x5 x6 x7 x8 x9 x10 x11 x12 x13 x14 = z at h
  pointwise [val_main_v93, val_main_v92, val_main_v91, val_main_v90, val_main_cst_14]
  rw [hz, h]
  simp only [h]
  rw [← Rows.coe_sum, Ideal.div_coe (Route.sum_pos rg g).ne', sub_self, Real.exp_zero,
    ← EReal.coe_mul, one_mul]
  rfl

theorem call0_v4_at : val_main_call0_v4 (F := Ideal) x0 x1 x2 x3 x4 x5 x6 x7 x8 x9 x10 x11 x12 x13 x14 (ix2 n 0)
    = BitVec.ofNat 32 (pickG x0 x1 x2 x3 x4 x5 x6 x7 x8 x9 x10 x11 x12 x13 x14 n).val := by
  have h := indices_at x0 x1 x2 x3 x4 x5 x6 x7 x8 x9 x10 x11 x12 x13 x14 n
  generalize pickG x0 x1 x2 x3 x4 x5 x6 x7 x8 x9 x10 x11 x12 x13 x14 n = g at h ⊢
  pointwise [val_main_call0_v4, val_main_call0_v1, val_main_call0_v3, val_main_call0_v0, val_main_call0_c]
  rw [h, group_slt]
  rfl

theorem call0_v5_at : val_main_call0_v5 (F := Ideal) x0 x1 x2 x3 x4 x5 x6 x7 x8 x9 x10 x11 x12 x13 x14 (ix3 n 0 0)
    = BitVec.ofNat 32 (pickG x0 x1 x2 x3 x4 x5 x6 x7 x8 x9 x10 x11 x12 x13 x14 n).val := by
  have h := call0_v4_at x0 x1 x2 x3 x4 x5 x6 x7 x8 x9 x10 x11 x12 x13 x14 n
  pointwise [val_main_call0_v5]
  exact h

theorem call0_v12_at : val_main_call0_v12 (F := Ideal) x0 x1 x2 x3 x4 x5 x6 x7 x8 x9 x10 x11 x12 x13 x14 (ix2 n 0) = 1#1 := by
  have h := call0_v5_at x0 x1 x2 x3 x4 x5 x6 x7 x8 x9 x10 x11 x12 x13 x14 n
  pointwise [val_main_call0_v12, val_main_call0_v11, val_main_call0_v10, val_main_call0_v7, val_main_call0_v6,
    val_main_call0_v9, val_main_call0_v8, val_main_call0_c_1, val_main_call0_c_2, val_main_call0_c_3]
  refine fold_andi_one _ ?_
  rw [h]
  exact group_range _

include hg in
theorem v94_at : val_main_v94 (F := Ideal) x0 x1 x2 x3 x4 x5 x6 x7 x8 x9 x10 x11 x12 x13 x14 (ix2 n 0)
    = ((Route.group rg (pickG x0 x1 x2 x3 x4 x5 x6 x7 x8 x9 x10 x11 x12 x13 x14 n) : ℝ) : EReal) := by
  have h12 := call0_v12_at x0 x1 x2 x3 x4 x5 x6 x7 x8 x9 x10 x11 x12 x13 x14 n
  have h5 := call0_v5_at x0 x1 x2 x3 x4 x5 x6 x7 x8 x9 x10 x11 x12 x13 x14 n
  have h93 := v93_at x0 x1 x2 x3 x4 x5 x6 x7 x8 x9 x10 x11 x12 x13 x14 n rg hg
  rw [← h93, ← Picks.take_element (val_main_v93 (F := Ideal) x0 x1 x2 x3 x4 x5 x6 x7 x8 x9 x10 x11 x12 x13 x14) _ n _ h5]
  pointwise [val_main_v94]
  rw [h12]
  rfl

end Group

/-! ## The experts of the chosen group -/

section Experts

variable (n : Fin 32768) (re : Fin 32 → ℝ)

theorem v100_at : val_main_v100 (F := Ideal) x0 x1 x2 x3 x4 x5 x6 x7 x8 x9 x10 x11 x12 x13 x14 (ix3 n 0 0)
    = BitVec.ofNat 32 (pickG x0 x1 x2 x3 x4 x5 x6 x7 x8 x9 x10 x11 x12 x13 x14 n).val := by
  have h := indices_at x0 x1 x2 x3 x4 x5 x6 x7 x8 x9 x10 x11 x12 x13 x14 n
  pointwise [val_main_v100]
  exact h

theorem call1_v4_at : val_main_call1_v4 (F := Ideal) x0 x1 x2 x3 x4 x5 x6 x7 x8 x9 x10 x11 x12 x13 x14 (ix3 n 0 0)
    = BitVec.ofNat 32 (pickG x0 x1 x2 x3 x4 x5 x6 x7 x8 x9 x10 x11 x12 x13 x14 n).val := by
  have h := v100_at x0 x1 x2 x3 x4 x5 x6 x7 x8 x9 x10 x11 x12 x13 x14 n
  generalize pickG x0 x1 x2 x3 x4 x5 x6 x7 x8 x9 x10 x11 x12 x13 x14 n = g at h ⊢
  pointwise [val_main_call1_v4, val_main_call1_v1, val_main_call1_v3, val_main_call1_v0, val_main_call1_c]
  rw [h, group_slt]
  rfl

theorem call1_v11_at : val_main_call1_v11 (F := Ideal) x0 x1 x2 x3 x4 x5 x6 x7 x8 x9 x10 x11 x12 x13 x14 (ix2 n 0) = 1#1 := by
  have h := call1_v4_at x0 x1 x2 x3 x4 x5 x6 x7 x8 x9 x10 x11 x12 x13 x14 n
  pointwise [val_main_call1_v11, val_main_call1_v10, val_main_call1_v9, val_main_call1_v6, val_main_call1_v5,
    val_main_call1_v8, val_main_call1_v7, val_main_call1_c_1, val_main_call1_c_2, val_main_call1_c_3]
  refine fold_andi_one _ ?_
  rw [h]
  exact group_range _

theorem v99_at (g : Fin 4) (e : Fin 8) : val_main_v99 (F := Ideal) x0 x1 x2 x3 x4 x5 x6 x7 x8 x9 x10 x11 x12 x15 x16 (ix3 n g e)
    = val_main_v98 (F := Ideal) x0 x1 x2 x3 x4 x5 x6 x7 x8 x9 x10 x11 x12 x15 x16 (ix2 n (Route.expert g e)) := by
  rw [val_main_v99_apply]
  refine congrArg _ (funext fun a => Fin.ext ?_)
  match a with
  | ⟨0, _⟩ => show ((n.val * 4 + g.val) * 8 + e.val) / 32 = n.val; omega
  | ⟨1, _⟩ => show ((n.val * 4 + g.val) * 8 + e.val) % 32 = 8 * g.val + e.val; omega

theorem v102_at (e : Fin 8) : val_main_v102 (F := Ideal) x0 x1 x2 x3 x4 x5 x6 x7 x8 x9 x10 x11 x12 x13 x14 x15 x16 (ix2 n e)
    = val_main_v98 (F := Ideal) x0 x1 x2 x3 x4 x5 x6 x7 x8 x9 x10 x11 x12 x15 x16 (ix2 n (Route.expert (pickG x0 x1 x2 x3 x4 x5 x6 x7 x8 x9 x10 x11 x12 x13 x14 n) e)) := by
  have h11 := call1_v11_at x0 x1 x2 x3 x4 x5 x6 x7 x8 x9 x10 x11 x12 x13 x14 n
  have h4 := call1_v4_at x0 x1 x2 x3 x4 x5 x6 x7 x8 x9 x10 x11 x12 x13 x14 n
  rw [← v99_at, ← Picks.take_row (val_main_v99 (F := Ideal) x0 x1 x2 x3 x4 x5 x6 x7 x8 x9 x10 x11 x12 x15 x16) _ n _ e h4, val_main_v102_apply]
  have ei : idx_main_v102 (ix2 n e) = ix3 n 0 e := by
    funext a
    match a with
    | ⟨0, _⟩ => exact Fin.ext (show (n.val * 8 + e.val) / 8 = n.val by omega)
    | ⟨1, _⟩ => rfl
    | ⟨2, _⟩ => exact Fin.ext (show (n.val * 8 + e.val) % 8 = e.val by omega)
  rw [ei]
  pointwise [val_main_v101, val_main_call1_v13]
  rw [h11]
  rfl

/-- The experts the reference chooses for token `n`, within its group. -/
abbrev pickA : Fin 8 := Picks.place (val_main_v102 (F := Ideal) x0 x1 x2 x3 x4 x5 x6 x7 x8 x9 x10 x11 x12 x13 x14 x15 x16) n 0
abbrev pickB : Fin 8 := Picks.place (val_main_v102 (F := Ideal) x0 x1 x2 x3 x4 x5 x6 x7 x8 x9 x10 x11 x12 x13 x14 x15 x16) n 1

theorem indices16_0 : val_main_indices_16 (F := Ideal) x0 x1 x2 x3 x4 x5 x6 x7 x8 x9 x10 x11 x12 x13 x14 x15 x16 (ix2 n 0)
    = BitVec.ofNat 32 (pickA x0 x1 x2 x3 x4 x5 x6 x7 x8 x9 x10 x11 x12 x13 x14 x15 x16 n).val :=
  Picks.topK_position _ _ n 0 0 rfl
theorem indices16_1 : val_main_indices_16 (F := Ideal) x0 x1 x2 x3 x4 x5 x6 x7 x8 x9 x10 x11 x12 x13 x14 x15 x16 (ix2 n 1)
    = BitVec.ofNat 32 (pickB x0 x1 x2 x3 x4 x5 x6 x7 x8 x9 x10 x11 x12 x13 x14 x15 x16 n).val :=
  Picks.topK_position _ _ n 1 1 rfl

variable (he : ∀ e, val_main_v98 (F := Ideal) x0 x1 x2 x3 x4 x5 x6 x7 x8 x9 x10 x11 x12 x15 x16 (ix2 n e) = (re e : EReal))

include he in
theorem v102_real (e : Fin 8) : val_main_v102 (F := Ideal) x0 x1 x2 x3 x4 x5 x6 x7 x8 x9 x10 x11 x12 x13 x14 x15 x16 (ix2 n e)
    = (re (Route.expert (pickG x0 x1 x2 x3 x4 x5 x6 x7 x8 x9 x10 x11 x12 x13 x14 n) e) : EReal) := (v102_at x0 x1 x2 x3 x4 x5 x6 x7 x8 x9 x10 x11 x12 x13 x14 x15 x16 n e).trans (he _)

include he in
theorem pickA_first : Select.IsFirst (fun e => (re (Route.expert (pickG x0 x1 x2 x3 x4 x5 x6 x7 x8 x9 x10 x11 x12 x13 x14 n) e) : EReal)) (pickA x0 x1 x2 x3 x4 x5 x6 x7 x8 x9 x10 x11 x12 x13 x14 x15 x16 n) :=
  (funext (v102_real x0 x1 x2 x3 x4 x5 x6 x7 x8 x9 x10 x11 x12 x13 x14 x15 x16 n re he) : (fun e => val_main_v102 (F := Ideal) x0 x1 x2 x3 x4 x5 x6 x7 x8 x9 x10 x11 x12 x13 x14 x15 x16 (ix2 n e)) = _) ▸
    Picks.place_first _ n 0 rfl

include he in
theorem pickB_second : Select.IsSecond (fun e => (re (Route.expert (pickG x0 x1 x2 x3 x4 x5 x6 x7 x8 x9 x10 x11 x12 x13 x14 n) e) : EReal))
    (pickA x0 x1 x2 x3 x4 x5 x6 x7 x8 x9 x10 x11 x12 x13 x14 x15 x16 n) (pickB x0 x1 x2 x3 x4 x5 x6 x7 x8 x9 x10 x11 x12 x13 x14 x15 x16 n) :=
  (funext (v102_real x0 x1 x2 x3 x4 x5 x6 x7 x8 x9 x10 x11 x12 x13 x14 x15 x16 n re he) : (fun e => val_main_v102 (F := Ideal) x0 x1 x2 x3 x4 x5 x6 x7 x8 x9 x10 x11 x12 x13 x14 x15 x16 (ix2 n e)) = _) ▸
    Picks.place_second _ n 0 1 rfl rfl

include he in
theorem values15_0 : val_main_values_15 (F := Ideal) x0 x1 x2 x3 x4 x5 x6 x7 x8 x9 x10 x11 x12 x13 x14 x15 x16 (ix2 n 0)
    = (re (Route.expert (pickG x0 x1 x2 x3 x4 x5 x6 x7 x8 x9 x10 x11 x12 x13 x14 n) (pickA x0 x1 x2 x3 x4 x5 x6 x7 x8 x9 x10 x11 x12 x13 x14 x15 x16 n)) : EReal) := by
  have h : val_main_values_15 (F := Ideal) x0 x1 x2 x3 x4 x5 x6 x7 x8 x9 x10 x11 x12 x13 x14 x15 x16 (ix2 n 0)
      = val_main_v102 (F := Ideal) x0 x1 x2 x3 x4 x5 x6 x7 x8 x9 x10 x11 x12 x13 x14 x15 x16 (ix2 n (pickA x0 x1 x2 x3 x4 x5 x6 x7 x8 x9 x10 x11 x12 x13 x14 x15 x16 n)) := Picks.topK_value _ _ n 0 0 rfl
  rw [h]
  exact v102_real x0 x1 x2 x3 x4 x5 x6 x7 x8 x9 x10 x11 x12 x13 x14 x15 x16 n re he (pickA x0 x1 x2 x3 x4 x5 x6 x7 x8 x9 x10 x11 x12 x13 x14 x15 x16 n)
include he in
theorem values15_1 : val_main_values_15 (F := Ideal) x0 x1 x2 x3 x4 x5 x6 x7 x8 x9 x10 x11 x12 x13 x14 x15 x16 (ix2 n 1)
    = (re (Route.expert (pickG x0 x1 x2 x3 x4 x5 x6 x7 x8 x9 x10 x11 x12 x13 x14 n) (pickB x0 x1 x2 x3 x4 x5 x6 x7 x8 x9 x10 x11 x12 x13 x14 x15 x16 n)) : EReal) := by
  have h : val_main_values_15 (F := Ideal) x0 x1 x2 x3 x4 x5 x6 x7 x8 x9 x10 x11 x12 x13 x14 x15 x16 (ix2 n 1)
      = val_main_v102 (F := Ideal) x0 x1 x2 x3 x4 x5 x6 x7 x8 x9 x10 x11 x12 x13 x14 x15 x16 (ix2 n (pickB x0 x1 x2 x3 x4 x5 x6 x7 x8 x9 x10 x11 x12 x13 x14 x15 x16 n)) := Picks.topK_value _ _ n 1 1 rfl
  rw [h]
  exact v102_real x0 x1 x2 x3 x4 x5 x6 x7 x8 x9 x10 x11 x12 x13 x14 x15 x16 n re he (pickB x0 x1 x2 x3 x4 x5 x6 x7 x8 x9 x10 x11 x12 x13 x14 x15 x16 n)

/-- The two gates within the group, from the two values chosen. -/
theorem gates (p q : ℝ) (hpq : q ≤ p) (h0 : val_main_values_15 (F := Ideal) x0 x1 x2 x3 x4 x5 x6 x7 x8 x9 x10 x11 x12 x13 x14 x15 x16 (ix2 n 0) = (p : EReal))
    (h1 : val_main_values_15 (F := Ideal) x0 x1 x2 x3 x4 x5 x6 x7 x8 x9 x10 x11 x12 x13 x14 x15 x16 (ix2 n 1) = (q : EReal)) :
    val_main_v113 (F := Ideal) x0 x1 x2 x3 x4 x5 x6 x7 x8 x9 x10 x11 x12 x13 x14 x15 x16 (ix2 n 0) = ((1 / (1 + Real.exp (q - p)) : ℝ) : EReal)
      ∧ val_main_v113 (F := Ideal) x0 x1 x2 x3 x4 x5 x6 x7 x8 x9 x10 x11 x12 x13 x14 x15 x16 (ix2 n 1) = ((Real.exp (q - p) / (1 + Real.exp (q - p)) : ℝ) : EReal) := by
  have h105 : val_main_v105 (F := Ideal) x0 x1 x2 x3 x4 x5 x6 x7 x8 x9 x10 x11 x12 x13 x14 x15 x16 (ix1 n) = (p : EReal) := by
    generalize hz : val_main_values_15 (F := Ideal) x0 x1 x2 x3 x4 x5 x6 x7 x8 x9 x10 x11 x12 x13 x14 x15 x16 = z at h0 h1
    pointwise [val_main_v105, val_main_v104, val_main_v103, val_main_cst_17, val_main_cst_18]
    rw [hz, lit_bot, max_eq_right bot_le]
    refine (fold_max_le _ (0 : Fin 2) fun j => ?_).trans h0
    show z (ix2 n j) ≤ z (ix2 n 0)
    have hj : j = 0 ∨ j = 1 := by omega
    rcases hj with rfl | rfl
    · exact le_rfl
    · rw [h0, h1]; exact EReal.coe_le_coe_iff.mpr hpq
  have h109 (k : Fin 2) (v : ℝ) (hv : val_main_values_15 (F := Ideal) x0 x1 x2 x3 x4 x5 x6 x7 x8 x9 x10 x11 x12 x13 x14 x15 x16 (ix2 n k) = (v : EReal)) :
      val_main_v109 (F := Ideal) x0 x1 x2 x3 x4 x5 x6 x7 x8 x9 x10 x11 x12 x13 x14 x15 x16 (ix2 n k) = ((Real.exp (v - p) : ℝ) : EReal) := by
    pointwise [val_main_v109, val_main_v108, val_main_v107, val_main_v106]
    rw [h105, hv, ← EReal.coe_sub, Ideal.exp_coe]
  have e0 := h109 0 p h0
  have e1 := h109 1 q h1
  rw [sub_self, Real.exp_zero] at e0
  have pos : (1 + Real.exp (q - p)) ≠ 0 := (add_pos one_pos (Real.exp_pos _)).ne'
  have h110 : val_main_v110 (F := Ideal) x0 x1 x2 x3 x4 x5 x6 x7 x8 x9 x10 x11 x12 x13 x14 x15 x16 (ix1 n) = ((1 + Real.exp (q - p) : ℝ) : EReal) := by
    generalize hz : val_main_v109 (F := Ideal) x0 x1 x2 x3 x4 x5 x6 x7 x8 x9 x10 x11 x12 x13 x14 x15 x16 = z at e0 e1
    pointwise [val_main_v110, val_main_cst_19]
    rw [hz]
    rw [Fin.sum_univ_two, e0, e1, ← EReal.coe_add]
  constructor
  · pointwise [val_main_v113, val_main_v112, val_main_v111]
    rw [h110, e0, Ideal.div_coe pos, ← EReal.coe_mul, one_mul]
  · pointwise [val_main_v113, val_main_v112, val_main_v111]
    rw [h110, e1, Ideal.div_coe pos, ← EReal.coe_mul, mul_one_div]

end Experts

end Cert.ReferenceIdeal.MixValue

end
-- ==== Proof.ReferenceRoute.lean ====
/- The second result of the reference: every token's routing lanes are `Route.lanes` of the token's scores, if the scores are
   real. -/
module

public import proofs.«01_k».proof.Proof.ReferencePicks
public import Mathlib.Tactic.NormNum
public import Mathlib.Tactic.Ring
public import Mathlib.Tactic.FieldSimp

@[expose] public section

set_option maxRecDepth 16384

noncomputable section

namespace Cert.ReferenceIdeal.MixValue

open Cert.ReferenceIdeal Cert.ReferenceIdeal.Read Idealize.ShloMosaic Idealize.ShloMosaic.TcCoe
open Cert.KernelIdeal.MixValue (lit_28 lit_15)

variable (x0 : FVec Ideal S16x2048x1024 .bf16) (x1 : FVec Ideal S16x512x2048 .bf16) (x2 : FVec Ideal S16x2048x512 .bf16)
  (x3 : FVec Ideal S1024x3584 .f32) (x4 : FVec Ideal S3584 .f32) (x5 : FVec Ideal S512x2048 .f32)
  (x6 : FVec Ideal S2048 .f32) (x7 : FVec Ideal S512x1024 .f32) (x8 : FVec Ideal S1024 .f32)
  (x9 : FVec Ideal S1024x1024 .f32) (x10 x11 x12 : FVec Ideal S1024 .f32) (x13 : FVec Ideal S1024x4 .f32)
  (x14 : FVec Ideal S4 .f32) (x15 : FVec Ideal S1024x32 .f32) (x16 : FVec Ideal S32 .f32)

/-! ## The lanes -/

section Lanes

variable (n : Fin 32768) (rg : Fin 4 → ℝ) (re : Fin 32 → ℝ)

theorem v120_at (g : Fin 4) (a : Fin 8) (q : Fin 2)
    (hg : val_main_indices (F := Ideal) x0 x1 x2 x3 x4 x5 x6 x7 x8 x9 x10 x11 x12 x13 x14 (ix2 n 0) = BitVec.ofNat 32 g.val)
    (ha : val_main_indices_16 (F := Ideal) x0 x1 x2 x3 x4 x5 x6 x7 x8 x9 x10 x11 x12 x13 x14 x15 x16 (ix2 n q) = BitVec.ofNat 32 a.val) :
    val_main_v120 (F := Ideal) x0 x1 x2 x3 x4 x5 x6 x7 x8 x9 x10 x11 x12 x13 x14 x15 x16 (ix2 n q) = (((8 * g.val + a.val : ℕ) : ℝ) : EReal) := by
  pointwise [val_main_v120, val_main_v119, val_main_v118, val_main_v117, val_main_v116, val_main_c]
  rw [hg, ha]
  exact float_word _ _ (expert_word g a)

theorem v115_at (p q : ℝ) (k : Fin 2) (h94 : val_main_v94 (F := Ideal) x0 x1 x2 x3 x4 x5 x6 x7 x8 x9 x10 x11 x12 x13 x14 (ix2 n 0) = (p : EReal))
    (h113 : val_main_v113 (F := Ideal) x0 x1 x2 x3 x4 x5 x6 x7 x8 x9 x10 x11 x12 x13 x14 x15 x16 (ix2 n k) = (q : EReal)) :
    val_main_v115 (F := Ideal) x0 x1 x2 x3 x4 x5 x6 x7 x8 x9 x10 x11 x12 x13 x14 x15 x16 (ix2 n k) = ((p * q : ℝ) : EReal) := by
  pointwise [val_main_v115, val_main_v114]
  rw [h94, h113, ← EReal.coe_mul]

theorem v139_at (g : Fin 4) (a b : Fin 8)
    (hg : val_main_indices (F := Ideal) x0 x1 x2 x3 x4 x5 x6 x7 x8 x9 x10 x11 x12 x13 x14 (ix2 n 0) = BitVec.ofNat 32 g.val)
    (ha : val_main_indices_16 (F := Ideal) x0 x1 x2 x3 x4 x5 x6 x7 x8 x9 x10 x11 x12 x13 x14 x15 x16 (ix2 n 0) = BitVec.ofNat 32 a.val)
    (hb : val_main_indices_16 (F := Ideal) x0 x1 x2 x3 x4 x5 x6 x7 x8 x9 x10 x11 x12 x13 x14 x15 x16 (ix2 n 1) = BitVec.ofNat 32 b.val) :
    val_main_v139 (F := Ideal) x0 x1 x2 x3 x4 x5 x6 x7 x8 x9 x10 x11 x12 x13 x14 x15 x16 (ix2 n 0) = ((Route.pair g a b : ℝ) : EReal) := by
  have hlo : val_main_v123 (F := Ideal) x0 x1 x2 x3 x4 x5 x6 x7 x8 x9 x10 x11 x12 x13 x14 x15 x16 (ix2 n 0) = (((min a.val b.val : ℕ) : ℝ) : EReal) := by
    pointwise [val_main_v123, val_main_v122, val_main_v121, val_main_c_20]
    refine float_word _ _ ?_
    rw [fold_two, ha, hb]
    exact min_word a b
  have hhi : val_main_v126 (F := Ideal) x0 x1 x2 x3 x4 x5 x6 x7 x8 x9 x10 x11 x12 x13 x14 x15 x16 (ix2 n 0) = (((max a.val b.val : ℕ) : ℝ) : EReal) := by
    pointwise [val_main_v126, val_main_v125, val_main_v124, val_main_c_21]
    refine float_word _ _ ?_
    rw [fold_two, ha, hb]
    exact max_word a b
  have h127 : val_main_v127 (F := Ideal) x0 x1 x2 x3 x4 x5 x6 x7 x8 x9 x10 x11 x12 x13 x14 (ix2 n 0) = ((g.val : ℝ) : EReal) := by
    pointwise [val_main_v127]
    rw [hg]
    exact float_word _ _ (group_word g)
  pointwise [val_main_v139, val_main_v138, val_main_v137, val_main_v136, val_main_v135, val_main_v134, val_main_v133,
    val_main_v132, val_main_v131, val_main_v130, val_main_v129, val_main_v128, val_main_cst_22, val_main_cst_23,
    val_main_cst_24, val_main_cst_25]
  rw [hlo, hhi, h127, lit_28, lit_15, lit_two, Ideal.div_coe two_ne_zero]
  simp only [← EReal.coe_one, ← EReal.coe_mul, ← EReal.coe_add, ← EReal.coe_sub]
  refine congrArg _ ?_
  unfold Route.pair
  ring

/-- Token `n`'s lanes in the reference. -/
theorem v141_at (hg : ∀ k, val_main_v82 (F := Ideal) x0 x1 x2 x3 x4 x5 x6 x7 x8 x9 x10 x11 x12 x13 x14 (ix2 n k) = (rg k : EReal))
    (he : ∀ e, val_main_v98 (F := Ideal) x0 x1 x2 x3 x4 x5 x6 x7 x8 x9 x10 x11 x12 x15 x16 (ix2 n e) = (re e : EReal)) (l : Fin 128) :
    val_main_v141 (F := Ideal) x0 x1 x2 x3 x4 x5 x6 x7 x8 x9 x10 x11 x12 x13 x14 x15 x16 (ix2 n l)
      = ((Route.lanes rg re (pickG x0 x1 x2 x3 x4 x5 x6 x7 x8 x9 x10 x11 x12 x13 x14 n) (pickA x0 x1 x2 x3 x4 x5 x6 x7 x8 x9 x10 x11 x12 x13 x14 x15 x16 n) (pickB x0 x1 x2 x3 x4 x5 x6 x7 x8 x9 x10 x11 x12 x13 x14 x15 x16 n) l.val : ℝ) : EReal) := by
  have hi := indices_at x0 x1 x2 x3 x4 x5 x6 x7 x8 x9 x10 x11 x12 x13 x14 n
  have ha := indices16_0 x0 x1 x2 x3 x4 x5 x6 x7 x8 x9 x10 x11 x12 x13 x14 x15 x16 n
  have hb := indices16_1 x0 x1 x2 x3 x4 x5 x6 x7 x8 x9 x10 x11 x12 x13 x14 x15 x16 n
  have h94 := v94_at x0 x1 x2 x3 x4 x5 x6 x7 x8 x9 x10 x11 x12 x13 x14 n rg hg
  have hle : re (Route.expert (pickG x0 x1 x2 x3 x4 x5 x6 x7 x8 x9 x10 x11 x12 x13 x14 n) (pickB x0 x1 x2 x3 x4 x5 x6 x7 x8 x9 x10 x11 x12 x13 x14 x15 x16 n)) ≤ re (Route.expert (pickG x0 x1 x2 x3 x4 x5 x6 x7 x8 x9 x10 x11 x12 x13 x14 n) (pickA x0 x1 x2 x3 x4 x5 x6 x7 x8 x9 x10 x11 x12 x13 x14 x15 x16 n)) :=
    EReal.coe_le_coe_iff.mp ((pickA_first x0 x1 x2 x3 x4 x5 x6 x7 x8 x9 x10 x11 x12 x13 x14 x15 x16 n re he).le _)
  obtain ⟨g0, g1⟩ := gates x0 x1 x2 x3 x4 x5 x6 x7 x8 x9 x10 x11 x12 x13 x14 x15 x16 n _ _ hle (values15_0 x0 x1 x2 x3 x4 x5 x6 x7 x8 x9 x10 x11 x12 x13 x14 x15 x16 n re he) (values15_1 x0 x1 x2 x3 x4 x5 x6 x7 x8 x9 x10 x11 x12 x13 x14 x15 x16 n re he)
  generalize pickG x0 x1 x2 x3 x4 x5 x6 x7 x8 x9 x10 x11 x12 x13 x14 n = g at *
  generalize pickA x0 x1 x2 x3 x4 x5 x6 x7 x8 x9 x10 x11 x12 x13 x14 x15 x16 n = a at *
  generalize pickB x0 x1 x2 x3 x4 x5 x6 x7 x8 x9 x10 x11 x12 x13 x14 x15 x16 n = b at *
  have c0 := v120_at x0 x1 x2 x3 x4 x5 x6 x7 x8 x9 x10 x11 x12 x13 x14 x15 x16 n g a 0 hi ha
  have c1 := v120_at x0 x1 x2 x3 x4 x5 x6 x7 x8 x9 x10 x11 x12 x13 x14 x15 x16 n g b 1 hi hb
  have c2 := v115_at x0 x1 x2 x3 x4 x5 x6 x7 x8 x9 x10 x11 x12 x13 x14 x15 x16 n _ _ 0 h94 g0
  have c3 := v115_at x0 x1 x2 x3 x4 x5 x6 x7 x8 x9 x10 x11 x12 x13 x14 x15 x16 n _ _ 1 h94 g1
  have c4 := v139_at x0 x1 x2 x3 x4 x5 x6 x7 x8 x9 x10 x11 x12 x13 x14 x15 x16 n g a b hi ha hb
  pointwise [val_main_v141, val_main_v140, val_main_cst_26]
  rcases (show l.val = 0 ∨ l.val = 1 ∨ l.val = 2 ∨ l.val = 3 ∨ l.val = 4 ∨ 5 ≤ l.val by omega) with e | e | e | e | e | e
  · have el : Route.lanes rg re g a b l.val = ((8 * g.val + a.val : ℕ) : ℝ) := by simp [Route.lanes, e]
    rw [el]
    refine (dif_pos (by omega)).trans (Eq.trans ?_ c0)
    exact congrArg _ (congrArg (ix2 n) (Fin.ext e))
  · have el : Route.lanes rg re g a b l.val = ((8 * g.val + b.val : ℕ) : ℝ) := by simp [Route.lanes, e]
    rw [el]
    refine (dif_pos (by omega)).trans (Eq.trans ?_ c1)
    exact congrArg _ (congrArg (ix2 n) (Fin.ext e))
  · have el : Route.lanes rg re g a b l.val = Route.group rg g * (1 / (1 + Route.ratio re g a b)) := by
      simp [Route.lanes, e]
    rw [el]
    refine (dif_neg (by omega)).trans ((dif_pos (by omega)).trans (Eq.trans ?_ c2))
    exact congrArg _ (congrArg (ix2 n) (Fin.ext (show l.val - 2 = 0 by omega)))
  · have el : Route.lanes rg re g a b l.val
        = Route.group rg g * (Route.ratio re g a b / (1 + Route.ratio re g a b)) := by simp [Route.lanes, e]
    rw [el]
    refine (dif_neg (by omega)).trans ((dif_pos (by omega)).trans (Eq.trans ?_ c3))
    exact congrArg _ (congrArg (ix2 n) (Fin.ext (show l.val - 2 = 1 by omega)))
  · have el : Route.lanes rg re g a b l.val = Route.pair g a b := by simp [Route.lanes, e]
    rw [el]
    refine (dif_neg (by omega)).trans ((dif_neg (by omega)).trans ((dif_pos (by omega)).trans (Eq.trans ?_ c4)))
    exact congrArg _ (congrArg (ix2 n) (Fin.ext (show l.val - 2 - 2 = 0 by omega)))
  · have el : Route.lanes rg re g a b l.val = 0 := by
      unfold Route.lanes
      rw [if_neg (by omega), if_neg (by omega), if_neg (by omega), if_neg (by omega), if_neg (by omega)]
    rw [el]
    exact (dif_neg (by omega)).trans ((dif_neg (by omega)).trans (dif_neg (by omega)))

end Lanes

/-! ## The scores -/

section Scores

variable (t : Fin 16) (r : Fin 2048)

/-- Token `r` of block `t`, among all tokens. -/
abbrev token (t : Fin 16) (r : Fin 2048) : Fin 32768 := ⟨2048 * t.val + r.val, by omega⟩

theorem v78_at (j : Fin 1024) : val_main_v78 (F := Ideal) x0 x1 x2 x3 x4 x5 x6 x7 x8 x9 x10 x11 x12 (ix2 (token t r) j)
    = val_main_v77 (F := Ideal) x0 x1 x2 x3 x4 x5 x6 x7 x8 x9 x10 x11 x12 (ix3 t r j) := by
  rw [val_main_v78_apply]
  refine congrArg _ (funext fun a => Fin.ext ?_)
  match a with
  | ⟨0, _⟩ => show ((2048 * t.val + r.val) * 1024 + j.val) / 2097152 = t.val; omega
  | ⟨1, _⟩ => show ((2048 * t.val + r.val) * 1024 + j.val) / 1024 % 2048 = r.val; omega
  | ⟨2, _⟩ => show ((2048 * t.val + r.val) * 1024 + j.val) % 1024 = j.val; omega

theorem v82_at (k : Fin 4) : val_main_v82 (F := Ideal) x0 x1 x2 x3 x4 x5 x6 x7 x8 x9 x10 x11 x12 x13 x14 (ix2 (token t r) k)
    = (∑ j : Fin 1024, val_main_v77 (F := Ideal) x0 x1 x2 x3 x4 x5 x6 x7 x8 x9 x10 x11 x12 (ix3 t r j) * x13 (ix2 j k)) + x14 (ix1 k) := by
  have h := v78_at x0 x1 x2 x3 x4 x5 x6 x7 x8 x9 x10 x11 x12 t r
  generalize token t r = n at h ⊢
  pointwise [val_main_v82, val_main_v79, val_main_v80, val_main_v81]
  simp only [h]

theorem v98_at (e : Fin 32) : val_main_v98 (F := Ideal) x0 x1 x2 x3 x4 x5 x6 x7 x8 x9 x10 x11 x12 x15 x16 (ix2 (token t r) e)
    = (∑ j : Fin 1024, val_main_v77 (F := Ideal) x0 x1 x2 x3 x4 x5 x6 x7 x8 x9 x10 x11 x12 (ix3 t r j) * x15 (ix2 j e)) + x16 (ix1 e) := by
  have h := v78_at x0 x1 x2 x3 x4 x5 x6 x7 x8 x9 x10 x11 x12 t r
  generalize token t r = n at h ⊢
  pointwise [val_main_v98, val_main_v95, val_main_v96, val_main_v97]
  simp only [h]

theorem v143_at (l : Fin 128) : val_main_v143 (F := Ideal) x0 x1 x2 x3 x4 x5 x6 x7 x8 x9 x10 x11 x12 x13 x14 x15 x16 (ix3 t r l)
    = val_main_v141 (F := Ideal) x0 x1 x2 x3 x4 x5 x6 x7 x8 x9 x10 x11 x12 x13 x14 x15 x16 (ix2 (token t r) l) := by
  rw [val_main_v143_apply]
  refine congrArg _ (funext fun a => Fin.ext ?_)
  match a with
  | ⟨0, _⟩ => show ((t.val * 2048 + r.val) * 128 + l.val) / 128 = 2048 * t.val + r.val; omega
  | ⟨1, _⟩ => show ((t.val * 2048 + r.val) * 128 + l.val) % 128 = l.val; omega

end Scores

end Cert.ReferenceIdeal.MixValue

end
-- ==== Proof.TieRoute.lean ====
/- The kernel's routing lanes and the reference's, tied: where every argument is real, the second result is the same. -/
module

public import proofs.«01_k».proof.Proof.Tie
public import proofs.«01_k».proof.Proof.KernelRoute
public import proofs.«01_k».proof.Proof.ReferenceRoute

@[expose] public section

set_option maxRecDepth 16384

noncomputable section

namespace Cert.Tie

open Idealize.ShloMosaic Idealize.SL.Sem Idealize.ShloMosaic.TcCoe
open Cert.KernelIdeal.MixValue (RealArgs groupScore expertScore hTok)

variable (m : KMem) (c : Dev Cert.KernelIdeal.nD)

/-- The reference's hidden row at the kernel's arguments. -/
theorem reference_row (t : Fin 16) (r : Fin 2048) (j : Fin 1024) :
    Cert.ReferenceIdeal.Read.val_main_v77 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) (ix3 t r j) = hTok m c t r j :=
  Cert.ReferenceIdeal.MixValue.v77_apply _ _ _ _ _ _ _ _ _ _ _ _ _ t r j

theorem reference_group (t : Fin 16) (r : Fin 2048) (k : Fin 4) :
    Cert.ReferenceIdeal.Read.val_main_v82 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (ix2 (Cert.ReferenceIdeal.MixValue.token t r) k)
      = groupScore m c t r k := by
  rw [Cert.ReferenceIdeal.MixValue.v82_at]
  simp only [reference_row]
  rfl

theorem reference_expert (t : Fin 16) (r : Fin 2048) (e : Fin 32) :
    Cert.ReferenceIdeal.Read.val_main_v98 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (ix2 (Cert.ReferenceIdeal.MixValue.token t r) e)
      = expertScore m c t r e := by
  rw [Cert.ReferenceIdeal.MixValue.v98_at]
  simp only [reference_row]
  rfl

/-- The reference's second result, over any arguments that are the kernel's and real. -/
theorem reference_route (hr : RealArgs m c) (m' : RMem)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (a16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.ReferenceIdeal.Read.val_main_v143 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16))
      = (routeFinal m c : FVec Ideal Cert.ReferenceIdeal.S16x2048x128 .f32) := by
  rw [a0, a1, a2, a3, a4, a5, a6, a7, a8, a9, a10, a11, a12, a13, a14, a15, a16]
  refine (Cert.KernelIdeal.MixValue.final_route hr _ fun t r rg re hg he => ?_).symm
  have hg' := fun k => (reference_group m c t r k).trans (hg k)
  have he' := fun e => (reference_expert m c t r e).trans (he e)
  exact ⟨_, _, _, Cert.ReferenceIdeal.MixValue.pickG_first _ _ _ _ _ _ _ _ _ _ _ _ _ _ _ _ rg hg',
    Cert.ReferenceIdeal.MixValue.pickA_first _ _ _ _ _ _ _ _ _ _ _ _ _ _ _ _ _ _ re he',
    Cert.ReferenceIdeal.MixValue.pickB_second _ _ _ _ _ _ _ _ _ _ _ _ _ _ _ _ _ _ re he',
    fun l => (Cert.ReferenceIdeal.MixValue.v143_at _ _ _ _ _ _ _ _ _ _ _ _ _ _ _ _ _ t r l).trans
      (Cert.ReferenceIdeal.MixValue.v141_at _ _ _ _ _ _ _ _ _ _ _ _ _ _ _ _ _ _ rg re hg' he' l)⟩

end Cert.Tie

end
-- ==== Proof.FinitePre.lean ====
/- What the precondition says: where the predicate `finite` holds of the arguments, every one of their elements is a real
   number. -/
module

public import proofs.«01_k».proof.Defs
public import proofs.«01_k».proof.Proof.KernelRoute

@[expose] public section

set_option maxRecDepth 16384

noncomputable section

namespace Cert.FinitePre

open Idealize.ShloMosaic Cert.Rows Cert.KernelIdeal.MixValue

instance facts : Cert.Pre_finite.Facts :=
  ⟨by decide, by decide, by decide, by decide, by decide, by decide, by decide, by decide, by decide, by decide, by decide, by decide, by decide, by decide⟩

theorem top_bf16 : Ideal.ofBits .bf16 0x7F80#16 = ⊤ := by simp [Ideal.ofBits, Ideal.ieee]

/-- An element whose magnitude is below infinity is real. -/
theorem finite_real {s : Shape} {φ : FTy} (x inf : FVec Ideal s φ) (hinf : ∀ i, inf i = (⊤ : EReal))
    (h : cmpf .olt (Host.absf x) inf = fun _ => 1#1) (i : s.Idx) : IsReal (x i) := by
  have h1 : max (x i : EReal) (-(x i : EReal)) < (inf i : EReal) := (@Select.ofBool_eq _ _).mp (congrFun h i)
  rw [hinf] at h1
  obtain ⟨ht, hb⟩ := max_lt_iff.mp h1
  exact ⟨(x i : EReal).toReal, (EReal.coe_toReal ht.ne fun e => by rw [e] at hb; simp at hb).symm⟩

variable (m : (ℓ : Loc Cert.KernelIdeal.nD Cert.KernelIdeal.τ Cert.KernelIdeal.sig) → Buf (Elt Ideal) ℓ)

theorem realArgs (h : Cert.Pre_KernelIdeal_finite m) (c : Dev Cert.KernelIdeal.nD) : RealArgs m c where
  a0 := finite_real _ (broadcastInDim Cert.Pre_finite.S16x2048x1024 ![] Cert.Pre_finite.Facts.bcast_S_S16x2048x1024 (constant Cert.Pre_finite.S_ .bf16 0x7F80#16))
    (fun _ => top_bf16) (h c).1
  a1 := finite_real _ (broadcastInDim Cert.Pre_finite.S16x512x2048 ![] Cert.Pre_finite.Facts.bcast_S_S16x512x2048 (constant Cert.Pre_finite.S_ .bf16 0x7F80#16))
    (fun _ => top_bf16) (h c).2.1
  a2 := finite_real _ (broadcastInDim Cert.Pre_finite.S16x2048x512 ![] Cert.Pre_finite.Facts.bcast_S_S16x2048x512 (constant Cert.Pre_finite.S_ .bf16 0x7F80#16))
    (fun _ => top_bf16) (h c).2.2.1
  a3 := finite_real _ (broadcastInDim Cert.Pre_finite.S1024x3584 ![] Cert.Pre_finite.Facts.bcast_S_S1024x3584 (constant Cert.Pre_finite.S_ .f32 0x7F800000#32))
    (fun _ => lit_top) (h c).2.2.2.1
  a4 := finite_real _ (broadcastInDim Cert.Pre_finite.S3584 ![] Cert.Pre_finite.Facts.bcast_S_S3584 (constant Cert.Pre_finite.S_ .f32 0x7F800000#32))
    (fun _ => lit_top) (h c).2.2.2.2.1
  a5 := finite_real _ (broadcastInDim Cert.Pre_finite.S512x2048 ![] Cert.Pre_finite.Facts.bcast_S_S512x2048 (constant Cert.Pre_finite.S_ .f32 0x7F800000#32))
    (fun _ => lit_top) (h c).2.2.2.2.2.1
  a6 := finite_real _ (broadcastInDim Cert.Pre_finite.S2048 ![] Cert.Pre_finite.Facts.bcast_S_S2048 (constant Cert.Pre_finite.S_ .f32 0x7F800000#32))
    (fun _ => lit_top) (h c).2.2.2.2.2.2.1
  a7 := finite_real _ (broadcastInDim Cert.Pre_finite.S512x1024 ![] Cert.Pre_finite.Facts.bcast_S_S512x1024 (constant Cert.Pre_finite.S_ .f32 0x7F800000#32))
    (fun _ => lit_top) (h c).2.2.2.2.2.2.2.1
  a8 := finite_real _ (broadcastInDim Cert.Pre_finite.S1024 ![] Cert.Pre_finite.Facts.bcast_S_S1024 (constant Cert.Pre_finite.S_ .f32 0x7F800000#32))
    (fun _ => lit_top) (h c).2.2.2.2.2.2.2.2.1
  a9 := finite_real _ (broadcastInDim Cert.Pre_finite.S1024x1024 ![] Cert.Pre_finite.Facts.bcast_S_S1024x1024 (constant Cert.Pre_finite.S_ .f32 0x7F800000#32))
    (fun _ => lit_top) (h c).2.2.2.2.2.2.2.2.2.1
  a10 := finite_real _ (broadcastInDim Cert.Pre_finite.S1024 ![] Cert.Pre_finite.Facts.bcast_S_S1024 (constant Cert.Pre_finite.S_ .f32 0x7F800000#32))
    (fun _ => lit_top) (h c).2.2.2.2.2.2.2.2.2.2.1
  a11 := finite_real _ (broadcastInDim Cert.Pre_finite.S1024 ![] Cert.Pre_finite.Facts.bcast_S_S1024 (constant Cert.Pre_finite.S_ .f32 0x7F800000#32))
    (fun _ => lit_top) (h c).2.2.2.2.2.2.2.2.2.2.2.1
  a12 := finite_real _ (broadcastInDim Cert.Pre_finite.S1024 ![] Cert.Pre_finite.Facts.bcast_S_S1024 (constant Cert.Pre_finite.S_ .f32 0x7F800000#32))
    (fun _ => lit_top) (h c).2.2.2.2.2.2.2.2.2.2.2.2.1
  a13 := finite_real _ (broadcastInDim Cert.Pre_finite.S1024x4 ![] Cert.Pre_finite.Facts.bcast_S_S1024x4 (constant Cert.Pre_finite.S_ .f32 0x7F800000#32))
    (fun _ => lit_top) (h c).2.2.2.2.2.2.2.2.2.2.2.2.2.1
  a14 := finite_real _ (broadcastInDim Cert.Pre_finite.S4 ![] Cert.Pre_finite.Facts.bcast_S_S4 (constant Cert.Pre_finite.S_ .f32 0x7F800000#32))
    (fun _ => lit_top) (h c).2.2.2.2.2.2.2.2.2.2.2.2.2.2.1
  a15 := finite_real _ (broadcastInDim Cert.Pre_finite.S1024x32 ![] Cert.Pre_finite.Facts.bcast_S_S1024x32 (constant Cert.Pre_finite.S_ .f32 0x7F800000#32))
    (fun _ => lit_top) (h c).2.2.2.2.2.2.2.2.2.2.2.2.2.2.2.1
  a16 := finite_real _ (broadcastInDim Cert.Pre_finite.S32 ![] Cert.Pre_finite.Facts.bcast_S_S32 (constant Cert.Pre_finite.S_ .f32 0x7F800000#32))
    (fun _ => lit_top) (h c).2.2.2.2.2.2.2.2.2.2.2.2.2.2.2.2

end Cert.FinitePre

end
-- ==== Proof.InprojBlock.lean ====
/- What one grid point of the projection call leaves in its three output blocks, at an index. -/
module

public import proofs.«01_k».proof.Proof.Gen.InprojIdeal.Frame
public import Idealize.ShloMosaic.Lib.Pipeline.ValueKit
public import Idealize.ShloMosaic.Lib.Claim

@[expose] public section

set_option maxRecDepth 16384

noncomputable section

namespace Cert.InprojIdeal.InprojValue

open Cert.InprojIdeal Cert.InprojIdeal.Gen
open Idealize.ShloMosaic Idealize.ShloMosaic.TcCoe

/-! ## The stores, for any loads

`ld t j` is what the body loads for chunk token `t` from column block `j`: 128 rows of 128 lanes. -/

section Tiles

variable (ld : Fin 16 → Fin 8 → Vec Ideal S128x128 .f32)

/-- The 128 rows of chunk token `t`, at full width. -/
def rowsOf (t : Fin 16) : FVec Ideal S128x1024 .f32 :=
  k0_pay5 (ld t 0) (ld t 1) (ld t 2) (ld t 3) (ld t 4) (ld t 5) (ld t 6) (ld t 7)

/-- The rows of four chunk tokens on top of each other. -/
def tile (q : Fin 4) : FVec Ideal S512x1024 .bf16 :=
  truncf .bf16 (concatenate S512x1024 0
    [⟨S128x1024, rowsOf ld ⟨4 * q.val, by omega⟩⟩, ⟨S128x1024, rowsOf ld ⟨4 * q.val + 1, by omega⟩⟩,
     ⟨S128x1024, rowsOf ld ⟨4 * q.val + 2, by omega⟩⟩, ⟨S128x1024, rowsOf ld ⟨4 * q.val + 3, by omega⟩⟩]
    concatenates_S128x1024_S128x1024_S128x1024_S128x1024_S512x1024_d0) bitsLt_bf16_f32

variable (wu : Vec Ideal S512x1024 .bf16) (bu : Vec Ideal S512x1 .f32)
  (wc : Vec Ideal S1024x1024 .bf16) (bc : Vec Ideal S1x1024 .f32)

/-- The first projection of a tile, transposed. -/
def utTile (q : Fin 4) : FVec Ideal S512x512 .f32 :=
  addf (matmul (φ₁ := .bf16) dot_S512x1024_S512x1024_S512x512_1_1_0_0_n_n none (shapeCast S512x1024 wu shapeCasts_S512x1024_S512x1024)
      (tile ld q) (constant S512x512 .f32 0x00000000#32))
    (broadcastTo S512x512 (shapeCast S512x1 bu shapeCasts_S512x1_S512x1) broadcasts_S512x1_S512x512)

/-- The other projections of a tile. -/
def cvTile (q : Fin 4) : FVec Ideal S512x1024 .f32 :=
  addf (matmul (φ₂ := .bf16) dot_S512x1024_S1024x1024_S512x1024_1_0_0_1_n_n none (tile ld q)
      (shapeCast S1024x1024 wc shapeCasts_S1024x1024_S1024x1024) (constant S512x1024 .f32 0x00000000#32))
    (broadcastTo S512x1024 (shapeCast S1x1024 bc shapeCasts_S1x1024_S1x1024) broadcasts_S1x1024_S512x1024)

/-- One half of them gated by the logistic of the other. -/
def vTile (q : Fin 4) : FVec Ideal S512x512 .f32 :=
  mulf (extractStridedSlice S512x512 ![0, 0] (cvTile ld wc bc q) slices_S512x1024_o0_0_S512x512)
    (logistic (extractStridedSlice S512x512 ![0, 512] (cvTile ld wc bc q) slices_S512x1024_o0_512_S512x512))

/-- Chunk token `t` is part `t % 4` of tile `t / 4`. -/
abbrev tileIx (t : Fin 16) : Fin 4 := ⟨t.val / 4, by omega⟩

theorem slicesU : ∀ t : Fin 16, S512x512.Slices ![0, 128 * (t.val % 4)] S512x128 := by decide
theorem slicesV : ∀ t : Fin 16, S512x512.Slices ![128 * (t.val % 4), 0] S128x512 := by decide
theorem slicesX : ∀ t : Fin 16, S512x1024.Slices ![128 * (t.val % 4), 0] S128x1024 := by decide
theorem inbU : ∀ (t : Fin 16) (a : Fin 3), (![t.val, 0, 0] : Fin 3 → Nat) a + S1x512x128.size a ≤ S16x512x128.size a := by decide
theorem inbV : ∀ (t : Fin 16) (a : Fin 3), (![t.val, 0, 0] : Fin 3 → Nat) a + S1x128x512.size a ≤ S16x128x512.size a := by decide
theorem inbX : ∀ (t : Fin 16) (a : Fin 3), (![t.val, 0, 0] : Fin 3 → Nat) a + S1x128x1024.size a ≤ S16x128x1024.size a := by decide

/-- Chunk token `t`'s store to the first output block. -/
def utPiece (t : Fin 16) : View.Piece (Elt Ideal) S16x512x128 .bf16 :=
  ⟨Rect.unit ![t.val, 0, 0] S1x512x128.size (inbU t), shapeCast S1x512x128
    (truncf .bf16 (extractStridedSlice S512x128 ![0, 128 * (t.val % 4)] (utTile ld wu bu (tileIx t)) (slicesU t)) bitsLt_bf16_f32)
    shapeCasts_S512x128_S1x512x128⟩

/-- Its store to the second. -/
def vPiece (t : Fin 16) : View.Piece (Elt Ideal) S16x128x512 .f32 :=
  ⟨Rect.unit ![t.val, 0, 0] S1x128x512.size (inbV t), shapeCast S1x128x512
    (extractStridedSlice S128x512 ![128 * (t.val % 4), 0] (vTile ld wc bc (tileIx t)) (slicesV t))
    shapeCasts_S128x512_S1x128x512⟩

/-- Its store to the third. -/
def xtPiece (t : Fin 16) : View.Piece (Elt Ideal) S16x128x1024 .bf16 :=
  ⟨Rect.unit ![t.val, 0, 0] S1x128x1024.size (inbX t), shapeCast S1x128x1024
    (extractStridedSlice S128x1024 ![128 * (t.val % 4), 0] (tile ld (tileIx t)) (slicesX t))
    shapeCasts_S128x1024_S1x128x1024⟩

/-- The chunk tokens, the one stored last first. -/
def lastFirst : List (Fin 16) := [15, 14, 13, 12, 11, 10, 9, 8, 7, 6, 5, 4, 3, 2, 1, 0]

end Tiles

/-! ## The stores of the run -/

section Run

variable (c : Dev nD) (i : grid0.Coords)
  {a1 a2 a3 a4 a5 a6 a7 a8 : Memref sig .tc .vmem S2048x128 .f32} {a9 : Memref sig .tc .vmem S512x1024 .bf16}
  {a10 : Memref sig .tc .vmem S512x1 .f32} {a11 : Memref sig .tc .vmem S1024x1024 .bf16}
  {a12 : Memref sig .tc .vmem S1x1024 .f32} {a13 : Memref sig .tc .vmem S16x512x128 .bf16}
  {a14 : Memref sig .tc .vmem S16x128x512 .f32} {a15 : Memref sig .tc .vmem S16x128x1024 .bf16}
  (e1 : a1.IsWhole) (e2 : a2.IsWhole) (e3 : a3.IsWhole) (e4 : a4.IsWhole) (e5 : a5.IsWhole) (e6 : a6.IsWhole)
  (e7 : a7.IsWhole) (e8 : a8.IsWhole) (e9 : a9.IsWhole) (e10 : a10.IsWhole) (e11 : a11.IsWhole) (e12 : a12.IsWhole)
  (e13 : a13.IsWhole) (e14 : a14.IsWhole) (e15 : a15.IsWhole)
  (x0 x1 x2 x3 x4 x5 x6 x7 : Vec Ideal S2048x128 .f32) (x8 : Vec Ideal S512x1024 .bf16) (x9 : Vec Ideal S512x1 .f32)
  (x10 : Vec Ideal S1024x1024 .bf16) (x11 : Vec Ideal S1x1024 .f32)

theorem inbL : ∀ (t : Fin 16) (a : Fin 2), S128x128.size a = 0
    ∨ (![t.val, 0] : Fin 2 → Nat) a + (![16, 1] : Fin 2 → Nat) a * (S128x128.size a - 1) < S2048x128.size a := by decide

/-- Rows `t`, `t + 16`, … of one column block. -/
def strided {a : Memref sig .tc .vmem S2048x128 .f32} (e : a.IsWhole) (x : Vec Ideal S2048x128 .f32) (t : Fin 16) :
    Vec Ideal S128x128 .f32 :=
  View.readAt (Elt Ideal) a.view ⟨![t.val, 0], S128x128.size, ![16, 1], inbL t⟩ (e.unread x)

/-- The loads of a chunk token from the eight column blocks. -/
def loads (t : Fin 16) (j : Fin 8) : Vec Ideal S128x128 .f32 :=
  match j with
  | 0 => strided e1 x0 t
  | 1 => strided e2 x1 t
  | 2 => strided e3 x2 t
  | 3 => strided e4 x3 t
  | 4 => strided e5 x4 t
  | 5 => strided e6 x5 t
  | 6 => strided e7 x6 t
  | 7 => strided e8 x7 t

/-- What the body stores to each output block, as the run of its frame lists it. -/
def utRun : List (View.Piece (Elt Ideal) S16x512x128 .bf16) := (kernelRun0_A c i _ e1 _ e2 _ e3 _ e4 _ e5 _ e6 _ e7 _ e8 _ e9 _ e10 _ e11 _ e12 _ e13 _ e14 _ e15
  x0 x1 x2 x3 x4 x5 x6 x7 x8 x9 x10 x11).1
def vRun : List (View.Piece (Elt Ideal) S16x128x512 .f32) := (kernelRun0_A c i _ e1 _ e2 _ e3 _ e4 _ e5 _ e6 _ e7 _ e8 _ e9 _ e10 _ e11 _ e12 _ e13 _ e14 _ e15
  x0 x1 x2 x3 x4 x5 x6 x7 x8 x9 x10 x11).2.1
def xtRun : List (View.Piece (Elt Ideal) S16x128x1024 .bf16) := (kernelRun0_A c i _ e1 _ e2 _ e3 _ e4 _ e5 _ e6 _ e7 _ e8 _ e9 _ e10 _ e11 _ e12 _ e13 _ e14 _ e15
  x0 x1 x2 x3 x4 x5 x6 x7 x8 x9 x10 x11).2.2.1

/-- The whole of a parameter's block, as the body loads it. -/
abbrev wuLd := View.readAt (Elt Ideal) a9.view (Rect.unit ![0, 0] S512x1024.size inb_S512x1024_S512x1024_0_0).toLoadRect (e9.unread x8)
abbrev buLd := View.readAt (Elt Ideal) a10.view (Rect.unit ![0, 0] S512x1.size inb_S512x1_S512x1_0_0).toLoadRect (e10.unread x9)
abbrev wcLd := View.readAt (Elt Ideal) a11.view (Rect.unit ![0, 0] S1024x1024.size inb_S1024x1024_S1024x1024_0_0).toLoadRect (e11.unread x10)
abbrev bcLd := View.readAt (Elt Ideal) a12.view (Rect.unit ![0, 0] S1x1024.size inb_S1x1024_S1x1024_0_0).toLoadRect (e12.unread x11)

theorem runs_ut : utRun c i e1 e2 e3 e4 e5 e6 e7 e8 e9 e10 e11 e12 e13 e14 e15 x0 x1 x2 x3 x4 x5 x6 x7 x8 x9 x10 x11
    = lastFirst.map (utPiece (loads e1 e2 e3 e4 e5 e6 e7 e8 x0 x1 x2 x3 x4 x5 x6 x7) (wuLd e9 x8) (buLd e10 x9)) := rfl

theorem runs_v : vRun c i e1 e2 e3 e4 e5 e6 e7 e8 e9 e10 e11 e12 e13 e14 e15 x0 x1 x2 x3 x4 x5 x6 x7 x8 x9 x10 x11
    = lastFirst.map (vPiece (loads e1 e2 e3 e4 e5 e6 e7 e8 x0 x1 x2 x3 x4 x5 x6 x7) (wcLd e11 x10) (bcLd e12 x11)) := rfl

theorem runs_xt : xtRun c i e1 e2 e3 e4 e5 e6 e7 e8 e9 e10 e11 e12 e13 e14 e15 x0 x1 x2 x3 x4 x5 x6 x7 x8 x9 x10 x11
    = lastFirst.map (xtPiece (loads e1 e2 e3 e4 e5 e6 e7 e8 x0 x1 x2 x3 x4 x5 x6 x7)) := rfl

end Run

end Cert.InprojIdeal.InprojValue

end
-- ==== Proof.InprojTile.lean ====
/- The stores of one grid point of the projection call, at an index: the projections of the rows that the point reads. -/
module

public import proofs.«01_k».proof.Proof.InprojBlock
public import Idealize.ShloMosaic.Lib.Pipeline.ValueKit
public import Idealize.ShloMosaic.Lib.Claim

@[expose] public section

set_option maxRecDepth 16384

noncomputable section

namespace Cert.InprojIdeal.InprojValue

open Cert.InprojIdeal Cert.InprojIdeal.Gen
open Idealize.ShloMosaic Idealize.ShloMosaic.TcCoe

/-- Column `k` is lane `k % 128` of column block `k / 128`. -/
abbrev colBlk (k : Fin 1024) : Fin 8 := ⟨k.val / 128, by omega⟩
abbrev colLane (k : Fin 1024) : Fin 128 := ⟨k.val % 128, by omega⟩
/-- Lane `l` of column block `j`. -/
abbrev colAt (j : Fin 8) (l : Fin 128) : Fin 1024 := ⟨128 * j.val + l.val, by omega⟩
/-- Row `r` of chunk token `t` is row `16·r + t` of the point's block. -/
abbrev blkRow (t : Fin 16) (r : Fin 128) : Fin 2048 := ⟨16 * r.val + t.val, by omega⟩
/-- Row `r` of part `t % 4` of a tile. -/
abbrev tileRow (t : Fin 16) (r : Fin 128) : Fin 512 := ⟨128 * (t.val % 4) + r.val, by omega⟩

/-! ## Rows and tiles -/

section Tiles

variable (ld : Fin 16 → Fin 8 → Vec Ideal S128x128 .f32)

theorem rowsOf_apply (t : Fin 16) (r : Fin 128) (k : Fin 1024) :
    rowsOf ld t (ix2 r k) = ld t (colBlk k) (ix2 r (colLane k)) := by
  have e : rowsOf ld t = concatenate S128x1024 1
      (List.ofFn fun j : Fin 8 => (⟨S128x128, shapeCast S128x128 (ld t j) shapeCasts_S128x128_S128x128⟩ : (s : Shape) × (s.Idx → EReal)))
      concatenates_S128x128_S128x128_S128x128_S128x128_S128x128_S128x128_S128x128_S128x128_S128x1024_d1 := rfl
  rw [e]
  refine (concatenate_ofFn_apply (s₁ := S128x128) (t := S128x1024) 1 _ _ rfl 128 rfl (ix2 r k) (colBlk k) rfl (ix2 r (colLane k)) rfl ?_).trans ?_
  · intro b hb
    fin_cases b
    · rfl
    · exact absurd rfl hb
  · pointwise

theorem tile_apply (t : Fin 16) (r : Fin 128) (k : Fin 1024) :
    tile ld (tileIx t) (ix2 (tileRow t r) k) = rowsOf ld t (ix2 r k) := by
  have e : concatenate S512x1024 0
      [⟨S128x1024, rowsOf ld ⟨4 * (tileIx t).val, by omega⟩⟩, ⟨S128x1024, rowsOf ld ⟨4 * (tileIx t).val + 1, by omega⟩⟩,
       ⟨S128x1024, rowsOf ld ⟨4 * (tileIx t).val + 2, by omega⟩⟩, ⟨S128x1024, rowsOf ld ⟨4 * (tileIx t).val + 3, by omega⟩⟩]
      concatenates_S128x1024_S128x1024_S128x1024_S128x1024_S512x1024_d0
    = concatenate S512x1024 0
      (List.ofFn fun s : Fin 4 => (⟨S128x1024, rowsOf ld ⟨4 * (tileIx t).val + s.val, by omega⟩⟩ : (s : Shape) × (s.Idx → EReal)))
      concatenates_S128x1024_S128x1024_S128x1024_S128x1024_S512x1024_d0 := rfl
  unfold tile
  rw [e]
  refine (concatenate_ofFn_apply (s₁ := S128x1024) (t := S512x1024) 0
    (fun s : Fin 4 => rowsOf ld ⟨4 * (tileIx t).val + s.val, by omega⟩)
    concatenates_S128x1024_S128x1024_S128x1024_S128x1024_S512x1024_d0 rfl 128 rfl (ix2 (tileRow t r) k) ⟨t.val % 4, by omega⟩ ?_ (ix2 r k) ?_ ?_).trans ?_
  · show (128 * (t.val % 4) + r.val) / 128 = t.val % 4
    omega
  · show r.val = (128 * (t.val % 4) + r.val) % 128
    omega
  · intro b hb
    fin_cases b
    · exact absurd rfl hb
    · rfl
  · congr 1
    exact Fin.ext (by show 4 * (t.val / 4) + t.val % 4 = t.val; omega)

variable (wu : Vec Ideal S512x1024 .bf16) (bu : Vec Ideal S512x1 .f32)
  (wc : Vec Ideal S1024x1024 .bf16) (bc : Vec Ideal S1x1024 .f32)

theorem utTile_apply (q : Fin 4) (d n : Fin 512) :
    utTile ld wu bu q (ix2 d n) = (∑ k : Fin 1024, wu (ix2 d k) * tile ld q (ix2 n k)) + bu (ix2 d 0) := by
  pointwise [utTile]

theorem cvTile_apply (q : Fin 4) (n : Fin 512) (d : Fin 1024) :
    cvTile ld wc bc q (ix2 n d) = (∑ k : Fin 1024, tile ld q (ix2 n k) * wc (ix2 k d)) + bc (ix2 0 d) := by
  pointwise [cvTile]

theorem vTile_apply (q : Fin 4) (n d : Fin 512) :
    vTile ld wc bc q (ix2 n d) = cvTile ld wc bc q (ix2 n ⟨d.val, by omega⟩)
      * Ideal.logistic (cvTile ld wc bc q (ix2 n ⟨512 + d.val, by omega⟩)) := by
  pointwise [vTile]

/-! ## The three stores of a chunk token -/

variable (X : Fin 2048 → Fin 1024 → EReal)

/-- The first projection of row `n`. -/
def uOf (n : Fin 2048) (d : Fin 512) : EReal := (∑ k : Fin 1024, wu (ix2 d k) * X n k) + bu (ix2 d 0)
/-- The other projections of row `n`. -/
def cvOf (n : Fin 2048) (d : Fin 1024) : EReal := (∑ k : Fin 1024, X n k * wc (ix2 k d)) + bc (ix2 0 d)
/-- One half of them gated by the logistic of the other. -/
def vOf (n : Fin 2048) (d : Fin 512) : EReal :=
  cvOf wc bc X n ⟨d.val, by omega⟩ * Ideal.logistic (cvOf wc bc X n ⟨512 + d.val, by omega⟩)

/-- The three blocks: by chunk token, then as the result lays a chunk out. -/
def utBlk (y : S16x512x128.Idx) : EReal := uOf wu bu X (blkRow (y 0) (y 2)) (y 1)
def vBlk (y : S16x128x512.Idx) : EReal := vOf wc bc X (blkRow (y 0) (y 1)) (y 2)
def xtBlk (y : S16x128x1024.Idx) : EReal := X (blkRow (y 0) (y 1)) (y 2)

variable (hld : ∀ t j r l, ld t j (ix2 r l) = X (blkRow t r) (colAt j l))
include hld

theorem tile_row (t : Fin 16) (r : Fin 128) (k : Fin 1024) :
    tile ld (tileIx t) (ix2 (tileRow t r) k) = X (blkRow t r) k := by
  rw [tile_apply, rowsOf_apply, hld]
  exact congrArg (X _) (Fin.ext (by show 128 * (k.val / 128) + k.val % 128 = k.val; omega))

theorem utPiece_eq (t : Fin 16) (x : S1x512x128.Idx) :
    (utPiece ld wu bu t).2 x = utBlk wu bu X ((utPiece ld wu bu t).1.emb x) := by
  obtain ⟨a, d, r, rfl⟩ : ∃ a d r, x = ix3 a d r := ⟨x 0, x 1, x 2, (eq_ix3 x).symm ▸ rfl⟩
  obtain rfl : a = 0 := Subsingleton.elim _ _
  have h : (utPiece ld wu bu t).2 (ix3 0 d r) = utTile ld wu bu (tileIx t) (ix2 d (tileRow t r)) := by
    unfold utPiece
    pointwise
  rw [h, utTile_apply]
  simp only [tile_row ld X hld]
  have e : (utPiece ld wu bu t).1.emb (ix3 0 d r) = ix3 t d r := by
    funext b
    apply Fin.ext
    fin_cases b
    · show t.val + 1 * 0 = t.val; omega
    · show 0 + 1 * d.val = d.val; omega
    · show 0 + 1 * r.val = r.val; omega
  rw [e]
  rfl

theorem vPiece_eq (t : Fin 16) (x : S1x128x512.Idx) :
    (vPiece ld wc bc t).2 x = vBlk wc bc X ((vPiece ld wc bc t).1.emb x) := by
  obtain ⟨a, r, d, rfl⟩ : ∃ a r d, x = ix3 a r d := ⟨x 0, x 1, x 2, (eq_ix3 x).symm ▸ rfl⟩
  obtain rfl : a = 0 := Subsingleton.elim _ _
  have h : (vPiece ld wc bc t).2 (ix3 0 r d) = vTile ld wc bc (tileIx t) (ix2 (tileRow t r) d) := by
    unfold vPiece
    pointwise
  rw [h, vTile_apply]
  simp only [cvTile_apply, tile_row ld X hld]
  have e : (vPiece ld wc bc t).1.emb (ix3 0 r d) = ix3 t r d := by
    funext b
    apply Fin.ext
    fin_cases b
    · show t.val + 1 * 0 = t.val; omega
    · show 0 + 1 * r.val = r.val; omega
    · show 0 + 1 * d.val = d.val; omega
  rw [e]
  rfl

theorem xtPiece_eq (t : Fin 16) (x : S1x128x1024.Idx) :
    (xtPiece ld t).2 x = xtBlk X ((xtPiece ld t).1.emb x) := by
  obtain ⟨a, r, k, rfl⟩ : ∃ a r k, x = ix3 a r k := ⟨x 0, x 1, x 2, (eq_ix3 x).symm ▸ rfl⟩
  obtain rfl : a = 0 := Subsingleton.elim _ _
  have h : (xtPiece ld t).2 (ix3 0 r k) = tile ld (tileIx t) (ix2 (tileRow t r) k) := by
    unfold xtPiece
    pointwise
  rw [h, tile_row ld X hld]
  have e : (xtPiece ld t).1.emb (ix3 0 r k) = ix3 t r k := by
    funext b
    apply Fin.ext
    fin_cases b
    · show t.val + 1 * 0 = t.val; omega
    · show 0 + 1 * r.val = r.val; omega
    · show 0 + 1 * k.val = k.val; omega
  rw [e]
  rfl

end Tiles

end Cert.InprojIdeal.InprojValue

end
-- ==== Proof.InprojSpec.lean ====
/- The projections of a token, as the layer's mathematics states them. -/
module

public import Idealize.ShloMosaic.PureOps.Ideal.Laws
public import Idealize.ShloMosaic.Lib.ValueIdx

@[expose] public section

noncomputable section

namespace Cert.InprojSpec

open Idealize.ShloMosaic

variable (x : Fin 16 → Fin 2048 → Fin 1024 → EReal) (w : Fin 1024 → Fin 3584 → EReal) (b : Fin 3584 → EReal)

/-- Column `d` of token `(s, n)`'s projection. -/
def proj (s : Fin 16) (n : Fin 2048) (d : Fin 3584) : EReal := (∑ k : Fin 1024, x s n k * w k d) + b d

/-- Column `d` of the S5 input. -/
abbrev colU (d : Fin 512) : Fin 3584 := ⟨d.val, by omega⟩
/-- Column `d` of the convolution's value and of its gate. -/
abbrev colA (d : Fin 512) : Fin 3584 := ⟨512 + d.val, by omega⟩
abbrev colB (d : Fin 512) : Fin 3584 := ⟨1024 + d.val, by omega⟩

/-- The S5 input. -/
def uTok (s : Fin 16) (n : Fin 2048) (d : Fin 512) : EReal := proj x w b s n (colU d)

/-- The gated linear unit. -/
def vTok (s : Fin 16) (n : Fin 2048) (d : Fin 512) : EReal :=
  proj x w b s n (colA d) * Ideal.logistic (proj x w b s n (colB d))

/-- Chunk `i` of all sequences is chunk `i % 128` of sequence `i / 128`; its token `t` is row `(i % 128)·16 + t`. -/
abbrev seqOf (i : Fin 2048) : Fin 16 := ⟨i.val / 128, by omega⟩
abbrev rowOf (t : Fin 16) (i : Fin 2048) : Fin 2048 := ⟨i.val % 128 * 16 + t.val, by omega⟩

end Cert.InprojSpec

end
-- ==== Proof.InprojValue.lean ====
/- The three results of the projection call, as one function of the arguments. -/
module

public import proofs.«01_k».proof.Proof.InprojTile
public import proofs.«01_k».proof.Proof.InprojSpec
public import Idealize.ShloMosaic.Lib.Pipeline.ValueKit
public import Idealize.ShloMosaic.Lib.Claim

@[expose] public section

set_option maxRecDepth 16384

noncomputable section

namespace Cert.InprojIdeal.InprojValue

open Cert.InprojIdeal Cert.InprojIdeal.Gen Cert.InprojSpec
open Idealize.ShloMosaic Idealize.ShloMosaic.TcCoe

/-! ## What the body leaves in the output blocks, from the contents of the input blocks -/

section Out

variable (c : Dev nD) (i : grid0.Coords)
  {a1 a2 a3 a4 a5 a6 a7 a8 : Memref sig .tc .vmem S2048x128 .f32} {a9 : Memref sig .tc .vmem S512x1024 .bf16}
  {a10 : Memref sig .tc .vmem S512x1 .f32} {a11 : Memref sig .tc .vmem S1024x1024 .bf16}
  {a12 : Memref sig .tc .vmem S1x1024 .f32} {a13 : Memref sig .tc .vmem S16x512x128 .bf16}
  {a14 : Memref sig .tc .vmem S16x128x512 .f32} {a15 : Memref sig .tc .vmem S16x128x1024 .bf16}
  (e1 : a1.IsWhole) (e2 : a2.IsWhole) (e3 : a3.IsWhole) (e4 : a4.IsWhole) (e5 : a5.IsWhole) (e6 : a6.IsWhole)
  (e7 : a7.IsWhole) (e8 : a8.IsWhole) (e9 : a9.IsWhole) (e10 : a10.IsWhole) (e11 : a11.IsWhole) (e12 : a12.IsWhole)
  (e13 : a13.IsWhole) (e14 : a14.IsWhole) (e15 : a15.IsWhole)
  (x0 x1 x2 x3 x4 x5 x6 x7 : Vec Ideal S2048x128 .f32) (x8 : Vec Ideal S512x1024 .bf16) (x9 : Vec Ideal S512x1 .f32)
  (x10 : Vec Ideal S1024x1024 .bf16) (x11 : Vec Ideal S1x1024 .f32)

theorem strided_apply {a : Memref sig .tc .vmem S2048x128 .f32} (e : a.IsWhole) (x : Vec Ideal S2048x128 .f32)
    (t : Fin 16) (r l : Fin 128) : strided e x t (ix2 r l) = x (ix2 (blkRow t r) l) := by
  unfold strided
  rw [View.readAt_apply, Memref.IsWhole.read_unread]
  refine congrArg x (funext fun b => Fin.ext ?_)
  fin_cases b
  · show t.val + 16 * r.val = 16 * r.val + t.val; omega
  · show 0 + 1 * l.val = l.val; omega

theorem wuLd_eq : wuLd e9 x8 = x8 := by
  funext y
  rw [wuLd, View.readAt_apply, Memref.IsWhole.read_unread]
  refine congrArg x8 (funext fun b => Fin.ext ?_)
  fin_cases b <;> exact (Nat.zero_add _).trans (Nat.one_mul _)

theorem buLd_eq : buLd e10 x9 = x9 := by
  funext y
  rw [buLd, View.readAt_apply, Memref.IsWhole.read_unread]
  refine congrArg x9 (funext fun b => Fin.ext ?_)
  fin_cases b <;> exact (Nat.zero_add _).trans (Nat.one_mul _)

theorem wcLd_eq : wcLd e11 x10 = x10 := by
  funext y
  rw [wcLd, View.readAt_apply, Memref.IsWhole.read_unread]
  refine congrArg x10 (funext fun b => Fin.ext ?_)
  fin_cases b <;> exact (Nat.zero_add _).trans (Nat.one_mul _)

theorem bcLd_eq : bcLd e12 x11 = x11 := by
  funext y
  rw [bcLd, View.readAt_apply, Memref.IsWhole.read_unread]
  refine congrArg x11 (funext fun b => Fin.ext ?_)
  fin_cases b <;> exact (Nat.zero_add _).trans (Nat.one_mul _)

/-- The eight column blocks hold the columns of `X`. -/
def Holds (X : Fin 2048 → Fin 1024 → EReal) : Prop :=
  ∀ (n : Fin 2048) (l : Fin 128), x0 (ix2 n l) = X n ⟨l.val, by omega⟩ ∧ x1 (ix2 n l) = X n ⟨128 + l.val, by omega⟩
    ∧ x2 (ix2 n l) = X n ⟨256 + l.val, by omega⟩ ∧ x3 (ix2 n l) = X n ⟨384 + l.val, by omega⟩
    ∧ x4 (ix2 n l) = X n ⟨512 + l.val, by omega⟩ ∧ x5 (ix2 n l) = X n ⟨640 + l.val, by omega⟩
    ∧ x6 (ix2 n l) = X n ⟨768 + l.val, by omega⟩ ∧ x7 (ix2 n l) = X n ⟨896 + l.val, by omega⟩

variable (X : Fin 2048 → Fin 1024 → EReal) (hX : Holds x0 x1 x2 x3 x4 x5 x6 x7 X)
include hX

theorem loads_apply (t : Fin 16) (j : Fin 8) (r l : Fin 128) :
    loads e1 e2 e3 e4 e5 e6 e7 e8 x0 x1 x2 x3 x4 x5 x6 x7 t j (ix2 r l) = X (blkRow t r) (colAt j l) := by
  obtain ⟨h0, h1, h2, h3, h4, h5, h6, h7⟩ := hX (blkRow t r) l
  fin_cases j
  · exact (strided_apply e1 x0 t r l).trans (h0.trans (congrArg (X _) (Fin.ext (Nat.zero_add _).symm)))
  · exact (strided_apply e2 x1 t r l).trans h1
  · exact (strided_apply e3 x2 t r l).trans h2
  · exact (strided_apply e4 x3 t r l).trans h3
  · exact (strided_apply e5 x4 t r l).trans h4
  · exact (strided_apply e6 x5 t r l).trans h5
  · exact (strided_apply e7 x6 t r l).trans h6
  · exact (strided_apply e8 x7 t r l).trans h7

theorem out_ut (y : S16x512x128.Idx) :
    out0_A_12 c i _ e1 _ e2 _ e3 _ e4 _ e5 _ e6 _ e7 _ e8 _ e9 _ e10 _ e11 _ e12 _ e13 _ e14 _ e15
      x0 x1 x2 x3 x4 x5 x6 x7 x8 x9 x10 x11 y = utBlk x8 x9 X y := by
  have hc : ∀ y, ∃ p ∈ utRun c i e1 e2 e3 e4 e5 e6 e7 e8 e9 e10 e11 e12 e13 e14 e15 x0 x1 x2 x3 x4 x5 x6 x7 x8 x9 x10 x11,
      y ∈ p.1.set := cover0_A_12 c i _ e1 _ e2 _ e3 _ e4 _ e5 _ e6 _ e7 _ e8 _ e9 _ e10 _ e11 _ e12 _ e13 _ e14 _ e15
        x0 x1 x2 x3 x4 x5 x6 x7 x8 x9 x10 x11
  refine (congrFun (View.read_writes_eq_canon (Val := Elt Ideal) VO0_12 VO0_12.junk _ hc) y).trans ?_
  have hy := hc y
  rw [runs_ut] at hy ⊢
  refine View.canon_apply_of_pieces (Val := Elt Ideal) (utBlk x8 x9 X) _ ?_ y hy
  intro p hp
  obtain ⟨t, _, rfl⟩ := List.mem_map.mp hp
  rw [wuLd_eq, buLd_eq]
  exact utPiece_eq _ _ _ _ (loads_apply e1 e2 e3 e4 e5 e6 e7 e8 x0 x1 x2 x3 x4 x5 x6 x7 X hX) t

theorem out_v (y : S16x128x512.Idx) :
    out0_A_13 c i _ e1 _ e2 _ e3 _ e4 _ e5 _ e6 _ e7 _ e8 _ e9 _ e10 _ e11 _ e12 _ e13 _ e14 _ e15
      x0 x1 x2 x3 x4 x5 x6 x7 x8 x9 x10 x11 y = vBlk x10 x11 X y := by
  have hc : ∀ y, ∃ p ∈ vRun c i e1 e2 e3 e4 e5 e6 e7 e8 e9 e10 e11 e12 e13 e14 e15 x0 x1 x2 x3 x4 x5 x6 x7 x8 x9 x10 x11,
      y ∈ p.1.set := cover0_A_13 c i _ e1 _ e2 _ e3 _ e4 _ e5 _ e6 _ e7 _ e8 _ e9 _ e10 _ e11 _ e12 _ e13 _ e14 _ e15
        x0 x1 x2 x3 x4 x5 x6 x7 x8 x9 x10 x11
  refine (congrFun (View.read_writes_eq_canon (Val := Elt Ideal) VO0_13 VO0_13.junk _ hc) y).trans ?_
  have hy := hc y
  rw [runs_v] at hy ⊢
  refine View.canon_apply_of_pieces (Val := Elt Ideal) (vBlk x10 x11 X) _ ?_ y hy
  intro p hp
  obtain ⟨t, _, rfl⟩ := List.mem_map.mp hp
  rw [wcLd_eq, bcLd_eq]
  exact vPiece_eq _ _ _ _ (loads_apply e1 e2 e3 e4 e5 e6 e7 e8 x0 x1 x2 x3 x4 x5 x6 x7 X hX) t

theorem out_xt (y : S16x128x1024.Idx) :
    out0_A_14 c i _ e1 _ e2 _ e3 _ e4 _ e5 _ e6 _ e7 _ e8 _ e9 _ e10 _ e11 _ e12 _ e13 _ e14 _ e15
      x0 x1 x2 x3 x4 x5 x6 x7 x8 x9 x10 x11 y = xtBlk X y := by
  have hc : ∀ y, ∃ p ∈ xtRun c i e1 e2 e3 e4 e5 e6 e7 e8 e9 e10 e11 e12 e13 e14 e15 x0 x1 x2 x3 x4 x5 x6 x7 x8 x9 x10 x11,
      y ∈ p.1.set := cover0_A_14 c i _ e1 _ e2 _ e3 _ e4 _ e5 _ e6 _ e7 _ e8 _ e9 _ e10 _ e11 _ e12 _ e13 _ e14 _ e15
        x0 x1 x2 x3 x4 x5 x6 x7 x8 x9 x10 x11
  refine (congrFun (View.read_writes_eq_canon (Val := Elt Ideal) VO0_14 VO0_14.junk _ hc) y).trans ?_
  have hy := hc y
  rw [runs_xt] at hy ⊢
  refine View.canon_apply_of_pieces (Val := Elt Ideal) (xtBlk X) _ ?_ y hy
  intro p hp
  obtain ⟨t, _, rfl⟩ := List.mem_map.mp hp
  exact xtPiece_eq _ _ (loads_apply e1 e2 e3 e4 e5 e6 e7 e8 x0 x1 x2 x3 x4 x5 x6 x7 X hX) t

end Out

/-! ## The blocks that a point reads -/

variable (m : (ℓ : Loc nD τ sig) → Buf (Elt Ideal) ℓ) (c : Dev nD)

/-- The arguments, by their coordinates. -/
abbrev xArg (s : Fin 16) (n : Fin 2048) (k : Fin 1024) : EReal :=
  (m ((c : Thread nD τ).loc main_arg0) : FVec Ideal S16x2048x1024 .f32) (ix3 s n k)
abbrev wArg (k : Fin 1024) (d : Fin 3584) : EReal := (m ((c : Thread nD τ).loc main_arg1) : FVec Ideal S1024x3584 .f32) (ix2 k d)
abbrev bArg (d : Fin 3584) : EReal := (m ((c : Thread nD τ).loc main_arg2) : FVec Ideal S3584 .f32) (ix1 d)

theorem tt (t : Fin cfg0.N) : t.val < 16 := lt_of_lt_of_eq t.isLt N_0

/-- Point `t` is sequence `t`. -/
abbrev seq (t : Fin cfg0.N) : Fin 16 := ⟨t.val, tt t⟩

theorem idxX : ∀ t : Fin cfg0.N, win0_0.index t = ![t.val, 0] ∧ win0_1.index t = ![t.val, 1] ∧ win0_2.index t = ![t.val, 2]
    ∧ win0_3.index t = ![t.val, 3] ∧ win0_4.index t = ![t.val, 4] ∧ win0_5.index t = ![t.val, 5]
    ∧ win0_6.index t = ![t.val, 6] ∧ win0_7.index t = ![t.val, 7] := by decide +kernel
theorem idxP : ∀ t : Fin cfg0.N, win0_8.index t = ![0, 0] ∧ win0_9.index t = ![0, 0] ∧ win0_10.index t = ![0, 0]
    ∧ win0_11.index t = ![0, 0] := by decide +kernel
theorem idx12 : ∀ t : Fin cfg0.N, win0_12.index t = ![0, 0, t.val] := by decide +kernel
theorem idx13 : ∀ t : Fin cfg0.N, win0_13.index t = ![0, t.val, 0] := by decide +kernel
theorem idx14 : ∀ t : Fin cfg0.N, win0_14.index t = ![0, t.val, 0] := by decide +kernel

set_option maxHeartbeats 1600000 in
theorem x_blk (t : Fin cfg0.N) : Holds (iblk m c 0 t) (iblk m c 1 t) (iblk m c 2 t) (iblk m c 3 t) (iblk m c 4 t)
    (iblk m c 5 t) (iblk m c 6 t) (iblk m c 7 t) (xArg m c (seq t)) := by
  have ht := tt t
  intro n l
  refine ⟨?_, ?_, ?_, ?_, ?_, ?_, ?_, ?_⟩ <;> blk_ext! [iblk, V, idxX t]

theorem wu_blk (t : Fin cfg0.N) (d : Fin 512) (k : Fin 1024) : iblk m c 8 t (ix2 d k) = wArg m c k (colU d) := by
  blk_ext! [iblk, V, idxP t]
theorem bu_blk (t : Fin cfg0.N) (d : Fin 512) : iblk m c 9 t (ix2 d 0) = bArg m c (colU d) := by
  blk_ext! [iblk, V, idxP t]
theorem wc_blk (t : Fin cfg0.N) (k d : Fin 1024) : iblk m c 10 t (ix2 k d) = wArg m c k ⟨512 + d.val, by omega⟩ := by
  blk_ext! [iblk, V, idxP t]
theorem bc_blk (t : Fin cfg0.N) (d : Fin 1024) : iblk m c 11 t (ix2 0 d) = bArg m c ⟨512 + d.val, by omega⟩ := by
  blk_ext! [iblk, V, idxP t]

end Cert.InprojIdeal.InprojValue

end
-- ==== Proof.InprojReference.lean ====
/- The three results of the projection's reference, at an index. -/
module

public import proofs.«01_k».proof.Proof.InprojSpec
public import proofs.«01_k».proof.Proof.Gen.InprojReferenceIdeal.Read
public import Idealize.ShloMosaic.Lib.Pipeline.ValueKit
public import Idealize.ShloMosaic.Lib.Claim

@[expose] public section

set_option maxRecDepth 16384

noncomputable section

namespace Cert.InprojReferenceIdeal.InprojValue

open Cert.InprojReferenceIdeal Cert.InprojReferenceIdeal.Read Cert.InprojSpec
open Idealize.ShloMosaic Idealize.ShloMosaic.TcCoe

variable (x0 : FVec Ideal S16x2048x1024 .f32) (x1 : FVec Ideal S1024x3584 .f32) (x2 : FVec Ideal S3584 .f32)

/-- The arguments, by their coordinates. -/
abbrev xArg (s : Fin 16) (n : Fin 2048) (k : Fin 1024) : EReal := x0 (ix3 s n k)
abbrev wArg (k : Fin 1024) (d : Fin 3584) : EReal := x1 (ix2 k d)
abbrev bArg (d : Fin 3584) : EReal := x2 (ix1 d)

theorem v5_apply (s : Fin 16) (n : Fin 2048) (d : Fin 1536) :
    val_main_v5 (F := Ideal) x0 x1 x2 (ix3 s n d) = proj (xArg x0) (wArg x1) (bArg x2) s n ⟨d.val, by omega⟩ := by
  unfold proj
  pointwise [val_main_v5, val_main_v4, val_main_v3, val_main_v2, val_main_v1, val_main_v0]

theorem v6_apply (s : Fin 16) (n : Fin 2048) (d : Fin 512) :
    val_main_v6 (F := Ideal) x0 x1 x2 (ix3 s n d) = uTok (xArg x0) (wArg x1) (bArg x2) s n d := by
  have h := v5_apply x0 x1 x2 s n ⟨d.val, by omega⟩
  unfold uTok
  rw [← h]
  pointwise [val_main_v6]

theorem v15_apply (s : Fin 16) (n : Fin 2048) (d : Fin 512) :
    val_main_v15 (F := Ideal) x0 x1 x2 (ix3 s n d) = vTok (xArg x0) (wArg x1) (bArg x2) s n d := by
  have h := v5_apply x0 x1 x2 s n ⟨512 + d.val, by omega⟩
  have h' := v5_apply x0 x1 x2 s n ⟨1024 + d.val, by omega⟩
  unfold vTok
  rw [← h, ← h']
  pointwise [val_main_v15, val_main_v14, val_main_v13, val_main_v12, val_main_v11, val_main_v10, val_main_v9, val_main_v8,
    val_main_v7, val_main_cst, val_main_cst_0]
  rfl

theorem v18_apply (t : Fin 16) (d : Fin 512) (i : Fin 2048) :
    val_main_v18 (F := Ideal) x0 x1 x2 (ix3 t d i) = uTok (xArg x0) (wArg x1) (bArg x2) (seqOf i) (rowOf t i) d := by
  rw [← v6_apply]
  pointwise [val_main_v18, val_main_v17, val_main_v16]

theorem v20_apply (t : Fin 16) (i : Fin 2048) (d : Fin 512) :
    val_main_v20 (F := Ideal) x0 x1 x2 (ix3 t i d) = vTok (xArg x0) (wArg x1) (bArg x2) (seqOf i) (rowOf t i) d := by
  rw [← v15_apply]
  pointwise [val_main_v20, val_main_v19]

theorem v23_apply (t : Fin 16) (i : Fin 2048) (k : Fin 1024) :
    val_main_v23 (F := Ideal) x0 (ix3 t i k) = x0 (ix3 (seqOf i) (rowOf t i) k) := by
  pointwise [val_main_v23, val_main_v22, val_main_v21]

end Cert.InprojReferenceIdeal.InprojValue

end
-- ==== Proof.InprojTie.lean ====
/- The projection call's three results and its reference's, both as one function of the arguments. -/
module

public import proofs.«01_k».proof.Proof.InprojValue
public import proofs.«01_k».proof.Proof.InprojReference
public import proofs.«01_k».proof.Proof.Gen.InprojIdeal.Value
public import Idealize.ShloMosaic.Lib.Pipeline.ValueKit
public import Idealize.ShloMosaic.Lib.Claim

@[expose] public section

set_option maxRecDepth 16384

noncomputable section

namespace Cert.InprojIdeal.InprojValue

open Cert.InprojIdeal Cert.InprojIdeal.Gen Cert.InprojSpec
open Idealize.ShloMosaic Idealize.ShloMosaic.TcCoe

variable (m : (ℓ : Loc nD τ sig) → Buf (Elt Ideal) ℓ) (c : Dev nD)

/-! ## The results -/

/-- The S5 input: by token in a chunk, column, chunk. -/
def uArr : FVec Ideal S16x512x2048 .bf16 := fun i =>
  uTok (xArg m c) (wArg m c) (bArg m c) (seqOf (i 2)) (rowOf (i 0) (i 2)) (i 1)
/-- The gated linear unit: by token in a chunk, chunk, column. -/
def vArr : FVec Ideal S16x2048x512 .f32 := fun i =>
  vTok (xArg m c) (wArg m c) (bArg m c) (seqOf (i 1)) (rowOf (i 0) (i 1)) (i 2)
/-- The tokens themselves, in the same order. -/
def xArr : FVec Ideal S16x2048x1024 .bf16 := fun i => xArg m c (seqOf (i 1)) (rowOf (i 0) (i 1)) (i 2)

/-! ## A point's blocks of them -/

theorem emb12 (t : Fin cfg0.N) (y : S16x512x128.Idx) :
    ((((cfg0.win 12).blk t).view.emb y) 0 : ℕ) = (y 0).val ∧ ((((cfg0.win 12).blk t).view.emb y) 1 : ℕ) = (y 1).val
      ∧ ((((cfg0.win 12).blk t).view.emb y) 2 : ℕ) = t.val * 128 + (y 2).val := by
  refine ⟨?_, ?_, ?_⟩ <;> blk_simp [idx12 t]

theorem emb13 (t : Fin cfg0.N) (y : S16x128x512.Idx) :
    ((((cfg0.win 13).blk t).view.emb y) 0 : ℕ) = (y 0).val ∧ ((((cfg0.win 13).blk t).view.emb y) 1 : ℕ) = t.val * 128 + (y 1).val
      ∧ ((((cfg0.win 13).blk t).view.emb y) 2 : ℕ) = (y 2).val := by
  refine ⟨?_, ?_, ?_⟩ <;> blk_simp [idx13 t]

theorem emb14 (t : Fin cfg0.N) (y : S16x128x1024.Idx) :
    ((((cfg0.win 14).blk t).view.emb y) 0 : ℕ) = (y 0).val ∧ ((((cfg0.win 14).blk t).view.emb y) 1 : ℕ) = t.val * 128 + (y 1).val
      ∧ ((((cfg0.win 14).blk t).view.emb y) 2 : ℕ) = (y 2).val := by
  refine ⟨?_, ?_, ?_⟩ <;> blk_simp [idx14 t]

/-- Row `r` of point `s`, chunk token `t`, is chunk `128·s + r`. -/
theorem chunk_eq (s t : Fin 16) (r : Fin 128) (i : Fin 2048) (h : i.val = s.val * 128 + r.val) :
    seqOf i = s ∧ rowOf t i = blkRow t r := by
  refine ⟨Fin.ext ?_, Fin.ext ?_⟩
  · show i.val / 128 = s.val; omega
  · show i.val % 128 * 16 + t.val = 16 * r.val + t.val; omega

theorem congr3 {n : ℕ} (f : Fin 16 → Fin 2048 → Fin n → EReal) {s s' : Fin 16} {r r' : Fin 2048} {d d' : Fin n}
    (hs : s = s') (hr : r = r') (hd : d = d') : f s r d = f s' r' d' := by rw [hs, hr, hd]

theorem uOf_blk (t : Fin cfg0.N) (n : Fin 2048) (d : Fin 512) :
    uOf (iblk m c 8 t) (iblk m c 9 t) (xArg m c (seq t)) n d = uTok (xArg m c) (wArg m c) (bArg m c) (seq t) n d := by
  unfold uOf uTok proj
  rw [bu_blk]
  refine congrArg (· + _) (Finset.sum_congr rfl fun k _ => ?_)
  rw [wu_blk]
  exact mul_comm _ _

theorem cvOf_blk (t : Fin cfg0.N) (n : Fin 2048) (d : Fin 1024) :
    cvOf (iblk m c 10 t) (iblk m c 11 t) (xArg m c (seq t)) n d
      = proj (xArg m c) (wArg m c) (bArg m c) (seq t) n ⟨512 + d.val, by omega⟩ := by
  unfold cvOf proj
  rw [bc_blk]
  refine congrArg (· + _) (Finset.sum_congr rfl fun k _ => ?_)
  rw [wc_blk]

theorem vOf_blk (t : Fin cfg0.N) (n : Fin 2048) (d : Fin 512) :
    vOf (iblk m c 10 t) (iblk m c 11 t) (xArg m c (seq t)) n d = vTok (xArg m c) (wArg m c) (bArg m c) (seq t) n d := by
  unfold vOf vTok
  rw [cvOf_blk, cvOf_blk]
  congr 3
  exact Fin.ext (by show 512 + (512 + d.val) = 1024 + d.val; omega)

theorem after_u (t : Fin cfg0.N) (y : S16x512x128.Idx) :
    (dats m 0 c).after 12 t y = utBlk (iblk m c 8 t) (iblk m c 9 t) (xArg m c (seq t)) y := by
  rw [after0_12]
  unfold outsAt0
  dsimp only
  exact out_ut c (grid0.coords t) (hs0_0 t) (hs0_1 t) (hs0_2 t) (hs0_3 t) (hs0_4 t) (hs0_5 t) (hs0_6 t) (hs0_7 t)
    (hs0_8 t) (hs0_9 t) (hs0_10 t) (hs0_11 t) (hs0_12 t) (hs0_13 t) (hs0_14 t)
    (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t)
    (xArg m c (seq t)) (x_blk m c t) y

theorem flushed_u (t : Fin cfg0.N) (y : S16x512x128.Idx) :
    (dats m 0 c).after 12 t y = uArr m c (((cfg0.win 12).blk t).view.emb y) := by
  obtain ⟨h0, h1, h2⟩ := emb12 t y
  obtain ⟨hs, hr⟩ := chunk_eq (seq t) (y 0) (y 2) (((cfg0.win 12).blk t).view.emb y 2) h2
  exact ((after_u m c t y).trans (uOf_blk m c t (blkRow (y 0) (y 2)) (y 1))).trans
    (congr3 (uTok (xArg m c) (wArg m c) (bArg m c)) hs.symm (hr.symm.trans (congrArg (rowOf · _) (Fin.ext h0.symm)))
      (Fin.ext h1.symm))

theorem final_u : (dats m 0 c).arrAt 12 cfg0.N = (uArr m c : Buf (Elt Ideal) ((c : Thread nD τ).loc main_v10_0)) := by
  refine (dats m 0 c).arrAt_eq_of_covers 12 _ (by decide +kernel) fun t hf y => ?_
  blk_simp
  exact flushed_u m c t y

theorem after_v (t : Fin cfg0.N) (y : S16x128x512.Idx) :
    (dats m 0 c).after 13 t y = vBlk (iblk m c 10 t) (iblk m c 11 t) (xArg m c (seq t)) y := by
  rw [after0_13]
  unfold outsAt0
  dsimp only
  exact out_v c (grid0.coords t) (hs0_0 t) (hs0_1 t) (hs0_2 t) (hs0_3 t) (hs0_4 t) (hs0_5 t) (hs0_6 t) (hs0_7 t)
    (hs0_8 t) (hs0_9 t) (hs0_10 t) (hs0_11 t) (hs0_12 t) (hs0_13 t) (hs0_14 t)
    (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t)
    (xArg m c (seq t)) (x_blk m c t) y

theorem flushed_v (t : Fin cfg0.N) (y : S16x128x512.Idx) :
    (dats m 0 c).after 13 t y = vArr m c (((cfg0.win 13).blk t).view.emb y) := by
  obtain ⟨h0, h1, h2⟩ := emb13 t y
  obtain ⟨hs, hr⟩ := chunk_eq (seq t) (y 0) (y 1) (((cfg0.win 13).blk t).view.emb y 1) h1
  exact ((after_v m c t y).trans (vOf_blk m c t (blkRow (y 0) (y 1)) (y 2))).trans
    (congr3 (vTok (xArg m c) (wArg m c) (bArg m c)) hs.symm (hr.symm.trans (congrArg (rowOf · _) (Fin.ext h0.symm)))
      (Fin.ext h2.symm))

theorem final_v : (dats m 0 c).arrAt 13 cfg0.N = (vArr m c : Buf (Elt Ideal) ((c : Thread nD τ).loc main_v10_1)) := by
  refine (dats m 0 c).arrAt_eq_of_covers 13 _ (by decide +kernel) fun t hf y => ?_
  blk_simp
  exact flushed_v m c t y

theorem after_x (t : Fin cfg0.N) (y : S16x128x1024.Idx) :
    (dats m 0 c).after 14 t y = xtBlk (xArg m c (seq t)) y := by
  rw [after0_14]
  unfold outsAt0
  dsimp only
  exact out_xt c (grid0.coords t) (hs0_0 t) (hs0_1 t) (hs0_2 t) (hs0_3 t) (hs0_4 t) (hs0_5 t) (hs0_6 t) (hs0_7 t)
    (hs0_8 t) (hs0_9 t) (hs0_10 t) (hs0_11 t) (hs0_12 t) (hs0_13 t) (hs0_14 t)
    (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t)
    (xArg m c (seq t)) (x_blk m c t) y

theorem flushed_x (t : Fin cfg0.N) (y : S16x128x1024.Idx) :
    (dats m 0 c).after 14 t y = xArr m c (((cfg0.win 14).blk t).view.emb y) := by
  obtain ⟨h0, h1, h2⟩ := emb14 t y
  obtain ⟨hs, hr⟩ := chunk_eq (seq t) (y 0) (y 1) (((cfg0.win 14).blk t).view.emb y 1) h1
  exact (after_x m c t y).trans
    (congr3 (xArg m c) hs.symm (hr.symm.trans (congrArg (rowOf · _) (Fin.ext h0.symm)))
      (Fin.ext h2.symm))

theorem final_x : (dats m 0 c).arrAt 14 cfg0.N = (xArr m c : Buf (Elt Ideal) ((c : Thread nD τ).loc main_v10_2)) := by
  refine (dats m 0 c).arrAt_eq_of_covers 14 _ (by decide +kernel) fun t hf y => ?_
  blk_simp
  exact flushed_x m c t y

end Cert.InprojIdeal.InprojValue

namespace Cert.InprojTie

open Cert.InprojSpec Idealize.ShloMosaic Idealize.ShloMosaic.TcCoe

variable (m : (ℓ : Loc InprojIdeal.nD InprojIdeal.τ InprojIdeal.sig) → Buf (Elt Ideal) ℓ) (c : Dev InprojIdeal.nD)
  (x0 : FVec Ideal InprojReferenceIdeal.S16x2048x1024 .f32) (x1 : FVec Ideal InprojReferenceIdeal.S1024x3584 .f32)
  (x2 : FVec Ideal InprojReferenceIdeal.S3584 .f32)
  (a0 : x0 = m ((c : Thread InprojIdeal.nD InprojIdeal.τ).loc InprojIdeal.main_arg0))
  (a1 : x1 = m ((c : Thread InprojIdeal.nD InprojIdeal.τ).loc InprojIdeal.main_arg1))
  (a2 : x2 = m ((c : Thread InprojIdeal.nD InprojIdeal.τ).loc InprojIdeal.main_arg2))
include a0 a1 a2

theorem reference_u : InprojReferenceIdeal.Read.val_main_v18 (F := Ideal) x0 x1 x2 = InprojIdeal.InprojValue.uArr m c := by
  subst a0 a1 a2
  funext i
  obtain ⟨t, d, n, rfl⟩ : ∃ t d n, i = ix3 t d n := ⟨i 0, i 1, i 2, (eq_ix3 i).symm ▸ rfl⟩
  exact InprojReferenceIdeal.InprojValue.v18_apply _ _ _ t d n

theorem reference_v : InprojReferenceIdeal.Read.val_main_v20 (F := Ideal) x0 x1 x2 = InprojIdeal.InprojValue.vArr m c := by
  subst a0 a1 a2
  funext i
  obtain ⟨t, n, d, rfl⟩ : ∃ t n d, i = ix3 t n d := ⟨i 0, i 1, i 2, (eq_ix3 i).symm ▸ rfl⟩
  exact InprojReferenceIdeal.InprojValue.v20_apply _ _ _ t n d

omit a1 a2 in
theorem reference_x : InprojReferenceIdeal.Read.val_main_v23 (F := Ideal) x0 = InprojIdeal.InprojValue.xArr m c := by
  subst a0
  funext i
  obtain ⟨t, n, k, rfl⟩ : ∃ t n k, i = ix3 t n k := ⟨i 0, i 1, i 2, (eq_ix3 i).symm ▸ rfl⟩
  exact InprojReferenceIdeal.InprojValue.v23_apply _ t n k

end Cert.InprojTie

end
-- ==== Proof.S5Scan.lean ====
/- A diagonal complex recurrence, as pairs of numbers, and the same values by repeated doubling. -/
module

public import proofs.«01_k».proof.Proof.FiniteRows

@[expose] public section

noncomputable section

namespace Cert.S5Scan

open Cert.Rows

section Defs
variable {R : Type} [Zero R] [Add R] [Mul R] [Sub R]

/-- The state before step `j` of the recurrence `s ← (a + b i) s + z`, from zero: its real and imaginary parts. -/
def state (a b : R) (zr zi : ℕ → R) : ℕ → R × R
  | 0 => (0, 0)
  | j + 1 => (a * (state a b zr zi j).1 - b * (state a b zr zi j).2 + zr j,
      a * (state a b zr zi j).2 + b * (state a b zr zi j).1 + zi j)

/-- The lane `d` lanes to the left of lane `n`. -/
abbrev back (d : ℕ) (n : Fin 2048) : Fin 2048 := ⟨n.val - d, by omega⟩
/-- The other half's row. -/
abbrev half (q : Fin 128) : Fin 128 := ⟨(q.val + 64) % 128, by omega⟩

/-- A row moved `d` lanes to the right within each sequence's 128 lanes, zeros moving in. -/
def moved (d : ℕ) (t : Fin 128 → Fin 2048 → R) (q : Fin 128) (n : Fin 2048) : R :=
  if d ≤ n.val % 128 then t q (back d n) else 0

/-- One step of the doubling. -/
def dbl (d : ℕ) (p₁ p₂ : Fin 128 → R) (t : Fin 128 → Fin 2048 → R) (q : Fin 128) (n : Fin 2048) : R :=
  t q n + p₁ q * moved d t q n + p₂ q * moved d t (half q) n

/-- `m` steps, by the doubling distances. -/
def steps (p₁ p₂ : ℕ → Fin 128 → R) (t : Fin 128 → Fin 2048 → R) : ℕ → Fin 128 → Fin 2048 → R
  | 0 => t
  | m + 1 => dbl (2 ^ m) (p₁ m) (p₂ m) (steps p₁ p₂ t m)

end Defs

/-- Lane `j` of sequence `b`. -/
abbrev lane (b j : ℕ) : Fin 2048 := ⟨(b * 128 + j) % 2048, by omega⟩
/-- The row of state `q`'s real part, and of its imaginary part. -/
abbrev reRow (q : Fin 64) : Fin 128 := ⟨q.val, by omega⟩
abbrev imRow (q : Fin 64) : Fin 128 := ⟨64 + q.val, by omega⟩

theorem half_re (q : Fin 64) : half (reRow q) = imRow q := Fin.ext (by show (q.val + 64) % 128 = 64 + q.val; omega)
theorem half_im (q : Fin 64) : half (imRow q) = reRow q := Fin.ext (by show (64 + q.val + 64) % 128 = q.val; omega)

/-! ## Over the reals -/

section Real
variable (ar ai : ℕ → Fin 64 → ℝ) (p₁ p₂ : ℕ → Fin 128 → ℝ) (t : Fin 128 → Fin 2048 → ℝ)

/-- The recurrence of state `q` in sequence `b`. -/
def seqState (q : Fin 64) (b : ℕ) : ℕ → ℝ × ℝ :=
  state (ar 0 q) (ai 0 q) (fun j => t (reRow q) (lane b j)) (fun j => t (imRow q) (lane b j))

variable (hr : ∀ m q, ar (m + 1) q = ar m q * ar m q - ai m q * ai m q)
  (hi : ∀ m q, ai (m + 1) q = 2 * ar m q * ai m q)
  (h1r : ∀ m q, p₁ m (reRow q) = ar m q) (h1i : ∀ m q, p₁ m (imRow q) = ar m q)
  (h2r : ∀ m q, p₂ m (reRow q) = -ai m q) (h2i : ∀ m q, p₂ m (imRow q) = ai m q)
include hr hi h1r h1i h2r h2i

/-- After `m` steps a lane holds the state after its own step, less the power's multiple of the state `2 ^ m` steps
    before. -/
theorem steps_eq (m : ℕ) : ∀ (q : Fin 64) (n : Fin 2048),
    steps p₁ p₂ t m (reRow q) n = (seqState ar ai t q (n.val / 128) (n.val % 128 + 1)).1
        - (ar m q * (seqState ar ai t q (n.val / 128) (n.val % 128 + 1 - 2 ^ m)).1
          - ai m q * (seqState ar ai t q (n.val / 128) (n.val % 128 + 1 - 2 ^ m)).2)
    ∧ steps p₁ p₂ t m (imRow q) n = (seqState ar ai t q (n.val / 128) (n.val % 128 + 1)).2
        - (ar m q * (seqState ar ai t q (n.val / 128) (n.val % 128 + 1 - 2 ^ m)).2
          + ai m q * (seqState ar ai t q (n.val / 128) (n.val % 128 + 1 - 2 ^ m)).1) := by
  induction m with
  | zero =>
    intro q n
    have hn : lane (n.val / 128) (n.val % 128) = n := Fin.ext (by show (n.val / 128 * 128 + n.val % 128) % 2048 = n.val; omega)
    simp only [steps, pow_zero, Nat.add_sub_cancel, seqState, state, hn]
    exact ⟨by ring, by ring⟩
  | succ m ih =>
    intro q n
    by_cases hd : 2 ^ m ≤ n.val % 128
    · have hb : (back (2 ^ m) n).val / 128 = n.val / 128 ∧ (back (2 ^ m) n).val % 128 = n.val % 128 - 2 ^ m := by
        show (n.val - 2 ^ m) / 128 = n.val / 128 ∧ (n.val - 2 ^ m) % 128 = n.val % 128 - 2 ^ m
        generalize 2 ^ m = d at hd ⊢
        omega
      obtain ⟨e1, e2⟩ := ih q n
      obtain ⟨e3, e4⟩ := ih q (back (2 ^ m) n)
      rw [hb.1, hb.2] at e3 e4
      have s1 : n.val % 128 - 2 ^ m + 1 = n.val % 128 + 1 - 2 ^ m := by omega
      have s2 : n.val % 128 + 1 - 2 ^ m - 2 ^ m = n.val % 128 + 1 - 2 ^ (m + 1) := by rw [pow_succ]; omega
      rw [s1, s2] at e3 e4
      simp only [steps, dbl, moved, if_pos hd, half_re, half_im, h1r, h1i, h2r, h2i, e1, e2, e3, e4, hr, hi]
      exact ⟨by ring, by ring⟩
    · obtain ⟨e1, e2⟩ := ih q n
      have s1 : n.val % 128 + 1 - 2 ^ m = 0 := by omega
      have s2 : n.val % 128 + 1 - 2 ^ (m + 1) = 0 := by rw [pow_succ]; omega
      rw [s1] at e1 e2
      simp only [steps, dbl, moved, if_neg hd, half_re, half_im, e1, e2, s2]
      simp [seqState, state]

/-- Seven steps reach every lane's state after its own step. -/
theorem steps_seven (q : Fin 64) (n : Fin 2048) :
    steps p₁ p₂ t 7 (reRow q) n = (seqState ar ai t q (n.val / 128) (n.val % 128 + 1)).1
    ∧ steps p₁ p₂ t 7 (imRow q) n = (seqState ar ai t q (n.val / 128) (n.val % 128 + 1)).2 := by
  obtain ⟨e1, e2⟩ := steps_eq ar ai p₁ p₂ t hr hi h1r h1i h2r h2i 7 q n
  have s : n.val % 128 + 1 - 2 ^ 7 = 0 := by omega
  rw [s] at e1 e2
  rw [e1, e2]
  simp [seqState, state]

end Real

/-! ## From the reals to the extended reals -/

theorem coe_state (a b : ℝ) (zr zi : ℕ → ℝ) (j : ℕ) :
    state (a : EReal) (b : EReal) (fun i => (zr i : EReal)) (fun i => (zi i : EReal)) j
      = (((state a b zr zi j).1 : EReal), ((state a b zr zi j).2 : EReal)) := by
  induction j with
  | zero => simp [state]
  | succ j ih => simp only [state, ih, EReal.coe_add, EReal.coe_mul, EReal.coe_sub]

theorem coe_moved (d : ℕ) (t : Fin 128 → Fin 2048 → ℝ) (q : Fin 128) (n : Fin 2048) :
    moved d (fun q n => (t q n : EReal)) q n = ((moved d t q n : ℝ) : EReal) := by
  unfold moved
  split
  · rfl
  · simp

theorem coe_dbl (d : ℕ) (p₁ p₂ : Fin 128 → ℝ) (t : Fin 128 → Fin 2048 → ℝ) :
    dbl d (fun q => (p₁ q : EReal)) (fun q => (p₂ q : EReal)) (fun q n => (t q n : EReal))
      = fun q n => ((dbl d p₁ p₂ t q n : ℝ) : EReal) := by
  funext q n
  simp only [dbl, coe_moved, EReal.coe_add, EReal.coe_mul]

theorem coe_steps (p₁ p₂ : ℕ → Fin 128 → ℝ) (t : Fin 128 → Fin 2048 → ℝ) (m : ℕ) :
    steps (fun m q => (p₁ m q : EReal)) (fun m q => (p₂ m q : EReal)) (fun q n => (t q n : EReal)) m
      = fun q n => ((steps p₁ p₂ t m q n : ℝ) : EReal) := by
  induction m with
  | zero => rfl
  | succ m ih => simp only [steps, ih, coe_dbl]

/-! ## The statement over the extended reals -/

/-- The powers of `a + b i` by squaring. -/
def powers {R : Type} [Mul R] [Sub R] [OfNat R 2] (a b : R) : ℕ → R × R
  | 0 => (a, b)
  | m + 1 => ((powers a b m).1 * (powers a b m).1 - (powers a b m).2 * (powers a b m).2,
      2 * (powers a b m).1 * (powers a b m).2)

theorem coe_powers (a b : ℝ) (m : ℕ) :
    powers (a : EReal) (b : EReal) m = (((powers a b m).1 : EReal), ((powers a b m).2 : EReal)) := by
  induction m with
  | zero => rfl
  | succ m ih =>
    simp only [powers, ih, EReal.coe_sub, EReal.coe_mul]
    rfl

variable (a b : Fin 64 → EReal) (p₁ p₂ : ℕ → Fin 128 → EReal) (z : Fin 128 → Fin 2048 → EReal)
  (ha : ∀ q, IsReal (a q)) (hb : ∀ q, IsReal (b q)) (hz : ∀ q n, IsReal (z q n))
  (h1r : ∀ m q, p₁ m (reRow q) = (powers (a q) (b q) m).1) (h1i : ∀ m q, p₁ m (imRow q) = (powers (a q) (b q) m).1)
  (h2r : ∀ m q, p₂ m (reRow q) = -(powers (a q) (b q) m).2) (h2i : ∀ m q, p₂ m (imRow q) = (powers (a q) (b q) m).2)

/-- A row of the states: the real parts, then the imaginary ones, before step `j` of sequence `s`. -/
def stateRow (q : Fin 128) (s j : ℕ) : EReal :=
  if h : q.val < 64 then
    (state (a ⟨q.val, h⟩) (b ⟨q.val, h⟩) (fun j => z (reRow ⟨q.val, h⟩) (lane s j)) (fun j => z (imRow ⟨q.val, h⟩) (lane s j)) j).1
  else
    (state (a ⟨q.val - 64, by omega⟩) (b ⟨q.val - 64, by omega⟩) (fun j => z (reRow ⟨q.val - 64, by omega⟩) (lane s j))
      (fun j => z (imRow ⟨q.val - 64, by omega⟩) (lane s j)) j).2

include ha hb hz h1r h1i h2r h2i in
theorem steps_state (q : Fin 128) (n : Fin 2048) :
    steps p₁ p₂ z 7 q n = stateRow a b z q (n.val / 128) (n.val % 128 + 1) := by
  choose a' ea using ha
  choose b' eb using hb
  choose z' ez using hz
  obtain rfl : z = fun q n => (z' q n : EReal) := funext fun q => funext fun n => ez q n
  obtain rfl : a = fun q => (a' q : EReal) := funext ea
  obtain rfl : b = fun q => (b' q : EReal) := funext eb
  simp only [coe_powers] at h1r h1i h2r h2i
  have split : ∀ q : Fin 128, (∃ r : Fin 64, q = reRow r) ∨ ∃ r : Fin 64, q = imRow r := by
    intro q
    by_cases h : q.val < 64
    · exact .inl ⟨⟨q.val, h⟩, rfl⟩
    · exact .inr ⟨⟨q.val - 64, by omega⟩, Fin.ext (by show q.val = 64 + (q.val - 64); omega)⟩
  have r1 : ∀ m q, p₁ m q = ((p₁ m q).toReal : EReal) := by
    intro m q
    rcases split q with ⟨r, rfl⟩ | ⟨r, rfl⟩ <;> simp only [h1r, h1i, EReal.toReal_coe]
  have r2 : ∀ m q, p₂ m q = ((p₂ m q).toReal : EReal) := by
    intro m q
    rcases split q with ⟨r, rfl⟩ | ⟨r, rfl⟩ <;> simp only [h2r, h2i, ← EReal.coe_neg, EReal.toReal_coe]
  have e1 : p₁ = fun m q => ((p₁ m q).toReal : EReal) := funext fun m => funext fun q => r1 m q
  have e2 : p₂ = fun m q => ((p₂ m q).toReal : EReal) := funext fun m => funext fun q => r2 m q
  have key := steps_seven (fun m q => (powers (a' q) (b' q) m).1) (fun m q => (powers (a' q) (b' q) m).2)
    (fun m q => (p₁ m q).toReal) (fun m q => (p₂ m q).toReal) z' (fun _ _ => rfl) (fun _ _ => rfl)
    (fun m q => by simp only [h1r, EReal.toReal_coe]) (fun m q => by simp only [h1i, EReal.toReal_coe])
    (fun m q => by simp only [h2r, ← EReal.coe_neg, EReal.toReal_coe]) (fun m q => by simp only [h2i, EReal.toReal_coe])
  rw [e1, e2, coe_steps]
  beta_reduce
  rcases split q with ⟨r, rfl⟩ | ⟨r, rfl⟩
  · rw [(key r n).1]
    unfold stateRow
    rw [dif_pos r.isLt, coe_state]
    rfl
  · rw [(key r n).2]
    unfold stateRow
    rw [dif_neg (by show ¬ 64 + r.val < 64; omega)]
    have hq : (⟨(imRow r).val - 64, by show 64 + r.val - 64 < 64; omega⟩ : Fin 64) = r :=
      Fin.ext (by show 64 + r.val - 64 = r.val; omega)
    simp only [hq, coe_state]
    rfl

/-- The state that a row belongs to. -/
abbrev stateOf (q : Fin 128) : Fin 64 := ⟨q.val % 64, by omega⟩
/-- What a step multiplies a row by, and its other half: the real and the signed imaginary parts of the powers. -/
def col₁ (m : ℕ) (q : Fin 128) : EReal := (powers (a (stateOf q)) (b (stateOf q)) m).1
def col₂ (m : ℕ) (q : Fin 128) : EReal :=
  if q.val < 64 then -(powers (a (stateOf q)) (b (stateOf q)) m).2 else (powers (a (stateOf q)) (b (stateOf q)) m).2

theorem stateOf_re (q : Fin 64) : stateOf (reRow q) = q := Fin.ext (by show q.val % 64 = q.val; omega)
theorem stateOf_im (q : Fin 64) : stateOf (imRow q) = q := Fin.ext (by show (64 + q.val) % 64 = q.val; omega)

include ha hb hz in
theorem steps_col (q : Fin 128) (n : Fin 2048) :
    steps (col₁ a b) (col₂ a b) z 7 q n = stateRow a b z q (n.val / 128) (n.val % 128 + 1) :=
  steps_state a b _ _ z ha hb hz (fun m q => by unfold col₁; rw [stateOf_re]) (fun m q => by unfold col₁; rw [stateOf_im])
    (fun m q => by unfold col₂; rw [stateOf_re, if_pos q.isLt])
    (fun m q => by unfold col₂; rw [stateOf_im, if_neg (by show ¬ 64 + q.val < 64; omega)]) q n

/-- What the lane before a lane holds, zero before the first: the state before the lane's own step. -/
theorem moved_col (ha : ∀ q, IsReal (a q)) (hb : ∀ q, IsReal (b q)) (hz : ∀ q n, IsReal (z q n)) (q : Fin 128) (n : Fin 2048) :
    moved 1 (steps (col₁ a b) (col₂ a b) z 7) q n = stateRow a b z q (n.val / 128) (n.val % 128) := by
  unfold moved
  split
  · rename_i h
    have hb' : (back 1 n).val / 128 = n.val / 128 ∧ (back 1 n).val % 128 + 1 = n.val % 128 := by
      show (n.val - 1) / 128 = n.val / 128 ∧ (n.val - 1) % 128 + 1 = n.val % 128
      omega
    rw [steps_col a b z ha hb hz, hb'.1, hb'.2]
  · rename_i h
    have h0 : n.val % 128 = 0 := by omega
    rw [h0]
    unfold stateRow
    split <;> rfl

end Cert.S5Scan

end
-- ==== Proof.S5Rows.lean ====
/- What one grid point of the S5 call leaves in its output block, at an index. -/
module

public import proofs.«01_k».proof.Proof.Gen.S5Ideal.Value
public import proofs.«01_k».proof.Proof.S5Scan
public import Idealize.ShloMosaic.Lib.Pipeline.ValueKit
public import Idealize.ShloMosaic.Lib.Claim

@[expose] public section

set_option maxRecDepth 16384

noncomputable section

namespace Cert.S5Ideal.S5Value

open Cert.S5Ideal Cert.S5Ideal.Gen Cert.S5Ideal.Value Cert.S5Scan
open Idealize.ShloMosaic Idealize.ShloMosaic.TcCoe

/-- The two constants of the activation. -/
def scale : EReal := ((Real.sqrt (2 * Real.pi⁻¹) : ℝ) : EReal)
def cubic : EReal := ((8943 / 200000 : ℝ) : EReal)
/-- The activation. -/
def gelu (y : EReal) : EReal :=
  y * (Ideal.ofBits .f32 0x3F000000#32 * (Ideal.ofBits .f32 0x3F800000#32 + Ideal.tanh (scale * (y + cubic * (y * (y * y))))))

/-- The token in its chunk, and the channel in its group, of row `k`; and back. -/
abbrev tokOf (k : Fin 256) : Fin 16 := ⟨k.val / 16, by omega⟩
abbrev chanOf (k : Fin 256) : Fin 16 := ⟨k.val % 16, by omega⟩
abbrev rowAt (t h : Fin 16) : Fin 256 := ⟨t.val * 16 + h.val, by omega⟩
/-- Row `q` of the chunk's own part, and of what it adds to the state. -/
abbrev ownRow (q : Fin 256) : Fin 384 := ⟨q.val, by omega⟩
abbrev addRow (q : Fin 128) : Fin 384 := ⟨256 + q.val, by omega⟩

variable (x0 : Vec Ideal S16x1x16x2048 .bf16) (x1 : Vec Ideal S1x384x256 .bf16) (x2 : Vec Ideal S1x256x128 .bf16)
  (x3 : Vec Ideal S1x128x16 .f32) (x4 : Vec Ideal S1x256x1 .f32)

/-- The inputs, by row and lane. -/
def uRow (k : Fin 256) (n : Fin 2048) : EReal := x0 (ix4 (tokOf k) 0 (chanOf k) n)
/-- What a chunk adds to the state. -/
def zRow (q : Fin 128) (n : Fin 2048) : EReal := ∑ k : Fin 256, x1 (ix3 0 (addRow q) k) * uRow x0 k n

theorem out_apply (y : S16x1x16x2048.Idx) :
    out0_5 x0 x1 x2 x3 x4 y = k0_pay65 x0 x1 x2 x3 x4 (ix2 (rowAt (y 0) (y 2)) (y 3)) := by
  have e : ix5_0 y = ix2 (rowAt (y 0) (y 2)) (y 3) := by
    funext b; fin_cases b <;> rfl
  exact (canon5_eq (View.ld x0 r0_0) (View.ld x0 r0_1) (View.ld x0 r0_2) (View.ld x0 r0_3) (View.ld x0 r0_4) (View.ld x0 r0_5)
    (View.ld x0 r0_6) (View.ld x0 r0_7) (View.ld x0 r0_8) (View.ld x0 r0_9) (View.ld x0 r0_10) (View.ld x0 r0_11)
    (View.ld x0 r0_12) (View.ld x0 r0_13) (View.ld x0 r0_14) (View.ld x0 r0_15) (View.ld x1 r0_16)
    (View.ld x3 r0_17) (View.ld x3 r0_18) (View.ld x3 r0_19) (View.ld x3 r0_20) (View.ld x3 r0_21) (View.ld x3 r0_22)
    (View.ld x3 r0_23) (View.ld x3 r0_24) (View.ld x3 r0_25) (View.ld x3 r0_26) (View.ld x3 r0_27) (View.ld x3 r0_28)
    (View.ld x3 r0_29) (View.ld x3 r0_30) (View.ld x2 r0_31) (View.ld x4 r0_32) y).trans
    (congrArg (k0_pay65 x0 x1 x2 x3 x4) e)

/-! ## The loads -/

/-- The 16 tokens' rows. -/
def tokens (t : Fin 16) : Vec Ideal S1x1x16x2048 .bf16 :=
  ![View.ld x0 r0_0, View.ld x0 r0_1, View.ld x0 r0_2, View.ld x0 r0_3, View.ld x0 r0_4, View.ld x0 r0_5,
    View.ld x0 r0_6, View.ld x0 r0_7, View.ld x0 r0_8, View.ld x0 r0_9, View.ld x0 r0_10, View.ld x0 r0_11,
    View.ld x0 r0_12, View.ld x0 r0_13, View.ld x0 r0_14, View.ld x0 r0_15] t

theorem tokens_apply (t h : Fin 16) (n : Fin 2048) : tokens x0 t (ix4 0 0 h n) = x0 (ix4 t 0 h n) := by
  unfold tokens
  fin_cases t <;> exact congrArg x0 (by funext b; apply Fin.ext; fin_cases b <;> simp [View.ld, Rect.emb, Rect.unit, ix4])

theorem u_apply (k : Fin 256) (n : Fin 2048) : k0_pay54 x0 x1 x2 x3 x4 (ix2 k n) = uRow x0 k n := by
  have e : k0_pay54 x0 x1 x2 x3 x4 = concatenate S256x2048 0
      (List.ofFn fun t : Fin 16 => (⟨S16x2048, shapeCast S16x2048 (tokens x0 t) shapeCasts_S1x1x16x2048_S16x2048⟩ : (s : Shape) × (s.Idx → EReal)))
      concatenates_S16x2048_S16x2048_S16x2048_S16x2048_S16x2048_S16x2048_S16x2048_S16x2048_S16x2048_S16x2048_S16x2048_S16x2048_S16x2048_S16x2048_S16x2048_S16x2048_S256x2048_d0 := rfl
  rw [e]
  refine (concatenate_ofFn_apply (s₁ := S16x2048) (t := S256x2048) 0 _ _ rfl 16 rfl (ix2 k n) (tokOf k) rfl (ix2 (chanOf k) n) rfl ?_).trans ?_
  · intro b hb
    fin_cases b
    · exact absurd rfl hb
    · rfl
  · have h : shapeCast S16x2048 (tokens x0 (tokOf k)) shapeCasts_S1x1x16x2048_S16x2048 (ix2 (chanOf k) n)
        = tokens x0 (tokOf k) (ix4 0 0 (chanOf k) n) := by pointwise
    rw [h, tokens_apply]
    rfl

theorem own_apply (q : Fin 256) (n : Fin 2048) :
    k0_pay55 x0 x1 x2 x3 x4 (ix2 q n) = ∑ k : Fin 256, x1 (ix3 0 (ownRow q) k) * uRow x0 k n := by
  simp only [← u_apply x0 x1 x2 x3 x4]
  unfold k0_pay55
  generalize hu : k0_pay54 x0 x1 x2 x3 x4 = u
  unfold k0_pay54 at hu
  unfold k0_pay12 k0_pay11
  rw [hu]
  pointwise

theorem add_apply (q : Fin 128) (n : Fin 2048) : k0_pay56 x0 x1 x2 x3 x4 (ix2 q n) = zRow x0 x1 q n := by
  unfold zRow
  simp only [← u_apply x0 x1 x2 x3 x4]
  unfold k0_pay56
  generalize hu : k0_pay54 x0 x1 x2 x3 x4 = u
  unfold k0_pay54 at hu
  unfold k0_pay13 k0_pay11
  rw [hu]
  pointwise

/-! ## A step of the doubling -/

/-- The step as the body spells it, by distance and its two columns. -/
def stepV (d : BitVec 32) (p₁ p₂ : Vec Ideal S1x128x1 .f32) (t : FVec Ideal S128x2048 .f32) : FVec Ideal S128x2048 .f32 :=
  have sh : FVec Ideal S128x2048 .f32 := select (cmpi .sge k0_pay14 (broadcast S128x2048 d))
    (dynamicRotate 1 d none t rotates_S128x2048_d1) (broadcast S128x2048 (Scalar.ofBits (F := Ideal) .f32 0x00000000#32))
  addf (addf t (mulf (broadcastTo S128x2048 (shapeCast S128x1 p₁ shapeCasts_S1x128x1_S128x1) broadcasts_S128x1_S128x2048) sh))
    (mulf (broadcastTo S128x2048 (shapeCast S128x1 p₂ shapeCasts_S1x128x1_S128x1) broadcasts_S128x1_S128x2048)
      (dynamicRotate 0 64#32 none sh rotates_S128x2048_d0))

/-- The seven steps. -/
def scanned : FVec Ideal S128x2048 .f32 :=
  stepV 64#32 (View.ld x3 r0_29) (View.ld x3 r0_30) (stepV 32#32 (View.ld x3 r0_27) (View.ld x3 r0_28)
    (stepV 16#32 (View.ld x3 r0_25) (View.ld x3 r0_26) (stepV 8#32 (View.ld x3 r0_23) (View.ld x3 r0_24)
      (stepV 4#32 (View.ld x3 r0_21) (View.ld x3 r0_22) (stepV 2#32 (View.ld x3 r0_19) (View.ld x3 r0_20)
        (stepV 1#32 (View.ld x3 r0_17) (View.ld x3 r0_18) (k0_pay56 x0 x1 x2 x3 x4)))))))

/-- They and the last move by one lane, before its mask. -/
theorem scan_eq : k0_pay63 x0 x1 x2 x3 x4 = dynamicRotate 1 1#32 none (scanned x0 x1 x2 x3 x4) rotates_S128x2048_d1 := rfl

theorem mask_apply (d : ℕ) (hd : d < 128) (q : Fin 128) (n : Fin 2048) :
    cmpi .sge k0_pay14 (broadcast S128x2048 (BitVec.ofNat 32 d)) (ix2 q n) = if d ≤ n.val % 128 then 1#1 else 0#1 := by
  have hw : k0_pay14 (ix2 q n) = BitVec.ofNat 32 (n.val % 128) := by
    have e : k0_pay14 (ix2 q n) = BitVec.ofNat 32 n.val &&& 127#32 := by
      unfold k0_pay14
      pointwise
      rfl
    rw [e]
    apply BitVec.eq_of_toNat_eq
    rw [BitVec.toNat_and, BitVec.toNat_ofNat, BitVec.toNat_ofNat, BitVec.toNat_ofNat]
    have : n.val % 2 ^ 32 &&& 127 % 2 ^ 32 = n.val % 2 ^ 32 % 2 ^ 7 := Nat.and_two_pow_sub_one_eq_mod _ 7
    rw [this]; omega
  show BitVec.ofBool (BitVec.sle (BitVec.ofNat 32 d) (k0_pay14 (ix2 q n))) = _
  rw [hw]
  have hs : BitVec.sle (BitVec.ofNat 32 d) (BitVec.ofNat 32 (n.val % 128)) = decide (d ≤ n.val % 128) := by
    have t1 : (BitVec.ofNat 32 d).toInt = d := by rw [BitVec.toInt_eq_toNat_of_lt] <;> simp <;> omega
    have t2 : (BitVec.ofNat 32 (n.val % 128)).toInt = (n.val % 128 : ℕ) := by
      rw [BitVec.toInt_eq_toNat_of_lt] <;> simp <;> omega
    rw [BitVec.sle, t1, t2]
    exact decide_eq_decide.mpr Int.ofNat_le
  rw [hs]
  by_cases h : d ≤ n.val % 128 <;> simp [h]

/-- A masked move within each sequence's lanes. -/
theorem shift_apply (d : ℕ) (hd : d < 128) (t : FVec Ideal S128x2048 .f32) (q : Fin 128) (n : Fin 2048) :
    select (cmpi .sge k0_pay14 (broadcast S128x2048 (BitVec.ofNat 32 d)))
      (dynamicRotate 1 (BitVec.ofNat 32 d) none t rotates_S128x2048_d1)
      (broadcast S128x2048 (Scalar.ofBits (F := Ideal) .f32 0x00000000#32)) (ix2 q n)
      = moved d (fun q n => t (ix2 q n)) q n := by
  unfold moved
  show (if cmpi .sge k0_pay14 (broadcast S128x2048 (BitVec.ofNat 32 d)) (ix2 q n) = 1#1 then _ else _) = _
  rw [mask_apply d hd]
  by_cases h : d ≤ n.val % 128
  · rw [if_pos h, if_pos rfl, if_pos h]
    refine congrArg t ?_
    funext b
    apply Fin.ext
    fin_cases b
    · rfl
    · show (n.val + 2048 - (BitVec.ofNat 32 d).toNat % 2048) % 2048 = n.val - d
      rw [BitVec.toNat_ofNat]
      omega
  · rw [if_neg h, if_neg h, if_neg (by decide)]
    exact Ideal.ofBits_zero .f32

theorem stepV_apply (d : ℕ) (hd : d < 128) (p₁ p₂ : Vec Ideal S1x128x1 .f32) (t : FVec Ideal S128x2048 .f32)
    (q : Fin 128) (n : Fin 2048) :
    stepV (BitVec.ofNat 32 d) p₁ p₂ t (ix2 q n)
      = dbl d (fun q => p₁ (ix3 0 q 0)) (fun q => p₂ (ix3 0 q 0)) (fun q n => t (ix2 q n)) q n := by
  unfold dbl
  rw [← shift_apply d hd, ← shift_apply d hd]
  have hh : (⟨(q.val + 128 - 64) % 128, by omega⟩ : Fin 128) = half q :=
    Fin.ext (by show (q.val + 128 - 64) % 128 = (q.val + 64) % 128; omega)
  unfold stepV
  pointwise
  rw [hh]

/-! ## The block -/

variable (c₁ c₂ : ℕ → Fin 128 → EReal)

theorem stepV_steps (m : ℕ) (hm : m < 7) (p₁ p₂ : Vec Ideal S1x128x1 .f32) (t : FVec Ideal S128x2048 .f32)
    (z : Fin 128 → Fin 2048 → EReal) (h₁ : ∀ q, p₁ (ix3 0 q 0) = c₁ m q) (h₂ : ∀ q, p₂ (ix3 0 q 0) = c₂ m q)
    (ht : ∀ q n, t (ix2 q n) = steps c₁ c₂ z m q n) (q : Fin 128) (n : Fin 2048) :
    stepV (BitVec.ofNat 32 (2 ^ m)) p₁ p₂ t (ix2 q n) = steps c₁ c₂ z (m + 1) q n := by
  have hd : 2 ^ m < 128 := lt_of_lt_of_eq (Nat.pow_lt_pow_right (by omega) hm) (by norm_num)
  rw [stepV_apply _ hd]
  simp only [h₁, h₂, ht]
  rfl

/-- The columns that the steps read. -/
abbrev colLo (m : Fin 7) : Fin 16 := ⟨m.val, by omega⟩
abbrev colHi (m : Fin 7) : Fin 16 := ⟨8 + m.val, by omega⟩

variable (h₁ : ∀ (m : Fin 7) q, x3 (ix3 0 q (colLo m)) = c₁ m q) (h₂ : ∀ (m : Fin 7) q, x3 (ix3 0 q (colHi m)) = c₂ m q)
include h₁ h₂

theorem prev_apply (p : Fin 128) (n : Fin 2048) :
    select (k0_pay62 x0 x1 x2 x3 x4) (k0_pay63 x0 x1 x2 x3 x4) (k0_pay64 x0 x1 x2 x3 x4) (ix2 p n)
      = moved 1 (steps c₁ c₂ (zRow x0 x1) 7) p n := by
  have s1 := stepV_steps c₁ c₂ 0 (by omega) (View.ld x3 r0_17) (View.ld x3 r0_18) (k0_pay56 x0 x1 x2 x3 x4) (zRow x0 x1)
    (fun q => Eq.trans (by pointwise <;> rfl) (h₁ 0 q))
    (fun q => Eq.trans (by pointwise <;> rfl) (h₂ 0 q)) (add_apply x0 x1 x2 x3 x4)
  have s2 := stepV_steps c₁ c₂ 1 (by omega) (View.ld x3 r0_19) (View.ld x3 r0_20) _ (zRow x0 x1)
    (fun q => Eq.trans (by pointwise <;> rfl) (h₁ 1 q))
    (fun q => Eq.trans (by pointwise <;> rfl) (h₂ 1 q)) s1
  have s3 := stepV_steps c₁ c₂ 2 (by omega) (View.ld x3 r0_21) (View.ld x3 r0_22) _ (zRow x0 x1)
    (fun q => Eq.trans (by pointwise <;> rfl) (h₁ 2 q))
    (fun q => Eq.trans (by pointwise <;> rfl) (h₂ 2 q)) s2
  have s4 := stepV_steps c₁ c₂ 3 (by omega) (View.ld x3 r0_23) (View.ld x3 r0_24) _ (zRow x0 x1)
    (fun q => Eq.trans (by pointwise <;> rfl) (h₁ 3 q))
    (fun q => Eq.trans (by pointwise <;> rfl) (h₂ 3 q)) s3
  have s5 := stepV_steps c₁ c₂ 4 (by omega) (View.ld x3 r0_25) (View.ld x3 r0_26) _ (zRow x0 x1)
    (fun q => Eq.trans (by pointwise <;> rfl) (h₁ 4 q))
    (fun q => Eq.trans (by pointwise <;> rfl) (h₂ 4 q)) s4
  have s6 := stepV_steps c₁ c₂ 5 (by omega) (View.ld x3 r0_27) (View.ld x3 r0_28) _ (zRow x0 x1)
    (fun q => Eq.trans (by pointwise <;> rfl) (h₁ 5 q))
    (fun q => Eq.trans (by pointwise <;> rfl) (h₂ 5 q)) s5
  have s7 := stepV_steps c₁ c₂ 6 (by omega) (View.ld x3 r0_29) (View.ld x3 r0_30) _ (zRow x0 x1)
    (fun q => Eq.trans (by pointwise <;> rfl) (h₁ 6 q))
    (fun q => Eq.trans (by pointwise <;> rfl) (h₂ 6 q)) s6
  have s8 : (fun q n => scanned x0 x1 x2 x3 x4 (ix2 q n)) = steps c₁ c₂ (zRow x0 x1) 7 := funext fun q => funext fun n => s7 q n
  rw [scan_eq, ← s8, ← shift_apply 1 (by omega)]
  rfl

theorem block_apply (q : Fin 256) (n : Fin 2048) :
    k0_pay65 x0 x1 x2 x3 x4 (ix2 q n) = gelu ((∑ k : Fin 256, x1 (ix3 0 (ownRow q) k) * uRow x0 k n)
      + (∑ p : Fin 128, x2 (ix3 0 q p) * moved 1 (steps c₁ c₂ (zRow x0 x1) 7) p n) + x4 (ix3 0 q 0) * uRow x0 q n) := by
  simp only [← prev_apply x0 x1 x2 x3 x4 c₁ c₂ h₁ h₂, ← own_apply x0 x1 x2 x3 x4]
  rw [← u_apply x0 x1 x2 x3 x4]
  unfold k0_pay65
  generalize k0_pay54 x0 x1 x2 x3 x4 = u
  generalize k0_pay55 x0 x1 x2 x3 x4 = y
  generalize k0_pay62 x0 x1 x2 x3 x4 = m
  generalize k0_pay63 x0 x1 x2 x3 x4 = s
  generalize k0_pay64 x0 x1 x2 x3 x4 = o
  unfold gelu
  pointwise [k0_pay26]
  rfl

end Cert.S5Ideal.S5Value

end
-- ==== Proof.S5Spec.lean ====
/- The result of the scan call, as one function of the arguments. -/
module

public import proofs.«01_k».proof.Proof.S5Rows

@[expose] public section

noncomputable section

namespace Cert.S5Spec

open Cert.S5Scan Cert.S5Ideal.S5Value
open Idealize.ShloMosaic

/-- Channel `h` of group `g` among all channels. -/
abbrev rowOf (g : Fin 32) (h : Fin 16) : Fin 512 := ⟨g.val * 16 + h.val, by omega⟩

variable (ut : Fin 16 → Fin 512 → Fin 2048 → EReal) (mzt : Fin 32 → Fin 384 → Fin 256 → EReal)
  (wt : Fin 32 → Fin 256 → Fin 128 → EReal) (sr si : Fin 32 → Fin 64 → EReal) (d : Fin 512 → EReal)

/-- The inputs of a group in one chunk: row `k` is a token and a channel. -/
def uAt (g : Fin 32) (k : Fin 256) (n : Fin 2048) : EReal := ut (tokOf k) (rowOf g (chanOf k)) n
/-- What a chunk adds to the group's state. -/
def zAt (g : Fin 32) (q : Fin 128) (n : Fin 2048) : EReal := ∑ k : Fin 256, mzt g (addRow q) k * uAt ut g k n
/-- The output before the activation: the chunk's own part, the part of the state before it, and the skip. -/
def yAt (g : Fin 32) (q : Fin 256) (n : Fin 2048) : EReal :=
  (∑ k : Fin 256, mzt g (ownRow q) k * uAt ut g k n)
    + (∑ p : Fin 128, wt g q p * stateRow (sr g) (si g) (zAt ut mzt g) p (n.val / 128) (n.val % 128))
    + d (rowOf g (chanOf q)) * uAt ut g q n
/-- The result: token `t` of a chunk, group `g`, channel `h`, chunk `n`. -/
def out (t : Fin 16) (g : Fin 32) (h : Fin 16) (n : Fin 2048) : EReal := gelu (yAt ut mzt wt sr si d g (rowAt t h) n)

end Cert.S5Spec

end
-- ==== Proof.S5ReferenceScan.lean ====
/- The reference scan's states, by their coordinates. -/
module

public import proofs.«01_k».proof.Proof.S5Spec
public import proofs.«01_k».proof.Proof.Gen.S5ReferenceIdeal.Step
public import Idealize.ShloMosaic.Lib.Pointwise
public import Idealize.ShloMosaic.Lib.WordCmp
public import Idealize.ShloMosaic.Lib.Claim

@[expose] public section

set_option maxRecDepth 16384

noncomputable section

namespace Cert.S5Reference

open Cert.S5ReferenceIdeal Cert.S5ReferenceIdeal.Gen Cert.S5ReferenceIdeal.Step Cert.S5Scan Cert.S5Spec
open Cert.S5Ideal.S5Value (tokOf chanOf rowAt ownRow addRow)
open Idealize.ShloMosaic

/-! ## What is computed before the loop -/

section Before

variable (x0 : FVec Ideal S16x512x2048 .bf16) (x1 : FVec Ideal S32x384x256 .bf16)

/-- The two arguments, by their coordinates. -/
abbrev ut0 (s : Fin 16) (r : Fin 512) (n : Fin 2048) : EReal := x0 (ix3 s r n)
abbrev mzt0 (g : Fin 32) (r : Fin 384) (k : Fin 256) : EReal := x1 (ix3 g r k)

/-- The chunk that step `j` of sequence `b` works on. -/
abbrev chunkAt (j : Fin 128) (b : Fin 16) : Fin 2048 := ⟨b.val * 128 + j.val, by omega⟩

theorem split_apply (x : FVec Ideal S16x512x2048 .f32) (t : Fin 16) (g : Fin 32) (h : Fin 16) (b : Fin 16) (j : Fin 128) :
    shapeCast S16x32x16x16x128 x shapeCasts_S16x512x2048_S16x32x16x16x128 (ix5 t g h b j) = x (ix3 t (rowOf g h) (chunkAt j b)) := by
  pointwise

theorem merge_apply (x : FVec Ideal S128x16x32x16x16 .f32) (j : Fin 128) (b : Fin 16) (g : Fin 32) (k : Fin 256) :
    shapeCast S128x16x32x256 x shapeCasts_S128x16x32x16x16_S128x16x32x256 (ix4 j b g k) = x (ix5 j b g (tokOf k) (chanOf k)) := by
  pointwise

theorem tokens_apply (j : Fin 128) (b : Fin 16) (g : Fin 32) (k : Fin 256) :
    (A_main_v3 (F := Ideal) x0 x1 : FVec Ideal S128x16x32x256 .f32) (ix4 j b g k) = uAt (ut0 x0) g k (chunkAt j b) := by
  unfold A_main_v3 A_main_v2
  refine (merge_apply _ j b g k).trans ?_
  have h : ∀ x : FVec Ideal S16x32x16x16x128 .f32,
      transpose S128x16x32x16x16 [4, 3, 1, 0, 2] x transposes_S16x32x16x16x128_S128x16x32x16x16_4_3_1_0_2
        (ix5 j b g (tokOf k) (chanOf k)) = x (ix5 (tokOf k) g (chanOf k) b j) := fun x => by pointwise
  rw [h]
  exact split_apply _ _ _ _ _ _

theorem added_apply (j : Fin 128) (b : Fin 16) (g : Fin 32) (q : Fin 128) :
    (A_main_v7 (F := Ideal) x0 x1 : FVec Ideal S128x16x32x128 .f32) (ix4 j b g q) = zAt (ut0 x0) (mzt0 x1) g q (chunkAt j b) := by
  have h : (A_main_v7 (F := Ideal) x0 x1 : FVec Ideal S128x16x32x128 .f32) (ix4 j b g q) = ∑ k : Fin 256, x1 (ix3 g (addRow q) k) * (A_main_v3 (F := Ideal) x0 x1 : FVec Ideal S128x16x32x256 .f32) (ix4 j b g k) := by
    pointwise [A_main_v7, A_main_v6, A_main_v5, A_main_v4]
  rw [h]
  exact Finset.sum_congr rfl fun k _ => congrArg (_ * ·) (tokens_apply x0 x1 j b g k)

end Before

/-! ## One trip -/

section Trip

variable (s : State Ideal) (n : ℕ) (hn : n < 128) (b : Fin 16) (g : Fin 32) (q : Fin 64)

theorem start_eq (hn : n < 128) (k : Fin 4) :
    ((![(constantI S_ 32 (BitVec.ofNat 32 n) : IVec S_ 32), constantI S_ 32 0#32, constantI S_ 32 0#32, constantI S_ 32 0#32] :
      Fin 4 → IVec S_ 32) k (Shape.Idx.first h_S_)).toInt = ((![n, 0, 0, 0] : Fin 4 → ℕ) k : ℤ) := by
  fin_cases k
  · show (BitVec.ofNat 32 n).toInt = (n : ℤ)
    rw [BitVec.toInt_eq_toNat_cond, BitVec.toNat_ofNat]
    split <;> omega
  all_goals rfl

theorem slice_apply (p : Fin 128) : b4 n s (ix3 b g p) = s.main_v11_0 (ix4 ⟨n, hn⟩ b g p) := by
  have hs : Shape.Slices S128x16x32x128 (![n, 0, 0, 0] : Fin 4 → ℕ) S1x16x32x128 := by
    refine ⟨rfl, fun a => ?_⟩
    fin_cases a
    · show n + 1 ≤ 128; omega
    all_goals exact le_refl _
  have h : b3 n s = extractStridedSlice S1x16x32x128 ![n, 0, 0, 0] s.main_v11_0 hs :=
    WordCmp.dynamicSlice_eq_extract _ _ _ _ _ hs (fun a => start_eq n hn a)
  unfold b4
  rw [h]
  pointwise

theorem re_apply : b13 n s (ix3 b g q) = s.main_v11_1 (ix2 g q) * s.main_v11_4 (ix3 b g q)
    - s.main_v11_2 (ix2 g q) * s.main_v11_5 (ix3 b g q) + s.main_v11_0 (ix4 ⟨n, hn⟩ b g (reRow q)) := by
  have h : b13 n s (ix3 b g q) = s.main_v11_1 (ix2 g q) * s.main_v11_4 (ix3 b g q)
      - s.main_v11_2 (ix2 g q) * s.main_v11_5 (ix3 b g q) + b4 n s (ix3 b g (reRow q)) := by
    pointwise [b13, b12, b11, b10, b9, b8, b7, b6, b5]
  rw [h, slice_apply s n hn]

theorem im_apply : b22 n s (ix3 b g q) = s.main_v11_1 (ix2 g q) * s.main_v11_5 (ix3 b g q)
    + s.main_v11_2 (ix2 g q) * s.main_v11_4 (ix3 b g q) + s.main_v11_0 (ix4 ⟨n, hn⟩ b g (imRow q)) := by
  have h : b22 n s (ix3 b g q) = s.main_v11_1 (ix2 g q) * s.main_v11_5 (ix3 b g q)
      + s.main_v11_2 (ix2 g q) * s.main_v11_4 (ix3 b g q) + b4 n s (ix3 b g (imRow q)) := by
    pointwise [b22, b21, b20, b19, b18, b17, b16, b15, b14]
  rw [h, slice_apply s n hn]

theorem update_apply (x : FVec Ideal S128x16x32x64 .f32) (y : FVec Ideal S16x32x64 .f32) (start : Fin 4 → ℤ)
    (e : ∀ a, start a = ((![n, 0, 0, 0] : Fin 4 → ℕ) a : ℤ)) (hn : n < 128) (r : Fin 128) :
    Host.dynamicUpdateSlice x (broadcastInDim S1x16x32x64 ![1, 2, 3] bcast_S16x32x64_S1x16x32x64_1_2_3 y) start
      updateFits_S128x16x32x64_S1x16x32x64 (ix4 r b g q) = if r.val = n then y (ix3 b g q) else x (ix4 r b g q) := by
  have hs : Shape.Slices S128x16x32x64 (![n, 0, 0, 0] : Fin 4 → ℕ) S1x16x32x64 := by
    refine ⟨rfl, fun a => ?_⟩
    fin_cases a
    · show n + 1 ≤ 128; omega
    all_goals exact le_refl _
  rw [WordCmp.dynamicUpdateSlice_eq_update _ _ _ _ _ hs e]
  pointwise
  by_cases h : r.val = n
  · rw [dif_pos (by omega), if_pos h]
  · rw [dif_neg (by omega), if_neg h]

theorem re_row (hn : n < 128) (r : Fin 128) :
    b27 n s (ix4 r b g q) = if r.val = n then s.main_v11_4 (ix3 b g q) else s.main_v11_6 (ix4 r b g q) :=
  update_apply n b g q _ _ _ (fun a => start_eq n hn a) hn r

theorem im_row (hn : n < 128) (r : Fin 128) :
    b32 n s (ix4 r b g q) = if r.val = n then s.main_v11_5 (ix3 b g q) else s.main_v11_7 (ix4 r b g q) :=
  update_apply n b g q _ _ _ (fun a => start_eq n hn a) hn r

end Trip

/-! ## All trips -/

section Trips

variable (x0 : FVec Ideal S16x512x2048 .bf16) (x1 : FVec Ideal S32x384x256 .bf16) (x3 x4 : FVec Ideal S32x64 .f32)

/-- The loop's state before trip `n`. -/
def trips : ℕ → State Ideal
  | 0 => init x3 x4 x0 x1
  | n + 1 => step n (trips n)

theorem trips_fixed (n : ℕ) : (trips x0 x1 x3 x4 n).main_v11_0 = A_main_v7 x0 x1
    ∧ (trips x0 x1 x3 x4 n).main_v11_1 = x3 ∧ (trips x0 x1 x3 x4 n).main_v11_2 = x4 := by
  induction n with
  | zero => exact ⟨rfl, rfl, rfl⟩
  | succ n ih => exact ih

variable (b : Fin 16) (g : Fin 32) (q : Fin 64)

/-- The state of one sequence, group and component before step `n`. -/
abbrev stateAt (n : ℕ) : EReal × EReal :=
  state (x3 (ix2 g q)) (x4 (ix2 g q)) (fun j => zAt (ut0 x0) (mzt0 x1) g (reRow q) (lane b.val j))
    (fun j => zAt (ut0 x0) (mzt0 x1) g (imRow q) (lane b.val j)) n

theorem lane_eq (n : ℕ) (hn : n < 128) : chunkAt ⟨n, hn⟩ b = lane b.val n :=
  Fin.ext (Nat.mod_eq_of_lt (show b.val * 128 + n < 2048 by omega)).symm

theorem trips_state (n : ℕ) (hn : n ≤ 128) :
    (trips x0 x1 x3 x4 n).main_v11_4 (ix3 b g q) = (stateAt x0 x1 x3 x4 b g q n).1
      ∧ (trips x0 x1 x3 x4 n).main_v11_5 (ix3 b g q) = (stateAt x0 x1 x3 x4 b g q n).2 := by
  induction n with
  | zero =>
    have h : (K_main_v8 (F := Ideal) : FVec Ideal S16x32x64 .f32) (ix3 b g q) = 0 := by pointwise [K_main_v8, K_main_cst]
    exact ⟨h, h⟩
  | succ n ih =>
    obtain ⟨h1, h2⟩ := ih (by omega)
    obtain ⟨f0, f1, f2⟩ := trips_fixed x0 x1 x3 x4 n
    refine ⟨?_, ?_⟩
    · refine (congrFun (step_main_v11_4 n _) _).trans ((re_apply _ n (by omega) b g q).trans ?_)
      rw [f0, f1, f2, h1, h2, added_apply, lane_eq]
      rfl
    · refine (congrFun (step_main_v11_5 n _) _).trans ((im_apply _ n (by omega) b g q).trans ?_)
      rw [f0, f1, f2, h1, h2, added_apply, lane_eq]
      rfl

/-- The collected rows: row `r` is the state before step `r`, once trip `r` is done. -/
theorem trips_rows (n : ℕ) (hn : n ≤ 128) (r : Fin 128) (hr : r.val < n) :
    (trips x0 x1 x3 x4 n).main_v11_6 (ix4 r b g q) = (stateAt x0 x1 x3 x4 b g q r.val).1
      ∧ (trips x0 x1 x3 x4 n).main_v11_7 (ix4 r b g q) = (stateAt x0 x1 x3 x4 b g q r.val).2 := by
  induction n with
  | zero => omega
  | succ n ih =>
    obtain ⟨h1, h2⟩ := trips_state x0 x1 x3 x4 b g q n (by omega)
    by_cases e : r.val = n
    · rw [e]
      exact ⟨(congrFun (step_main_v11_6 n _) _).trans ((re_row _ n b g q (by omega) r).trans ((if_pos e).trans h1)),
        (congrFun (step_main_v11_7 n _) _).trans ((im_row _ n b g q (by omega) r).trans ((if_pos e).trans h2))⟩
    · obtain ⟨i1, i2⟩ := ih (by omega) (by omega)
      exact ⟨(congrFun (step_main_v11_6 n _) _).trans ((re_row _ n b g q (by omega) r).trans ((if_neg e).trans i1)),
        (congrFun (step_main_v11_7 n _) _).trans ((im_row _ n b g q (by omega) r).trans ((if_neg e).trans i2))⟩

/-- All states side by side, the real parts first. -/
abbrev gathered (s : State Ideal) : FVec Ideal S128x16x32x128 .f32 :=
  concatenate S128x16x32x128 3 [⟨S128x16x32x64, s.main_v11_6⟩, ⟨S128x16x32x64, s.main_v11_7⟩]
    concatenates_S128x16x32x64_S128x16x32x64_S128x16x32x128_d3

theorem gathered_apply (j : Fin 128) (p : Fin 128) :
    gathered (trips x0 x1 x3 x4 128) (ix4 j b g p)
      = stateRow (fun q => x3 (ix2 g q)) (fun q => x4 (ix2 g q)) (zAt (ut0 x0) (mzt0 x1) g) p b.val j.val := by
  have h : ∀ s : State Ideal, gathered s (ix4 j b g p) = if h : p.val < 64 then s.main_v11_6 (ix4 j b g ⟨p.val, h⟩)
      else s.main_v11_7 (ix4 j b g ⟨p.val - 64, by omega⟩) := fun s => by pointwise
  rw [h]
  unfold stateRow
  split
  · exact (trips_rows x0 x1 x3 x4 b g _ 128 (le_refl _) j j.isLt).1
  · exact (trips_rows x0 x1 x3 x4 b g _ 128 (le_refl _) j j.isLt).2

end Trips

end Cert.S5Reference

end
-- ==== Proof.S5ReferenceRun.lean ====
/- The run of the S5 reference: the loop's buffers hold the states of `trips`, and the result is a function of the last of
   them and of the arguments. -/
module

public import proofs.«01_k».proof.Proof.S5ReferenceScan
public import proofs.«01_k».proof.Proof.Gen.S5ReferenceIdeal.Run

@[expose] public section

set_option maxRecDepth 16384

noncomputable section

namespace Cert.S5Reference

open Cert.S5ReferenceIdeal Cert.S5ReferenceIdeal.Gen Cert.S5ReferenceIdeal.Step Cert.S5ReferenceIdeal.Value
open Idealize.ShloMosaic Idealize.ShloMosaic.TcCoe Idealize.ShloMosaic.StableHlo Idealize.SL.Sem

section Trip

variable (V : Valuation τ sig (Elt Ideal))

/-- The state that the loop's buffers hold. -/
abbrev stateOf : State Ideal where
  main_v11_4 := V (Proc.devRef .tc main_v11_4)
  main_v11_5 := V (Proc.devRef .tc main_v11_5)
  main_v11_6 := V (Proc.devRef .tc main_v11_6)
  main_v11_7 := V (Proc.devRef .tc main_v11_7)
  main_v11_0 := V (Proc.devRef .tc main_v11_0)
  main_v11_1 := V (Proc.devRef .tc main_v11_1)
  main_v11_2 := V (Proc.devRef .tc main_v11_2)

/-- The number of the trip, in the loop's counter. -/
abbrev AtTrip (n : ℕ) : Prop := V (Proc.devRef .tc main_v11_3) = constantI S_ 32 (BitVec.ofNat 32 n)

variable {V} {n : ℕ} (hn : AtTrip V n)
include hn

theorem re_next : Value.step_main_v11_4 V = b13 n (stateOf V) := by
  unfold Value.step_main_v11_4 res_main_while0b_v52 b13 b12 b11 b10 b9 b8 b7 b6 b5 b4 b3 b2 b1 b0
  rw [hn]
  rfl

theorem im_next : Value.step_main_v11_5 V = b22 n (stateOf V) := by
  unfold Value.step_main_v11_5 res_main_while0b_v52 b22 b21 b20 b19 b18 b17 b16 b15 b14 b4 b3 b2 b1 b0
  rw [hn]
  rfl

theorem re_rows_next : Value.step_main_v11_6 V = b27 n (stateOf V) := by
  unfold Value.step_main_v11_6 b27 b26 b25 b24 b23
  rw [hn]
  rfl

theorem im_rows_next : Value.step_main_v11_7 V = b32 n (stateOf V) := by
  unfold Value.step_main_v11_7 b32 b31 b30 b29 b28
  rw [hn]
  rfl

theorem next_trip : AtTrip (STEP V) (n + 1) := by
  refine (STEP_main_v11_3 V).trans ?_
  unfold step_main_v11_3
  rw [hn]
  funext i
  exact (BitVec.ofNat_add n 1).symm

theorem next_state : stateOf (STEP V) = step n (stateOf V) := by
  unfold stateOf step
  rw [STEP_main_v11_4, STEP_main_v11_5, STEP_main_v11_6, STEP_main_v11_7, STEP_main_v11_0, STEP_main_v11_1, STEP_main_v11_2,
    re_next hn, im_next hn, re_rows_next hn, im_rows_next hn]

end Trip

section Run

variable (m : (ℓ : Loc nD τ sig) → Buf (Elt Ideal) ℓ) (c : Dev nD)

/-- The states from the arguments that device `c` starts with. -/
abbrev tripsOf : ℕ → State Ideal :=
  trips (m ((c : Thread nD τ).loc main_arg0)) (m ((c : Thread nD τ).loc main_arg1)) (m ((c : Thread nD τ).loc main_arg3))
    (m ((c : Thread nD τ).loc main_arg4))

theorem entry_trip : AtTrip (entryContents preI m c) 0 := by
  unfold AtTrip
  simp only [entryContents, afterL_cons, afterL_nil]
  after_reads_simp
  rfl

set_option maxHeartbeats 400000 in
theorem entry_state : stateOf (entryContents preI m c) = tripsOf m c 0 := by
  unfold stateOf
  simp only [entryContents, afterL_cons, afterL_nil]
  after_reads_simp
  rfl

theorem states (k : ℕ) : AtTrip (STEP^[k] (entryContents preI m c)) k
    ∧ stateOf (STEP^[k] (entryContents preI m c)) = tripsOf m c k := by
  induction k with
  | zero => exact ⟨entry_trip m c, entry_state m c⟩
  | succ k ih =>
    rw [Function.iterate_succ_apply']
    exact ⟨next_trip ih.1, (next_state ih.1).trans (congrArg (step k) ih.2)⟩

/-- The result of the operations after the loop. -/
theorem after_loop (V : Valuation τ sig (Elt Ideal)) : out_main_v51 V = R_main_v51 (stateOf V) (V (Proc.devRef .tc main_arg0))
    (V (Proc.devRef .tc main_arg1)) (V (Proc.devRef .tc main_arg2)) (V (Proc.devRef .tc main_arg5)) := by
  unfold out_main_v51 R_main_v51
  rfl

theorem result_of_trips : out_main_v51 (STEP^[128] (entryContents preI m c)) = R_main_v51 (tripsOf m c 128)
    (m ((c : Thread nD τ).loc main_arg0)) (m ((c : Thread nD τ).loc main_arg1)) (m ((c : Thread nD τ).loc main_arg2))
    (m ((c : Thread nD τ).loc main_arg5)) := by
  rw [after_loop, (states m c 128).2, iter_main_arg0, iter_main_arg1, iter_main_arg2, iter_main_arg5]

end Run

end Cert.S5Reference

end
-- ==== Proof.S5Columns.lean ====
/- The columns that the host of the scan call builds for its steps. -/
module

public import proofs.«01_k».proof.Proof.S5Rows
public import Idealize.ShloMosaic.Lib.Pipeline.ValueKit
public import Idealize.ShloMosaic.Lib.StableHlo.RunRead
public import Idealize.ShloMosaic.Lib.Claim

@[expose] public section

set_option maxRecDepth 16384

noncomputable section

namespace Cert.S5Ideal.S5Value

open Cert.S5Ideal Cert.S5Ideal.Gen Cert.S5Scan
open Idealize.ShloMosaic Idealize.ShloMosaic.TcCoe

/-! ## The columns that the host builds from the transition's two parts -/

section Columns

variable (a b : FVec Ideal S32x64 .f32)

/-- The powers by squaring, as the host computes them. -/
def hostPowers : ℕ → FVec Ideal S32x64 .f32 × FVec Ideal S32x64 .f32
  | 0 => (a, b)
  | m + 1 => (subf (mulf (hostPowers m).1 (hostPowers m).1) (mulf (hostPowers m).2 (hostPowers m).2),
      mulf (mulf (broadcastInDim S32x64 ![] bcast_S_S32x64 (constant S_ .f32 0x40000000#32)) (hostPowers m).1) (hostPowers m).2)

/-- Two halves of a row side by side, with a leading axis. -/
def sideBySide (x y : FVec Ideal S32x64 .f32) : FVec Ideal S1x32x128 .f32 :=
  broadcastInDim S1x32x128 ![1, 2] bcast_S32x128_S1x32x128_1_2
    (concatenate S32x128 1 [⟨S32x64, x⟩, ⟨S32x64, y⟩] concatenates_S32x64_S32x64_S32x128_d1)

/-- Column `i` of the sixteen: the real parts, the signed imaginary parts, and two unused ones. -/
def hostCol (i : Fin 16) : FVec Ideal S1x32x128 .f32 :=
  if i.val % 8 = 7 then broadcastInDim S1x32x128 ![] bcast_S_S1x32x128 (constant S_ .f32 0x00000000#32)
  else if i.val < 8 then sideBySide (hostPowers a b i.val).1 (hostPowers a b i.val).1
  else sideBySide (Host.negf (hostPowers a b (i.val - 8)).2) (hostPowers a b (i.val - 8)).2

end Columns

variable (m : (ℓ : Loc nD τ sig) → Buf (Elt Ideal) ℓ) (c : Dev nD)

abbrev srBuf : FVec Ideal S32x64 .f32 := m ((c : Thread nD τ).loc main_arg3)
abbrev siBuf : FVec Ideal S32x64 .f32 := m ((c : Thread nD τ).loc main_arg4)

set_option maxHeartbeats 1600000 in
theorem coef_V : V m c main_v79 = transpose S32x128x16 [1, 2, 0]
    (concatenate S16x32x128 0 (List.ofFn fun i => ⟨S1x32x128, hostCol (srBuf m c) (siBuf m c) i⟩)
      concatenates_S1x32x128_S1x32x128_S1x32x128_S1x32x128_S1x32x128_S1x32x128_S1x32x128_S1x32x128_S1x32x128_S1x32x128_S1x32x128_S1x32x128_S1x32x128_S1x32x128_S1x32x128_S1x32x128_S16x32x128_d0)
    transposes_S16x32x128_S32x128x16_1_2_0 := by
  dsimp only [V]
  after_reads_simp
  rfl

end Cert.S5Ideal.S5Value

end
-- ==== Proof.S5Host.lean ====
/- The blocks that a grid point of the scan call reads, from the arguments. -/
module

public import proofs.«01_k».proof.Proof.S5Columns
public import proofs.«01_k».proof.Proof.S5Spec
public import proofs.«01_k».proof.Proof.Consts
public import Idealize.ShloMosaic.Lib.Pipeline.ValueKit
public import Idealize.ShloMosaic.Lib.StableHlo.RunRead
public import Idealize.ShloMosaic.Lib.Claim

@[expose] public section

set_option maxRecDepth 16384

noncomputable section

namespace Cert.S5Ideal.S5Value

open Cert.S5Ideal Cert.S5Ideal.Gen Cert.S5Scan Cert.S5Spec
open Idealize.ShloMosaic Idealize.ShloMosaic.TcCoe

theorem hostPowers_apply (a b : FVec Ideal S32x64 .f32) (k : ℕ) (y : S32x64.Idx) :
    ((hostPowers a b k).1 y, (hostPowers a b k).2 y) = powers (a y : EReal) (b y : EReal) k := by
  induction k with
  | zero => rfl
  | succ k ih =>
    have h1 := congrArg Prod.fst ih
    have h2 := congrArg Prod.snd ih
    dsimp only at h1 h2
    simp only [powers, ← h1, ← h2]
    refine Prod.ext rfl ?_
    show (Ideal.ofBits .f32 0x40000000#32 : EReal) * _ * _ = _
    rw [Cert.Consts.ofBits_two]
    rfl

theorem sideBySide_apply (x y : FVec Ideal S32x64 .f32) (g : Fin 32) (q : Fin 128) :
    sideBySide x y (ix3 0 g q) = if q.val < 64 then x (ix2 g (stateOf q)) else y (ix2 g (stateOf q)) := by
  have h : sideBySide x y (ix3 0 g q) = if h : q.val < 64 then x (ix2 g ⟨q.val, h⟩) else y (ix2 g ⟨q.val - 64, by omega⟩) := by
    pointwise [sideBySide]
  rw [h]
  split
  · exact congrArg (fun r => x (ix2 g r)) (Fin.ext (by show q.val = q.val % 64; omega))
  · exact congrArg (fun r => y (ix2 g r)) (Fin.ext (by show q.val - 64 = q.val % 64; omega))

variable (m : (ℓ : Loc nD τ sig) → Buf (Elt Ideal) ℓ) (c : Dev nD)

/-- The arguments, by their coordinates. -/
abbrev utArg (s : Fin 16) (r : Fin 512) (n : Fin 2048) : EReal :=
  (m ((c : Thread nD τ).loc main_arg0) : FVec Ideal S16x512x2048 .bf16) (ix3 s r n)
abbrev mztArg (g : Fin 32) (r : Fin 384) (k : Fin 256) : EReal :=
  (m ((c : Thread nD τ).loc main_arg1) : FVec Ideal S32x384x256 .bf16) (ix3 g r k)
abbrev wtArg (g : Fin 32) (q : Fin 256) (p : Fin 128) : EReal :=
  (m ((c : Thread nD τ).loc main_arg2) : FVec Ideal S32x256x128 .bf16) (ix3 g q p)
abbrev srArg (g : Fin 32) (q : Fin 64) : EReal := srBuf m c (ix2 g q)
abbrev siArg (g : Fin 32) (q : Fin 64) : EReal := siBuf m c (ix2 g q)
abbrev dArg (r : Fin 512) : EReal := (m ((c : Thread nD τ).loc main_arg5) : FVec Ideal S512 .f32) (ix1 r)

theorem tt (t : Fin cfg0.N) : t.val < 32 := lt_of_lt_of_eq t.isLt N_0
/-- Point `t` is group `t`. -/
abbrev grp (t : Fin cfg0.N) : Fin 32 := ⟨t.val, tt t⟩

theorem idxS : ∀ t : Fin cfg0.N, win0_0.index t = ![0, t.val, 0, 0] ∧ win0_1.index t = ![t.val, 0, 0] ∧ win0_2.index t = ![t.val, 0, 0]
    ∧ win0_3.index t = ![t.val, 0, 0] ∧ win0_4.index t = ![t.val, 0, 0] ∧ win0_5.index t = ![0, t.val, 0, 0] := by decide +kernel

set_option maxHeartbeats 1600000 in
theorem split_apply (x : FVec Ideal S16x512x2048 .bf16) (s : Fin 16) (g : Fin 32) (h : Fin 16) (n : Fin 2048) :
    shapeCast S16x32x16x2048 x shapeCasts_S16x512x2048_S16x32x16x2048 (ix4 s g h n) = x (ix3 s (rowOf g h) n) := by
  pointwise

theorem u_V : V m c main_v85 = shapeCast S16x32x16x2048 (m ((c : Thread nD τ).loc main_arg0) : FVec Ideal S16x512x2048 .bf16)
    shapeCasts_S16x512x2048_S16x32x16x2048 := by
  dsimp only [V]
  after_reads_simp
  rfl

theorem d_V : V m c main_v84 = shapeCast S32x256x1 (shapeCast S32x16x16 (broadcastInDim S1x32x16x1x1x16 ![0, 1, 2, 3, 4, 5]
    bcast_S1x32x1x1x1x16_S1x32x16x1x1x16_0_1_2_3_4_5 (shapeCast S1x32x1x1x1x16 (shapeCast S32x1x16
      (m ((c : Thread nD τ).loc main_arg5) : FVec Ideal S512 .f32) shapeCasts_S512_S32x1x16) shapeCasts_S32x1x16_S1x32x1x1x1x16))
    shapeCasts_S1x32x16x1x1x16_S32x16x16) shapeCasts_S32x16x16_S32x256x1 := by
  dsimp only [V]
  after_reads_simp
  rfl

set_option maxHeartbeats 1600000 in
theorem u_read (t : Fin cfg0.N) (s : Fin 16) (h : Fin 16) (n : Fin 2048) :
    iblk m c 0 t (ix4 s 0 h n) = (V m c main_v85 : FVec Ideal S16x32x16x2048 .bf16) (ix4 s (grp t) h n) := by
  have ht := tt t
  blk_ext [iblk, idxS t]

set_option maxHeartbeats 1600000 in
theorem coef_read (t : Fin cfg0.N) (q : Fin 128) (i : Fin 16) :
    iblk m c 3 t (ix3 0 q i) = (V m c main_v79 : FVec Ideal S32x128x16 .f32) (ix3 (grp t) q i) := by
  have ht := tt t
  blk_ext [iblk, idxS t]

set_option maxHeartbeats 1600000 in
theorem d_read (t : Fin cfg0.N) (q : Fin 256) :
    iblk m c 4 t (ix3 0 q 0) = (V m c main_v84 : FVec Ideal S32x256x1 .f32) (ix3 (grp t) q 0) := by
  have ht := tt t
  blk_ext [iblk, idxS t]

theorem u_blk (t : Fin cfg0.N) (s : Fin 16) (h : Fin 16) (n : Fin 2048) :
    iblk m c 0 t (ix4 s 0 h n) = utArg m c s (rowOf (grp t) h) n := by
  rw [u_read, u_V]
  exact split_apply _ s (grp t) h n

theorem mzt_blk (t : Fin cfg0.N) (r : Fin 384) (k : Fin 256) : iblk m c 1 t (ix3 0 r k) = mztArg m c (grp t) r k := by
  have ht := tt t
  blk_ext! [iblk, V, idxS t]

theorem wt_blk (t : Fin cfg0.N) (q : Fin 256) (p : Fin 128) : iblk m c 2 t (ix3 0 q p) = wtArg m c (grp t) q p := by
  have ht := tt t
  blk_ext! [iblk, V, idxS t]

theorem d_blk (t : Fin cfg0.N) (q : Fin 256) : iblk m c 4 t (ix3 0 q 0) = dArg m c (rowOf (grp t) (chanOf q)) := by
  rw [d_read, d_V]
  pointwise <;> rfl

theorem coef_blk (t : Fin cfg0.N) (q : Fin 128) (i : Fin 16) :
    iblk m c 3 t (ix3 0 q i) = hostCol (srBuf m c) (siBuf m c) i (ix3 0 (grp t) q) := by
  rw [coef_read, coef_V]
  pointwise <;> rfl

theorem lo_blk (t : Fin cfg0.N) (k : Fin 7) (q : Fin 128) :
    iblk m c 3 t (ix3 0 q (colLo k)) = col₁ (srArg m c (grp t)) (siArg m c (grp t)) k q := by
  rw [coef_blk]
  unfold hostCol col₁
  rw [if_neg (by show ¬ k.val % 8 = 7; omega), if_pos (by show k.val < 8; omega), sideBySide_apply, ite_self]
  exact congrArg Prod.fst (hostPowers_apply (srBuf m c) (siBuf m c) k (ix2 (grp t) (stateOf q)))

theorem hi_blk (t : Fin cfg0.N) (k : Fin 7) (q : Fin 128) :
    iblk m c 3 t (ix3 0 q (colHi k)) = col₂ (srArg m c (grp t)) (siArg m c (grp t)) k q := by
  have e : 8 + k.val - 8 = k.val := by omega
  have h := congrArg Prod.snd (hostPowers_apply (srBuf m c) (siBuf m c) k (ix2 (grp t) (stateOf q)))
  rw [coef_blk]
  unfold hostCol col₂
  rw [if_neg (by show ¬ (8 + k.val) % 8 = 7; omega), if_neg (by show ¬ 8 + k.val < 8; omega), sideBySide_apply]
  dsimp only
  rw [e]
  split
  · exact congrArg (fun x : EReal => -x) h
  · exact h

end Cert.S5Ideal.S5Value

end
-- ==== Proof.S5Final.lean ====
/- What the scan call leaves in its result's array. -/
module

public import proofs.«01_k».proof.Proof.S5Host
public import Idealize.ShloMosaic.Lib.Pipeline.ValueKit
public import Idealize.ShloMosaic.Lib.Claim

@[expose] public section

set_option maxRecDepth 16384

noncomputable section

namespace Cert.S5Ideal.S5Value

open Cert.S5Ideal Cert.S5Ideal.Gen Cert.S5Scan Cert.S5Spec Cert.Rows
open Idealize.ShloMosaic Idealize.ShloMosaic.TcCoe

variable (m : (ℓ : Loc nD τ sig) → Buf (Elt Ideal) ℓ) (c : Dev nD)

/-- The result by token in a chunk, group, channel, chunk. -/
def resArr : FVec Ideal S16x32x16x2048 .bf16 := fun i =>
  out (utArg m c) (mztArg m c) (wtArg m c) (srArg m c) (siArg m c) (dArg m c) (i 0) (i 1) (i 2) (i 3)

theorem emb5 (t : Fin cfg0.N) (y : S16x1x16x2048.Idx) :
    ((((cfg0.win 5).blk t).view.emb y) 0 : ℕ) = (y 0).val ∧ ((((cfg0.win 5).blk t).view.emb y) 1 : ℕ) = t.val
      ∧ ((((cfg0.win 5).blk t).view.emb y) 2 : ℕ) = (y 2).val ∧ ((((cfg0.win 5).blk t).view.emb y) 3 : ℕ) = (y 3).val := by
  have ht := tt t
  refine ⟨?_, ?_, ?_, ?_⟩ <;> blk_simp [idxS t]

theorem uRow_blk (t : Fin cfg0.N) (k : Fin 256) (n : Fin 2048) :
    uRow (iblk m c 0 t) k n = uAt (utArg m c) (grp t) k n := u_blk m c t (tokOf k) (chanOf k) n

theorem zRow_blk (t : Fin cfg0.N) : zRow (iblk m c 0 t) (iblk m c 1 t) = zAt (utArg m c) (mztArg m c) (grp t) := by
  funext q n
  refine Finset.sum_congr rfl fun k _ => ?_
  rw [uRow_blk, mzt_blk]

theorem congr4 (f : Fin 16 → Fin 32 → Fin 16 → Fin 2048 → EReal) {t t' : Fin 16} {g g' : Fin 32} {h h' : Fin 16} {n n' : Fin 2048}
    (ht : t = t') (hg : g = g') (hh : h = h') (hn : n = n') : f t g h n = f t' g' h' n' := by rw [ht, hg, hh, hn]

variable (hu : ∀ s r n, IsReal (utArg m c s r n)) (hm : ∀ g r k, IsReal (mztArg m c g r k))
  (hr : ∀ g q, IsReal (srArg m c g q)) (hi : ∀ g q, IsReal (siArg m c g q))
include hu hm hr hi

theorem zAt_real (g : Fin 32) (q : Fin 128) (n : Fin 2048) : IsReal (zAt (utArg m c) (mztArg m c) g q n) :=
  IsReal.sum _ fun k _ => (hm _ _ _).mul (hu _ _ _)

theorem block_out (t : Fin cfg0.N) (q : Fin 256) (n : Fin 2048) :
    k0_pay65 (iblk m c 0 t) (iblk m c 1 t) (iblk m c 2 t) (iblk m c 3 t) (iblk m c 4 t) (ix2 q n)
      = gelu (yAt (utArg m c) (mztArg m c) (wtArg m c) (srArg m c) (siArg m c) (dArg m c) (grp t) q n) := by
  refine (block_apply _ _ _ _ _ (col₁ (srArg m c (grp t)) (siArg m c (grp t)))
    (col₂ (srArg m c (grp t)) (siArg m c (grp t))) (lo_blk m c t) (hi_blk m c t) q n).trans (congrArg gelu ?_)
  unfold yAt
  rw [zRow_blk, d_blk, uRow_blk]
  refine congrArg (· + _) (congrArg₂ (· + ·) (Finset.sum_congr rfl fun k _ => ?_) (Finset.sum_congr rfl fun p _ => ?_))
  · rw [uRow_blk, mzt_blk]
  · rw [wt_blk, moved_col _ _ _ (hr _) (hi _) (zAt_real m c hu hm hr hi _)]

theorem after_res (t : Fin cfg0.N) (y : S16x1x16x2048.Idx) :
    (dats m 0 c).after 5 t y
      = out (utArg m c) (mztArg m c) (wtArg m c) (srArg m c) (siArg m c) (dArg m c) (y 0) (grp t) (y 2) (y 3) := by
  rw [after0_5]
  exact (out_apply _ _ _ _ _ y).trans (block_out m c hu hm hr hi t (rowAt (y 0) (y 2)) (y 3))

theorem flushed_res (t : Fin cfg0.N) (y : S16x1x16x2048.Idx) :
    (dats m 0 c).after 5 t y = resArr m c (((cfg0.win 5).blk t).view.emb y) := by
  obtain ⟨h0, h1, h2, h3⟩ := emb5 t y
  exact (after_res m c hu hm hr hi t y).trans
    (congr4 (out (utArg m c) (mztArg m c) (wtArg m c) (srArg m c) (siArg m c) (dArg m c)) (Fin.ext h0.symm) (Fin.ext h1.symm)
      (Fin.ext h2.symm) (Fin.ext h3.symm))

theorem final_res : (dats m 0 c).arrAt 5 cfg0.N = (resArr m c : Buf (Elt Ideal) ((c : Thread nD τ).loc main_v86)) := by
  refine (dats m 0 c).arrAt_eq_of_covers 5 _ (by decide +kernel) fun t hf y => ?_
  blk_simp
  exact flushed_res m c hu hm hr hi t y

end Cert.S5Ideal.S5Value

end
-- ==== Proof.S5Reference.lean ====
/- The reference scan's result, by its coordinates. -/
module

public import proofs.«01_k».proof.Proof.S5ReferenceScan
public import proofs.«01_k».proof.Proof.Consts
public import Idealize.ShloMosaic.Lib.Pointwise
public import Idealize.ShloMosaic.Lib.Claim

@[expose] public section

set_option maxRecDepth 16384

noncomputable section

namespace Cert.S5Reference

open Cert.S5ReferenceIdeal Cert.S5ReferenceIdeal.Gen Cert.S5ReferenceIdeal.Step Cert.S5Scan Cert.S5Spec
open Cert.S5Ideal.S5Value (tokOf chanOf rowAt ownRow addRow gelu scale cubic)
open Idealize.ShloMosaic

/-! ## The two constants, as the reference computes them -/

theorem ofBits_neg_one : Ideal.ofBits .f32 0xBF800000#32 = ((-1 : ℝ) : EReal) := by
  simp [Ideal.ofBits, Ideal.ieee, -EReal.coe_mul, -EReal.coe_neg]; try norm_num

theorem ofBits_8943 : Ideal.ofBits .f32 0x460BBC00#32 = ((8943 : ℝ) : EReal) := by
  simp [Ideal.ofBits, Ideal.ieee, -EReal.coe_mul]; norm_num

theorem ofBits_2e5 : Ideal.ofBits .f32 0x48435000#32 = ((200000 : ℝ) : EReal) := by
  simp [Ideal.ofBits, Ideal.ieee, -EReal.coe_mul]; norm_num

/-- The root of two over `π`. -/
theorem scale_eq : Ideal.sqrt (Ideal.div (Ideal.ofBits .f32 0x40000000#32) (Ideal.acos (Ideal.ofBits .f32 0xBF800000#32))) = scale := by
  rw [ofBits_neg_one, Cert.Consts.ofBits_two, Ideal.acos_coe, if_pos (by norm_num), Real.arccos_neg_one,
    Ideal.div_coe Real.pi_ne_zero, ← EReal.coe_mul, one_div, Ideal.sqrt_coe,
    if_neg (not_lt.mpr (mul_nonneg (by norm_num) (inv_nonneg.mpr Real.pi_pos.le)))]
  rfl

theorem cubic_eq : Ideal.div (Ideal.ofBits .f32 0x460BBC00#32) (Ideal.ofBits .f32 0x48435000#32) = cubic := by
  rw [ofBits_8943, ofBits_2e5, Ideal.div_coe (by norm_num), ← EReal.coe_mul, mul_one_div]
  rfl

/-! ## The output before the activation -/

section Out

variable (x0 : FVec Ideal S16x512x2048 .bf16) (x1 : FVec Ideal S32x384x256 .bf16) (x2 : FVec Ideal S32x256x128 .bf16)
  (x3 x4 : FVec Ideal S32x64 .f32) (x5 : FVec Ideal S512 .f32)

/-- The inputs by step, sequence, group and row. -/
abbrev tokens : FVec Ideal S128x16x32x256 .f32 := A_main_v3 (F := Ideal) x0 x1

/-- The chunk's own part and the state's part. -/
abbrev inner (z : FVec Ideal S128x16x32x128 .f32) : FVec Ideal S128x16x32x256 .f32 :=
  addf
    (transpose S128x16x32x256 [2, 3, 0, 1] (Host.dotGeneral dot_S32x256x256_S128x16x32x256_S32x256x128x16_2_3_1_01_0_2 none
      (extf .f32 (extractStridedSlice S32x256x256 ![0, 0, 0] x1 slices_S32x384x256_S32x256x256_0_0_0) bitsLt_bf16_f32)
      (tokens x0 x1)) transposes_S32x256x128x16_S128x16x32x256_2_3_0_1)
    (transpose S128x16x32x256 [2, 3, 0, 1] (Host.dotGeneral dot_S32x256x128_S128x16x32x128_S32x256x128x16_2_3_1_01_0_2 none
      (extf .f32 x2 bitsLt_bf16_f32) z) transposes_S32x256x128x16_S128x16x32x256_2_3_0_1)

/-- With the skip, by token and channel. -/
abbrev before (z : FVec Ideal S128x16x32x128 .f32) : FVec Ideal S128x16x32x16x16 .f32 :=
  addf (shapeCast _ (inner x0 x1 x2 z) shapeCasts_S128x16x32x256_S128x16x32x16x16)
    (mulf (broadcastInDim S128x16x32x16x16 ![0, 1, 2, 3, 4] bcast_S1x1x32x1x16_S128x16x32x16x16_0_1_2_3_4
        (broadcastInDim S1x1x32x1x16 ![2, 3, 4] bcast_S32x1x16_S1x1x32x1x16_2_3_4 (shapeCast _ x5 shapeCasts_S512_S32x1x16)))
      (shapeCast _ (tokens x0 x1) shapeCasts_S128x16x32x256_S128x16x32x16x16))

/-- The activation, of a whole array. -/
abbrev activated (y : FVec Ideal S128x16x32x16x16 .f32) : FVec Ideal S128x16x32x16x16 .f32 :=
  mulf y (mulf (broadcastInDim S128x16x32x16x16 ![] bcast_S_S128x16x32x16x16 (constant S_ .f32 0x3F000000#32))
    (addf (broadcastInDim S128x16x32x16x16 ![] bcast_S_S128x16x32x16x16 (constant S_ .f32 0x3F800000#32))
      (Host.tanh (mulf (broadcastInDim S128x16x32x16x16 ![] bcast_S_S128x16x32x16x16
          (Host.sqrt (Host.divf (constant S_ .f32 0x40000000#32) (Host.acos (constant S_ .f32 0xBF800000#32)))))
        (addf y (mulf (broadcastInDim S128x16x32x16x16 ![] bcast_S_S128x16x32x16x16
            (Host.divf (constant S_ .f32 0x460BBC00#32) (constant S_ .f32 0x48435000#32)))
          (mulf (mulf y y) y)))))))

set_option maxHeartbeats 1600000 in
theorem result_eq (s : State Ideal) : R_main_v51 s x0 x1 x2 x5
    = truncf .bf16 (shapeCast _ (transpose S16x32x16x16x128 [3, 2, 4, 1, 0]
        (activated (before x0 x1 x2 x5 (gathered s))) transposes_S128x16x32x16x16_S16x32x16x16x128_3_2_4_1_0)
        shapeCasts_S16x32x16x16x128_S16x32x16x2048) bitsLt_bf16_f32 := by
  unfold R_main_v51 activated before inner gathered tokens A_main_v3 A_main_v2 A_main_v1 A_main_v0
  rfl

theorem activated_apply (y : FVec Ideal S128x16x32x16x16 .f32) (i : S128x16x32x16x16.Idx) : activated y i = gelu (y i) := by
  have h : activated y i = y i * (Ideal.ofBits .f32 0x3F000000#32 * (Ideal.ofBits .f32 0x3F800000#32
      + Ideal.tanh (Ideal.sqrt (Ideal.div (Ideal.ofBits .f32 0x40000000#32) (Ideal.acos (Ideal.ofBits .f32 0xBF800000#32)))
        * (y i + Ideal.div (Ideal.ofBits .f32 0x460BBC00#32) (Ideal.ofBits .f32 0x48435000#32) * (y i * y i * y i))))) := rfl
  rw [h, scale_eq, cubic_eq, mul_assoc (y i) (y i)]
  rfl

theorem inner_apply (z : FVec Ideal S128x16x32x128 .f32) (j : Fin 128) (b : Fin 16) (g : Fin 32) (q : Fin 256) :
    inner x0 x1 x2 z (ix4 j b g q) = (∑ k : Fin 256, x1 (ix3 g (ownRow q) k) * uAt (ut0 x0) g k (chunkAt j b))
      + ∑ p : Fin 128, x2 (ix3 g q p) * z (ix4 j b g p) := by
  have h : inner x0 x1 x2 z (ix4 j b g q)
      = (∑ k : Fin 256, x1 (ix3 g (ownRow q) k) * (tokens x0 x1) (ix4 j b g k))
        + ∑ p : Fin 128, x2 (ix3 g q p) * z (ix4 j b g p) := by
    pointwise [inner]
  rw [h]
  exact congrArg (· + _) (Finset.sum_congr rfl fun k _ => congrArg (_ * ·) (tokens_apply x0 x1 j b g k))

theorem spread_apply (x : FVec Ideal S128x16x32x256 .f32) (j : Fin 128) (b : Fin 16) (g : Fin 32) (t h : Fin 16) :
    shapeCast S128x16x32x16x16 x shapeCasts_S128x16x32x256_S128x16x32x16x16 (ix5 j b g t h) = x (ix4 j b g (rowAt t h)) := by
  pointwise

theorem skip_apply (j : Fin 128) (b : Fin 16) (g : Fin 32) (t h : Fin 16) :
    broadcastInDim S128x16x32x16x16 ![0, 1, 2, 3, 4] bcast_S1x1x32x1x16_S128x16x32x16x16_0_1_2_3_4
      (broadcastInDim S1x1x32x1x16 ![2, 3, 4] bcast_S32x1x16_S1x1x32x1x16_2_3_4
        (shapeCast S32x1x16 x5 shapeCasts_S512_S32x1x16)) (ix5 j b g t h) = x5 (ix1 (rowOf g h)) := by
  pointwise

theorem chanOf_rowAt (t h : Fin 16) : chanOf (rowAt t h) = h := Fin.ext (by show (t.val * 16 + h.val) % 16 = h.val; omega)

theorem before_apply (j : Fin 128) (b : Fin 16) (g : Fin 32) (t h : Fin 16) :
    before x0 x1 x2 x5 (gathered (trips x0 x1 x3 x4 128)) (ix5 j b g t h)
      = yAt (ut0 x0) (mzt0 x1) (fun g q p => x2 (ix3 g q p)) (fun g q => x3 (ix2 g q)) (fun g q => x4 (ix2 g q))
        (fun r => x5 (ix1 r)) g (rowAt t h) (chunkAt j b) := by
  refine (congrArg₂ (fun x y : EReal => x + y) ((spread_apply _ j b g t h).trans (inner_apply x0 x1 x2 _ j b g (rowAt t h)))
    (congrArg₂ (fun x y : EReal => x * y) (skip_apply x5 j b g t h)
      ((spread_apply _ j b g t h).trans (tokens_apply x0 x1 j b g (rowAt t h))))).trans ?_
  have e1 : (chunkAt j b).val / 128 = b.val := by show (b.val * 128 + j.val) / 128 = b.val; omega
  have e2 : (chunkAt j b).val % 128 = j.val := by show (b.val * 128 + j.val) % 128 = j.val; omega
  unfold yAt
  rw [e1, e2, chanOf_rowAt]
  refine congrArg (· + _) (congrArg (_ + ·) (Finset.sum_congr rfl fun p _ => ?_))
  rw [gathered_apply]

theorem join_apply (x : FVec Ideal S16x32x16x16x128 .f32) (t : Fin 16) (g : Fin 32) (h : Fin 16) (n : Fin 2048) :
    shapeCast S16x32x16x2048 x shapeCasts_S16x32x16x16x128_S16x32x16x2048 (ix4 t g h n)
      = x (ix5 t g h ⟨n.val / 128, by omega⟩ ⟨n.val % 128, by omega⟩) := by
  pointwise

theorem turn_apply (x : FVec Ideal S128x16x32x16x16 .f32) (t : Fin 16) (g : Fin 32) (h : Fin 16) (b : Fin 16) (j : Fin 128) :
    transpose S16x32x16x16x128 [3, 2, 4, 1, 0] x transposes_S128x16x32x16x16_S16x32x16x16x128_3_2_4_1_0 (ix5 t g h b j)
      = x (ix5 j b g t h) := by
  pointwise

/-- The reference's result. -/
theorem result_apply (t : Fin 16) (g : Fin 32) (h : Fin 16) (n : Fin 2048) :
    (R_main_v51 (F := Ideal) (trips x0 x1 x3 x4 128) x0 x1 x2 x5 : FVec Ideal S16x32x16x2048 .bf16) (ix4 t g h n)
      = out (ut0 x0) (mzt0 x1) (fun g q p => x2 (ix3 g q p)) (fun g q => x3 (ix2 g q)) (fun g q => x4 (ix2 g q))
        (fun r => x5 (ix1 r)) t g h n := by
  rw [result_eq]
  refine (join_apply _ t g h n).trans ((turn_apply _ t g h _ _).trans ((activated_apply _ _).trans
    (congrArg gelu ((before_apply x0 x1 x2 x3 x4 x5 _ _ g t h).trans ?_))))
  have e : chunkAt ⟨n.val % 128, by omega⟩ ⟨n.val / 128, by omega⟩ = n :=
    Fin.ext (by show n.val / 128 * 128 + n.val % 128 = n.val; omega)
  rw [e]

end Out

end Cert.S5Reference

end
-- ==== Proof.S5Tie.lean ====
/- The S5 call: what the precondition says of its arguments, and that the reference's result is the value proved of the
   kernel's. -/
module

public import proofs.«01_k».proof.Defs
public import proofs.«01_k».proof.Proof.FinitePre
public import proofs.«01_k».proof.Proof.S5Final
public import proofs.«01_k».proof.Proof.S5Reference

@[expose] public section

set_option maxRecDepth 16384

noncomputable section

namespace Cert.S5Tie

open Idealize.ShloMosaic Idealize.ShloMosaic.TcCoe Cert.Rows Cert.FinitePre Cert.S5Ideal.S5Value Cert.KernelIdeal.MixValue

instance facts : Cert.Pre_finite3.Facts := ⟨by decide, by decide, by decide⟩

variable (m : (ℓ : Loc S5Ideal.nD S5Ideal.τ S5Ideal.sig) → Buf (Elt Ideal) ℓ) (c : Dev S5Ideal.nD)

section
variable (h : Cert.Pre_S5Ideal_finite3 m)
include h

theorem real_ut (s : Fin 16) (r : Fin 512) (n : Fin 2048) : IsReal (utArg m c s r n) :=
  finite_real _ (broadcastInDim Cert.Pre_finite3.S16x512x2048 ![] Cert.Pre_finite3.Facts.bcast_S_S16x512x2048
    (constant Cert.Pre_finite3.S_ .bf16 0x7F80#16)) (fun _ => top_bf16) (h c).1 (ix3 s r n)

theorem real_mzt (g : Fin 32) (r : Fin 384) (k : Fin 256) : IsReal (mztArg m c g r k) :=
  finite_real _ (broadcastInDim Cert.Pre_finite3.S32x384x256 ![] Cert.Pre_finite3.Facts.bcast_S_S32x384x256
    (constant Cert.Pre_finite3.S_ .bf16 0x7F80#16)) (fun _ => top_bf16) (h c).2.1 (ix3 g r k)

theorem real_sr (g : Fin 32) (q : Fin 64) : IsReal (srArg m c g q) :=
  finite_real _ (broadcastInDim Cert.Pre_finite3.S32x64 ![] Cert.Pre_finite3.Facts.bcast_S_S32x64
    (constant Cert.Pre_finite3.S_ .f32 0x7F800000#32)) (fun _ => lit_top) (h c).2.2.1 (ix2 g q)

theorem real_si (g : Fin 32) (q : Fin 64) : IsReal (siArg m c g q) :=
  finite_real _ (broadcastInDim Cert.Pre_finite3.S32x64 ![] Cert.Pre_finite3.Facts.bcast_S_S32x64
    (constant Cert.Pre_finite3.S_ .f32 0x7F800000#32)) (fun _ => lit_top) (h c).2.2.2 (ix2 g q)

/-- The kernel's result, where the precondition holds. -/
theorem kernel_res : (S5Ideal.Gen.dats m 0 c).arrAt 5 S5Ideal.cfg0.N
    = (resArr m c : Buf (Elt Ideal) ((c : Thread S5Ideal.nD S5Ideal.τ).loc S5Ideal.main_v86)) :=
  final_res m c (real_ut m c h) (real_mzt m c h) (real_sr m c h) (real_si m c h)

end

/-- The reference's result from arguments equal to the kernel's. -/
theorem reference_res (x0 : FVec Ideal S5ReferenceIdeal.S16x512x2048 .bf16) (x1 : FVec Ideal S5ReferenceIdeal.S32x384x256 .bf16)
    (x2 : FVec Ideal S5ReferenceIdeal.S32x256x128 .bf16) (x3 x4 : FVec Ideal S5ReferenceIdeal.S32x64 .f32)
    (x5 : FVec Ideal S5ReferenceIdeal.S512 .f32)
    (a0 : x0 = m ((c : Thread S5Ideal.nD S5Ideal.τ).loc S5Ideal.main_arg0))
    (a1 : x1 = m ((c : Thread S5Ideal.nD S5Ideal.τ).loc S5Ideal.main_arg1))
    (a2 : x2 = m ((c : Thread S5Ideal.nD S5Ideal.τ).loc S5Ideal.main_arg2))
    (a3 : x3 = m ((c : Thread S5Ideal.nD S5Ideal.τ).loc S5Ideal.main_arg3))
    (a4 : x4 = m ((c : Thread S5Ideal.nD S5Ideal.τ).loc S5Ideal.main_arg4))
    (a5 : x5 = m ((c : Thread S5Ideal.nD S5Ideal.τ).loc S5Ideal.main_arg5)) :
    (S5ReferenceIdeal.Step.R_main_v51 (F := Ideal) (S5Reference.trips x0 x1 x3 x4 128) x0 x1 x2 x5
      : FVec Ideal S5ReferenceIdeal.S16x32x16x2048 .bf16) = resArr m c := by
  subst a0 a1 a2 a3 a4 a5
  funext i
  obtain ⟨t, g, h, n, rfl⟩ : ∃ t g h n, i = ix4 t g h n := ⟨i 0, i 1, i 2, i 3, (eq_ix4 i).symm ▸ rfl⟩
  exact S5Reference.result_apply _ _ _ _ _ _ t g h n

end Cert.S5Tie

end
-- ==== Proof.S5PrepBlock.lean ====
/- What one grid point of the operators' call leaves in its output block, at an index: the stores lie over one of zeros. -/
module

public import proofs.«01_k».proof.Proof.Gen.S5PrepIdeal.Frame
public import Idealize.ShloMosaic.Lib.Pipeline.ValueKit
public import Idealize.ShloMosaic.Lib.Pipeline.CanonAppend
public import Idealize.ShloMosaic.Lib.Claim

@[expose] public section

set_option maxRecDepth 16384

noncomputable section

namespace Cert.S5PrepIdeal.PrepValue

open Cert.S5PrepIdeal Cert.S5PrepIdeal.Gen
open Idealize.ShloMosaic Idealize.ShloMosaic.TcCoe

/-! ## The stores, for any loads -/

section Pieces

variable (b : Vec Ideal S1x128x16 .f32) (a : Vec Ideal S1x256x128 .f32) (p : Fin 32 → Vec Ideal S1x128x1 .f32)

/-- The rows and columns that an input token's outputs take. -/
abbrev SOwn (s : Fin 16) : Shape := ⟨2, ![256 - 16 * s.val, 16]⟩
abbrev SOwn1 (s : Fin 16) : Shape := ⟨3, ![1, 256 - 16 * s.val, 16]⟩

theorem slicesOwn : ∀ s : Fin 16, S256x16.Slices ![0, 0] (SOwn s) := by decide
theorem castsOwn : ∀ s : Fin 16, (SOwn s).ShapeCasts (SOwn1 s) := by decide
theorem inbOwn : ∀ (s : Fin 16) (d : Fin 3), (![0, 16 * s.val, 16 * s.val] : Fin 3 → Nat) d + (SOwn1 s).size d ≤ S1x384x256.size d := by decide
theorem inbAdd : ∀ (s : Fin 16) (d : Fin 3), (![0, 256, 16 * s.val] : Fin 3 → Nat) d + S1x128x16.size d ≤ S1x384x256.size d := by decide

/-- Input token `s`'s store to the outputs: the lags that fit. -/
def ownPiece (s : Fin 16) : View.Piece (Elt Ideal) S1x384x256 .f32 :=
  ⟨Rect.unit ![0, 16 * s.val, 16 * s.val] (SOwn1 s).size (inbOwn s), shapeCast (SOwn1 s)
    (extractStridedSlice (SOwn s) ![0, 0] (k0_pay3 b a) (slicesOwn s)) (castsOwn s)⟩

/-- Its store to the state. -/
def addPiece (s : Fin 16) : View.Piece (Elt Ideal) S1x384x256 .f32 :=
  ⟨Rect.unit ![0, 256, 16 * s.val] S1x128x16.size (inbAdd s), k0_pay1 (k0_pay2 b) (k0_pay5 b) (p ⟨s.val, by omega⟩) (p ⟨16 + s.val, by omega⟩)⟩

/-- The first input token's store to the outputs, which takes every lag. -/
def firstPiece : View.Piece (Elt Ideal) S1x384x256 .f32 :=
  ⟨Rect.unit ![0, 0, 0] S1x256x16.size (inbOwn 0), k0_pay6 b a⟩

/-- The zeros under them. -/
def zeroPiece : View.Piece (Elt Ideal) S1x384x256 .f32 :=
  ⟨Rect.unit ![0, 0, 0] S1x256x256.size (by decide), (k0_pay4 : FVec Ideal S1x256x256 .f32)⟩

/-- The input tokens but the first, the one stored last first. -/
def lastFirst : List (Fin 16) := [15, 14, 13, 12, 11, 10, 9, 8, 7, 6, 5, 4, 3, 2, 1]

/-- The stores over the zeros. -/
def pieces : List (View.Piece (Elt Ideal) S1x384x256 .f32) :=
  lastFirst.flatMap (fun s => [addPiece b p s, ownPiece b a s]) ++ [addPiece b p 0, firstPiece b a]

end Pieces

section Run

variable (c : Dev nD) (i : grid0.Coords)
  {a1 : Memref sig .tc .vmem S1x272x128 .f32} {a2 : Memref sig .tc .vmem S1x128x16 .f32} {a3 : Memref sig .tc .vmem S1x128x32 .f32}
  {a4 : Memref sig .tc .vmem S1x384x256 .f32} (e1 : a1.IsWhole) (e2 : a2.IsWhole) (e3 : a3.IsWhole) (e4 : a4.IsWhole)
  (x0 : Vec Ideal S1x272x128 .f32) (x1 : Vec Ideal S1x128x16 .f32) (x2 : Vec Ideal S1x128x32 .f32)

theorem inbP : ∀ (s : Fin 32) (d : Fin 3), (![0, 0, s.val] : Fin 3 → Nat) d + S1x128x1.size d ≤ S1x128x32.size d := by decide

/-- What the body loads. -/
def aLd : Vec Ideal S1x256x128 .f32 :=
  View.readAt (Elt Ideal) a1.view (Rect.unit (s := S1x272x128) ![0, 0, 0] S1x256x128.size inb_S1x272x128_S1x256x128_0_0_0).toLoadRect (e1.unread x0)
def bLd : Vec Ideal S1x128x16 .f32 :=
  View.readAt (Elt Ideal) a2.view (Rect.unit (s := S1x128x16) ![0, 0, 0] S1x128x16.size inb_S1x128x16_S1x128x16_0_0_0).toLoadRect (e2.unread x1)
def pLd (s : Fin 32) : Vec Ideal S1x128x1 .f32 :=
  View.readAt (Elt Ideal) a3.view (Rect.unit (s := S1x128x32) ![0, 0, s.val] S1x128x1.size (inbP s)).toLoadRect (e3.unread x2)

theorem runs : (kernelRun0_A c i _ e1 _ e2 _ e3 _ e4 x0 x1 x2).1
    = pieces (bLd e2 x1) (aLd e1 x0) (pLd e3 x2) ++ [zeroPiece] := rfl

theorem aLd_apply (r : Fin 256) (q : Fin 128) : aLd e1 x0 (ix3 0 r q) = x0 (ix3 0 ⟨r.val, by omega⟩ q) := by
  unfold aLd
  rw [View.readAt_apply, Memref.IsWhole.read_unread]
  refine congrArg x0 (funext fun d => Fin.ext ?_)
  fin_cases d <;> exact (Nat.zero_add _).trans (Nat.one_mul _)

theorem bLd_eq : bLd e2 x1 = x1 := by
  funext y
  unfold bLd
  rw [View.readAt_apply, Memref.IsWhole.read_unread]
  refine congrArg x1 (funext fun d => Fin.ext ?_)
  fin_cases d <;> exact (Nat.zero_add _).trans (Nat.one_mul _)

theorem pLd_apply (s : Fin 32) (q : Fin 128) : pLd e3 x2 s (ix3 0 q 0) = x2 (ix3 0 q s) := by
  unfold pLd
  rw [View.readAt_apply, Memref.IsWhole.read_unread]
  refine congrArg x2 (funext fun d => Fin.ext ?_)
  fin_cases d
  · rfl
  · exact (Nat.zero_add _).trans (Nat.one_mul _)
  · show s.val + 1 * 0 = s.val; omega

end Run

/-! ## The stores at an index -/

/-- The channel beside a state's: the other half of its 128 rows. -/
abbrev other (q : Fin 128) : Fin 128 := ⟨(q.val + 64) % 128, by omega⟩

section Values

variable (b : Vec Ideal S1x128x16 .f32) (a : Vec Ideal S1x256x128 .f32) (p : Fin 32 → Vec Ideal S1x128x1 .f32)

/-- The output of row `r` (lag `r / 16`, channel `r % 16`) for an input of channel `h`. -/
def lagRow (r : Fin 256) (h : Fin 16) : EReal := ∑ q : Fin 128, a (ix3 0 r q) * b (ix3 0 q h)

/-- What input token `s`'s channel `h` adds to the state's row `q`. -/
def addRow (s : Fin 16) (q : Fin 128) (h : Fin 16) : EReal :=
  p ⟨s.val, by omega⟩ (ix3 0 q 0) * b (ix3 0 q h) + p ⟨16 + s.val, by omega⟩ (ix3 0 q 0) * b (ix3 0 (other q) h)

/-- The block where the stores over the zeros are. -/
def blk (y : S1x384x256.Idx) : EReal :=
  if h : (y 1).val < 256 then lagRow b a ⟨(y 1).val - 16 * ((y 2).val / 16), by omega⟩ ⟨(y 2).val % 16, by omega⟩
  else addRow b p ⟨(y 2).val / 16, by have := (y 2).isLt; simp at this; omega⟩ ⟨(y 1).val - 256, by have := (y 1).isLt; simp at this; omega⟩
    ⟨(y 2).val % 16, by omega⟩

theorem lag_apply (r : Fin 256) (h : Fin 16) : k0_pay3 b a (ix2 r h) = lagRow b a r h := by
  unfold lagRow
  pointwise [k0_pay3, k0_pay2]

theorem first_apply (r : Fin 256) (h : Fin 16) : k0_pay6 b a (ix3 0 r h) = lagRow b a r h := by
  rw [← lag_apply]
  pointwise [k0_pay6]

theorem own_apply (s : Fin 16) (r : Fin (256 - 16 * s.val)) (h : Fin 16) :
    (ownPiece b a s).2 (ix3 0 r h) = lagRow b a ⟨r.val, by omega⟩ h := by
  rw [← lag_apply]
  unfold ownPiece
  generalize k0_pay3 b a = k
  refine (shapeCast_addUnit_apply ![256 - 16 * s.val, 16] (extractStridedSlice (SOwn s) ![0, 0] k (slicesOwn s))
    (castsOwn s) (ix3 0 r h)).trans ?_
  refine congrArg k (funext fun d => Fin.ext ?_)
  fin_cases d <;> exact Nat.zero_add _

theorem add_apply (s : Fin 16) (q : Fin 128) (h : Fin 16) : (addPiece b p s).2 (ix3 0 q h) = addRow b p s q h := by
  have e : other q = ⟨(q.val + 128 - 64) % 128, by omega⟩ := Fin.ext (by show (q.val + 64) % 128 = (q.val + 128 - 64) % 128; omega)
  rw [addRow, e]
  unfold addPiece
  pointwise [k0_pay1, k0_pay2, k0_pay5]

theorem zero_apply (y : S1x256x256.Idx) : (k0_pay4 : FVec Ideal S1x256x256 .f32) y = (0 : EReal) := by
  pointwise [k0_pay4]

theorem blk_own (s : Fin 16) (r : Fin 256) (h : Fin 16) (hr : r.val + 16 * s.val < 256) :
    blk b a p (ix3 0 ⟨16 * s.val + r.val, by omega⟩ ⟨16 * s.val + h.val, by omega⟩) = lagRow b a r h := by
  refine (dif_pos (show 16 * s.val + r.val < 256 by omega)).trans (congrArg₂ (lagRow b a) (Fin.ext ?_) (Fin.ext ?_))
  · show 16 * s.val + r.val - 16 * ((16 * s.val + h.val) / 16) = r.val; omega
  · show (16 * s.val + h.val) % 16 = h.val; omega

theorem blk_add (s : Fin 16) (q : Fin 128) (h : Fin 16) :
    blk b a p (ix3 0 ⟨256 + q.val, by omega⟩ ⟨16 * s.val + h.val, by omega⟩) = addRow b p s q h := by
  have e1 : (⟨(16 * s.val + h.val) / 16, by omega⟩ : Fin 16) = s := Fin.ext (by show (16 * s.val + h.val) / 16 = s.val; omega)
  have e2 : (⟨256 + q.val - 256, by omega⟩ : Fin 128) = q := Fin.ext (by show 256 + q.val - 256 = q.val; omega)
  have e3 : (⟨(16 * s.val + h.val) % 16, by omega⟩ : Fin 16) = h := Fin.ext (by show (16 * s.val + h.val) % 16 = h.val; omega)
  refine (dif_neg (show ¬ 256 + q.val < 256 by omega)).trans ?_
  show addRow b p ⟨(16 * s.val + h.val) / 16, _⟩ ⟨256 + q.val - 256, _⟩ ⟨(16 * s.val + h.val) % 16, _⟩ = _
  rw [e1, e2, e3]

theorem ownPiece_eq (s : Fin 16) (x : (SOwn1 s).Idx) : (ownPiece b a s).2 x = blk b a p ((ownPiece b a s).1.emb x) := by
  obtain ⟨o, r, h, rfl⟩ : ∃ o r h, x = ix3 o r h := ⟨x 0, x 1, x 2, (eq_ix3 x).symm ▸ rfl⟩
  obtain rfl : o = 0 := Subsingleton.elim _ _
  rw [own_apply, ← blk_own b a p s ⟨r.val, by omega⟩ h (by show r.val + 16 * s.val < 256; omega)]
  refine congrArg (blk b a p) (funext fun d => Fin.ext ?_)
  fin_cases d
  · rfl
  · show 16 * s.val + r.val = 16 * s.val + 1 * r.val; omega
  · show 16 * s.val + h.val = 16 * s.val + 1 * h.val; omega

theorem firstPiece_eq (x : S1x256x16.Idx) : (firstPiece b a).2 x = blk b a p ((firstPiece b a).1.emb x) := by
  obtain ⟨o, r, h, rfl⟩ : ∃ o r h, x = ix3 o r h := ⟨x 0, x 1, x 2, (eq_ix3 x).symm ▸ rfl⟩
  obtain rfl : o = 0 := Subsingleton.elim _ _
  refine (first_apply b a r h).trans ?_
  rw [← blk_own b a p 0 r h (by show r.val + 16 * 0 < 256; omega)]
  refine congrArg (blk b a p) (funext fun d => Fin.ext ?_)
  fin_cases d
  · rfl
  · show 16 * 0 + r.val = 0 + 1 * r.val; omega
  · show 16 * 0 + h.val = 0 + 1 * h.val; omega

theorem addPiece_eq (s : Fin 16) (x : S1x128x16.Idx) : (addPiece b p s).2 x = blk b a p ((addPiece b p s).1.emb x) := by
  obtain ⟨o, q, h, rfl⟩ : ∃ o q h, x = ix3 o q h := ⟨x 0, x 1, x 2, (eq_ix3 x).symm ▸ rfl⟩
  obtain rfl : o = 0 := Subsingleton.elim _ _
  rw [add_apply, ← blk_add b a p s q h]
  refine congrArg (blk b a p) (funext fun d => Fin.ext ?_)
  fin_cases d
  · rfl
  · show 256 + q.val = 256 + 1 * q.val; omega
  · show 16 * s.val + h.val = 16 * s.val + 1 * h.val; omega

/-- Every store over the zeros is one of the three kinds. -/
theorem mem_pieces {q : View.Piece (Elt Ideal) S1x384x256 .f32} (hq : q ∈ pieces b a p) :
    (∃ s, q = addPiece b p s) ∨ (∃ s, q = ownPiece b a s) ∨ q = firstPiece b a := by
  rcases List.mem_append.mp hq with h | h
  · obtain ⟨s, _, h⟩ := List.mem_flatMap.mp h
    rcases List.mem_cons.mp h with h | h
    · exact .inl ⟨s, h⟩
    · exact .inr (.inl ⟨s, List.mem_singleton.mp h⟩)
  · rcases List.mem_cons.mp h with h | h
    · exact .inl ⟨0, h⟩
    · exact .inr (.inr (List.mem_singleton.mp h))

theorem lastFirst_mem : ∀ s : Fin 16, s ≠ 0 → s ∈ lastFirst := by decide

theorem add_mem (s : Fin 16) : addPiece b p s ∈ pieces b a p := by
  by_cases hs : s = 0
  · subst hs; exact List.mem_append_right _ (by simp)
  · exact List.mem_append_left _ (List.mem_flatMap.mpr ⟨s, lastFirst_mem s hs, by simp⟩)

theorem own_mem (s : Fin 16) (hs : s ≠ 0) : ownPiece b a s ∈ pieces b a p :=
  List.mem_append_left _ (List.mem_flatMap.mpr ⟨s, lastFirst_mem s hs, by simp⟩)

theorem pieces_eq (q : View.Piece (Elt Ideal) S1x384x256 .f32) (hq : q ∈ pieces b a p) (x : q.1.shape.Idx) :
    q.2 x = blk b a p (q.1.emb x) := by
  rcases mem_pieces b a p hq with ⟨s, rfl⟩ | ⟨s, rfl⟩ | rfl
  · exact addPiece_eq b a p s x
  · exact ownPiece_eq b a p s x
  · exact firstPiece_eq b a p x

/-- An index whose token is not before its input's lies under one of them. -/
theorem covered (y : S1x384x256.Idx) (hy : 16 * ((y 2).val / 16) ≤ (y 1).val) : ∃ q ∈ pieces b a p, y ∈ q.1.set := by
  obtain ⟨o, r, k, rfl⟩ : ∃ o r k, y = ix3 o r k := ⟨y 0, y 1, y 2, (eq_ix3 y).symm ▸ rfl⟩
  obtain rfl : o = 0 := Subsingleton.elim _ _
  replace hy : 16 * (k.val / 16) ≤ r.val := hy
  by_cases hr : 256 ≤ r.val
  · refine ⟨_, add_mem b a p ⟨k.val / 16, by omega⟩, (Rect.mem_set_unit (inb := inbAdd ⟨k.val / 16, by omega⟩)).mpr fun d => ?_⟩
    fin_cases d
    · exact ⟨Nat.le_refl 0, Nat.zero_lt_one⟩
    · exact ⟨hr, r.isLt⟩
    · exact ⟨show 16 * (k.val / 16) ≤ k.val by omega, show k.val < 16 * (k.val / 16) + 16 by omega⟩
  · by_cases hk : k.val / 16 = 0
    · refine ⟨firstPiece b a, List.mem_append_right _ (by simp), (Rect.mem_set_unit (inb := inbOwn 0)).mpr fun d => ?_⟩
      fin_cases d
      · exact ⟨Nat.le_refl 0, Nat.zero_lt_one⟩
      · exact ⟨Nat.zero_le _, show r.val < 0 + 256 by omega⟩
      · exact ⟨Nat.zero_le _, show k.val < 0 + 16 by omega⟩
    · refine ⟨_, own_mem b a p ⟨k.val / 16, by omega⟩ (fun h => hk (congrArg Fin.val h)),
        (Rect.mem_set_unit (inb := inbOwn ⟨k.val / 16, by omega⟩)).mpr fun d => ?_⟩
      fin_cases d
      · exact ⟨Nat.le_refl 0, Nat.zero_lt_one⟩
      · exact ⟨hy, show r.val < 16 * (k.val / 16) + (256 - 16 * (k.val / 16)) by omega⟩
      · exact ⟨show 16 * (k.val / 16) ≤ k.val by omega, show k.val < 16 * (k.val / 16) + 16 by omega⟩

/-- Any other index lies under none. -/
theorem uncovered (y : S1x384x256.Idx) (hy : (y 1).val < 16 * ((y 2).val / 16)) (q : View.Piece (Elt Ideal) S1x384x256 .f32)
    (hq : q ∈ pieces b a p) : y ∉ q.1.set := by
  intro hm
  obtain ⟨x, rfl⟩ := q.1.exists_idx_of_mem hm
  rcases mem_pieces b a p hq with ⟨s, rfl⟩ | ⟨s, rfl⟩ | rfl
  · obtain ⟨o, r, k, rfl⟩ : ∃ (o : Fin 1) (r : Fin 128) (k : Fin 16), x = (ix3 o r k : S1x128x16.Idx) := ⟨x 0, x 1, x 2, (eq_ix3 x).symm ▸ rfl⟩
    replace hy : 256 + 1 * r.val < 16 * ((16 * s.val + 1 * k.val) / 16) := hy
    omega
  · obtain ⟨o, r, k, rfl⟩ : ∃ (o : Fin 1) (r : Fin (256 - 16 * s.val)) (k : Fin 16), x = (ix3 o r k : (SOwn1 s).Idx) := ⟨x 0, x 1, x 2, (eq_ix3 x).symm ▸ rfl⟩
    replace hy : 16 * s.val + 1 * r.val < 16 * ((16 * s.val + 1 * k.val) / 16) := hy
    omega
  · obtain ⟨o, r, k, rfl⟩ : ∃ (o : Fin 1) (r : Fin 256) (k : Fin 16), x = (ix3 o r k : S1x256x16.Idx) := ⟨x 0, x 1, x 2, (eq_ix3 x).symm ▸ rfl⟩
    replace hy : 0 + 1 * r.val < 16 * ((0 + 1 * k.val) / 16) := hy
    omega

/-- Where none of the first stores lies, the others decide. -/
theorem canon_skip (L' : List (View.Piece (Elt Ideal) S1x384x256 .f32)) (y : S1x384x256.Idx) :
    ∀ L : List (View.Piece (Elt Ideal) S1x384x256 .f32), (∀ q ∈ L, y ∉ q.1.set) → View.canon (L ++ L') y = View.canon L' y
  | [], _ => rfl
  | q :: L, h => (View.canon_cons_of_not_mem _ _ (h q (by simp))).trans (canon_skip L' y L fun q hq => h q (by simp [hq]))

theorem canon_zero (y : S1x384x256.Idx) (hy : (y 1).val < 256) :
    View.canon [(zeroPiece : View.Piece (Elt Ideal) S1x384x256 .f32)] y = (0 : EReal) := by
  obtain ⟨o, r, k, rfl⟩ : ∃ o r k, y = ix3 o r k := ⟨y 0, y 1, y 2, (eq_ix3 y).symm ▸ rfl⟩
  obtain rfl : o = 0 := Subsingleton.elim _ _
  rw [show (ix3 0 r k : S1x384x256.Idx) = (zeroPiece : View.Piece (Elt Ideal) S1x384x256 .f32).1.emb
    (ix3 0 (⟨r.val, hy⟩ : Fin 256) k) from funext fun d => Fin.ext (by
      fin_cases d
      · rfl
      · show r.val = 0 + 1 * r.val; omega
      · show k.val = 0 + 1 * k.val; omega)]
  exact (View.canon_cons_emb _ _ _ _).trans (zero_apply _)

end Values

section Out

variable (c : Dev nD) (i : grid0.Coords)
  {a1 : Memref sig .tc .vmem S1x272x128 .f32} {a2 : Memref sig .tc .vmem S1x128x16 .f32} {a3 : Memref sig .tc .vmem S1x128x32 .f32}
  {a4 : Memref sig .tc .vmem S1x384x256 .f32} (e1 : a1.IsWhole) (e2 : a2.IsWhole) (e3 : a3.IsWhole) (e4 : a4.IsWhole)
  (x0 : Vec Ideal S1x272x128 .f32) (x1 : Vec Ideal S1x128x16 .f32) (x2 : Vec Ideal S1x128x32 .f32)

/-- The block from the contents of the input blocks. -/
def outBlk (r : Fin 384) (k : Fin 256) : EReal :=
  if r.val < 16 * (k.val / 16) then 0
  else if h : r.val < 256 then ∑ q : Fin 128, x0 (ix3 0 ⟨r.val - 16 * (k.val / 16), by omega⟩ q) * x1 (ix3 0 q ⟨k.val % 16, by omega⟩)
  else x2 (ix3 0 ⟨r.val - 256, by omega⟩ ⟨k.val / 16, by omega⟩) * x1 (ix3 0 ⟨r.val - 256, by omega⟩ ⟨k.val % 16, by omega⟩)
    + x2 (ix3 0 ⟨r.val - 256, by omega⟩ ⟨16 + k.val / 16, by omega⟩) * x1 (ix3 0 (other ⟨r.val - 256, by omega⟩) ⟨k.val % 16, by omega⟩)

theorem out_apply (r : Fin 384) (k : Fin 256) :
    out0_A_3 c i _ e1 _ e2 _ e3 _ e4 x0 x1 x2 (ix3 0 r k) = outBlk x0 x1 x2 r k := by
  refine (congrFun (View.read_writes_eq_canon (Val := Elt Ideal) VO0_3 VO0_3.junk _
    (cover0_A_3 c i _ e1 _ e2 _ e3 _ e4 x0 x1 x2)) (ix3 0 r k)).trans ?_
  rw [runs]
  unfold outBlk
  split
  · rename_i h
    refine (canon_skip _ _ _ (uncovered _ _ _ (ix3 0 r k) h)).trans (canon_zero (ix3 0 r k) ?_)
    show r.val < 256
    omega
  · rename_i h
    refine (View.canon_append_of_pieces (blk (bLd e2 x1) (aLd e1 x0) (pLd e3 x2)) _ _ (pieces_eq _ _ _) _
      (covered _ _ _ (ix3 0 r k) (Nat.le_of_not_lt h))).trans ?_
    split
    · rename_i hr
      refine (dif_pos hr).trans ?_
      unfold lagRow
      simp only [aLd_apply, bLd_eq]
      rfl
    · rename_i hr
      refine (dif_neg hr).trans ?_
      unfold addRow
      simp only [pLd_apply, bLd_eq]
      rfl

end Out

end Cert.S5PrepIdeal.PrepValue

end
-- ==== Proof.S5PrepHost.lean ====
/- What the host of the operators' call computes from its arguments before the call. -/
module

public import proofs.«01_k».proof.Proof.Gen.S5PrepIdeal.Frame
public import Idealize.ShloMosaic.Lib.Pipeline.ValueKit
public import Idealize.ShloMosaic.Lib.StableHlo.RunRead
public import Idealize.ShloMosaic.Lib.Claim

@[expose] public section

set_option maxRecDepth 16384

noncomputable section

namespace Cert.S5PrepIdeal.PrepValue

open Cert.S5PrepIdeal Cert.S5PrepIdeal.Gen
open Idealize.ShloMosaic Idealize.ShloMosaic.TcCoe

section Host

variable (lr li : FVec Ideal S32x64 .f32) (ld : FVec Ideal S32 .f32) (br bi : FVec Ideal S32x64x16 .f32)
  (pr pi : FVec Ideal S17x32x64 .f32) (cr ci : FVec Ideal S32x16x64 .f32)

/-- One of λ's parts times the step. -/
def scaledV (l : FVec Ideal S32x64 .f32) : FVec Ideal S32x64 .f32 :=
  mulf l (broadcastInDim S32x64 ![0, 1] bcast_S32x1_S32x64_0_1 (broadcastInDim S32x1 ![0] bcast_S32_S32x1_0 (Host.exp ld)))

/-- The exponentials and the number one. -/
def aReV : FVec Ideal S32x64 .f32 := mulf (Host.exp (scaledV ld lr)) (Host.cos (scaledV ld li))
def aImV : FVec Ideal S32x64 .f32 := mulf (Host.exp (scaledV ld lr)) (Host.sin (scaledV ld li))
def oneV : FVec Ideal S32x64 .f32 := broadcastInDim S32x64 ![] bcast_S_S32x64 (constant S_ .f32 0x3F800000#32)

/-- The factor of B. -/
def facReV : FVec Ideal S32x64 .f32 :=
  Host.divf (addf (mulf (subf (aReV lr li ld) oneV) lr) (mulf (aImV lr li ld) li)) (addf (mulf lr lr) (mulf li li))
def facImV : FVec Ideal S32x64 .f32 :=
  Host.divf (subf (mulf (aImV lr li ld) lr) (mulf (subf (aReV lr li ld) oneV) li)) (addf (mulf lr lr) (mulf li li))

/-- A value of each state, on its columns. -/
def onCols (f : FVec Ideal S32x64 .f32) : FVec Ideal S32x64x16 .f32 :=
  broadcastInDim S32x64x16 ![0, 1, 2] bcast_S32x64x1_S32x64x16_0_1_2 (broadcastInDim S32x64x1 ![0, 1] bcast_S32x64_S32x64x1_0_1 f)

/-- The discretised B, its two parts on top of each other. -/
def bbV (fr fi : FVec Ideal S32x64 .f32) : FVec Ideal S32x128x16 .f32 :=
  concatenate S32x128x16 1 [⟨S32x64x16, subf (mulf (onCols fr) br) (mulf (onCols fi) bi)⟩,
    ⟨S32x64x16, addf (mulf (onCols fr) bi) (mulf (onCols fi) br)⟩] concatenates_S32x64x16_S32x64x16_S32x128x16_d1

/-- The multiples of a value, up to 16 times. -/
def timesV (x : FVec Ideal S32x64 .f32) : FVec Ideal S17x32x64 .f32 :=
  mulf (broadcastInDim S17x32x64 ![0, 1, 2] bcast_S17x1x1_S17x32x64_0_1_2
      (broadcastInDim S17x1x1 ![0] bcast_S17_S17x1x1_0 (sitofp .f32 (iotaInDim S17 32 0))))
    (broadcastInDim S17x32x64 ![0, 1, 2] bcast_S1x32x64_S17x32x64_0_1_2 (broadcastInDim S1x32x64 ![1, 2] bcast_S32x64_S1x32x64_1_2 x))

/-- The powers of A. -/
def powReV : FVec Ideal S17x32x64 .f32 := mulf (Host.exp (timesV (scaledV ld lr))) (Host.cos (timesV (scaledV ld li)))
def powImV : FVec Ideal S17x32x64 .f32 := mulf (Host.exp (timesV (scaledV ld lr))) (Host.sin (timesV (scaledV ld li)))

/-- C for each power, and a power for each of its rows. -/
def onC (x : FVec Ideal S32x16x64 .f32) : FVec Ideal S17x32x16x64 .f32 :=
  broadcastInDim S17x32x16x64 ![0, 1, 2, 3] bcast_S1x32x16x64_S17x32x16x64_0_1_2_3
    (broadcastInDim S1x32x16x64 ![1, 2, 3] bcast_S32x16x64_S1x32x16x64_1_2_3 x)
def onP (x : FVec Ideal S17x32x64 .f32) : FVec Ideal S17x32x16x64 .f32 :=
  broadcastInDim S17x32x16x64 ![0, 1, 2, 3] bcast_S17x32x1x64_S17x32x16x64_0_1_2_3
    (broadcastInDim S17x32x1x64 ![0, 1, 3] bcast_S17x32x64_S17x32x1x64_0_1_3 x)

/-- C times the powers, by power and row. -/
def caV : FVec Ideal S32x272x128 .f32 :=
  shapeCast S32x272x128 (transpose S32x17x16x128 [1, 0, 2, 3]
    (concatenate S17x32x16x128 3 [⟨S17x32x16x64, subf (mulf (onC cr) (onP pr)) (mulf (onC ci) (onP pi))⟩,
      ⟨S17x32x16x64, Host.negf (addf (mulf (onC cr) (onP pi)) (mulf (onC ci) (onP pr)))⟩] concatenates_S17x32x16x64_S17x32x16x64_S17x32x16x128_d3)
    transposes_S17x32x16x128_S32x17x16x128_1_0_2_3) shapeCasts_S32x17x16x128_S32x272x128

/-- The first 16 powers, the last first. -/
def revV (x : FVec Ideal S17x32x64 .f32) : FVec Ideal S16x32x64 .f32 :=
  Host.reverse [0] (extractStridedSlice S16x32x64 ![0, 0, 0] x slices_S17x32x64_S16x32x64_0_0_0)

/-- Two of them by state row and power. -/
def halves (x y : FVec Ideal S16x32x64 .f32) : FVec Ideal S32x128x16 .f32 :=
  transpose S32x128x16 [1, 2, 0] (concatenate S16x32x128 2 [⟨S16x32x64, x⟩, ⟨S16x32x64, y⟩] concatenates_S16x32x64_S16x32x64_S16x32x128_d2)
    transposes_S16x32x128_S32x128x16_1_2_0

/-- The columns of the powers. -/
def colsV : FVec Ideal S32x128x32 .f32 :=
  concatenate S32x128x32 2 [⟨S32x128x16, halves (revV pr) (revV pr)⟩, ⟨S32x128x16, halves (Host.negf (revV pi)) (revV pi)⟩]
    concatenates_S32x128x16_S32x128x16_S32x128x32_d2

/-- The last power. -/
def lastV (x : FVec Ideal S17x32x64 .f32) : FVec Ideal S32x64 .f32 :=
  shapeCast S32x64 (extractStridedSlice S1x32x64 ![16, 0, 0] x slices_S17x32x64_S1x32x64_16_0_0) shapeCasts_S1x32x64_S32x64

/-- What the state before a chunk adds: the powers from the first. -/
def wtV : FVec Ideal S32x256x128 .f32 :=
  extractStridedSlice S32x256x128 ![0, 16, 0] (caV pr pi cr ci) slices_S32x272x128_S32x256x128_0_16_0

end Host

variable (m : (ℓ : Loc nD τ sig) → Buf (Elt Ideal) ℓ) (c : Dev nD)

abbrev lrBuf : FVec Ideal S32x64 .f32 := m ((c : Thread nD τ).loc main_arg0)
abbrev liBuf : FVec Ideal S32x64 .f32 := m ((c : Thread nD τ).loc main_arg1)
abbrev ldBuf : FVec Ideal S32 .f32 := m ((c : Thread nD τ).loc main_arg2)
abbrev brBuf : FVec Ideal S32x64x16 .f32 := m ((c : Thread nD τ).loc main_arg3)
abbrev biBuf : FVec Ideal S32x64x16 .f32 := m ((c : Thread nD τ).loc main_arg4)
abbrev crBuf : FVec Ideal S32x16x64 .f32 := m ((c : Thread nD τ).loc main_arg5)
abbrev ciBuf : FVec Ideal S32x16x64 .f32 := m ((c : Thread nD τ).loc main_arg6)

/-- The powers that the host computes. -/
abbrev prV : FVec Ideal S17x32x64 .f32 := powReV (lrBuf m c) (liBuf m c) (ldBuf m c)
abbrev piV : FVec Ideal S17x32x64 .f32 := powImV (lrBuf m c) (liBuf m c) (ldBuf m c)

set_option maxHeartbeats 1600000 in
theorem bb_V : V m c main_v93 = bbV (brBuf m c) (biBuf m c) (facReV (lrBuf m c) (liBuf m c) (ldBuf m c))
    (facImV (lrBuf m c) (liBuf m c) (ldBuf m c)) := by
  dsimp only [V]
  after_reads_simp
  rfl

set_option maxHeartbeats 1600000 in
theorem sr_V : V m c main_v106 = lastV (prV m c) := by
  dsimp only [V]
  after_reads_simp
  rfl

set_option maxHeartbeats 1600000 in
theorem si_V : V m c main_v108 = lastV (piV m c) := by
  dsimp only [V]
  after_reads_simp
  rfl

set_option maxHeartbeats 1600000 in
theorem ca_V : V m c main_v92 = caV (prV m c) (piV m c) (crBuf m c) (ciBuf m c) := by
  dsimp only [V]
  after_reads_simp
  rfl

set_option maxHeartbeats 1600000 in
theorem cols_V : V m c main_v103 = colsV (prV m c) (piV m c) := by
  dsimp only [V]
  after_reads_simp
  rfl

set_option maxHeartbeats 1600000 in
theorem wt_V : V m c main_v104 = wtV (prV m c) (piV m c) (crBuf m c) (ciBuf m c) := by
  dsimp only [V]
  after_reads_simp
  rfl

end Cert.S5PrepIdeal.PrepValue

end
-- ==== Proof.S5PrepSpec.lean ====
/- The operators of a chunk of 16 tokens, over the reals: what both programs of the operators' call compute. -/
module

public import proofs.«01_k».proof.Proof.FiniteRows

@[expose] public section

noncomputable section

namespace Cert.PrepSpec

open Idealize.ShloMosaic

/-- The parameters: λ's two parts, the logarithm of the step, and the two parts of B and of C. -/
structure Params where
  lr : Fin 32 → Fin 64 → ℝ
  li : Fin 32 → Fin 64 → ℝ
  ld : Fin 32 → ℝ
  br : Fin 32 → Fin 64 → Fin 16 → ℝ
  bi : Fin 32 → Fin 64 → Fin 16 → ℝ
  cr : Fin 32 → Fin 16 → Fin 64 → ℝ
  ci : Fin 32 → Fin 16 → Fin 64 → ℝ

variable (P : Params)

/-- λ times the step. -/
def xr (g : Fin 32) (q : Fin 64) : ℝ := P.lr g q * Real.exp (P.ld g)
def xi (g : Fin 32) (q : Fin 64) : ℝ := P.li g q * Real.exp (P.ld g)

/-- The two parts of `A ^ k`. -/
def powR (k : ℕ) (g : Fin 32) (q : Fin 64) : ℝ := Real.exp (k * xr P g q) * Real.cos (k * xi P g q)
def powI (k : ℕ) (g : Fin 32) (q : Fin 64) : ℝ := Real.exp (k * xr P g q) * Real.sin (k * xi P g q)

/-- The square of λ's modulus. -/
def den (g : Fin 32) (q : Fin 64) : ℝ := P.lr g q * P.lr g q + P.li g q * P.li g q

/-- `(A - 1) / λ`. -/
def facR (g : Fin 32) (q : Fin 64) : ℝ :=
  ((Real.exp (xr P g q) * Real.cos (xi P g q) - 1) * P.lr g q + Real.exp (xr P g q) * Real.sin (xi P g q) * P.li g q) * (den P g q)⁻¹
def facI (g : Fin 32) (q : Fin 64) : ℝ :=
  (Real.exp (xr P g q) * Real.sin (xi P g q) * P.lr g q - (Real.exp (xr P g q) * Real.cos (xi P g q) - 1) * P.li g q) * (den P g q)⁻¹

/-- The discretised `B`. -/
def bbR (g : Fin 32) (q : Fin 64) (h : Fin 16) : ℝ := facR P g q * P.br g q h - facI P g q * P.bi g q h
def bbI (g : Fin 32) (q : Fin 64) (h : Fin 16) : ℝ := facR P g q * P.bi g q h + facI P g q * P.br g q h

/-- `A ^ k` times it. -/
def abR (k : ℕ) (g : Fin 32) (q : Fin 64) (h : Fin 16) : ℝ := powR P k g q * bbR P g q h - powI P k g q * bbI P g q h
def abI (k : ℕ) (g : Fin 32) (q : Fin 64) (h : Fin 16) : ℝ := powR P k g q * bbI P g q h + powI P k g q * bbR P g q h

/-- `C` times `A ^ k`. -/
def caR (k : ℕ) (g : Fin 32) (h : Fin 16) (q : Fin 64) : ℝ := P.cr g h q * powR P k g q - P.ci g h q * powI P k g q
def caI (k : ℕ) (g : Fin 32) (h : Fin 16) (q : Fin 64) : ℝ := P.cr g h q * powI P k g q + P.ci g h q * powR P k g q

/-- The real part of `C A ^ k B`, by output and input channel: how an input reaches the output `k` tokens on. -/
def lag (k : ℕ) (g : Fin 32) (h j : Fin 16) : ℝ := (∑ q, P.cr g h q * abR P k g q j) - ∑ q, P.ci g h q * abI P k g q j

/-- It is the same when `C` meets the power first. -/
theorem lag_eq (k : ℕ) (g : Fin 32) (h j : Fin 16) :
    lag P k g h j = (∑ q, caR P k g h q * bbR P g q j) + ∑ q, -caI P k g h q * bbI P g q j := by
  unfold lag
  rw [← Finset.sum_sub_distrib, ← Finset.sum_add_distrib]
  refine Finset.sum_congr rfl fun q _ => ?_
  unfold caR caI abR abI
  ring

/-- The powers as a recurrence. -/
theorem powR_zero (g : Fin 32) (q : Fin 64) : powR P 0 g q = 1 := by simp [powR]
theorem powI_zero (g : Fin 32) (q : Fin 64) : powI P 0 g q = 0 := by simp [powI]

theorem powR_succ (k : ℕ) (g : Fin 32) (q : Fin 64) :
    powR P (k + 1) g q = Real.exp (xr P g q) * Real.cos (xi P g q) * powR P k g q
      - Real.exp (xr P g q) * Real.sin (xi P g q) * powI P k g q := by
  unfold powR powI
  rw [Nat.cast_succ, add_mul, add_mul, one_mul, one_mul, Real.exp_add, Real.cos_add]
  ring

theorem powI_succ (k : ℕ) (g : Fin 32) (q : Fin 64) :
    powI P (k + 1) g q = Real.exp (xr P g q) * Real.cos (xi P g q) * powI P k g q
      + Real.exp (xr P g q) * Real.sin (xi P g q) * powR P k g q := by
  unfold powR powI
  rw [Nat.cast_succ, add_mul, add_mul, one_mul, one_mul, Real.exp_add, Real.sin_add]
  ring

/-- The operators by row and column: the outputs' rows (`t`, channel) for the inputs' columns (`s`, channel), then the state's
    rows (real parts, imaginary parts). -/
def inOp (g : Fin 32) (r : Fin 384) (k : Fin 256) : ℝ :=
  if r.val < 16 * (k.val / 16) then 0
  else if r.val < 256 then lag P (r.val / 16 - k.val / 16) g ⟨r.val % 16, by omega⟩ ⟨k.val % 16, by omega⟩
  else if h : r.val < 320 then abR P (15 - k.val / 16) g ⟨r.val - 256, by omega⟩ ⟨k.val % 16, by omega⟩
  else abI P (15 - k.val / 16) g ⟨r.val - 320, by omega⟩ ⟨k.val % 16, by omega⟩

/-- What the state before the chunk adds to the outputs. -/
def stOp (g : Fin 32) (r : Fin 256) (p : Fin 128) : ℝ :=
  if h : p.val < 64 then caR P (r.val / 16 + 1) g ⟨r.val % 16, by omega⟩ ⟨p.val, h⟩
  else -caI P (r.val / 16 + 1) g ⟨r.val % 16, by omega⟩ ⟨p.val - 64, by omega⟩

end Cert.PrepSpec

end
-- ==== Proof.S5PrepKernel.lean ====
/- The operators' call where its arguments are real numbers: its host's values and its results. -/
module

public import proofs.«01_k».proof.Proof.S5PrepBlock
public import proofs.«01_k».proof.Proof.S5PrepHost
public import proofs.«01_k».proof.Proof.S5PrepSpec
public import Idealize.ShloMosaic.Lib.Pipeline.ValueKit
public import Idealize.ShloMosaic.Lib.Claim

@[expose] public section

set_option maxRecDepth 16384

noncomputable section

namespace Cert.S5PrepIdeal.PrepValue

open Cert.S5PrepIdeal Cert.S5PrepIdeal.Gen Cert.PrepSpec
open Idealize.ShloMosaic Idealize.ShloMosaic.TcCoe

section Values

variable (P : Params)

/-- The parameters as arguments. -/
def lrF : FVec Ideal S32x64 .f32 := fun i => ((P.lr (i 0) (i 1) : ℝ) : EReal)
def liF : FVec Ideal S32x64 .f32 := fun i => ((P.li (i 0) (i 1) : ℝ) : EReal)
def ldF : FVec Ideal S32 .f32 := fun i => ((P.ld (i 0) : ℝ) : EReal)
def brF : FVec Ideal S32x64x16 .f32 := fun i => ((P.br (i 0) (i 1) (i 2) : ℝ) : EReal)
def biF : FVec Ideal S32x64x16 .f32 := fun i => ((P.bi (i 0) (i 1) (i 2) : ℝ) : EReal)
def crF : FVec Ideal S32x16x64 .f32 := fun i => ((P.cr (i 0) (i 1) (i 2) : ℝ) : EReal)
def ciF : FVec Ideal S32x16x64 .f32 := fun i => ((P.ci (i 0) (i 1) (i 2) : ℝ) : EReal)

theorem scaled_re (g : Fin 32) (q : Fin 64) : scaledV (ldF P) (lrF P) (ix2 g q) = ((xr P g q : ℝ) : EReal) := by
  have h : scaledV (ldF P) (lrF P) (ix2 g q) = lrF P (ix2 g q) * Ideal.exp (ldF P (ix1 g)) := by pointwise [scaledV]
  rw [h, xr, EReal.coe_mul]
  rfl

theorem scaled_im (g : Fin 32) (q : Fin 64) : scaledV (ldF P) (liF P) (ix2 g q) = ((xi P g q : ℝ) : EReal) := by
  have h : scaledV (ldF P) (liF P) (ix2 g q) = liF P (ix2 g q) * Ideal.exp (ldF P (ix1 g)) := by pointwise [scaledV]
  rw [h, xi, EReal.coe_mul]
  rfl

theorem a_re (g : Fin 32) (q : Fin 64) :
    aReV (lrF P) (liF P) (ldF P) (ix2 g q) = ((Real.exp (xr P g q) * Real.cos (xi P g q) : ℝ) : EReal) := by
  show Ideal.exp (scaledV (ldF P) (lrF P) (ix2 g q)) * Ideal.cos (scaledV (ldF P) (liF P) (ix2 g q)) = _
  rw [scaled_re, scaled_im, EReal.coe_mul]
  rfl

theorem a_im (g : Fin 32) (q : Fin 64) :
    aImV (lrF P) (liF P) (ldF P) (ix2 g q) = ((Real.exp (xr P g q) * Real.sin (xi P g q) : ℝ) : EReal) := by
  show Ideal.exp (scaledV (ldF P) (lrF P) (ix2 g q)) * Ideal.sin (scaledV (ldF P) (liF P) (ix2 g q)) = _
  rw [scaled_re, scaled_im, EReal.coe_mul]
  rfl

theorem one_apply (g : Fin 32) (q : Fin 64) : oneV (ix2 g q) = ((1 : ℝ) : EReal) := by
  have h : oneV (ix2 g q) = Ideal.ofBits .f32 0x3F800000#32 := by pointwise [oneV]
  rw [h]
  simp [Ideal.ofBits, Ideal.ieee, ← EReal.coe_mul]
  norm_num

/-- A quotient of real numbers, by one that isn't zero. -/
theorem div_coe (x : ℝ) {y : ℝ} (hy : y ≠ 0) : Ideal.div (x : EReal) (y : EReal) = ((x * y⁻¹ : ℝ) : EReal) := by
  unfold Ideal.div
  rw [if_neg (by exact_mod_cast hy), EReal.coe_mul, EReal.coe_inv]

section
variable (hd : ∀ g q, den P g q ≠ 0)
include hd

theorem fac_re (g : Fin 32) (q : Fin 64) : facReV (lrF P) (liF P) (ldF P) (ix2 g q) = ((facR P g q : ℝ) : EReal) := by
  have h : facReV (lrF P) (liF P) (ldF P) (ix2 g q)
    = Ideal.div ((aReV (lrF P) (liF P) (ldF P) (ix2 g q) - oneV (ix2 g q)) * lrF P (ix2 g q) + aImV (lrF P) (liF P) (ldF P) (ix2 g q) * liF P (ix2 g q))
      (lrF P (ix2 g q) * lrF P (ix2 g q) + liF P (ix2 g q) * liF P (ix2 g q)) := rfl
  rw [h, a_re, a_im, one_apply]
  show Ideal.div ((_ - _) * ((P.lr g q : ℝ) : EReal) + _ * ((P.li g q : ℝ) : EReal))
    (((P.lr g q : ℝ) : EReal) * ((P.lr g q : ℝ) : EReal) + ((P.li g q : ℝ) : EReal) * ((P.li g q : ℝ) : EReal)) = _
  rw [facR, ← div_coe _ (hd g q)]
  unfold den
  norm_cast

theorem fac_im (g : Fin 32) (q : Fin 64) : facImV (lrF P) (liF P) (ldF P) (ix2 g q) = ((facI P g q : ℝ) : EReal) := by
  have h : facImV (lrF P) (liF P) (ldF P) (ix2 g q)
    = Ideal.div (aImV (lrF P) (liF P) (ldF P) (ix2 g q) * lrF P (ix2 g q) - (aReV (lrF P) (liF P) (ldF P) (ix2 g q) - oneV (ix2 g q)) * liF P (ix2 g q))
      (lrF P (ix2 g q) * lrF P (ix2 g q) + liF P (ix2 g q) * liF P (ix2 g q)) := rfl
  rw [h, a_re, a_im, one_apply]
  show Ideal.div (_ * ((P.lr g q : ℝ) : EReal) - (_ - _) * ((P.li g q : ℝ) : EReal))
    (((P.lr g q : ℝ) : EReal) * ((P.lr g q : ℝ) : EReal) + ((P.li g q : ℝ) : EReal) * ((P.li g q : ℝ) : EReal)) = _
  rw [facI, ← div_coe _ (hd g q)]
  unfold den
  norm_cast

/-- The discretised B, by state row: its real parts, then its imaginary ones. -/
theorem bb_apply (g : Fin 32) (p : Fin 128) (h : Fin 16) :
    bbV (brF P) (biF P) (facReV (lrF P) (liF P) (ldF P)) (facImV (lrF P) (liF P) (ldF P)) (ix3 g p h)
      = (((if hp : p.val < 64 then bbR P g ⟨p.val, hp⟩ h else bbI P g ⟨p.val - 64, by omega⟩ h) : ℝ) : EReal) := by
  have e : ∀ fr fi : FVec Ideal S32x64 .f32, bbV (brF P) (biF P) fr fi (ix3 g p h)
    = if hp : p.val < 64 then fr (ix2 g ⟨p.val, hp⟩) * brF P (ix3 g ⟨p.val, hp⟩ h) - fi (ix2 g ⟨p.val, hp⟩) * biF P (ix3 g ⟨p.val, hp⟩ h)
      else fr (ix2 g ⟨p.val - 64, by omega⟩) * biF P (ix3 g ⟨p.val - 64, by omega⟩ h)
        + fi (ix2 g ⟨p.val - 64, by omega⟩) * brF P (ix3 g ⟨p.val - 64, by omega⟩ h) := fun fr fi => by
    pointwise [bbV, onCols]
  rw [e]
  split
  · rw [fac_re P hd, fac_im P hd, bbR, EReal.coe_sub, EReal.coe_mul, EReal.coe_mul]
    rfl
  · rw [fac_re P hd, fac_im P hd, bbI, EReal.coe_add, EReal.coe_mul, EReal.coe_mul]
    rfl

end

theorem times_apply (x : FVec Ideal S32x64 .f32) (k : Fin 17) (g : Fin 32) (q : Fin 64) :
    timesV x (ix3 k g q) = ((k.val : ℝ) : EReal) * x (ix2 g q) := by
  have h : timesV x (ix3 k g q) = (((BitVec.ofNat 32 k.val).toInt : ℝ) : EReal) * x (ix2 g q) := by
    pointwise [timesV]
    rfl
  have hk : (BitVec.ofNat 32 k.val).toInt = (k.val : ℤ) := by
    rw [BitVec.toInt_ofNat', Int.bmod_eq_of_le] <;> omega
  rw [h, hk]
  norm_cast

theorem pow_re (k : Fin 17) (g : Fin 32) (q : Fin 64) :
    powReV (lrF P) (liF P) (ldF P) (ix3 k g q) = ((powR P k.val g q : ℝ) : EReal) := by
  show Ideal.exp (timesV (scaledV (ldF P) (lrF P)) (ix3 k g q)) * Ideal.cos (timesV (scaledV (ldF P) (liF P)) (ix3 k g q)) = _
  rw [times_apply, times_apply, scaled_re, scaled_im, ← EReal.coe_mul, ← EReal.coe_mul, powR, EReal.coe_mul]
  rfl

theorem pow_im (k : Fin 17) (g : Fin 32) (q : Fin 64) :
    powImV (lrF P) (liF P) (ldF P) (ix3 k g q) = ((powI P k.val g q : ℝ) : EReal) := by
  show Ideal.exp (timesV (scaledV (ldF P) (lrF P)) (ix3 k g q)) * Ideal.sin (timesV (scaledV (ldF P) (liF P)) (ix3 k g q)) = _
  rw [times_apply, times_apply, scaled_re, scaled_im, ← EReal.coe_mul, ← EReal.coe_mul, powI, EReal.coe_mul]
  rfl

section
variable (pr pi : FVec Ideal S17x32x64 .f32)
  (hr : ∀ (k : Fin 17) (g : Fin 32) (q : Fin 64), pr (ix3 k g q) = ((powR P k.val g q : ℝ) : EReal))
  (hi : ∀ (k : Fin 17) (g : Fin 32) (q : Fin 64), pi (ix3 k g q) = ((powI P k.val g q : ℝ) : EReal))
include hr hi

/-- C times the powers. -/
theorem ca_apply (g : Fin 32) (r : Fin 272) (p : Fin 128) :
    caV pr pi (crF P) (ciF P) (ix3 g r p)
      = (((if hp : p.val < 64 then caR P (r.val / 16) g ⟨r.val % 16, by omega⟩ ⟨p.val, hp⟩
        else -caI P (r.val / 16) g ⟨r.val % 16, by omega⟩ ⟨p.val - 64, by omega⟩) : ℝ) : EReal) := by
  have e : caV pr pi (crF P) (ciF P) (ix3 g r p)
    = if hp : p.val < 64 then crF P (ix3 g ⟨r.val % 16, by omega⟩ ⟨p.val, hp⟩) * pr (ix3 ⟨r.val / 16, by omega⟩ g ⟨p.val, hp⟩)
        - ciF P (ix3 g ⟨r.val % 16, by omega⟩ ⟨p.val, hp⟩) * pi (ix3 ⟨r.val / 16, by omega⟩ g ⟨p.val, hp⟩)
      else -(crF P (ix3 g ⟨r.val % 16, by omega⟩ ⟨p.val - 64, by omega⟩) * pi (ix3 ⟨r.val / 16, by omega⟩ g ⟨p.val - 64, by omega⟩)
        + ciF P (ix3 g ⟨r.val % 16, by omega⟩ ⟨p.val - 64, by omega⟩) * pr (ix3 ⟨r.val / 16, by omega⟩ g ⟨p.val - 64, by omega⟩)) := by
    pointwise [caV, onC, onP]
  rw [e]
  split
  · rw [hr, hi, caR, EReal.coe_sub, EReal.coe_mul, EReal.coe_mul]
    rfl
  · rw [hr, hi, caI, EReal.coe_neg, EReal.coe_add, EReal.coe_mul, EReal.coe_mul]
    rfl

theorem wt_apply (g : Fin 32) (r : Fin 256) (p : Fin 128) :
    wtV pr pi (crF P) (ciF P) (ix3 g r p) = ((stOp P g r p : ℝ) : EReal) := by
  have e : ∀ x : FVec Ideal S32x272x128 .f32, extractStridedSlice S32x256x128 ![0, 16, 0] x slices_S32x272x128_S32x256x128_0_16_0 (ix3 g r p)
    = x (ix3 g ⟨16 + r.val, by omega⟩ p) := fun x => by pointwise
  have e1 : (16 + r.val) / 16 = r.val / 16 + 1 := by omega
  have e2 : (16 + r.val) % 16 = r.val % 16 := by omega
  refine (e _).trans ((ca_apply P pr pi hr hi g _ p).trans ?_)
  unfold stOp
  simp only [e1, e2]

theorem last_re (g : Fin 32) (q : Fin 64) : lastV pr (ix2 g q) = ((powR P 16 g q : ℝ) : EReal) := by
  have e : lastV pr (ix2 g q) = pr (ix3 16 g q) := by pointwise [lastV]
  exact e.trans (hr 16 g q)

theorem last_im (g : Fin 32) (q : Fin 64) : lastV pi (ix2 g q) = ((powI P 16 g q : ℝ) : EReal) := by
  have e : lastV pi (ix2 g q) = pi (ix3 16 g q) := by pointwise [lastV]
  exact e.trans (hi 16 g q)

omit hr hi in
theorem rev_apply (x : FVec Ideal S17x32x64 .f32) (s : Fin 16) (g : Fin 32) (q : Fin 64) :
    revV x (ix3 s g q) = x (ix3 ⟨15 - s.val, by omega⟩ g q) := by
  refine congrArg x (funext fun d => Fin.ext ?_)
  fin_cases d
  · show 0 + (16 - (s.val + 1)) = 15 - s.val; omega
  · exact Nat.zero_add _
  · exact Nat.zero_add _

/-- The columns of the powers: the last token's is the first. -/
theorem cols_re (g : Fin 32) (p : Fin 128) (s : Fin 16) :
    colsV pr pi (ix3 g p ⟨s.val, by omega⟩) = ((powR P (15 - s.val) g ⟨p.val % 64, by omega⟩ : ℝ) : EReal) := by
  have e : colsV pr pi (ix3 g p ⟨s.val, by omega⟩) = pr (ix3 ⟨15 - s.val, by omega⟩ g ⟨p.val % 64, by omega⟩) := by
    have e' : ∀ x y : FVec Ideal S16x32x64 .f32, concatenate S32x128x32 2 [⟨S32x128x16, halves x x⟩, ⟨S32x128x16, halves (Host.negf y) y⟩]
        concatenates_S32x128x16_S32x128x16_S32x128x32_d2 (ix3 g p ⟨s.val, by omega⟩)
      = if h : p.val < 64 then x (ix3 s g ⟨p.val, h⟩) else x (ix3 s g ⟨p.val - 64, by omega⟩) := fun x y => by
      pointwise [halves]
    refine (e' _ _).trans ?_
    split
    · rw [rev_apply]
      exact congrArg (fun z => pr (ix3 _ g z)) (Fin.ext (by show p.val = p.val % 64; omega))
    · rw [rev_apply]
      exact congrArg (fun z => pr (ix3 _ g z)) (Fin.ext (by show p.val - 64 = p.val % 64; omega))
  exact e.trans (hr _ _ _)

theorem cols_im (g : Fin 32) (p : Fin 128) (s : Fin 16) :
    colsV pr pi (ix3 g p ⟨16 + s.val, by omega⟩) = (((if p.val < 64 then -powI P (15 - s.val) g ⟨p.val % 64, by omega⟩
      else powI P (15 - s.val) g ⟨p.val % 64, by omega⟩) : ℝ) : EReal) := by
  have e : colsV pr pi (ix3 g p ⟨16 + s.val, by omega⟩) = if p.val < 64 then -pi (ix3 ⟨15 - s.val, by omega⟩ g ⟨p.val % 64, by omega⟩)
      else pi (ix3 ⟨15 - s.val, by omega⟩ g ⟨p.val % 64, by omega⟩) := by
    have e' : ∀ x y : FVec Ideal S16x32x64 .f32, concatenate S32x128x32 2 [⟨S32x128x16, halves x x⟩, ⟨S32x128x16, halves (Host.negf y) y⟩]
        concatenates_S32x128x16_S32x128x16_S32x128x32_d2 (ix3 g p ⟨16 + s.val, by omega⟩)
      = if h : p.val < 64 then -y (ix3 s g ⟨p.val, h⟩) else y (ix3 s g ⟨p.val - 64, by omega⟩) := fun x y => by
      pointwise [halves]
    refine (e' _ _).trans ?_
    split
    · rw [rev_apply]
      exact congrArg (fun z => -pi (ix3 _ g z)) (Fin.ext (by show p.val = p.val % 64; omega))
    · rw [rev_apply]
      exact congrArg (fun z => pi (ix3 _ g z)) (Fin.ext (by show p.val - 64 = p.val % 64; omega))
  rw [e]
  split
  · rw [hi, EReal.coe_neg]
  · rw [hi]

end

/-! ## The block of a group -/

/-- Where the columns of the call's operands hold the powers, the block that its body leaves is the operator. -/
theorem outBlk_eq (hd : ∀ g q, den P g q ≠ 0) (g : Fin 32) (x0 : Vec Ideal S1x272x128 .f32) (x1 : Vec Ideal S1x128x16 .f32)
    (x2 : Vec Ideal S1x128x32 .f32)
    (h0 : ∀ r p, x0 (ix3 0 r p) = caV (powReV (lrF P) (liF P) (ldF P)) (powImV (lrF P) (liF P) (ldF P)) (crF P) (ciF P) (ix3 g r p))
    (h1 : ∀ p h, x1 (ix3 0 p h) = bbV (brF P) (biF P) (facReV (lrF P) (liF P) (ldF P)) (facImV (lrF P) (liF P) (ldF P)) (ix3 g p h))
    (h2 : ∀ p s, x2 (ix3 0 p s) = colsV (powReV (lrF P) (liF P) (ldF P)) (powImV (lrF P) (liF P) (ldF P)) (ix3 g p s))
    (r : Fin 384) (k : Fin 256) : outBlk x0 x1 x2 r k = ((inOp P g r k : ℝ) : EReal) := by
  unfold outBlk inOp
  by_cases hz : r.val < 16 * (k.val / 16)
  · rw [if_pos hz, if_pos hz]; rfl
  rw [if_neg hz, if_neg hz]
  by_cases hr : r.val < 256
  · rw [dif_pos hr, if_pos hr, lag_eq, EReal.coe_add, Cert.Rows.coe_sum, Cert.Rows.coe_sum]
    refine (Fin.sum_univ_add (a := 64) (b := 64) _).trans (congrArg₂ (· + ·) (Finset.sum_congr rfl fun q _ => ?_)
      (Finset.sum_congr rfl fun q _ => ?_))
    · rw [h0, h1, ca_apply P _ _ (pow_re P) (pow_im P), bb_apply P hd, ← EReal.coe_mul]
      have hq : (Fin.castAdd 64 q).val < 64 := q.isLt
      rw [dif_pos hq, dif_pos hq]
      have e1 : (r.val - 16 * (k.val / 16)) / 16 = r.val / 16 - k.val / 16 := by omega
      have e2 : (r.val - 16 * (k.val / 16)) % 16 = r.val % 16 := by omega
      simp only [e1, e2]
      rfl
    · rw [h0, h1, ca_apply P _ _ (pow_re P) (pow_im P), bb_apply P hd, ← EReal.coe_mul]
      have hq : ¬ (Fin.natAdd 64 q).val < 64 := by show ¬ 64 + q.val < 64; omega
      rw [dif_neg hq, dif_neg hq]
      have e1 : (r.val - 16 * (k.val / 16)) / 16 = r.val / 16 - k.val / 16 := by omega
      have e2 : (r.val - 16 * (k.val / 16)) % 16 = r.val % 16 := by omega
      have e3 : (⟨(Fin.natAdd 64 q).val - 64, by show 64 + q.val - 64 < 64; omega⟩ : Fin 64) = q :=
        Fin.ext (by show 64 + q.val - 64 = q.val; omega)
      simp only [e1, e2, e3]
  · rw [dif_neg hr, if_neg hr, h1, h1, h2, h2]
    have c1 := cols_re P _ _ (pow_re P) (pow_im P) g ⟨r.val - 256, by omega⟩ ⟨k.val / 16, by omega⟩
    have c2 := cols_im P _ _ (pow_re P) (pow_im P) g ⟨r.val - 256, by omega⟩ ⟨k.val / 16, by omega⟩
    rw [c1, c2, bb_apply P hd, bb_apply P hd, ← EReal.coe_mul, ← EReal.coe_mul, ← EReal.coe_add]
    refine congrArg (fun z : ℝ => (z : EReal)) ?_
    by_cases hs : r.val < 320
    · have s1 : r.val - 256 < 64 := by omega
      have s2 : ¬ (r.val - 256 + 64) % 128 < 64 := by omega
      have e1 : (r.val - 256) % 64 = r.val - 256 := by omega
      have e2 : (r.val - 256 + 64) % 128 - 64 = r.val - 256 := by omega
      simp only [s1, s2, hs, dif_pos, if_pos, dite_false, e1, e2]
      unfold abR
      ring
    · have s1 : ¬ r.val - 256 < 64 := by omega
      have s2 : (r.val - 256 + 64) % 128 < 64 := by omega
      have e1 : (r.val - 256) % 64 = r.val - 320 := by omega
      have e2 : (r.val - 256 + 64) % 128 = r.val - 320 := by omega
      have e3 : r.val - 256 - 64 = r.val - 320 := by omega
      have s3 : r.val - 320 < 64 := by omega
      simp only [s1, s3, hs, dif_pos, if_false, dite_false, e1, e2, e3]
      unfold abI
      ring

end Values

end Cert.S5PrepIdeal.PrepValue

end
-- ==== Proof.S5PrepFinal.lean ====
/- The operators' call: its four results, where its arguments are real numbers. -/
module

public import proofs.«01_k».proof.Proof.S5PrepKernel
public import Idealize.ShloMosaic.Lib.Pipeline.ValueKit
public import Idealize.ShloMosaic.Lib.Claim

@[expose] public section

set_option maxRecDepth 16384

noncomputable section

namespace Cert.S5PrepIdeal.PrepValue

open Cert.S5PrepIdeal Cert.S5PrepIdeal.Gen Cert.PrepSpec
open Idealize.ShloMosaic Idealize.ShloMosaic.TcCoe

variable (P : Params)

/-- The results as arrays. -/
def inArr : FVec Ideal S32x384x256 .f32 := fun i => ((inOp P (i 0) (i 1) (i 2) : ℝ) : EReal)
def stArr : FVec Ideal S32x256x128 .f32 := fun i => ((stOp P (i 0) (i 1) (i 2) : ℝ) : EReal)
def reArr : FVec Ideal S32x64 .f32 := fun i => ((powR P 16 (i 0) (i 1) : ℝ) : EReal)
def imArr : FVec Ideal S32x64 .f32 := fun i => ((powI P 16 (i 0) (i 1) : ℝ) : EReal)

variable (m : (ℓ : Loc nD τ sig) → Buf (Elt Ideal) ℓ) (c : Dev nD)

/-- The arguments are these parameters, and no λ is zero. -/
structure Holds : Prop where
  lr : lrBuf m c = lrF P
  li : liBuf m c = liF P
  ld : ldBuf m c = ldF P
  br : brBuf m c = brF P
  bi : biBuf m c = biF P
  cr : crBuf m c = crF P
  ci : ciBuf m c = ciF P
  den : ∀ g q, den P g q ≠ 0

theorem tt (t : Fin cfg0.N) : t.val < 32 := lt_of_lt_of_eq t.isLt N_0
/-- Point `t` is group `t`. -/
abbrev grp (t : Fin cfg0.N) : Fin 32 := ⟨t.val, tt t⟩

theorem idxS : ∀ t : Fin cfg0.N, win0_0.index t = ![t.val, 0, 0] ∧ win0_1.index t = ![t.val, 0, 0] ∧ win0_2.index t = ![t.val, 0, 0]
    ∧ win0_3.index t = ![t.val, 0, 0] := by decide +kernel

theorem ca_read (t : Fin cfg0.N) (r : Fin 272) (p : Fin 128) :
    iblk m c 0 t (ix3 0 r p) = (V m c main_v92 : FVec Ideal S32x272x128 .f32) (ix3 (grp t) r p) := by
  have ht := tt t
  blk_ext [iblk, idxS t]

theorem bb_read (t : Fin cfg0.N) (p : Fin 128) (h : Fin 16) :
    iblk m c 1 t (ix3 0 p h) = (V m c main_v93 : FVec Ideal S32x128x16 .f32) (ix3 (grp t) p h) := by
  have ht := tt t
  blk_ext [iblk, idxS t]

theorem cols_read (t : Fin cfg0.N) (p : Fin 128) (s : Fin 32) :
    iblk m c 2 t (ix3 0 p s) = (V m c main_v103 : FVec Ideal S32x128x32 .f32) (ix3 (grp t) p s) := by
  have ht := tt t
  blk_ext [iblk, idxS t]

theorem emb3 (t : Fin cfg0.N) (y : S1x384x256.Idx) :
    ((((cfg0.win 3).blk t).view.emb y) 0 : ℕ) = t.val ∧ ((((cfg0.win 3).blk t).view.emb y) 1 : ℕ) = (y 1).val
      ∧ ((((cfg0.win 3).blk t).view.emb y) 2 : ℕ) = (y 2).val := by
  have ht := tt t
  refine ⟨?_, ?_, ?_⟩ <;> blk_simp [idxS t]

theorem congr3 (f : Fin 32 → Fin 384 → Fin 256 → ℝ) {g g' : Fin 32} {r r' : Fin 384} {k k' : Fin 256}
    (hg : g = g') (hr : r = r') (hk : k = k') : ((f g r k : ℝ) : EReal) = ((f g' r' k' : ℝ) : EReal) := by rw [hg, hr, hk]

variable {P m c} (h : Holds P m c)
include h

theorem flushed_in (t : Fin cfg0.N) (y : S1x384x256.Idx) :
    (dats m 0 c).after 3 t y = inArr P (((cfg0.win 3).blk t).view.emb y) := by
  obtain ⟨e0, e1, e2⟩ := emb3 t y
  obtain ⟨o, r, k, rfl⟩ : ∃ o r k, y = ix3 o r k := ⟨y 0, y 1, y 2, (eq_ix3 y).symm ▸ rfl⟩
  obtain rfl : o = 0 := Subsingleton.elim _ _
  rw [after0_3]
  refine (out_apply c (grid0.coords t) (hs0_0 t) (hs0_1 t) (hs0_2 t) (hs0_3 t) _ _ _ r k).trans
    ((outBlk_eq P h.den (grp t) _ _ _ (fun r p => ?_) (fun p j => ?_) (fun p s => ?_) r k).trans
      (congr3 (inOp P) (Fin.ext e0.symm) (Fin.ext e1.symm) (Fin.ext e2.symm)))
  · rw [ca_read, ca_V, h.cr, h.ci]; unfold prV piV; rw [h.lr, h.li, h.ld]
  · rw [bb_read, bb_V, h.br, h.bi, h.lr, h.li, h.ld]
  · rw [cols_read, cols_V]; unfold prV piV; rw [h.lr, h.li, h.ld]

theorem final_in : (dats m 0 c).arrAt 3 cfg0.N = (inArr P : Buf (Elt Ideal) ((c : Thread nD τ).loc main_v109)) := by
  refine (dats m 0 c).arrAt_eq_of_covers 3 _ (by decide +kernel) fun t hf y => ?_
  blk_simp
  exact flushed_in h t y

theorem final_st : V m c main_v104 = (stArr P : Buf (Elt Ideal) ((c : Thread nD τ).loc main_v104)) := by
  rw [wt_V, h.cr, h.ci]; unfold prV piV; rw [h.lr, h.li, h.ld]
  funext i
  obtain ⟨g, r, p, rfl⟩ : ∃ g r p, i = ix3 g r p := ⟨i 0, i 1, i 2, (eq_ix3 i).symm ▸ rfl⟩
  exact wt_apply P _ _ (pow_re P) (pow_im P) g r p

theorem final_re : V m c main_v106 = (reArr P : Buf (Elt Ideal) ((c : Thread nD τ).loc main_v106)) := by
  rw [sr_V]; unfold prV; rw [h.lr, h.li, h.ld]
  funext i
  obtain ⟨g, q, rfl⟩ : ∃ g q, i = ix2 g q := ⟨i 0, i 1, (eq_ix2 i).symm ▸ rfl⟩
  exact last_re P _ _ (pow_re P) (pow_im P) g q

theorem final_im : V m c main_v108 = (imArr P : Buf (Elt Ideal) ((c : Thread nD τ).loc main_v108)) := by
  rw [si_V]; unfold piV; rw [h.lr, h.li, h.ld]
  funext i
  obtain ⟨g, q, rfl⟩ : ∃ g q, i = ix2 g q := ⟨i 0, i 1, (eq_ix2 i).symm ▸ rfl⟩
  exact last_im P _ _ (pow_re P) (pow_im P) g q

end Cert.S5PrepIdeal.PrepValue

end
-- ==== Proof.S5PrepReferenceScan.lean ====
/- The loop of the operators' reference: what its state holds before each trip, where the arguments are real numbers. -/
module

public import proofs.«01_k».proof.Proof.S5PrepKernel
public import proofs.«01_k».proof.Proof.Gen.S5PrepReferenceIdeal.Step
public import Idealize.ShloMosaic.Lib.Pointwise
public import Idealize.ShloMosaic.Lib.WordCmp
public import Idealize.ShloMosaic.Lib.Claim

@[expose] public section

set_option maxRecDepth 16384

noncomputable section

namespace Cert.S5PrepReference

open Cert.S5PrepReferenceIdeal Cert.S5PrepReferenceIdeal.Gen Cert.S5PrepReferenceIdeal.Step Cert.PrepSpec
open Cert.S5PrepIdeal.PrepValue
open Idealize.ShloMosaic

/-! ## What is computed before the loop -/

section Before

variable (x0 x1 : FVec Ideal S32x64 .f32) (x2 : FVec Ideal S32 .f32) (x3 x4 : FVec Ideal S32x64x16 .f32)

theorem before_re : (A_main_v8 (F := Ideal) x0 x1 x2 x3 x4 : FVec Ideal S32x64 .f32) = aReV x0 x1 x2 := by
  unfold A_main_v8 A_main_v7 A_main_v6 A_main_v5 A_main_v4 A_main_v3 A_main_v2 A_main_v1 A_main_v0 aReV scaledV
  rfl

theorem before_im : (A_main_v12 (F := Ideal) x0 x1 x2 x3 x4 : FVec Ideal S32x64 .f32) = aImV x0 x1 x2 := by
  unfold A_main_v12 A_main_v11 A_main_v10 A_main_v9 A_main_v4 A_main_v3 A_main_v2 A_main_v1 A_main_v0 aImV scaledV
  rfl

theorem before_fac_re : (A_main_v21 (F := Ideal) x0 x1 x2 x3 x4 : FVec Ideal S32x64 .f32) = facReV x0 x1 x2 := by
  unfold A_main_v21 A_main_v20 A_main_v19 A_main_v18 A_main_v17 A_main_v15 A_main_v14 A_main_v13 facReV
  rw [before_re, before_im]
  rfl

theorem before_fac_im : (A_main_v27 (F := Ideal) x0 x1 x2 x3 x4 : FVec Ideal S32x64 .f32) = facImV x0 x1 x2 := by
  unfold A_main_v27 A_main_v26 A_main_v25 A_main_v24 A_main_v22 A_main_v15 A_main_v14 A_main_v13 facImV
  rw [before_re, before_im]
  rfl

theorem before_bb_re (g : Fin 32) (q : Fin 64) (h : Fin 16) : (A_main_v34 (F := Ideal) x0 x1 x2 x3 x4 : FVec Ideal S32x64x16 .f32) (ix3 g q h)
    = facReV x0 x1 x2 (ix2 g q) * x3 (ix3 g q h) - facImV x0 x1 x2 (ix2 g q) * x4 (ix3 g q h) := by
  unfold A_main_v34 A_main_v33 A_main_v32 A_main_v31 A_main_v30 A_main_v29 A_main_v28
  rw [before_fac_re, before_fac_im]
  generalize facReV x0 x1 x2 = a
  generalize facImV x0 x1 x2 = b
  pointwise

theorem before_bb_im (g : Fin 32) (q : Fin 64) (h : Fin 16) : (A_main_v41 (F := Ideal) x0 x1 x2 x3 x4 : FVec Ideal S32x64x16 .f32) (ix3 g q h)
    = facReV x0 x1 x2 (ix2 g q) * x4 (ix3 g q h) + facImV x0 x1 x2 (ix2 g q) * x3 (ix3 g q h) := by
  unfold A_main_v41 A_main_v40 A_main_v39 A_main_v38 A_main_v37 A_main_v36 A_main_v35
  rw [before_fac_re, before_fac_im]
  generalize facReV x0 x1 x2 = a
  generalize facImV x0 x1 x2 = b
  pointwise

end Before

/-! ## One trip -/

section Trip

variable (s : State Ideal) (n : ℕ) (hn : n < 16) (g : Fin 32) (q : Fin 64) (h : Fin 16)

theorem ab_re : b6 n s (ix3 g q h) = s.main_v48_0 (ix2 g q) * s.main_v48_3 (ix3 g q h)
    - s.main_v48_1 (ix2 g q) * s.main_v48_4 (ix3 g q h) := by
  pointwise [b6, b5, b4, b3, b2, b1, b0]

theorem ab_im : b13 n s (ix3 g q h) = s.main_v48_0 (ix2 g q) * s.main_v48_4 (ix3 g q h)
    + s.main_v48_1 (ix2 g q) * s.main_v48_3 (ix3 g q h) := by
  pointwise [b13, b12, b11, b10, b9, b8, b7]

theorem pow_re_next : b16 n s (ix2 g q) = s.main_v48_0 (ix2 g q) * s.main_v48_5 (ix2 g q)
    - s.main_v48_1 (ix2 g q) * s.main_v48_6 (ix2 g q) := by
  pointwise [b16, b15, b14]

theorem pow_im_next : b19 n s (ix2 g q) = s.main_v48_0 (ix2 g q) * s.main_v48_6 (ix2 g q)
    + s.main_v48_1 (ix2 g q) * s.main_v48_5 (ix2 g q) := by
  pointwise [b19, b18, b17]

theorem count_eq (hn : n < 16) : (BitVec.ofNat 32 n).toInt = (n : ℤ) := by
  rw [BitVec.toInt_ofNat', Int.bmod_eq_of_le] <;> omega

theorem start4 (hn : n < 16) (k : Fin 4) :
    ((![(constantI S_ 32 (BitVec.ofNat 32 n) : IVec S_ 32), constantI S_ 32 0#32, constantI S_ 32 0#32, constantI S_ 32 0#32] :
      Fin 4 → IVec S_ 32) k (Shape.Idx.first h_S_)).toInt = ((![n, 0, 0, 0] : Fin 4 → ℕ) k : ℤ) := by
  fin_cases k
  · exact count_eq n hn
  all_goals rfl

theorem start3 (hn : n < 16) (k : Fin 3) :
    ((![(constantI S_ 32 (BitVec.ofNat 32 n) : IVec S_ 32), constantI S_ 32 0#32, constantI S_ 32 0#32] :
      Fin 3 → IVec S_ 32) k (Shape.Idx.first h_S_)).toInt = ((![n, 0, 0] : Fin 3 → ℕ) k : ℤ) := by
  fin_cases k
  · exact count_eq n hn
  all_goals rfl

theorem update4 (x : FVec Ideal S16x32x64x16 .f32) (y : FVec Ideal S32x64x16 .f32) (start : Fin 4 → ℤ)
    (e : ∀ a, start a = ((![n, 0, 0, 0] : Fin 4 → ℕ) a : ℤ)) (hn : n < 16) (r : Fin 16) :
    Host.dynamicUpdateSlice x (broadcastInDim S1x32x64x16 ![1, 2, 3] bcast_S32x64x16_S1x32x64x16_1_2_3 y) start
      updateFits_S16x32x64x16_S1x32x64x16 (ix4 r g q h) = if r.val = n then y (ix3 g q h) else x (ix4 r g q h) := by
  have hs : Shape.Slices S16x32x64x16 (![n, 0, 0, 0] : Fin 4 → ℕ) S1x32x64x16 := by
    refine ⟨rfl, fun a => ?_⟩
    fin_cases a
    · show n + 1 ≤ 16; omega
    all_goals exact le_refl _
  rw [WordCmp.dynamicUpdateSlice_eq_update _ _ _ _ _ hs e]
  pointwise
  by_cases h : r.val = n
  · rw [dif_pos (by omega), if_pos h]
  · rw [dif_neg (by omega), if_neg h]

theorem update3 (x : FVec Ideal S16x32x64 .f32) (y : FVec Ideal S32x64 .f32) (start : Fin 3 → ℤ)
    (e : ∀ a, start a = ((![n, 0, 0] : Fin 3 → ℕ) a : ℤ)) (hn : n < 16) (r : Fin 16) :
    Host.dynamicUpdateSlice x (broadcastInDim S1x32x64 ![1, 2] bcast_S32x64_S1x32x64_1_2 y) start
      updateFits_S16x32x64_S1x32x64 (ix3 r g q) = if r.val = n then y (ix2 g q) else x (ix3 r g q) := by
  have hs : Shape.Slices S16x32x64 (![n, 0, 0] : Fin 3 → ℕ) S1x32x64 := by
    refine ⟨rfl, fun a => ?_⟩
    fin_cases a
    · show n + 1 ≤ 16; omega
    all_goals exact le_refl _
  rw [WordCmp.dynamicUpdateSlice_eq_update _ _ _ _ _ hs e]
  pointwise
  by_cases h : r.val = n
  · rw [dif_pos (by omega), if_pos h]
  · rw [dif_neg (by omega), if_neg h]

theorem ab_re_row (hn : n < 16) (r : Fin 16) :
    b24 n s (ix4 r g q h) = if r.val = n then s.main_v48_3 (ix3 g q h) else s.main_v48_7 (ix4 r g q h) :=
  update4 n g q h _ _ _ (fun a => start4 n hn a) hn r

theorem ab_im_row (hn : n < 16) (r : Fin 16) :
    b29 n s (ix4 r g q h) = if r.val = n then s.main_v48_4 (ix3 g q h) else s.main_v48_8 (ix4 r g q h) :=
  update4 n g q h _ _ _ (fun a => start4 n hn a) hn r

theorem pow_re_row (hn : n < 16) (r : Fin 16) :
    b33 n s (ix3 r g q) = if r.val = n then b16 n s (ix2 g q) else s.main_v48_9 (ix3 r g q) :=
  update3 n g q _ _ _ (fun a => start3 n hn a) hn r

theorem pow_im_row (hn : n < 16) (r : Fin 16) :
    b37 n s (ix3 r g q) = if r.val = n then b19 n s (ix2 g q) else s.main_v48_10 (ix3 r g q) :=
  update3 n g q _ _ _ (fun a => start3 n hn a) hn r

end Trip

/-! ## All trips -/

/-- The loop's state before trip `n`. -/
def trips (x0 x1 : FVec Ideal S32x64 .f32) (x2 : FVec Ideal S32 .f32) (x3 x4 : FVec Ideal S32x64x16 .f32) : ℕ → State Ideal
  | 0 => init x0 x1 x2 x3 x4
  | n + 1 => step n (trips x0 x1 x2 x3 x4 n)

variable (P : Params)

/-- What a state holds before trip `n`: A, its power and the power times B, and the rows that are done. -/
structure At (n : ℕ) (s : State Ideal) : Prop where
  ar : ∀ g q, s.main_v48_0 (ix2 g q) = ((Real.exp (xr P g q) * Real.cos (xi P g q) : ℝ) : EReal)
  ai : ∀ g q, s.main_v48_1 (ix2 g q) = ((Real.exp (xr P g q) * Real.sin (xi P g q) : ℝ) : EReal)
  abr : ∀ g q h, s.main_v48_3 (ix3 g q h) = ((abR P n g q h : ℝ) : EReal)
  abi : ∀ g q h, s.main_v48_4 (ix3 g q h) = ((abI P n g q h : ℝ) : EReal)
  pr : ∀ g q, s.main_v48_5 (ix2 g q) = ((powR P n g q : ℝ) : EReal)
  pi : ∀ g q, s.main_v48_6 (ix2 g q) = ((powI P n g q : ℝ) : EReal)
  abrs : ∀ (r : Fin 16) g q h, r.val < n → s.main_v48_7 (ix4 r g q h) = ((abR P r.val g q h : ℝ) : EReal)
  abis : ∀ (r : Fin 16) g q h, r.val < n → s.main_v48_8 (ix4 r g q h) = ((abI P r.val g q h : ℝ) : EReal)
  prs : ∀ (r : Fin 16) g q, r.val < n → s.main_v48_9 (ix3 r g q) = ((powR P (r.val + 1) g q : ℝ) : EReal)
  pis : ∀ (r : Fin 16) g q, r.val < n → s.main_v48_10 (ix3 r g q) = ((powI P (r.val + 1) g q : ℝ) : EReal)

theorem at_init (hd : ∀ g q, den P g q ≠ 0) : At P 0 (init (lrF P) (liF P) (ldF P) (brF P) (biF P)) where
  ar g q := (congrFun (before_re _ _ _ _ _) _).trans (a_re P g q)
  ai g q := (congrFun (before_im _ _ _ _ _) _).trans (a_im P g q)
  abr g q h := by
    refine (before_bb_re _ _ _ _ _ g q h).trans ?_
    rw [fac_re P hd, fac_im P hd, abR, powR_zero, powI_zero, one_mul, zero_mul, sub_zero, bbR, EReal.coe_sub, EReal.coe_mul, EReal.coe_mul]
    rfl
  abi g q h := by
    refine (before_bb_im _ _ _ _ _ g q h).trans ?_
    rw [fac_re P hd, fac_im P hd, abI, powR_zero, powI_zero, one_mul, zero_mul, add_zero, bbI, EReal.coe_add, EReal.coe_mul, EReal.coe_mul]
    rfl
  pr g q := by
    rw [powR_zero]
    exact (one_apply g q)
  pi g q := by
    rw [powI_zero]
    have h : (K_main_v43 (F := Ideal) : FVec Ideal S32x64 .f32) (ix2 g q) = 0 := by pointwise [K_main_v43, K_main_cst_2]
    exact h
  abrs r g q h hr := absurd hr (Nat.not_lt_zero _)
  abis r g q h hr := absurd hr (Nat.not_lt_zero _)
  prs r g q hr := absurd hr (Nat.not_lt_zero _)
  pis r g q hr := absurd hr (Nat.not_lt_zero _)

section Next

variable {P} {n : ℕ} {s : State Ideal} (a : At P n s)
include a

theorem next_pow_re (g : Fin 32) (q : Fin 64) : b16 n s (ix2 g q) = ((powR P (n + 1) g q : ℝ) : EReal) := by
  rw [pow_re_next, a.ar, a.ai, a.pr, a.pi, powR_succ]
  norm_cast

theorem next_pow_im (g : Fin 32) (q : Fin 64) : b19 n s (ix2 g q) = ((powI P (n + 1) g q : ℝ) : EReal) := by
  rw [pow_im_next, a.ar, a.ai, a.pr, a.pi, powI_succ]
  norm_cast

theorem at_next (hn : n < 16) : At P (n + 1) (step n s) where
  ar := a.ar
  ai := a.ai
  abr g q h := by
    rw [step_main_v48_3, ab_re, a.ar, a.ai, a.abr, a.abi, ← EReal.coe_mul, ← EReal.coe_mul, ← EReal.coe_sub]
    refine congrArg (fun z : ℝ => (z : EReal)) ?_
    unfold abR abI
    rw [powR_succ, powI_succ]
    ring
  abi g q h := by
    rw [step_main_v48_4, ab_im, a.ar, a.ai, a.abr, a.abi, ← EReal.coe_mul, ← EReal.coe_mul, ← EReal.coe_add]
    refine congrArg (fun z : ℝ => (z : EReal)) ?_
    unfold abR abI
    rw [powR_succ, powI_succ]
    ring
  pr g q := by rw [step_main_v48_5, next_pow_re a]
  pi g q := by rw [step_main_v48_6, next_pow_im a]
  abrs r g q h hr := by
    rw [step_main_v48_7, ab_re_row s n g q h hn]
    split
    · next e => rw [a.abr, e]
    · exact a.abrs r g q h (by omega)
  abis r g q h hr := by
    rw [step_main_v48_8, ab_im_row s n g q h hn]
    split
    · next e => rw [a.abi, e]
    · exact a.abis r g q h (by omega)
  prs r g q hr := by
    rw [step_main_v48_9, pow_re_row s n g q hn]
    split
    · next e => rw [next_pow_re a, e]
    · exact a.prs r g q (by omega)
  pis r g q hr := by
    rw [step_main_v48_10, pow_im_row s n g q hn]
    split
    · next e => rw [next_pow_im a, e]
    · exact a.pis r g q (by omega)

end Next

theorem at_trips (hd : ∀ g q, den P g q ≠ 0) (n : ℕ) (hn : n ≤ 16) :
    At P n (trips (lrF P) (liF P) (ldF P) (brF P) (biF P) n) := by
  induction n with
  | zero => exact at_init P hd
  | succ n ih => exact at_next (ih (by omega)) (by omega)

end Cert.S5PrepReference

end
-- ==== Proof.S5PrepReference.lean ====
/- The operators' reference: its four results, where its arguments are real numbers. -/
module

public import proofs.«01_k».proof.Proof.S5PrepReferenceScan
public import proofs.«01_k».proof.Proof.S5PrepFinal

@[expose] public section

set_option maxRecDepth 16384

noncomputable section

namespace Cert.S5PrepReference

open Cert.S5PrepReferenceIdeal Cert.S5PrepReferenceIdeal.Gen Cert.S5PrepReferenceIdeal.Step Cert.PrepSpec
open Cert.S5PrepIdeal.PrepValue (crF ciF inArr stArr reArr imArr lrF liF ldF brF biF)
open Idealize.ShloMosaic

/-! ## The state's operator -/

section Any

variable (s : State Ideal) (x5 x6 : FVec Ideal S32x16x64 .f32)

theorem st_apply (g : Fin 32) (r : Fin 256) (p : Fin 128) : R_main_v99 s x5 x6 (ix3 g r p)
    = if hp : p.val < 64 then x5 (ix3 g ⟨r.val % 16, by omega⟩ ⟨p.val, hp⟩) * s.main_v48_9 (ix3 ⟨r.val / 16, by omega⟩ g ⟨p.val, hp⟩)
        - x6 (ix3 g ⟨r.val % 16, by omega⟩ ⟨p.val, hp⟩) * s.main_v48_10 (ix3 ⟨r.val / 16, by omega⟩ g ⟨p.val, hp⟩)
      else -(x5 (ix3 g ⟨r.val % 16, by omega⟩ ⟨p.val - 64, by omega⟩) * s.main_v48_10 (ix3 ⟨r.val / 16, by omega⟩ g ⟨p.val - 64, by omega⟩)
        + x6 (ix3 g ⟨r.val % 16, by omega⟩ ⟨p.val - 64, by omega⟩) * s.main_v48_9 (ix3 ⟨r.val / 16, by omega⟩ g ⟨p.val - 64, by omega⟩)) := by
  unfold R_main_v99
  pointwise

/-! ## The inputs' operator -/

/-- How an input reaches the output `k` tokens on, by group and channels. -/
abbrev lagA : FVec Ideal S16x32x16x16 .f32 :=
  subf (transpose S16x32x16x16 [1, 0, 3, 2] (Host.dotGeneral (φ₁ := .f32) dot_S16x32x64x16_S32x16x64_S32x16x16x16_2_2_03_1_1_0 none s.main_v48_7 x5) transposes_S32x16x16x16_S16x32x16x16_1_0_3_2)
    (transpose S16x32x16x16 [1, 0, 3, 2] (Host.dotGeneral (φ₁ := .f32) dot_S16x32x64x16_S32x16x64_S32x16x16x16_2_2_03_1_1_0 none s.main_v48_8 x6) transposes_S32x16x16x16_S16x32x16x16_1_0_3_2)

theorem lagA_apply (k : Fin 16) (g : Fin 32) (h j : Fin 16) : lagA s x5 x6 (ix4 k g h j)
    = (∑ q : Fin 64, s.main_v48_7 (ix4 k g q j) * x5 (ix3 g h q)) - ∑ q : Fin 64, s.main_v48_8 (ix4 k g q j) * x6 (ix3 g h q) := by
  pointwise [lagA]

/-- One where token `t` is `k` tokens after token `s`. -/
abbrev after : FVec Ideal S16x16x16 .f32 :=
  uitofp .f32 (cmpi .eq (broadcastInDim S16x16x16 ![0, 1, 2] bcast_S16x1x1_S16x16x16_0_1_2 (broadcastInDim S16x1x1 ![0] bcast_S16_S16x1x1_0 (iotaInDim S16 32 0)))
    (broadcastInDim S16x16x16 ![0, 1, 2] bcast_S1x16x16_S16x16x16_0_1_2 (addi (broadcastInDim S1x16x16 ![0, 1, 2] bcast_S1x16x1_S1x16x16_0_1_2 (broadcastInDim S1x16x1 ![1] bcast_S16_S1x16x1_1 (iotaInDim S16 32 0)))
      (broadcastInDim S1x16x16 ![0, 1, 2] bcast_S1x1x16_S1x16x16_0_1_2 (broadcastInDim S1x1x16 ![2] bcast_S16_S1x1x16_2 (iotaInDim S16 32 0))))))

theorem after_apply (t u k : Fin 16) : after (ix3 t u k) = if t.val = u.val + k.val then 1 else 0 := by
  have h : after (ix3 t u k) = FloatOps.uitofp (F := Ideal) .f32
      (IntOp.cmpi .eq (BitVec.ofNat 32 t.val) (BitVec.ofNat 32 u.val + BitVec.ofNat 32 k.val)) := by
    pointwise [after]
    rfl
  have e : (BitVec.ofNat 32 t.val = BitVec.ofNat 32 u.val + BitVec.ofNat 32 k.val) ↔ t.val = u.val + k.val := by
    rw [← BitVec.ofNat_add, ← BitVec.toNat_inj, BitVec.toNat_ofNat, BitVec.toNat_ofNat, Nat.mod_eq_of_lt (by omega),
      Nat.mod_eq_of_lt (by omega)]
  rw [h]
  show ((((BitVec.ofBool (BitVec.ofNat 32 t.val == BitVec.ofNat 32 u.val + BitVec.ofNat 32 k.val)).toNat : ℕ) : ℝ) : EReal) = _
  by_cases ht : t.val = u.val + k.val
  · rw [if_pos ht, beq_iff_eq.mpr (e.mpr ht)]
    simp
  · rw [if_neg ht, beq_eq_false_iff_ne.mpr fun z => ht (e.mp z)]
    simp

/-- The inputs' operator as the program lays it out. -/
abbrev laid (y : FVec Ideal S16x32x16x16 .f32) (z : FVec Ideal S16x16x16 .f32) : FVec Ideal S32x256x256 .f32 :=
  shapeCast _ (transpose S32x16x16x16x16 [0, 3, 1, 4, 2] (Host.dotGeneral dot_S16x32x16x16_S16x16x16_S32x16x16x16x16_0_2_123_01_n_n none y z)
    transposes_S32x16x16x16x16_S32x16x16x16x16_0_3_1_4_2) shapeCasts_S32x16x16x16x16_S32x256x256

theorem laid_apply (y : FVec Ideal S16x32x16x16 .f32) (z : FVec Ideal S16x16x16 .f32) (g : Fin 32) (r k : Fin 256) :
    laid y z (ix3 g r k) = ∑ d : Fin 16, y (ix4 d g ⟨r.val % 16, by omega⟩ ⟨k.val % 16, by omega⟩)
      * z (ix3 ⟨r.val / 16, by omega⟩ ⟨k.val / 16, by omega⟩ d) := by
  pointwise [laid]

/-- The state's rows as the program lays them out. -/
abbrev laidRows (a b : FVec Ideal S16x32x64x16 .f32) : FVec Ideal S32x128x256 .f32 :=
  shapeCast _ (transpose S32x128x16x16 [1, 2, 0, 3] (Host.reverse [0] (concatenate S16x32x128x16 2 [⟨S16x32x64x16, a⟩, ⟨S16x32x64x16, b⟩]
    concatenates_S16x32x64x16_S16x32x64x16_S16x32x128x16_d2)) transposes_S16x32x128x16_S32x128x16x16_1_2_0_3) shapeCasts_S32x128x16x16_S32x128x256

theorem rev_apply (x : FVec Ideal S16x32x128x16 .f32) (u : Fin 16) (g : Fin 32) (p : Fin 128) (h : Fin 16) :
    Host.reverse [0] x (ix4 u g p h) = x (ix4 ⟨15 - u.val, by omega⟩ g p h) := by
  refine congrArg x (funext fun d => Fin.ext ?_)
  fin_cases d
  · show 16 - (u.val + 1) = 15 - u.val; omega
  all_goals rfl

theorem laidRows_apply (a b : FVec Ideal S16x32x64x16 .f32) (g : Fin 32) (p : Fin 128) (k : Fin 256) :
    laidRows a b (ix3 g p k) = if hp : p.val < 64 then a (ix4 ⟨15 - k.val / 16, by omega⟩ g ⟨p.val, hp⟩ ⟨k.val % 16, by omega⟩)
      else b (ix4 ⟨15 - k.val / 16, by omega⟩ g ⟨p.val - 64, by omega⟩ ⟨k.val % 16, by omega⟩) := by
  have e : ∀ x : FVec Ideal S16x32x128x16 .f32, (shapeCast S32x128x256 (transpose S32x128x16x16 [1, 2, 0, 3] x
      transposes_S16x32x128x16_S32x128x16x16_1_2_0_3) shapeCasts_S32x128x16x16_S32x128x256 : FVec Ideal S32x128x256 .f32) (ix3 g p k)
    = x (ix4 ⟨k.val / 16, by omega⟩ g p ⟨k.val % 16, by omega⟩) := fun x => by pointwise
  refine (e _).trans ((rev_apply _ _ _ _ _).trans ?_)
  pointwise

theorem in_apply (g : Fin 32) (r : Fin 384) (k : Fin 256) : R_main_v100 s x5 x6 (ix3 g r k)
    = if hr : r.val < 256 then laid (lagA s x5 x6) after (ix3 g ⟨r.val, hr⟩ k)
      else laidRows s.main_v48_7 s.main_v48_8 (ix3 g ⟨r.val - 256, by omega⟩ k) := by
  have e : R_main_v100 s x5 x6 = concatenate S32x384x256 1 [⟨S32x256x256, laid (lagA s x5 x6) after⟩,
      ⟨S32x128x256, laidRows s.main_v48_7 s.main_v48_8⟩] concatenates_S32x256x256_S32x128x256_S32x384x256_d1 := by
    unfold R_main_v100
    rfl
  rw [e]
  generalize laid (lagA s x5 x6) after = a
  generalize laidRows s.main_v48_7 s.main_v48_8 = b
  pointwise

end Any

/-! ## The results -/

section Results

variable {P : Params} {s : State Ideal} (a : At P 16 s)
include a

theorem lag_of_state (k : Fin 16) (g : Fin 32) (h j : Fin 16) :
    lagA s (crF P) (ciF P) (ix4 k g h j) = ((lag P k.val g h j : ℝ) : EReal) := by
  rw [lagA_apply, lag, EReal.coe_sub, Cert.Rows.coe_sum, Cert.Rows.coe_sum]
  refine congrArg₂ (· - ·) (Finset.sum_congr rfl fun q _ => ?_) (Finset.sum_congr rfl fun q _ => ?_)
  · rw [a.abrs k g q j k.isLt, mul_comm, EReal.coe_mul]
    rfl
  · rw [a.abis k g q j k.isLt, mul_comm, EReal.coe_mul]
    rfl

theorem in_of_state (g : Fin 32) (r : Fin 384) (k : Fin 256) :
    R_main_v100 s (crF P) (ciF P) (ix3 g r k) = ((inOp P g r k : ℝ) : EReal) := by
  rw [in_apply]
  unfold inOp
  by_cases hr : r.val < 256
  · rw [dif_pos hr, if_pos hr, laid_apply]
    by_cases hz : r.val < 16 * (k.val / 16)
    · rw [if_pos hz]
      refine Finset.sum_eq_zero fun d _ => ?_
      rw [after_apply, if_neg (by show ¬ r.val / 16 = k.val / 16 + d.val; omega), mul_zero]
    · rw [if_neg hz]
      refine (Finset.sum_eq_single (⟨r.val / 16 - k.val / 16, by omega⟩ : Fin 16) (fun d _ hd => ?_) (fun z => absurd (Finset.mem_univ _) z)).trans ?_
      · rw [after_apply, if_neg (fun z : r.val / 16 = k.val / 16 + d.val => hd (Fin.ext (by show d.val = r.val / 16 - k.val / 16; omega))), mul_zero]
      · rw [after_apply, if_pos (by show r.val / 16 = k.val / 16 + (r.val / 16 - k.val / 16); omega), mul_one, lag_of_state a]
  · have hz : ¬ r.val < 16 * (k.val / 16) := by omega
    rw [dif_neg hr, if_neg hr, if_neg hz, laidRows_apply]
    by_cases hs : r.val < 320
    · rw [dif_pos (show r.val - 256 < 64 by omega), dif_pos hs]
      exact a.abrs _ _ _ _ (by show 15 - k.val / 16 < 16; omega)
    · rw [dif_neg (show ¬ r.val - 256 < 64 by omega), dif_neg hs]
      refine (a.abis _ _ _ _ (by show 15 - k.val / 16 < 16; omega)).trans ?_
      have e : r.val - 256 - 64 = r.val - 320 := by omega
      simp only [e]

theorem st_of_state (g : Fin 32) (r : Fin 256) (p : Fin 128) :
    R_main_v99 s (crF P) (ciF P) (ix3 g r p) = ((stOp P g r p : ℝ) : EReal) := by
  rw [st_apply]
  unfold stOp
  have hr : r.val / 16 < 16 := by omega
  split
  · rw [a.prs ⟨r.val / 16, hr⟩ _ _ hr, a.pis ⟨r.val / 16, hr⟩ _ _ hr, caR, EReal.coe_sub, EReal.coe_mul, EReal.coe_mul]
    rfl
  · rw [a.prs ⟨r.val / 16, hr⟩ _ _ hr, a.pis ⟨r.val / 16, hr⟩ _ _ hr, caI, EReal.coe_neg, EReal.coe_add, EReal.coe_mul, EReal.coe_mul]
    rfl

end Results

section Arrays

variable (P : Params) (hd : ∀ g q, den P g q ≠ 0)
include hd

theorem in_arr : R_main_v100 (trips (lrF P) (liF P) (ldF P) (brF P) (biF P) 16) (crF P) (ciF P) = inArr P := by
  funext i
  obtain ⟨g, r, k, rfl⟩ : ∃ g r k, i = ix3 g r k := ⟨i 0, i 1, i 2, (eq_ix3 i).symm ▸ rfl⟩
  exact in_of_state (at_trips P hd 16 le_rfl) g r k

theorem st_arr : R_main_v99 (trips (lrF P) (liF P) (ldF P) (brF P) (biF P) 16) (crF P) (ciF P) = stArr P := by
  funext i
  obtain ⟨g, r, p, rfl⟩ : ∃ g r p, i = ix3 g r p := ⟨i 0, i 1, i 2, (eq_ix3 i).symm ▸ rfl⟩
  exact st_of_state (at_trips P hd 16 le_rfl) g r p

theorem re_arr : (trips (lrF P) (liF P) (ldF P) (brF P) (biF P) 16).main_v48_5 = reArr P := by
  funext i
  obtain ⟨g, q, rfl⟩ : ∃ g q, i = ix2 g q := ⟨i 0, i 1, (eq_ix2 i).symm ▸ rfl⟩
  exact (at_trips P hd 16 le_rfl).pr g q

theorem im_arr : (trips (lrF P) (liF P) (ldF P) (brF P) (biF P) 16).main_v48_6 = imArr P := by
  funext i
  obtain ⟨g, q, rfl⟩ : ∃ g q, i = ix2 g q := ⟨i 0, i 1, (eq_ix2 i).symm ▸ rfl⟩
  exact (at_trips P hd 16 le_rfl).pi g q

end Arrays

end Cert.S5PrepReference

end
-- ==== Proof.S5PrepReferenceRun.lean ====
/- The run of the operators' reference: the loop's buffers hold the states of `trips`, and the results are functions of the
   last of them and of the arguments. -/
module

public import proofs.«01_k».proof.Proof.S5PrepReferenceScan
public import proofs.«01_k».proof.Proof.Gen.S5PrepReferenceIdeal.Run
public import Idealize.ShloMosaic.Lib.StableHlo.RunRead

@[expose] public section

set_option maxRecDepth 16384

noncomputable section

namespace Cert.S5PrepReference

open Cert.S5PrepReferenceIdeal Cert.S5PrepReferenceIdeal.Gen Cert.S5PrepReferenceIdeal.Step Cert.S5PrepReferenceIdeal.Value
open Idealize.ShloMosaic Idealize.ShloMosaic.TcCoe Idealize.ShloMosaic.StableHlo Idealize.SL.Sem

section Trip

variable (V : Valuation τ sig (Elt Ideal))

/-- The state that the loop's buffers hold. -/
abbrev stateOf : State Ideal where
  main_v48_3 := V (Proc.devRef .tc main_v48_3)
  main_v48_4 := V (Proc.devRef .tc main_v48_4)
  main_v48_5 := V (Proc.devRef .tc main_v48_5)
  main_v48_6 := V (Proc.devRef .tc main_v48_6)
  main_v48_7 := V (Proc.devRef .tc main_v48_7)
  main_v48_8 := V (Proc.devRef .tc main_v48_8)
  main_v48_9 := V (Proc.devRef .tc main_v48_9)
  main_v48_10 := V (Proc.devRef .tc main_v48_10)
  main_v48_0 := V (Proc.devRef .tc main_v48_0)
  main_v48_1 := V (Proc.devRef .tc main_v48_1)

/-- The number of the trip, in the loop's counter. -/
abbrev AtTrip (n : ℕ) : Prop := V (Proc.devRef .tc main_v48_2) = constantI S_ 32 (BitVec.ofNat 32 n)

variable {V} {n : ℕ} (hn : AtTrip V n)

theorem ab_re_next : Value.step_main_v48_3 V = b6 n (stateOf V) := by
  unfold Value.step_main_v48_3 b6 b5 b4 b3 b2 b1 b0
  rfl

theorem ab_im_next : Value.step_main_v48_4 V = b13 n (stateOf V) := by
  unfold Value.step_main_v48_4 b13 b12 b11 b10 b9 b8 b7
  rfl

theorem re_next : Value.step_main_v48_5 V = b16 n (stateOf V) := by
  unfold Value.step_main_v48_5 b16 b15 b14
  rfl

theorem im_next : Value.step_main_v48_6 V = b19 n (stateOf V) := by
  unfold Value.step_main_v48_6 b19 b18 b17
  rfl

include hn

theorem ab_re_rows_next : Value.step_main_v48_7 V = b24 n (stateOf V) := by
  unfold Value.step_main_v48_7 b24 b23 b22 b21 b20
  rw [hn]
  rfl

theorem ab_im_rows_next : Value.step_main_v48_8 V = b29 n (stateOf V) := by
  unfold Value.step_main_v48_8 b29 b28 b27 b26 b25
  rw [hn]
  rfl

theorem re_rows_next : Value.step_main_v48_9 V = b33 n (stateOf V) := by
  unfold Value.step_main_v48_9 b33 b32 b31 b30 b16 b15 b14
  rw [hn]
  rfl

theorem im_rows_next : Value.step_main_v48_10 V = b37 n (stateOf V) := by
  unfold Value.step_main_v48_10 b37 b36 b35 b34 b19 b18 b17
  rw [hn]
  rfl

theorem next_trip : AtTrip (STEP V) (n + 1) := by
  refine (STEP_main_v48_2 V).trans ?_
  unfold Value.step_main_v48_2
  rw [hn]
  funext i
  exact (BitVec.ofNat_add n 1).symm

theorem next_state : stateOf (STEP V) = step n (stateOf V) := by
  unfold stateOf step
  rw [STEP_main_v48_3, STEP_main_v48_4, STEP_main_v48_5, STEP_main_v48_6, STEP_main_v48_7, STEP_main_v48_8, STEP_main_v48_9,
    STEP_main_v48_10, STEP_main_v48_0, STEP_main_v48_1, ab_re_next, ab_im_next, re_next, im_next, ab_re_rows_next hn,
    ab_im_rows_next hn, re_rows_next hn, im_rows_next hn]

end Trip

section Run

variable (m : (ℓ : Loc nD τ sig) → Buf (Elt Ideal) ℓ) (c : Dev nD)

/-- The states from the arguments that device `c` starts with. -/
abbrev tripsOf : ℕ → State Ideal :=
  trips (m ((c : Thread nD τ).loc main_arg0)) (m ((c : Thread nD τ).loc main_arg1)) (m ((c : Thread nD τ).loc main_arg2))
    (m ((c : Thread nD τ).loc main_arg3)) (m ((c : Thread nD τ).loc main_arg4))

theorem entry_trip : AtTrip (entryContents preI m c) 0 := by
  unfold AtTrip
  simp only [entryContents, afterL_cons, afterL_nil]
  after_reads_simp
  rfl

set_option maxHeartbeats 1000000 in
theorem entry_state : stateOf (entryContents preI m c) = tripsOf m c 0 := by
  unfold stateOf
  simp only [entryContents, afterL_cons, afterL_nil]
  after_reads_simp
  rfl

theorem states (k : ℕ) : AtTrip (STEP^[k] (entryContents preI m c)) k
    ∧ stateOf (STEP^[k] (entryContents preI m c)) = tripsOf m c k := by
  induction k with
  | zero => exact ⟨entry_trip m c, entry_state m c⟩
  | succ k ih =>
    rw [Function.iterate_succ_apply']
    exact ⟨next_trip ih.1, (next_state ih.1).trans (congrArg (step k) ih.2)⟩

/-- The results of the operations after the loop. -/
theorem after_loop_in (V : Valuation τ sig (Elt Ideal)) : out_main_v100 V
    = R_main_v100 (stateOf V) (V (Proc.devRef .tc main_arg5)) (V (Proc.devRef .tc main_arg6)) := by
  unfold out_main_v100 R_main_v100
  rfl

theorem after_loop_st (V : Valuation τ sig (Elt Ideal)) : out_main_v99 V
    = R_main_v99 (stateOf V) (V (Proc.devRef .tc main_arg5)) (V (Proc.devRef .tc main_arg6)) := by
  unfold out_main_v99 R_main_v99
  rfl

theorem in_of_trips : out_main_v100 (STEP^[16] (entryContents preI m c)) = R_main_v100 (tripsOf m c 16)
    (m ((c : Thread nD τ).loc main_arg5)) (m ((c : Thread nD τ).loc main_arg6)) := by
  rw [after_loop_in, (states m c 16).2, iter_main_arg5, iter_main_arg6]

theorem st_of_trips : out_main_v99 (STEP^[16] (entryContents preI m c)) = R_main_v99 (tripsOf m c 16)
    (m ((c : Thread nD τ).loc main_arg5)) (m ((c : Thread nD τ).loc main_arg6)) := by
  rw [after_loop_st, (states m c 16).2, iter_main_arg5, iter_main_arg6]

theorem re_of_trips : (STEP^[16] (entryContents preI m c)) (Proc.devRef .tc main_v48_5) = (tripsOf m c 16).main_v48_5 :=
  congrArg State.main_v48_5 (states m c 16).2

theorem im_of_trips : (STEP^[16] (entryContents preI m c)) (Proc.devRef .tc main_v48_6) = (tripsOf m c 16).main_v48_6 :=
  congrArg State.main_v48_6 (states m c 16).2

end Run

end Cert.S5PrepReference

end
-- ==== Proof.S5PrepTie.lean ====
/- The operators' call: what the precondition says of its arguments, and that both programs' results are the operators of the
   real parameters. -/
module

public import proofs.«01_k».proof.Defs
public import proofs.«01_k».proof.Proof.FinitePre
public import proofs.«01_k».proof.Proof.S5PrepFinal
public import proofs.«01_k».proof.Proof.S5PrepReference
public import proofs.«01_k».proof.Proof.S5PrepReferenceRun

@[expose] public section

set_option maxRecDepth 16384

noncomputable section

namespace Cert.S5PrepTie

open Cert.Rows (IsReal)
open Idealize.ShloMosaic Idealize.ShloMosaic.TcCoe Cert.FinitePre Cert.PrepSpec Cert.S5PrepIdeal.PrepValue Cert.KernelIdeal.MixValue

instance facts : Cert.Pre_finite4.Facts := ⟨by decide, by decide, by decide, by decide⟩

section Kernel

variable (m : (ℓ : Loc S5PrepIdeal.nD S5PrepIdeal.τ S5PrepIdeal.sig) → Buf (Elt Ideal) ℓ) (c : Dev S5PrepIdeal.nD)

/-- The parameters that device `c` starts with. -/
def paramsOf : Params where
  lr g q := (lrBuf m c (ix2 g q) : EReal).toReal
  li g q := (liBuf m c (ix2 g q) : EReal).toReal
  ld g := (ldBuf m c (ix1 g) : EReal).toReal
  br g q h := (brBuf m c (ix3 g q h) : EReal).toReal
  bi g q h := (biBuf m c (ix3 g q h) : EReal).toReal
  cr g h q := (crBuf m c (ix3 g h q) : EReal).toReal
  ci g h q := (ciBuf m c (ix3 g h q) : EReal).toReal

theorem eq_coe {x : EReal} (h : IsReal x) : x = ((x.toReal : ℝ) : EReal) := by
  obtain ⟨r, rfl⟩ := h
  rw [EReal.toReal_coe]

theorem zero_lit : Ideal.ofBits .f32 0x00000000#32 = 0 := by simp [Ideal.ofBits, Ideal.ieee]

variable {m} (h : Cert.Pre_S5PrepIdeal_finite4 m)
include h

theorem holds : Holds (paramsOf m c) m c := by
  obtain ⟨h0, h1, h2, h3, h4, h5, h6, h7⟩ := h c
  have e0 : lrBuf m c = lrF (paramsOf m c) := by
    funext i
    rw [eq_ix2 i]
    exact eq_coe (finite_real _ (broadcastInDim Cert.Pre_finite4.S32x64 ![] Cert.Pre_finite4.Facts.bcast_S_S32x64
      (constant Cert.Pre_finite4.S_ .f32 0x7F800000#32)) (fun _ => lit_top) h0 _)
  have e1 : liBuf m c = liF (paramsOf m c) := by
    funext i
    rw [eq_ix2 i]
    exact eq_coe (finite_real _ (broadcastInDim Cert.Pre_finite4.S32x64 ![] Cert.Pre_finite4.Facts.bcast_S_S32x64
      (constant Cert.Pre_finite4.S_ .f32 0x7F800000#32)) (fun _ => lit_top) h1 _)
  refine ⟨e0, e1, ?_, ?_, ?_, ?_, ?_, fun g q hz => ?_⟩
  · funext i
    rw [eq_ix1 i]
    exact eq_coe (finite_real _ (broadcastInDim Cert.Pre_finite4.S32 ![] Cert.Pre_finite4.Facts.bcast_S_S32
      (constant Cert.Pre_finite4.S_ .f32 0x7F800000#32)) (fun _ => lit_top) h2 _)
  · funext i
    rw [eq_ix3 i]
    exact eq_coe (finite_real _ (broadcastInDim Cert.Pre_finite4.S32x64x16 ![] Cert.Pre_finite4.Facts.bcast_S_S32x64x16
      (constant Cert.Pre_finite4.S_ .f32 0x7F800000#32)) (fun _ => lit_top) h3 _)
  · funext i
    rw [eq_ix3 i]
    exact eq_coe (finite_real _ (broadcastInDim Cert.Pre_finite4.S32x64x16 ![] Cert.Pre_finite4.Facts.bcast_S_S32x64x16
      (constant Cert.Pre_finite4.S_ .f32 0x7F800000#32)) (fun _ => lit_top) h4 _)
  · funext i
    rw [eq_ix3 i]
    exact eq_coe (finite_real _ (broadcastInDim Cert.Pre_finite4.S32x16x64 ![] Cert.Pre_finite4.Facts.bcast_S_S32x16x64
      (constant Cert.Pre_finite4.S_ .f32 0x7F800000#32)) (fun _ => lit_top) h5 _)
  · funext i
    rw [eq_ix3 i]
    exact eq_coe (finite_real _ (broadcastInDim Cert.Pre_finite4.S32x16x64 ![] Cert.Pre_finite4.Facts.bcast_S_S32x16x64
      (constant Cert.Pre_finite4.S_ .f32 0x7F800000#32)) (fun _ => lit_top) h6 _)
  · have hp : (Ideal.ofBits .f32 0x00000000#32 : EReal) < (lrBuf m c (ix2 g q) : EReal) * lrBuf m c (ix2 g q)
        + (liBuf m c (ix2 g q) : EReal) * liBuf m c (ix2 g q) := (@Select.ofBool_eq _ _).mp (congrFun h7 (ix2 g q))
    rw [zero_lit, e0, e1] at hp
    have hd : ((0 : ℝ) : EReal) < ((den (paramsOf m c) g q : ℝ) : EReal) := by
      unfold den
      rw [EReal.coe_add, EReal.coe_mul, EReal.coe_mul]
      exact hp
    rw [hz] at hd
    exact lt_irrefl _ hd

end Kernel

/-! ## The reference's results of the same arguments -/

section Reference

open Cert.S5PrepReference

variable {m : (ℓ : Loc S5PrepIdeal.nD S5PrepIdeal.τ S5PrepIdeal.sig) → Buf (Elt Ideal) ℓ} {c : Dev S5PrepIdeal.nD} {P : Params}
  (h : Holds P m c) (m' : (ℓ : Loc S5PrepReferenceIdeal.nD S5PrepReferenceIdeal.τ S5PrepReferenceIdeal.sig) → Buf (Elt Ideal) ℓ)
  (a0 : m' ((c.tc : Thread S5PrepReferenceIdeal.nD S5PrepReferenceIdeal.τ).loc S5PrepReferenceIdeal.main_arg0) = lrBuf m c)
  (a1 : m' ((c.tc : Thread S5PrepReferenceIdeal.nD S5PrepReferenceIdeal.τ).loc S5PrepReferenceIdeal.main_arg1) = liBuf m c)
  (a2 : m' ((c.tc : Thread S5PrepReferenceIdeal.nD S5PrepReferenceIdeal.τ).loc S5PrepReferenceIdeal.main_arg2) = ldBuf m c)
  (a3 : m' ((c.tc : Thread S5PrepReferenceIdeal.nD S5PrepReferenceIdeal.τ).loc S5PrepReferenceIdeal.main_arg3) = brBuf m c)
  (a4 : m' ((c.tc : Thread S5PrepReferenceIdeal.nD S5PrepReferenceIdeal.τ).loc S5PrepReferenceIdeal.main_arg4) = biBuf m c)
include h a0 a1 a2 a3 a4

theorem trips_eq : tripsOf m' c 16 = trips (lrF P) (liF P) (ldF P) (brF P) (biF P) 16 := by
  unfold tripsOf
  rw [a0, a1, a2, a3, a4, h.lr, h.li, h.ld, h.br, h.bi]

theorem ref_re : (tripsOf m' c 16).main_v48_5 = reArr P := by
  rw [trips_eq h m' a0 a1 a2 a3 a4]
  exact re_arr P h.den

theorem ref_im : (tripsOf m' c 16).main_v48_6 = imArr P := by
  rw [trips_eq h m' a0 a1 a2 a3 a4]
  exact im_arr P h.den

variable (a5 : m' ((c.tc : Thread S5PrepReferenceIdeal.nD S5PrepReferenceIdeal.τ).loc S5PrepReferenceIdeal.main_arg5) = crBuf m c)
  (a6 : m' ((c.tc : Thread S5PrepReferenceIdeal.nD S5PrepReferenceIdeal.τ).loc S5PrepReferenceIdeal.main_arg6) = ciBuf m c)
include a5 a6

theorem ref_in : S5PrepReferenceIdeal.Step.R_main_v100 (tripsOf m' c 16)
    (m' ((c.tc : Thread S5PrepReferenceIdeal.nD S5PrepReferenceIdeal.τ).loc S5PrepReferenceIdeal.main_arg5))
    (m' ((c.tc : Thread S5PrepReferenceIdeal.nD S5PrepReferenceIdeal.τ).loc S5PrepReferenceIdeal.main_arg6)) = inArr P := by
  rw [trips_eq h m' a0 a1 a2 a3 a4, a5, a6, h.cr, h.ci]
  exact in_arr P h.den

theorem ref_st : S5PrepReferenceIdeal.Step.R_main_v99 (tripsOf m' c 16)
    (m' ((c.tc : Thread S5PrepReferenceIdeal.nD S5PrepReferenceIdeal.τ).loc S5PrepReferenceIdeal.main_arg5))
    (m' ((c.tc : Thread S5PrepReferenceIdeal.nD S5PrepReferenceIdeal.τ).loc S5PrepReferenceIdeal.main_arg6)) = stArr P := by
  rw [trips_eq h m' a0 a1 a2 a3 a4, a5, a6, h.cr, h.ci]
  exact st_arr P h.den

end Reference

end Cert.S5PrepTie

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.KernelFrame
public import proofs.«01_k».proof.Proof.KernelIdealFrame
public import proofs.«01_k».proof.Proof.Tie
public import proofs.«01_k».proof.Proof.TieRoute
public import proofs.«01_k».proof.Proof.FinitePre
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojIdeal.Value
public import proofs.«01_k».proof.Proof.Gen.InprojReferenceIdeal
public import proofs.«01_k».proof.Proof.Gen.InprojReferenceIdeal.Run
public import proofs.«01_k».proof.Proof.Gen.InprojReferenceIdeal.Read
public import proofs.«01_k».proof.Proof.InprojTie
public import proofs.«01_k».proof.Proof.Gen.S5
public import proofs.«01_k».proof.Proof.Gen.S5.Frame
public import proofs.«01_k».proof.Proof.Gen.S5Ideal
public import proofs.«01_k».proof.Proof.Gen.S5Ideal.Frame
public import proofs.«01_k».proof.Proof.Gen.S5Ideal.Value
public import proofs.«01_k».proof.Proof.Gen.S5ReferenceIdeal
public import proofs.«01_k».proof.Proof.Gen.S5ReferenceIdeal.Run
public import proofs.«01_k».proof.Proof.Gen.S5ReferenceIdeal.Step
public import proofs.«01_k».proof.Proof.S5ReferenceRun
public import proofs.«01_k».proof.Proof.S5Tie
public import proofs.«01_k».proof.Proof.S5PrepTie
public import proofs.«01_k».proof.Proof.Gen.S5Prep
public import proofs.«01_k».proof.Proof.Gen.S5Prep.Frame
public import proofs.«01_k».proof.Proof.Gen.S5PrepIdeal
public import proofs.«01_k».proof.Proof.Gen.S5PrepIdeal.Frame
public import proofs.«01_k».proof.Proof.Gen.S5PrepIdeal.Value
public import proofs.«01_k».proof.Proof.Gen.S5PrepReferenceIdeal
public import proofs.«01_k».proof.Proof.Gen.S5PrepReferenceIdeal.Run
public import proofs.«01_k».proof.Proof.Gen.S5PrepReferenceIdeal.Step
public import Idealize.ShloMosaic.Lib.Claim

@[expose] public section

set_option maxRecDepth 16384

noncomputable section

namespace Cert.Proof

open Idealize.ShloMosaic Idealize.SL.Sem

theorem frame_p : Cert.quiescent_Kernel := fun m ρ _ =>
  θ_run_and (Cert.Kernel.Gen.frame_of m ρ (Cert.Kernel.Mix.dats m) (Cert.Kernel.Mix.A_eq m) (Cert.Kernel.Mix.run_main m ρ))
    ((θ_run Cert.Kernel.defs _ _).mono (fun _ h => h.2) (Cert.Kernel.Mix.run_main_quiescent m ρ))

theorem frame_pi : Cert.quiescent_KernelIdeal := fun m ρ _ =>
  θ_run_and (Cert.KernelIdeal.Gen.frame_of m ρ (Cert.KernelIdeal.Mix.dats m) (Cert.KernelIdeal.Mix.A_eq m) (Cert.KernelIdeal.Mix.run_main m ρ))
    ((θ_run Cert.KernelIdeal.defs _ _).mono (fun _ h => h.2) (Cert.KernelIdeal.Mix.run_main_quiescent m ρ))

theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The two named constants are the reals that the table gives them. -/
theorem preserves : Cert.preserves_Kernel_KernelIdeal :=
  ⟨IdealRules.named_const.statement Cert.KernelIdeal.κ "alpha" .f32 0x3F9837F0#32 ((Real.sqrt (Real.sqrt 2) : ℝ) : EReal) rfl,
   IdealRules.named_const.statement Cert.KernelIdeal.κ "ln_eps" .f32 0x3727C5AC#32 ((1 / 100000 : ℝ) : EReal) rfl⟩

instance facts_h_only : Cert.On_h_only.Facts := ⟨by decide, by decide⟩

/-- The second result is not claimed: the mask is false on it. -/
theorem not_on_second {P : Prop} (h : (0#1 : BitVec 1) = 1#1) : P := absurd h (by decide)

theorem algebraic : Cert.algebraic_KernelIdeal_ReferenceIdeal_on_h_only := by
  intro m g m' g' _ hagree
  refine ⟨fun c => Cert.KernelIdeal.MixValue.hArr m c, fun c => Cert.Tie.routeFinal m c, ?_, ?_⟩
  · refine (θ_run Cert.KernelIdeal.defs _ _).mono (fun r h c => ?_) (θ_run_and (Cert.KernelIdeal.Mix.run_main m g)
      (Cert.KernelIdeal.Gen.frame_of m g (Cert.KernelIdeal.Mix.dats m) (Cert.KernelIdeal.Mix.A_eq m) (Cert.KernelIdeal.Mix.run_main m g)))
    exact ⟨fun i _ => congrFun (Cert.Tie.kernel_h m r h.1 c) i, fun i e => not_on_second e, h.2 c⟩
  · refine (θ_run Cert.ReferenceIdeal.defs _ _).mono (fun r h c => ?_) (Cert.ReferenceIdeal.Value.run (F := Ideal) m' g')
    obtain ⟨a0, a1, a2, a3, a4, a5, a6, a7, a8, a9, a10, a11, a12, _⟩ := hagree c
    exact ⟨fun i _ => congrFun ((h c).1.trans (Cert.Tie.reference_h m m' c a0 a1 a2 a3 a4 a5 a6 a7 a8 a9 a10 a11 a12)) i,
      fun i e => not_on_second e, (h c).2.2⟩

theorem frame_pi_finite : Cert.quiescent_KernelIdeal_pre_finite := fun m ρ _ => frame_pi m ρ trivial

theorem frame_ri_finite : Cert.quiescent_ReferenceIdeal_pre_finite := fun m ρ _ => frame_ri m ρ trivial

/-- Both results, where every argument is finite. -/
theorem algebraic_finite : Cert.algebraic_KernelIdeal_ReferenceIdeal_pre_finite := by
  intro m g m' g' hpre hagree
  refine ⟨fun c => Cert.KernelIdeal.MixValue.hArr m c, fun c => Cert.Tie.routeFinal m c, ?_, ?_⟩
  · refine (θ_run Cert.KernelIdeal.defs _ _).mono (fun r h c => ?_) (θ_run_and (Cert.KernelIdeal.Mix.run_main m g)
      (Cert.KernelIdeal.Gen.frame_of m g (Cert.KernelIdeal.Mix.dats m) (Cert.KernelIdeal.Mix.A_eq m) (Cert.KernelIdeal.Mix.run_main m g)))
    exact ⟨Cert.Tie.kernel_h m r h.1 c, Cert.Tie.kernel_route m r h.1 c, h.2 c⟩
  · refine (θ_run Cert.ReferenceIdeal.defs _ _).mono (fun r h c => ?_) (Cert.ReferenceIdeal.Value.run (F := Ideal) m' g')
    obtain ⟨a0, a1, a2, a3, a4, a5, a6, a7, a8, a9, a10, a11, a12, a13, a14, a15, a16⟩ := hagree c
    exact ⟨(h c).1.trans (Cert.Tie.reference_h m m' c a0 a1 a2 a3 a4 a5 a6 a7 a8 a9 a10 a11 a12),
      (h c).2.1.trans ((Cert.ReferenceIdeal.Read.val_main_v143_eq (F := Ideal) (StableHlo.launchContents m' c)).trans
        (Cert.Tie.reference_route m c (Cert.FinitePre.realArgs m hpre c) m'
          a0 a1 a2 a3 a4 a5 a6 a7 a8 a9 a10 a11 a12 a13 a14 a15 a16)), (h c).2.2⟩

theorem frame_p2 : Cert.quiescent_Inproj := fun m ρ _ => Cert.Inproj.Gen.frame m ρ

theorem frame_pi2 : Cert.quiescent_InprojIdeal := fun m ρ _ => Cert.InprojIdeal.Gen.frame m ρ

theorem frame_ri2 : Cert.quiescent_InprojReferenceIdeal := fun m ρ _ =>
  (θ_run Cert.InprojReferenceIdeal.defs _ _).mono (fun r h => ⟨fun c => (h c).2.2.2,
      Idealize.ShloMosaic.sem_eq_zero_of_no_sems (by decide) r.2⟩)
    (Cert.InprojReferenceIdeal.Value.run (F := Ideal) m ρ)

/-- The three results of the input-projection call. -/
theorem algebraic2 : Cert.algebraic_InprojIdeal_InprojReferenceIdeal := by
  intro m g m' g' _ hagree
  refine ⟨fun c => Cert.InprojIdeal.InprojValue.uArr m c, fun c => Cert.InprojIdeal.InprojValue.vArr m c,
    fun c => Cert.InprojIdeal.InprojValue.xArr m c, ?_, ?_⟩
  · refine (θ_run Cert.InprojIdeal.defs _ _).mono (fun r h c => ?_) (Cert.InprojIdeal.Value.run_blocks m g)
    exact ⟨(h c).1.trans (Cert.InprojIdeal.InprojValue.final_u m c), (h c).2.1.trans (Cert.InprojIdeal.InprojValue.final_v m c),
      (h c).2.2.1.trans (Cert.InprojIdeal.InprojValue.final_x m c), (h c).2.2.2⟩
  · refine (θ_run Cert.InprojReferenceIdeal.defs _ _).mono (fun r h c => ?_)
      (Cert.InprojReferenceIdeal.Value.run (F := Ideal) m' g')
    obtain ⟨a0, a1, a2⟩ := hagree c
    exact ⟨(h c).1.trans ((Cert.InprojReferenceIdeal.Read.val_main_v18_eq _ _ _).trans
        (Cert.InprojTie.reference_u m c _ _ _ a0 a1 a2)),
      (h c).2.1.trans ((Cert.InprojReferenceIdeal.Read.val_main_v20_eq _ _ _).trans
        (Cert.InprojTie.reference_v m c _ _ _ a0 a1 a2)),
      (h c).2.2.1.trans ((Cert.InprojReferenceIdeal.Read.val_main_v23_eq _).trans
        (Cert.InprojTie.reference_x m c _ a0)), (h c).2.2.2⟩

theorem frame_p3 : Cert.quiescent_S5 := fun m ρ _ => Cert.S5.Gen.frame m ρ

theorem frame_pi3 : Cert.quiescent_S5Ideal := fun m ρ _ => Cert.S5Ideal.Gen.frame m ρ

theorem frame_pi3_finite : Cert.quiescent_S5Ideal_pre_finite3 := fun m ρ _ => frame_pi3 m ρ trivial

theorem frame_ri3 : Cert.quiescent_S5ReferenceIdeal := fun m ρ _ =>
  (θ_run Cert.S5ReferenceIdeal.defs _ _).mono (fun r h => ⟨fun c => (h c).2,
      Idealize.ShloMosaic.sem_eq_zero_of_no_sems (by decide) r.2⟩)
    (Cert.S5ReferenceIdeal.Value.run (F := Ideal) m ρ)

theorem frame_ri3_finite : Cert.quiescent_S5ReferenceIdeal_pre_finite3 := fun m ρ _ => frame_ri3 m ρ trivial

/-- The two named constants of the activation. -/
theorem preserves3 : Cert.preserves_S5_S5Ideal :=
  ⟨IdealRules.named_const.statement Cert.S5Ideal.κ "gelu_cubic" .f32 0x3D372713#32 ((8943 / 200000 : ℝ) : EReal) rfl,
   IdealRules.named_const.statement Cert.S5Ideal.κ "gelu_scale" .f32 0x3F4C422A#32 ((Real.sqrt (2 * Real.pi⁻¹) : ℝ) : EReal) rfl⟩

/-- The result of the S5 call, where its inputs and operators are finite. -/
theorem algebraic3 : Cert.algebraic_S5Ideal_S5ReferenceIdeal_pre_finite3 := by
  intro m g m' g' hpre hagree
  refine ⟨fun c => Cert.S5Ideal.S5Value.resArr m c, ?_, ?_⟩
  · refine (θ_run Cert.S5Ideal.defs _ _).mono (fun r h c => ?_) (Cert.S5Ideal.Value.run_blocks m g)
    exact ⟨(h c).1.trans (Cert.S5Tie.kernel_res m c hpre), (h c).2⟩
  · refine (θ_run Cert.S5ReferenceIdeal.defs _ _).mono (fun r h c => ?_)
      (Cert.S5ReferenceIdeal.Value.run (F := Ideal) m' g')
    obtain ⟨a0, a1, a2, a3, a4, a5⟩ := hagree c
    exact ⟨(h c).1.trans ((Cert.S5Reference.result_of_trips m' c).trans
      (Cert.S5Tie.reference_res m c _ _ _ _ _ _ a0 a1 a2 a3 a4 a5)), (h c).2⟩

theorem frame_p4 : Cert.quiescent_S5Prep := fun m ρ _ => Cert.S5Prep.Gen.frame m ρ

theorem frame_pi4 : Cert.quiescent_S5PrepIdeal := fun m ρ _ => Cert.S5PrepIdeal.Gen.frame m ρ

theorem frame_pi4_finite : Cert.quiescent_S5PrepIdeal_pre_finite4 := fun m ρ _ => frame_pi4 m ρ trivial

theorem frame_ri4 : Cert.quiescent_S5PrepReferenceIdeal := fun m ρ _ =>
  (θ_run Cert.S5PrepReferenceIdeal.defs _ _).mono (fun r h => ⟨fun c => (h c).2.2.2.2,
      Idealize.ShloMosaic.sem_eq_zero_of_no_sems (by decide) r.2⟩)
    (Cert.S5PrepReferenceIdeal.Value.run (F := Ideal) m ρ)

theorem frame_ri4_finite : Cert.quiescent_S5PrepReferenceIdeal_pre_finite4 := fun m ρ _ => frame_ri4 m ρ trivial

/-- The four results of the operators' call, where its arguments are finite and no λ is zero. -/
theorem algebraic4 : Cert.algebraic_S5PrepIdeal_S5PrepReferenceIdeal_pre_finite4 := by
  intro m g m' g' hpre hagree
  refine ⟨fun c => Cert.S5PrepIdeal.PrepValue.inArr (Cert.S5PrepTie.paramsOf m c),
    fun c => Cert.S5PrepIdeal.PrepValue.stArr (Cert.S5PrepTie.paramsOf m c),
    fun c => Cert.S5PrepIdeal.PrepValue.reArr (Cert.S5PrepTie.paramsOf m c),
    fun c => Cert.S5PrepIdeal.PrepValue.imArr (Cert.S5PrepTie.paramsOf m c), ?_, ?_⟩
  · refine (θ_run Cert.S5PrepIdeal.defs _ _).mono (fun r h c => ?_)
      (θ_run_and (Cert.S5PrepIdeal.Value.run_blocks m g) (Cert.S5PrepIdeal.Gen.run_main m g))
    have hh := Cert.S5PrepTie.holds c hpre
    exact ⟨(h.1 c).1.trans (Cert.S5PrepIdeal.PrepValue.final_in hh),
      ((h.2 c).2 Cert.S5PrepIdeal.main_v104 (Pipeline.mem_restRefs_of Cert.S5PrepIdeal.main_v104 (by decide) (by decide))).trans
        (Cert.S5PrepIdeal.PrepValue.final_st hh),
      ((h.2 c).2 Cert.S5PrepIdeal.main_v106 (Pipeline.mem_restRefs_of Cert.S5PrepIdeal.main_v106 (by decide) (by decide))).trans
        (Cert.S5PrepIdeal.PrepValue.final_re hh),
      ((h.2 c).2 Cert.S5PrepIdeal.main_v108 (Pipeline.mem_restRefs_of Cert.S5PrepIdeal.main_v108 (by decide) (by decide))).trans
        (Cert.S5PrepIdeal.PrepValue.final_im hh), (h.1 c).2⟩
  · refine (θ_run Cert.S5PrepReferenceIdeal.defs _ _).mono (fun r h c => ?_)
      (Cert.S5PrepReferenceIdeal.Value.run (F := Ideal) m' g')
    obtain ⟨a0, a1, a2, a3, a4, a5, a6⟩ := hagree c
    have hh := Cert.S5PrepTie.holds c hpre
    exact ⟨(h c).1.trans ((Cert.S5PrepReference.in_of_trips m' c).trans (Cert.S5PrepTie.ref_in hh m' a0 a1 a2 a3 a4 a5 a6)),
      (h c).2.1.trans ((Cert.S5PrepReference.st_of_trips m' c).trans (Cert.S5PrepTie.ref_st hh m' a0 a1 a2 a3 a4 a5 a6)),
      (h c).2.2.1.trans ((Cert.S5PrepReference.re_of_trips m' c).trans (Cert.S5PrepTie.ref_re hh m' a0 a1 a2 a3 a4)),
      (h c).2.2.2.1.trans ((Cert.S5PrepReference.im_of_trips m' c).trans (Cert.S5PrepTie.ref_im hh m' a0 a1 a2 a3 a4)),
      (h c).2.2.2.2⟩

/-- Every claim of the certificate. -/
theorem claim : Cert.Claim := ⟨Cert.Kernel.Gen.facts, Cert.KernelIdeal.Gen.facts, Cert.ReferenceIdeal.Gen.facts,
  Cert.Inproj.Gen.facts, Cert.InprojIdeal.Gen.facts, Cert.InprojReferenceIdeal.Gen.facts, Cert.S5.Gen.facts,
  Cert.S5Ideal.Gen.facts, Cert.S5ReferenceIdeal.Gen.facts, Cert.S5Prep.Gen.facts, Cert.S5PrepIdeal.Gen.facts,
  Cert.S5PrepReferenceIdeal.Gen.facts, Cert.FinitePre.facts, Cert.S5Tie.facts, Cert.S5PrepTie.facts, facts_h_only,
  frame_p, frame_pi, frame_pi_finite, frame_ri, frame_ri_finite, frame_p2, frame_pi2, frame_ri2,
  frame_p3, frame_pi3, frame_pi3_finite, frame_ri3, frame_ri3_finite, frame_p4, frame_pi4, frame_pi4_finite,
  frame_ri4, frame_ri4_finite, preserves, algebraic, algebraic_finite, trivial, algebraic2, preserves3, algebraic3,
  trivial, algebraic4⟩

end Cert.Proof

end
